-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x4x16x128 : Shape := ⟨4, ![1024, 4, 16, 128]⟩
abbrev S1024x4x2x128 : Shape := ⟨4, ![1024, 4, 2, 128]⟩
abbrev S2304x2x128 : Shape := ⟨3, ![2304, 2, 128]⟩
abbrev S2304x2 : Shape := ⟨2, ![2304, 2]⟩
abbrev S1024x256x2x128 : Shape := ⟨4, ![1024, 256, 2, 128]⟩
abbrev S1024x256x2 : Shape := ⟨3, ![1024, 256, 2]⟩
abbrev S1024 : Shape := ⟨1, ![1024]⟩
abbrev S_ : Shape := ⟨0, ![]⟩

class Facts : Prop where
  bcast_S_S1024x4x16x128 : S_.BroadcastsInDim S1024x4x16x128 (![] : Fin 0 → Fin S1024x4x16x128.rank)
  reducesTo_S1024x4x16x128_S_d0_1_2_3 : S1024x4x16x128.ReducesTo [0, 1, 2, 3] S_
  h_S_ : 0 < S_.numel
  bcast_S_S1024x4x2x128 : S_.BroadcastsInDim S1024x4x2x128 (![] : Fin 0 → Fin S1024x4x2x128.rank)
  reducesTo_S1024x4x2x128_S_d0_1_2_3 : S1024x4x2x128.ReducesTo [0, 1, 2, 3] S_
  bcast_S_S2304x2x128 : S_.BroadcastsInDim S2304x2x128 (![] : Fin 0 → Fin S2304x2x128.rank)
  reducesTo_S2304x2x128_S_d0_1_2 : S2304x2x128.ReducesTo [0, 1, 2] S_
  bcast_S_S2304x2 : S_.BroadcastsInDim S2304x2 (![] : Fin 0 → Fin S2304x2.rank)
  reducesTo_S2304x2_S_d0_1 : S2304x2.ReducesTo [0, 1] S_
  bcast_S_S1024x256x2x128 : S_.BroadcastsInDim S1024x256x2x128 (![] : Fin 0 → Fin S1024x256x2x128.rank)
  reducesTo_S1024x256x2x128_S_d0_1_2_3 : S1024x256x2x128.ReducesTo [0, 1, 2, 3] S_
  bcast_S_S1024x256x2 : S_.BroadcastsInDim S1024x256x2 (![] : Fin 0 → Fin S1024x256x2.rank)
  reducesTo_S1024x256x2_S_d0_1_2 : S1024x256x2.ReducesTo [0, 1, 2] S_

variable [Facts]

def fn_part1 {F : FTy → Type} [FloatOps F] (main_arg7 : FVec F S1024x256x2x128 .f32) (main_arg9 : FVec F S1024x256x2 .f32) (main_v3 : IVec S_ 1) (main_v7 : IVec S_ 1) (main_v11 : IVec S_ 1) (main_v15 : IVec S_ 1) : IVec S_ 1 :=
  let main_v16 : FVec F S1024x256x2x128 .f32 := Host.absf main_arg7
  let main_cst_6 : FVec F S_ .f32 := constant S_ .f32 0x7F800000#32
  let main_v17 : FVec F S1024x256x2x128 .f32 := broadcastInDim S1024x256x2x128 ![] bcast_S_S1024x256x2x128 main_cst_6
  let main_v18 : IVec S1024x256x2x128 1 := cmpf .olt main_v16 main_v17
  let main_c_7 : IVec S_ 1 := constantI S_ 1 1#1
  let main_v19 : IVec S_ 1 := (fun x v => Host.reduce IntOp.andi x v reducesTo_S1024x256x2x128_S_d0_1_2_3 h_S_) main_v18 main_c_7
  let main_v20 : FVec F S1024x256x2 .f32 := Host.absf main_arg9
  let main_cst_8 : FVec F S_ .f32 := constant S_ .f32 0x7F800000#32
  let main_v21 : FVec F S1024x256x2 .f32 := broadcastInDim S1024x256x2 ![] bcast_S_S1024x256x2 main_cst_8
  let main_v22 : IVec S1024x256x2 1 := cmpf .olt main_v20 main_v21
  let main_c_9 : IVec S_ 1 := constantI S_ 1 1#1
  let main_v23 : IVec S_ 1 := (fun x v => Host.reduce IntOp.andi x v reducesTo_S1024x256x2_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S1024x4x16x128 .bf16) (main_arg1 : FVec F S1024x4x2x128 .bf16) (main_arg2 : FVec F S1024x4x2x128 .bf16) (main_arg3 : FVec F S2304x2x128 .f32) (main_arg4 : FVec F S2304x2x128 .fp8e4m3) (main_arg5 : FVec F S2304x2 .f32) (main_arg6 : FVec F S2304x2 .f32) (main_arg7 : FVec F S1024x256x2x128 .f32) (main_arg8 : FVec F S1024x256x2x128 .fp8e4m3) (main_arg9 : FVec F S1024x256x2 .f32) (main_arg10 : FVec F S1024x256x2 .f32) (main_arg11 : IVec S1024 32) : IVec S_ 1 :=
  let main_v0 : FVec F S1024x4x16x128 .bf16 := Host.absf main_arg0
  let main_cst : FVec F S_ .bf16 := constant S_ .bf16 0x7F80#16
  let main_v1 : FVec F S1024x4x16x128 .bf16 := broadcastInDim S1024x4x16x128 ![] bcast_S_S1024x4x16x128 main_cst
  let main_v2 : IVec S1024x4x16x128 1 := cmpf .olt main_v0 main_v1
  let main_c : IVec S_ 1 := constantI S_ 1 1#1
  let main_v3 : IVec S_ 1 := (fun x v => Host.reduce IntOp.andi x v reducesTo_S1024x4x16x128_S_d0_1_2_3 h_S_) main_v2 main_c
  let main_v4 : FVec F S1024x4x2x128 .bf16 := Host.absf main_arg1
  let main_cst_0 : FVec F S_ .bf16 := constant S_ .bf16 0x7F80#16
  let main_v5 : FVec F S1024x4x2x128 .bf16 := broadcastInDim S1024x4x2x128 ![] bcast_S_S1024x4x2x128 main_cst_0
  let main_v6 : IVec S1024x4x2x128 1 := cmpf .olt main_v4 main_v5
  let main_c_1 : IVec S_ 1 := constantI S_ 1 1#1
  let main_v7 : IVec S_ 1 := (fun x v => Host.reduce IntOp.andi x v reducesTo_S1024x4x2x128_S_d0_1_2_3 h_S_) main_v6 main_c_1
  let main_v8 : FVec F S2304x2x128 .f32 := Host.absf main_arg3
  let main_cst_2 : FVec F S_ .f32 := constant S_ .f32 0x7F800000#32
  let main_v9 : FVec F S2304x2x128 .f32 := broadcastInDim S2304x2x128 ![] bcast_S_S2304x2x128 main_cst_2
  let main_v10 : IVec S2304x2x128 1 := cmpf .olt main_v8 main_v9
  let main_c_3 : IVec S_ 1 := constantI S_ 1 1#1
  let main_v11 : IVec S_ 1 := (fun x v => Host.reduce IntOp.andi x v reducesTo_S2304x2x128_S_d0_1_2 h_S_) main_v10 main_c_3
  let main_v12 : FVec F S2304x2 .f32 := Host.absf main_arg5
  let main_cst_4 : FVec F S_ .f32 := constant S_ .f32 0x7F800000#32
  let main_v13 : FVec F S2304x2 .f32 := broadcastInDim S2304x2 ![] bcast_S_S2304x2 main_cst_4
  let main_v14 : IVec S2304x2 1 := cmpf .olt main_v12 main_v13
  let main_c_5 : IVec S_ 1 := constantI S_ 1 1#1
  let main_v15 : IVec S_ 1 := (fun x v => Host.reduce IntOp.andi x v reducesTo_S2304x2_S_d0_1 h_S_) main_v14 main_c_5
  fn_part1 (F := F) main_arg7 main_arg9 main_v3 main_v7 main_v11 main_v15
-- ==== Kernel.lean ====
abbrev S1024x4x16x128 : Shape := ⟨4, ![1024, 4, 16, 128]⟩
abbrev S1024x4x2x128 : Shape := ⟨4, ![1024, 4, 2, 128]⟩
abbrev S2304x2x128 : Shape := ⟨3, ![2304, 2, 128]⟩
abbrev S2304x2 : Shape := ⟨2, ![2304, 2]⟩
abbrev S1024x256x2x128 : Shape := ⟨4, ![1024, 256, 2, 128]⟩
abbrev S1024x256x2 : Shape := ⟨3, ![1024, 256, 2]⟩
abbrev S1024 : Shape := ⟨1, ![1024]⟩
abbrev S65536x128 : Shape := ⟨2, ![65536, 128]⟩
abbrev S4096x2x8x128 : Shape := ⟨4, ![4096, 2, 8, 128]⟩
abbrev S8192x128 : Shape := ⟨2, ![8192, 128]⟩
abbrev S2x2304x128 : Shape := ⟨3, ![2, 2304, 128]⟩
abbrev S1024x2x256x128 : Shape := ⟨4, ![1024, 2, 256, 128]⟩
abbrev S1024x2x256 : Shape := ⟨3, ![1024, 2, 256]⟩
abbrev S2x2304 : Shape := ⟨2, ![2, 2304]⟩
abbrev S512x128 : Shape := ⟨2, ![512, 128]⟩
abbrev S32x1x8x128 : Shape := ⟨4, ![32, 1, 8, 128]⟩
abbrev S64x128 : Shape := ⟨2, ![64, 128]⟩
abbrev S8x2x256x128 : Shape := ⟨4, ![8, 2, 256, 128]⟩
abbrev S8x2x256 : Shape := ⟨3, ![8, 2, 256]⟩
abbrev S8x4x16x128 : Shape := ⟨4, ![8, 4, 16, 128]⟩
abbrev S2x2304x256 : Shape := ⟨3, ![2, 2304, 256]⟩
abbrev S2x128x2304 : Shape := ⟨3, ![2, 128, 2304]⟩
abbrev S1x128 : Shape := ⟨2, ![1, 128]⟩
abbrev S128x128 : Shape := ⟨2, ![128, 128]⟩
abbrev S1x128x128 : Shape := ⟨3, ![1, 128, 128]⟩
abbrev S128x256 : Shape := ⟨2, ![128, 256]⟩
abbrev S1x128x256 : Shape := ⟨3, ![1, 128, 256]⟩
abbrev S64x256 : Shape := ⟨2, ![64, 256]⟩
abbrev S128x64 : Shape := ⟨2, ![128, 64]⟩
abbrev S256x128 : Shape := ⟨2, ![256, 128]⟩
abbrev S256x256 : Shape := ⟨2, ![256, 256]⟩
abbrev S8x256 : Shape := ⟨2, ![8, 256]⟩
abbrev S1x256x256 : Shape := ⟨3, ![1, 256, 256]⟩
abbrev S32x8x256 : Shape := ⟨3, ![32, 8, 256]⟩
abbrev S8x8x256 : Shape := ⟨3, ![8, 8, 256]⟩
abbrev S256 : Shape := ⟨1, ![256]⟩
abbrev S1x256 : Shape := ⟨2, ![1, 256]⟩
abbrev S16x256 : Shape := ⟨2, ![16, 256]⟩
abbrev S112x256 : Shape := ⟨2, ![112, 256]⟩
abbrev S256x1 : Shape := ⟨2, ![256, 1]⟩
abbrev S1x1x256 : Shape := ⟨3, ![1, 1, 256]⟩
abbrev S1x1x256x128 : Shape := ⟨4, ![1, 1, 256, 128]⟩
abbrev S4x2x8x256 : Shape := ⟨4, ![4, 2, 8, 256]⟩
abbrev S1 : Shape := ⟨1, ![1]⟩
abbrev S1x2x256 : Shape := ⟨3, ![1, 2, 256]⟩
abbrev S2x256 : Shape := ⟨2, ![2, 256]⟩
abbrev S1x2x1x256 : Shape := ⟨4, ![1, 2, 1, 256]⟩
abbrev S1x1x1x256 : Shape := ⟨4, ![1, 1, 1, 256]⟩
abbrev S4x2x8 : Shape := ⟨3, ![4, 2, 8]⟩
abbrev S4x2x8x1 : Shape := ⟨4, ![4, 2, 8, 1]⟩
abbrev S32x128 : Shape := ⟨2, ![32, 128]⟩
abbrev S4x8x128 : Shape := ⟨3, ![4, 8, 128]⟩
abbrev S32x1 : Shape := ⟨2, ![32, 1]⟩
abbrev S4x8x1 : Shape := ⟨3, ![4, 8, 1]⟩
abbrev S4x1x8x128 : Shape := ⟨4, ![4, 1, 8, 128]⟩
abbrev S4x1x8x1 : Shape := ⟨4, ![4, 1, 8, 1]⟩
abbrev S1x4x8x128 : Shape := ⟨4, ![1, 4, 8, 128]⟩
abbrev S1024x4x2048 : Shape := ⟨3, ![1024, 4, 2048]⟩

abbrev nBuf : Space → Nat
  | .hbm => 27
  | .vmem => 27
  | .smem => 1
  | _ => 0

abbrev bufTy : (tb : Table) → Fin (tcTables nBuf tb) → BufTy
  | .hbm, ⟨0, _⟩ => ⟨S1024x4x16x128, .bf16⟩
  | .hbm, ⟨1, _⟩ => ⟨S1024x4x2x128, .bf16⟩
  | .hbm, ⟨2, _⟩ => ⟨S1024x4x2x128, .bf16⟩
  | .hbm, ⟨3, _⟩ => ⟨S2304x2x128, .f32⟩
  | .hbm, ⟨4, _⟩ => ⟨S2304x2x128, .fp8e4m3⟩
  | .hbm, ⟨5, _⟩ => ⟨S2304x2, .f32⟩
  | .hbm, ⟨6, _⟩ => ⟨S2304x2, .f32⟩
  | .hbm, ⟨7, _⟩ => ⟨S1024x256x2x128, .f32⟩
  | .hbm, ⟨8, _⟩ => ⟨S1024x256x2x128, .fp8e4m3⟩
  | .hbm, ⟨9, _⟩ => ⟨S1024x256x2, .f32⟩
  | .hbm, ⟨10, _⟩ => ⟨S1024x256x2, .f32⟩
  | .hbm, ⟨11, _⟩ => ⟨S2304x2x128, .fp8e4m3⟩
  | .hbm, ⟨12, _⟩ => ⟨S1024x256x2x128, .fp8e4m3⟩
  | .hbm, ⟨13, _⟩ => ⟨S65536x128, .bf16⟩
  | .hbm, ⟨14, _⟩ => ⟨S4096x2x8x128, .bf16⟩
  | .hbm, ⟨15, _⟩ => ⟨S8192x128, .bf16⟩
  | .hbm, ⟨16, _⟩ => ⟨S8192x128, .bf16⟩
  | .hbm, ⟨17, _⟩ => ⟨S2x2304x128, .fp8e4m3⟩
  | .hbm, ⟨18, _⟩ => ⟨S2x2304x128, .fp8e4m3⟩
  | .hbm, ⟨19, _⟩ => ⟨S1024x2x256x128, .fp8e4m3⟩
  | .hbm, ⟨20, _⟩ => ⟨S1024x2x256x128, .fp8e4m3⟩
  | .hbm, ⟨21, _⟩ => ⟨S1024x2x256, .f32⟩
  | .hbm, ⟨22, _⟩ => ⟨S1024x2x256, .f32⟩
  | .hbm, ⟨23, _⟩ => ⟨S2x2304, .f32⟩
  | .hbm, ⟨24, _⟩ => ⟨S2x2304, .f32⟩
  | .hbm, ⟨25, _⟩ => ⟨S1024x4x16x128, .bf16⟩
  | .hbm, ⟨26, _⟩ => ⟨S1024x4x2048, .bf16⟩
  | .local _ .vmem, ⟨0, _⟩ => ⟨S512x128, .bf16⟩
  | .local _ .vmem, ⟨1, _⟩ => ⟨S512x128, .bf16⟩
  | .local _ .vmem, ⟨2, _⟩ => ⟨S32x1x8x128, .bf16⟩
  | .local _ .vmem, ⟨3, _⟩ => ⟨S32x1x8x128, .bf16⟩
  | .local _ .vmem, ⟨4, _⟩ => ⟨S32x1x8x128, .bf16⟩
  | .local _ .vmem, ⟨5, _⟩ => ⟨S32x1x8x128, .bf16⟩
  | .local _ .vmem, ⟨6, _⟩ => ⟨S64x128, .bf16⟩
  | .local _ .vmem, ⟨7, _⟩ => ⟨S64x128, .bf16⟩
  | .local _ .vmem, ⟨8, _⟩ => ⟨S64x128, .bf16⟩
  | .local _ .vmem, ⟨9, _⟩ => ⟨S64x128, .bf16⟩
  | .local _ .vmem, ⟨10, _⟩ => ⟨S2x2304x128, .fp8e4m3⟩
  | .local _ .vmem, ⟨11, _⟩ => ⟨S2x2304x128, .fp8e4m3⟩
  | .local _ .vmem, ⟨12, _⟩ => ⟨S2x2304, .f32⟩
  | .local _ .vmem, ⟨13, _⟩ => ⟨S2x2304, .f32⟩
  | .local _ .vmem, ⟨14, _⟩ => ⟨S8x2x256x128, .fp8e4m3⟩
  | .local _ .vmem, ⟨15, _⟩ => ⟨S8x2x256x128, .fp8e4m3⟩
  | .local _ .vmem, ⟨16, _⟩ => ⟨S8x2x256x128, .fp8e4m3⟩
  | .local _ .vmem, ⟨17, _⟩ => ⟨S8x2x256x128, .fp8e4m3⟩
  | .local _ .vmem, ⟨18, _⟩ => ⟨S8x2x256, .f32⟩
  | .local _ .vmem, ⟨19, _⟩ => ⟨S8x2x256, .f32⟩
  | .local _ .vmem, ⟨20, _⟩ => ⟨S8x2x256, .f32⟩
  | .local _ .vmem, ⟨21, _⟩ => ⟨S8x2x256, .f32⟩
  | .local _ .vmem, ⟨22, _⟩ => ⟨S8x4x16x128, .bf16⟩
  | .local _ .vmem, ⟨23, _⟩ => ⟨S8x4x16x128, .bf16⟩
  | .local _ .vmem, ⟨24, _⟩ => ⟨S2x2304x256, .bf16⟩
  | .local _ .vmem, ⟨25, _⟩ => ⟨S2x128x2304, .bf16⟩
  | .local _ .vmem, ⟨26, _⟩ => ⟨S2x2304x256, .f32⟩
  | .local _ .smem, ⟨0, _⟩ => ⟨S1024, .i32⟩
  | _, _ => ⟨S1024x4x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_arg11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg11.idx], fun | 0 => main_arg11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_396 : BitVec 32) : Fin 1 → Nat :=
  let arg0 : BitVec 32 := BitVec.ofNat 32 (i 0).val
  let c8_i32_395 : BitVec 32 := 8#32
  let v709 : BitVec 32 := Scalar.muli arg0 c8_i32_395
  let v710 : BitVec 32 := Scalar.addi v709 c0_i32_396
  let v711 : Index := Scalar.indexCast v710
  ![v711.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2304x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2304x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x2x256x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x2x256x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x2x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x16x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S1024x4x16x128 : Shape := ⟨4, ![1024, 4, 16, 128]⟩
abbrev S1024x4x2x128 : Shape := ⟨4, ![1024, 4, 2, 128]⟩
abbrev S2304x2x128 : Shape := ⟨3, ![2304, 2, 128]⟩
abbrev S2304x2 : Shape := ⟨2, ![2304, 2]⟩
abbrev S1024x256x2x128 : Shape := ⟨4, ![1024, 256, 2, 128]⟩
abbrev S1024x256x2 : Shape := ⟨3, ![1024, 256, 2]⟩
abbrev S1024 : Shape := ⟨1, ![1024]⟩
abbrev S1024x4x2x8x128 : Shape := ⟨5, ![1024, 4, 2, 8, 128]⟩
abbrev S2x2304x1024x4x8 : Shape := ⟨5, ![2, 2304, 1024, 4, 8]⟩
abbrev S1024x4x2x8x2304 : Shape := ⟨5, ![1024, 4, 2, 8, 2304]⟩
abbrev S_ : Shape := ⟨0, ![]⟩
abbrev S2x2304 : Shape := ⟨2, ![2, 2304]⟩
abbrev S2x1x2304 : Shape := ⟨3, ![2, 1, 2304]⟩
abbrev S1x1x2x1x2304 : Shape := ⟨5, ![1, 1, 2, 1, 2304]⟩
abbrev S1024x2x256x4x8 : Shape := ⟨5, ![1024, 2, 256, 4, 8]⟩
abbrev S1024x4x2x8x256 : Shape := ⟨5, ![1024, 4, 2, 8, 256]⟩
abbrev S1024x2x256 : Shape := ⟨3, ![1024, 2, 256]⟩
abbrev S1024x1x2x1x256 : Shape := ⟨5, ![1024, 1, 2, 1, 256]⟩
abbrev S1024x2x4x4x8 : Shape := ⟨5, ![1024, 2, 4, 4, 8]⟩
abbrev S1024x4x2x8x4 : Shape := ⟨5, ![1024, 4, 2, 8, 4]⟩
abbrev S256 : Shape := ⟨1, ![256]⟩
abbrev S1x256 : Shape := ⟨2, ![1, 256]⟩
abbrev S1024x1 : Shape := ⟨2, ![1024, 1]⟩
abbrev S1024x256 : Shape := ⟨2, ![1024, 256]⟩
abbrev S1024x1x1x1x256 : Shape := ⟨5, ![1024, 1, 1, 1, 256]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x4x1x1x4 : Shape := ⟨5, ![1, 4, 1, 1, 4]⟩
abbrev S1024x4x2x8 : Shape := ⟨4, ![1024, 4, 2, 8]⟩
abbrev S1024x4x2x8x1 : Shape := ⟨5, ![1024, 4, 2, 8, 1]⟩
abbrev S2x128x1024x4x8 : Shape := ⟨5, ![2, 128, 1024, 4, 8]⟩
abbrev S1024x2x128x4x8 : Shape := ⟨5, ![1024, 2, 128, 4, 8]⟩
abbrev S1024x4x2048 : Shape := ⟨3, ![1024, 4, 2048]⟩

abbrev nBuf : Space → Nat
  | .hbm => 127
  | .vmem => 8
  | .smem => 0
  | _ => 0

abbrev bufTy : (tb : Table) → Fin (tcTables nBuf tb) → BufTy
  | .hbm, ⟨0, _⟩ => ⟨S1024x4x16x128, .bf16⟩
  | .hbm, ⟨1, _⟩ => ⟨S1024x4x2x128, .bf16⟩
  | .hbm, ⟨2, _⟩ => ⟨S1024x4x2x128, .bf16⟩
  | .hbm, ⟨3, _⟩ => ⟨S2304x2x128, .f32⟩
  | .hbm, ⟨4, _⟩ => ⟨S2304x2x128, .fp8e4m3⟩
  | .hbm, ⟨5, _⟩ => ⟨S2304x2, .f32⟩
  | .hbm, ⟨6, _⟩ => ⟨S2304x2, .f32⟩
  | .hbm, ⟨7, _⟩ => ⟨S1024x256x2x128, .f32⟩
  | .hbm, ⟨8, _⟩ => ⟨S1024x256x2x128, .fp8e4m3⟩
  | .hbm, ⟨9, _⟩ => ⟨S1024x256x2, .f32⟩
  | .hbm, ⟨10, _⟩ => ⟨S1024x256x2, .f32⟩
  | .hbm, ⟨11, _⟩ => ⟨S1024, .i32⟩
  | .hbm, ⟨12, _⟩ => ⟨S2304x2x128, .fp8e4m3⟩
  | .hbm, ⟨13, _⟩ => ⟨S1024x256x2x128, .fp8e4m3⟩
  | .hbm, ⟨14, _⟩ => ⟨S1024x4x2x8x128, .bf16⟩
  | .hbm, ⟨15, _⟩ => ⟨S2304x2x128, .bf16⟩
  | .hbm, ⟨16, _⟩ => ⟨S2304x2x128, .bf16⟩
  | .hbm, ⟨17, _⟩ => ⟨S1024x256x2x128, .bf16⟩
  | .hbm, ⟨18, _⟩ => ⟨S1024x256x2x128, .bf16⟩
  | .hbm, ⟨19, _⟩ => ⟨S2x2304x1024x4x8, .f32⟩
  | .hbm, ⟨20, _⟩ => ⟨S1024x4x2x8x2304, .f32⟩
  | .hbm, ⟨21, _⟩ => ⟨S_, .f32⟩
  | .hbm, ⟨22, _⟩ => ⟨S2304x2, .f32⟩
  | .hbm, ⟨23, _⟩ => ⟨S2304x2, .f32⟩
  | .hbm, ⟨24, _⟩ => ⟨S2x2304, .f32⟩
  | .hbm, ⟨25, _⟩ => ⟨S2x1x2304, .f32⟩
  | .hbm, ⟨26, _⟩ => ⟨S1x1x2x1x2304, .f32⟩
  | .hbm, ⟨27, _⟩ => ⟨S1024x4x2x8x2304, .f32⟩
  | .hbm, ⟨28, _⟩ => ⟨S1024x4x2x8x2304, .f32⟩
  | .hbm, ⟨29, _⟩ => ⟨S1024x2x256x4x8, .f32⟩
  | .hbm, ⟨30, _⟩ => ⟨S1024x4x2x8x256, .f32⟩
  | .hbm, ⟨31, _⟩ => ⟨S_, .f32⟩
  | .hbm, ⟨32, _⟩ => ⟨S1024x256x2, .f32⟩
  | .hbm, ⟨33, _⟩ => ⟨S1024x256x2, .f32⟩
  | .hbm, ⟨34, _⟩ => ⟨S1024x2x256, .f32⟩
  | .hbm, ⟨35, _⟩ => ⟨S1024x1x2x1x256, .f32⟩
  | .hbm, ⟨36, _⟩ => ⟨S1024x4x2x8x256, .f32⟩
  | .hbm, ⟨37, _⟩ => ⟨S1024x4x2x8x256, .f32⟩
  | .hbm, ⟨38, _⟩ => ⟨S1024x2x4x4x8, .f32⟩
  | .hbm, ⟨39, _⟩ => ⟨S1024x4x2x8x4, .f32⟩
  | .hbm, ⟨40, _⟩ => ⟨S_, .f32⟩
  | .hbm, ⟨41, _⟩ => ⟨S1024x4x2x8x4, .f32⟩
  | .hbm, ⟨42, _⟩ => ⟨S1024x4x2x8x4, .f32⟩
  | .hbm, ⟨43, _⟩ => ⟨S256, .i32⟩
  | .hbm, ⟨44, _⟩ => ⟨S1x256, .i32⟩
  | .hbm, ⟨45, _⟩ => ⟨S1024x1, .i32⟩
  | .hbm, ⟨46, _⟩ => ⟨S1024x256, .i32⟩
  | .hbm, ⟨47, _⟩ => ⟨S1024x256, .i32⟩
  | .hbm, ⟨48, _⟩ => ⟨S1024x256, .i1⟩
  | .hbm, ⟨49, _⟩ => ⟨S1024x1x1x1x256, .i1⟩
  | .hbm, ⟨50, _⟩ => ⟨S_, .f32⟩
  | .hbm, ⟨51, _⟩ => ⟨S_, .f32⟩
  | .hbm, ⟨52, _⟩ => ⟨S1024x4x2x8x256, .i1⟩
  | .hbm, ⟨53, _⟩ => ⟨S1024x4x2x8x256, .f32⟩
  | .hbm, ⟨54, _⟩ => ⟨S1024x4x2x8x256, .f32⟩
  | .hbm, ⟨55, _⟩ => ⟨S4, .i32⟩
  | .hbm, ⟨56, _⟩ => ⟨S4x1, .i32⟩
  | .hbm, ⟨57, _⟩ => ⟨S4, .i32⟩
  | .hbm, ⟨58, _⟩ => ⟨S1x4, .i32⟩
  | .hbm, ⟨59, _⟩ => ⟨S4x4, .i32⟩
  | .hbm, ⟨60, _⟩ => ⟨S4x4, .i32⟩
  | .hbm, ⟨61, _⟩ => ⟨S4x4, .i1⟩
  | .hbm, ⟨62, _⟩ => ⟨S1x4x1x1x4, .i1⟩
  | .hbm, ⟨63, _⟩ => ⟨S_, .f32⟩
  | .hbm, ⟨64, _⟩ => ⟨S_, .f32⟩
  | .hbm, ⟨65, _⟩ => ⟨S1024x4x2x8x4, .i1⟩
  | .hbm, ⟨66, _⟩ => ⟨S1024x4x2x8x4, .f32⟩
  | .hbm, ⟨67, _⟩ => ⟨S1024x4x2x8x4, .f32⟩
  | .hbm, ⟨68, _⟩ => ⟨S_, .f32⟩
  | .hbm, ⟨69, _⟩ => ⟨S1024x4x2x8, .f32⟩
  | .hbm, ⟨70, _⟩ => ⟨S1024x4x2x8x1, .f32⟩
  | .hbm, ⟨71, _⟩ => ⟨S_, .f32⟩
  | .hbm, ⟨72, _⟩ => ⟨S1024x4x2x8, .f32⟩
  | .hbm, ⟨73, _⟩ => ⟨S1024x4x2x8x1, .f32⟩
  | .hbm, ⟨74, _⟩ => ⟨S1024x4x2x8x1, .f32⟩
  | .hbm, ⟨75, _⟩ => ⟨S_, .f32⟩
  | .hbm, ⟨76, _⟩ => ⟨S1024x4x2x8, .f32⟩
  | .hbm, ⟨77, _⟩ => ⟨S1024x4x2x8x1, .f32⟩
  | .hbm, ⟨78, _⟩ => ⟨S1024x4x2x8x1, .f32⟩
  | .hbm, ⟨79, _⟩ => ⟨S1024x4x2x8x2304, .f32⟩
  | .hbm, ⟨80, _⟩ => ⟨S1024x4x2x8x2304, .f32⟩
  | .hbm, ⟨81, _⟩ => ⟨S1024x4x2x8x2304, .f32⟩
  | .hbm, ⟨82, _⟩ => ⟨S1024x4x2x8x256, .f32⟩
  | .hbm, ⟨83, _⟩ => ⟨S1024x4x2x8x256, .f32⟩
  | .hbm, ⟨84, _⟩ => ⟨S1024x4x2x8x256, .f32⟩
  | .hbm, ⟨85, _⟩ => ⟨S1024x4x2x8x4, .f32⟩
  | .hbm, ⟨86, _⟩ => ⟨S1024x4x2x8x4, .f32⟩
  | .hbm, ⟨87, _⟩ => ⟨S1024x4x2x8x4, .f32⟩
  | .hbm, ⟨88, _⟩ => ⟨S_, .f32⟩
  | .hbm, ⟨89, _⟩ => ⟨S1024x4x2x8, .f32⟩
  | .hbm, ⟨90, _⟩ => ⟨S1024x4x2x8x1, .f32⟩
  | .hbm, ⟨91, _⟩ => ⟨S_, .f32⟩
  | .hbm, ⟨92, _⟩ => ⟨S1024x4x2x8, .f32⟩
  | .hbm, ⟨93, _⟩ => ⟨S1024x4x2x8x1, .f32⟩
  | .hbm, ⟨94, _⟩ => ⟨S1024x4x2x8x1, .f32⟩
  | .hbm, ⟨95, _⟩ => ⟨S_, .f32⟩
  | .hbm, ⟨96, _⟩ => ⟨S1024x4x2x8, .f32⟩
  | .hbm, ⟨97, _⟩ => ⟨S1024x4x2x8x1, .f32⟩
  | .hbm, ⟨98, _⟩ => ⟨S1024x4x2x8x1, .f32⟩
  | .hbm, ⟨99, _⟩ => ⟨S1024x4x2x8x2304, .f32⟩
  | .hbm, ⟨100, _⟩ => ⟨S1024x4x2x8x2304, .f32⟩
  | .hbm, ⟨101, _⟩ => ⟨S1024x4x2x8x256, .f32⟩
  | .hbm, ⟨102, _⟩ => ⟨S1024x4x2x8x256, .f32⟩
  | .hbm, ⟨103, _⟩ => ⟨S1024x4x2x8x4, .f32⟩
  | .hbm, ⟨104, _⟩ => ⟨S1024x4x2x8x4, .f32⟩
  | .hbm, ⟨105, _⟩ => ⟨S2x2304, .f32⟩
  | .hbm, ⟨106, _⟩ => ⟨S2x1x2304, .f32⟩
  | .hbm, ⟨107, _⟩ => ⟨S1x1x2x1x2304, .f32⟩
  | .hbm, ⟨108, _⟩ => ⟨S1024x4x2x8x2304, .f32⟩
  | .hbm, ⟨109, _⟩ => ⟨S1024x4x2x8x2304, .f32⟩
  | .hbm, ⟨110, _⟩ => ⟨S1024x4x2x8x2304, .bf16⟩
  | .hbm, ⟨111, _⟩ => ⟨S2x128x1024x4x8, .f32⟩
  | .hbm, ⟨112, _⟩ => ⟨S1024x4x2x8x128, .f32⟩
  | .hbm, ⟨113, _⟩ => ⟨S1024x2x256, .f32⟩
  | .hbm, ⟨114, _⟩ => ⟨S1024x1x2x1x256, .f32⟩
  | .hbm, ⟨115, _⟩ => ⟨S1024x4x2x8x256, .f32⟩
  | .hbm, ⟨116, _⟩ => ⟨S1024x4x2x8x256, .f32⟩
  | .hbm, ⟨117, _⟩ => ⟨S1024x4x2x8x256, .bf16⟩
  | .hbm, ⟨118, _⟩ => ⟨S1024x2x128x4x8, .f32⟩
  | .hbm, ⟨119, _⟩ => ⟨S1024x4x2x8x128, .f32⟩
  | .hbm, ⟨120, _⟩ => ⟨S1024x4x2x8x4, .bf16⟩
  | .hbm, ⟨121, _⟩ => ⟨S1024x2x128x4x8, .f32⟩
  | .hbm, ⟨122, _⟩ => ⟨S1024x4x2x8x128, .f32⟩
  | .hbm, ⟨123, _⟩ => ⟨S1024x4x2x8x128, .f32⟩
  | .hbm, ⟨124, _⟩ => ⟨S1024x4x2x8x128, .f32⟩
  | .hbm, ⟨125, _⟩ => ⟨S1024x4x2048, .f32⟩
  | .hbm, ⟨126, _⟩ => ⟨S1024x4x2048, .bf16⟩
  | .local _ .vmem, ⟨0, _⟩ => ⟨S2304x2x128, .fp8e4m3⟩
  | .local _ .vmem, ⟨1, _⟩ => ⟨S2304x2x128, .fp8e4m3⟩
  | .local _ .vmem, ⟨2, _⟩ => ⟨S1024x256x2x128, .fp8e4m3⟩
  | .local _ .vmem, ⟨3, _⟩ => ⟨S1024x256x2x128, .fp8e4m3⟩
  | .local _ .vmem, ⟨4, _⟩ => ⟨S2304x2x128, .bf16⟩
  | .local _ .vmem, ⟨5, _⟩ => ⟨S2304x2x128, .bf16⟩
  | .local _ .vmem, ⟨6, _⟩ => ⟨S1024x256x2x128, .bf16⟩
  | .local _ .vmem, ⟨7, _⟩ => ⟨S1024x256x2x128, .bf16⟩
  | _, _ => ⟨S1024x4x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2304x2x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256x2x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x256x2x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x256x2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Stages.lean ====
/- The kernel's pure computations as a few functions, stated once for every block, head and batch row: the scores of one block of
   past keys, the running maximum, the exponentials and their sums, one batch row's tail, and the combination of the two parts.
   The printed payloads are instances of these (module Payloads). -/
module

public import proofs.«01_k».proof.Proof.Gen.KernelIdeal.Skeleton

@[expose] public section

noncomputable section

namespace Cert.Stages

open Idealize.ShloMosaic Cert.KernelIdeal Cert.KernelIdeal.Gen

variable {F : FTy → Type} [FloatOps F] [Named F]

/-- The row number of each place of the new keys' score block. -/
def rowNo : IVec S64x256 32 := iota .tc S64x256 32 [0] iota_S64x256_d0_w32

/-- The column number of each place of the new keys' score block. -/
def colNo : IVec S64x256 32 := iota .tc S64x256 32 [1] iota_S64x256_d1_w32

/-- The quarter of an index that a new key's row number stands for. -/
def keyPos (r : IVec S64x256 32) : IVec S64x256 32 := k0_pay113 r

/-- Where a new key may be seen: the same batch row, and not after the query. -/
def newOk : IVec S64x256 1 :=
  k0_pay117 colNo (k0_pay112 colNo k0_pay108 32#32 k0_pay109 k0_pay110 k0_pay111) 4#32
    (k0_pay113 rowNo) (k0_pay114 rowNo) (k0_pay115 rowNo) k0_pay116

/-- Where a new key is of head group `kv`. -/
def ofGroup (kv : BitVec 32) : IVec S64x256 1 :=
  let two : BitVec 32 := Scalar.select (Scalar.cmpi .eq 2#32 0#32) 1#32 2#32
  have v233 : IVec S64x256 32 := remsi rowNo (broadcast S64x256 two)
  have v235 : IVec S64x256 1 := cmpi .ne v233 (broadcast S64x256 0#32)
  have v237 : IVec S64x256 1 := cmpi .slt v233 (broadcast S64x256 0#32)
  have v240 : IVec S64x256 1 := broadcastTo S64x256 (broadcast S64x256 (Scalar.cmpi .slt two 0#32)) broadcasts_S64x256_S64x256
  have v242 : IVec S64x256 1 := andi (xori v237 v240) v235
  have v245 : IVec S64x256 32 := select v242 (addi v233 (broadcast S64x256 two)) v233
  cmpi .eq v245 (broadcast S64x256 kv)

/-- The masked base-2 scores of the new keys, of head group `kv`. -/
def sNew (kv : BitVec 32) (q : FVec F S256x128 .bf16) (kn : Vec F S64x128 .bf16) : FVec F S64x256 .f32 :=
  select (andi newOk (ofGroup kv))
    (mulf (matmul dot_S64x128_S256x128_S64x256_1_1_0_0_n_n none (shapeCast S64x128 kn shapeCasts_S64x128_S64x128) q (constant S64x256 .f32 0x00000000#32))
      (broadcast S64x256 (Named.named κ "scale_log2e" 0x3E0293EE#32)))
    (broadcast S64x256 (Scalar.ofBits .f32 0xFF800000#32))

/-- The base-2 scores of one block of past keys. -/
def sPast (qq : FVec F S256x256 .bf16) (k : Vec F S1x256x256 .bf16) : FVec F S256x256 .f32 := k0_pay128 qq k

/-- One step of the running maximum over blocks of past keys. -/
def m8Step (m8 : FVec F S8x256 .f32) (s : FVec F S256x256 .f32) : FVec F S8x256 .f32 :=
  maximumf m8 (multiReduction .maximumf [0] S8x256 (shapeCast S32x8x256 s shapeCasts_S256x256_S32x8x256) 0xFF800000#32 reduces_S32x8x256_S8x256 (.inl rfl) rfl)

/-- The running maximum after `n` blocks. -/
def m8At (qq : FVec F S256x256 .bf16) (K : ℕ → Vec F S1x256x256 .bf16) : ℕ → FVec F S8x256 .f32
  | 0 => broadcast S8x256 (Scalar.ofBits .f32 0xFF7FFFFF#32)
  | n + 1 => m8Step (m8At qq K n) (sPast qq (K n))

/-- The maximum of a column over past and new keys. -/
def mCol (m8 : FVec F S8x256 .f32) (sn : FVec F S64x256 .f32) : FVec F S1x256 .f32 :=
  shapeCast S1x256 (multiReduction .maximumf [0] S256
    (maximumf m8 (multiReduction .maximumf [0] S8x256 (shapeCast S8x8x256 sn shapeCasts_S64x256_S8x8x256) 0xFF800000#32 reduces_S8x8x256_S8x256 (.inl rfl) rfl))
    0xFF800000#32 reduces_S8x256_S256 (.inl rfl) rfl) shapeCasts_S256_S1x256

/-- The new keys' weights. -/
def eNew (sn : FVec F S64x256 .f32) (m : FVec F S1x256 .f32) : FVec F S64x256 .f32 :=
  exp2 (subf sn (broadcastTo S64x256 m broadcasts_S1x256_S64x256))

/-- The new keys' weights summed in eight rows. -/
def l8New (e : FVec F S64x256 .f32) : FVec F S8x256 .f32 :=
  multiReduction .add [0] S8x256 (shapeCast S8x8x256 e shapeCasts_S64x256_S8x8x256) 0x00000000#32 reduces_S8x8x256_S8x256 (.inl rfl) rfl

/-- The new values under the new keys' weights. -/
def oNew (vn : Vec F S64x128 .bf16) (e : FVec F S64x256 .f32) : FVec F S128x256 .f32 :=
  matmul dot_S128x64_S64x256_S128x256_1_0_0_1_n_n none (k0_pay118 vn) (truncf .bf16 e bitsLt_bf16_f32) (constant S128x256 .f32 0x00000000#32)

/-- The weights of one block of past keys, from its stored scores. -/
def ePast (m : FVec F S1x256 .f32) (s : Vec F S1x256x256 .f32) : FVec F S256x256 .f32 := k0_pay150 m s

/-- One block's scores as they are stored. -/
def stored (s : FVec F S256x256 .f32) : FVec F S1x256x256 .f32 := shapeCast S1x256x256 s shapeCasts_S256x256_S1x256x256

/-- One step of the sums of weights. -/
def l8Step (l8 : FVec F S8x256 .f32) (e : FVec F S256x256 .f32) : FVec F S8x256 .f32 :=
  addf l8 (multiReduction .add [0] S8x256 (shapeCast S32x8x256 e shapeCasts_S256x256_S32x8x256) 0x00000000#32 reduces_S32x8x256_S8x256 (.inl rfl) rfl)

/-- One step of the weighted values. -/
def oStep (o : FVec F S128x256 .f32) (v : Vec F S1x128x256 .bf16) (e : FVec F S256x256 .f32) : FVec F S128x256 .f32 :=
  addf o (matmul dot_S128x256_S256x256_S128x256_1_0_0_1_n_n none (shapeCast S128x256 v shapeCasts_S1x128x256_S128x256) (truncf .bf16 e bitsLt_bf16_f32)
    (constant S128x256 .f32 0x00000000#32))

/-- The sums of weights after `n` blocks. -/
def l8At (m : FVec F S1x256 .f32) (S : ℕ → Vec F S1x256x256 .f32) (l : FVec F S8x256 .f32) : ℕ → FVec F S8x256 .f32
  | 0 => l
  | n + 1 => l8Step (l8At m S l n) (ePast m (S n))

/-- The weighted values after `n` blocks. -/
def oAt (m : FVec F S1x256 .f32) (S : ℕ → Vec F S1x256x256 .f32) (V : ℕ → Vec F S1x128x256 .bf16) (o : FVec F S128x256 .f32) : ℕ → FVec F S128x256 .f32
  | 0 => o
  | n + 1 => oStep (oAt m S V o n) (V n) (ePast m (S n))

/-- The prefix part of head group `kv`: the columns' maxima. -/
def pM (kv : BitVec 32) (x : Vec F S32x1x8x128 .bf16) (kn : Vec F S64x128 .bf16) (K : ℕ → Vec F S1x256x256 .bf16) : FVec F S1x256 .f32 :=
  mCol (m8At (k0_pay120 x) K 9) (sNew kv (k0_pay119 x) kn)

/-- The stored scores of block `n`. -/
def pS (x : Vec F S32x1x8x128 .bf16) (K : ℕ → Vec F S1x256x256 .bf16) (n : ℕ) : FVec F S1x256x256 .f32 := stored (sPast (k0_pay120 x) (K n))

/-- The prefix part: the eight rows of sums of weights. -/
def pL8 (kv : BitVec 32) (x : Vec F S32x1x8x128 .bf16) (kn : Vec F S64x128 .bf16) (K : ℕ → Vec F S1x256x256 .bf16) (S : ℕ → Vec F S1x256x256 .f32) : FVec F S8x256 .f32 :=
  l8At (pM kv x kn K) S (l8New (eNew (sNew kv (k0_pay119 x) kn) (pM kv x kn K))) 9

/-- The prefix part: the weighted values. -/
def pO (kv : BitVec 32) (x : Vec F S32x1x8x128 .bf16) (kn vn : Vec F S64x128 .bf16) (K : ℕ → Vec F S1x256x256 .bf16) (S : ℕ → Vec F S1x256x256 .f32)
    (V : ℕ → Vec F S1x128x256 .bf16) : FVec F S128x256 .f32 :=
  oAt (pM kv x kn K) S V (oNew vn (eNew (sNew kv (k0_pay119 x) kn) (pM kv x kn K))) 9

/-- Where a row of a batch row's queries is of head group 0. -/
def isZero : IVec S64x128 1 := cmpi .eq (k0_pay241 (iota .tc S64x128 32 [0] iota_S64x128_d0_w32)) (broadcast S64x128 0#32)

/-- Queries of the two groups side by side, zero elsewhere. -/
def q2 (q : Vec F S64x128 .bf16) : FVec F S64x256 .bf16 :=
  concatenate S64x256 1 [⟨S64x128, select isZero (k0_pay222 q) k0_pay221⟩, ⟨S64x128, select isZero k0_pay221 (k0_pay222 q)⟩] concatenates_S64x128_S64x128_S64x256_d1

/-- The masked base-2 scores of one batch row's tail. -/
def tS (q : Vec F S64x128 .bf16) (k0 k1 : Vec F S1x1x256x128 .fp8e4m3) (len : Elt F .i32) (ks : Vec F S1x2x256 .f32) : FVec F S4x2x8x256 .f32 :=
  k0_pay227 (iota .tc S1x1x256 32 [2] iota_S1x1x256_d2_w32)
    (matmul dot_S64x256_S256x256_S64x256_1_1_0_0_n_n none (q2 q) (k0_pay225 k0 k1) (constant S64x256 .f32 0x00000000#32)) len ks

/-- The tail's maxima, at least the least finite number. -/
def tM (s : FVec F S4x2x8x256 .f32) : FVec F S4x2x8x1 .f32 := k0_pay244 s

/-- The tail's sums of weights. -/
def tL (s : FVec F S4x2x8x256 .f32) : FVec F S4x2x8x1 .f32 := k0_pay246 s

/-- The tail's weighted values, of both groups side by side. -/
def tO (v0 v1 : Vec F S1x1x256x128 .fp8e4m3) (s : FVec F S4x2x8x256 .f32) (vs : Vec F S1x2x256 .f32) : FVec F S4x2x8x256 .f32 :=
  k0_pay247 (k0_pay225 v0 v1) s vs

/-- The prefix part and the tail part of one head group of one batch row put together. -/
def comb (o : FVec F S4x8x128 .f32) (m l : FVec F S4x8x1 .f32) (ob : FVec F S4x8x128 .f32) (mb lb : FVec F S4x8x1 .f32) : FVec F S1x4x8x128 .bf16 :=
  have m_all : FVec F S4x8x1 .f32 := maximumf m mb
  have a : FVec F S4x8x1 .f32 := exp2 (subf m m_all)
  have ab : FVec F S4x8x1 .f32 := exp2 (subf mb m_all)
  have num : FVec F S4x8x128 .f32 := addf (mulf o (broadcastTo S4x8x128 a broadcasts_S4x8x1_S4x8x128)) (mulf ob (broadcastTo S4x8x128 ab broadcasts_S4x8x1_S4x8x128))
  have den : FVec F S4x8x1 .f32 := addf (mulf l a) (mulf lb ab)
  shapeCast S1x4x8x128 (truncf .bf16 (divf num (broadcastTo S4x8x128 den broadcasts_S4x8x1_S4x8x128)) bitsLt_bf16_f32) shapeCasts_S4x8x128_S1x4x8x128

theorem slicesO (b : Fin 8) : (S256x128 : Shape).Slices ![32 * b.val, 0] S32x128 := by revert b; decide
theorem slicesC (b : Fin 8) : (S256x1 : Shape).Slices ![32 * b.val, 0] S32x1 := by revert b; decide
theorem slicesTO (kv : Fin 2) : (S4x2x8x256 : Shape).Slices ![0, kv.val, 0, 128 * kv.val] S4x1x8x128 := by revert kv; decide
theorem slicesTC (kv : Fin 2) : (S4x2x8x1 : Shape).Slices ![0, kv.val, 0, 0] S4x1x8x1 := by revert kv; decide

/-- Batch row `b`'s part of the prefix's weighted values. -/
def oRows (b : Fin 8) (o : FVec F S128x256 .f32) : FVec F S4x8x128 .f32 :=
  shapeCast S4x8x128 (extractStridedSlice S32x128 ![32 * b.val, 0] (k0_pay166 o) (slicesO b)) shapeCasts_S32x128_S4x8x128

/-- Batch row `b`'s part of the prefix's maxima. -/
def mRows (b : Fin 8) (m : FVec F S1x256 .f32) (l8 : FVec F S8x256 .f32) : FVec F S4x8x1 .f32 :=
  shapeCast S4x8x1 (extractStridedSlice S32x1 ![32 * b.val, 0] (k0_pay168 m l8) (slicesC b)) shapeCasts_S32x1_S4x8x1

/-- Batch row `b`'s part of the prefix's sums of weights. -/
def lRows (b : Fin 8) (m : FVec F S1x256 .f32) (l8 : FVec F S8x256 .f32) : FVec F S4x8x1 .f32 :=
  shapeCast S4x8x1 (extractStridedSlice S32x1 ![32 * b.val, 0] (k0_pay169 m l8) (slicesC b)) shapeCasts_S32x1_S4x8x1

/-- Head group `kv`'s part of the tail's weighted values. -/
def tOGroup (kv : Fin 2) (o : FVec F S4x2x8x256 .f32) : FVec F S4x8x128 .f32 :=
  shapeCast S4x8x128 (extractStridedSlice S4x1x8x128 ![0, kv.val, 0, 128 * kv.val] o (slicesTO kv)) shapeCasts_S4x1x8x128_S4x8x128

/-- Head group `kv`'s part of a tail column. -/
def tGroup (kv : Fin 2) (o : FVec F S4x2x8x1 .f32) : FVec F S4x8x1 .f32 :=
  shapeCast S4x8x1 (extractStridedSlice S4x1x8x1 ![0, kv.val, 0, 0] o (slicesTC kv)) shapeCasts_S4x1x8x1_S4x8x1

/-- What one batch row `b` and head group `kv` end with. -/
def out (b : Fin 8) (kv : Fin 2) (m : FVec F S1x256 .f32) (l8 : FVec F S8x256 .f32) (o : FVec F S128x256 .f32)
    (s : FVec F S4x2x8x256 .f32) (v0 v1 : Vec F S1x1x256x128 .fp8e4m3) (vs : Vec F S1x2x256 .f32) : FVec F S1x4x8x128 .bf16 :=
  comb (oRows b o) (mRows b m l8) (lRows b m l8) (tOGroup kv (tO v0 v1 s vs)) (tGroup kv (tM s)) (tGroup kv (tL s))

end Cert.Stages

end
-- ==== Proof.Soft.lean ====
/-
  The arithmetic of the claim over the extended reals, with no program in it: an attention row computed in two
  parts, each with its own base-2 maximum, joined at the end, is the row's softmax written with `exp`.

  Scores are real or `⊥` (masked). Every weight is a real number: `wt s` is `exp s`, and 0 for a masked score.
  Values (V codes times their scales) may be any extended real: a product with a nonnegative real distributes.
-/
module

public import Idealize.ShloMosaic.Lib.IdealHost
public import Idealize.ShloMosaic.Lib.Pointwise

@[expose] public section

noncomputable section

open Idealize.ShloMosaic
open scoped BigOperators

namespace Cert.Soft

/-- An extended real that is a real number. -/
def IsReal (x : EReal) : Prop := ∃ r : ℝ, x = (r : EReal)

/-- A score: real, or masked. -/
def Score (x : EReal) : Prop := x = ⊥ ∨ IsReal x

theorem IsReal.score {x : EReal} (h : IsReal x) : Score x := Or.inr h

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by obtain ⟨r, rfl⟩ := h; exact EReal.coe_ne_bot r
theorem IsReal.ne_top {x : EReal} (h : IsReal x) : x ≠ ⊤ := by obtain ⟨r, rfl⟩ := h; exact EReal.coe_ne_top r
theorem Score.ne_top {x : EReal} (h : Score x) : x ≠ ⊤ := by
  rcases h with rfl | h
  · exact bot_ne_top
  · exact h.ne_top

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem isReal_coe (r : ℝ) : IsReal (r : EReal) := ⟨r, rfl⟩

theorem isReal_zero : IsReal 0 := ⟨0, rfl⟩

/-- A real minus itself is zero. -/
theorem IsReal.sub_self {x : EReal} (hx : IsReal x) : x - x = 0 := by
  obtain ⟨a, rfl⟩ := hx; rw [← EReal.coe_sub, _root_.sub_self]; rfl

theorem isReal_sum {ι : Type*} (s : Finset ι) (f : ι → EReal) (h : ∀ i, IsReal (f i)) : IsReal (∑ i ∈ s, f i) := by
  classical
  induction s using Finset.induction_on with
  | empty => simpa using isReal_zero
  | insert a s ha ih => rw [Finset.sum_insert ha]; exact (h a).add ih

/-- A nonnegative real factor moves into a sum of extended reals. -/
theorem mul_sum_real {ι : Type*} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem mul_add_real (r : ℝ) (hr : 0 ≤ r) (x y : EReal) : (r : EReal) * (x + y) = r * x + r * y :=
  EReal.left_distrib_of_nonneg_of_ne_top (by exact_mod_cast hr) (EReal.coe_ne_top r) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves into a sum of reals. -/
theorem mul_sum_of_real {ι : Type*} (s : Finset ι) (f : ι → EReal) (c : EReal) (hc : IsReal c) (h : ∀ i, IsReal (f i)) :
    (∑ i ∈ s, f i) * c = ∑ i ∈ s, f i * c := by
  obtain ⟨r, rfl⟩ := hc
  choose g hg using h
  simp only [hg]
  simp only [← EReal.coe_mul, ← coe_sum, Finset.sum_mul]

/-- The weight of a score: `exp`, and 0 when masked. -/
def wt (x : EReal) : ℝ := if x = ⊥ then 0 else Real.exp x.toReal

theorem wt_bot : wt ⊥ = 0 := if_pos rfl
theorem wt_coe (r : ℝ) : wt (r : EReal) = Real.exp r := by
  rw [wt, if_neg (EReal.coe_ne_bot r), EReal.toReal_coe]
theorem wt_nonneg (x : EReal) : 0 ≤ wt x := by
  unfold wt; split
  · exact le_rfl
  · exact (Real.exp_pos _).le
theorem IsReal.wt_pos {x : EReal} (h : IsReal x) : 0 < wt x := by
  obtain ⟨r, rfl⟩ := h; rw [wt_coe]; exact Real.exp_pos r

/-- The reference's exponential of a score below a real shift. -/
theorem exp_sub {s m : EReal} (hs : Score s) (hm : IsReal m) :
    Ideal.exp (s - m) = ((wt s * Real.exp (-m.toReal) : ℝ) : EReal) := by
  obtain ⟨b, rfl⟩ := hm
  rcases hs with rfl | ⟨a, rfl⟩
  · rw [wt_bot, zero_mul, EReal.coe_zero, EReal.bot_sub]; rfl
  · rw [wt_coe, ← EReal.coe_sub, EReal.toReal_coe]
    show ((Real.exp (a - b) : ℝ) : EReal) = _
    rw [sub_eq_add_neg, Real.exp_add]

/-- log₂ e, as the programs name it. -/
abbrev log2e : EReal := (((Real.log 2)⁻¹ : ℝ) : EReal)

theorem log2_pos : 0 < Real.log 2 := Real.log_pos (by norm_num)

theorem score_mul_log2e {s : EReal} (hs : Score s) : Score (s * log2e) := by
  rcases hs with rfl | ⟨a, rfl⟩
  · left; exact EReal.bot_mul_coe_of_pos (inv_pos.mpr log2_pos)
  · right; exact (isReal_coe a).mul (isReal_coe _)

/-- The kernel's base-2 exponential of a score scaled by log₂ e, below a real shift. -/
theorem exp2_sub {s m : EReal} (hs : Score s) (hm : IsReal m) :
    Ideal.exp2 (s * log2e - m) = ((wt s * Real.rpow 2 (-m.toReal) : ℝ) : EReal) := by
  obtain ⟨b, rfl⟩ := hm
  rcases hs with rfl | ⟨a, rfl⟩
  · rw [wt_bot, zero_mul, EReal.coe_zero, EReal.bot_mul_coe_of_pos (inv_pos.mpr log2_pos), EReal.bot_sub]; rfl
  · rw [wt_coe, ← EReal.coe_mul, ← EReal.coe_sub, EReal.toReal_coe]
    show ((Real.rpow 2 (a * (Real.log 2)⁻¹ - b) : ℝ) : EReal) = _
    congr 1
    show (2 : ℝ) ^ (a * (Real.log 2)⁻¹ - b) = Real.exp a * (2 : ℝ) ^ (-b)
    rw [sub_eq_add_neg, Real.rpow_add (by norm_num)]
    congr 1
    rw [Real.rpow_def_of_pos (by norm_num)]
    congr 1
    field_simp [log2_pos.ne']

theorem exp2_real {x y : EReal} (hx : IsReal x) (hy : IsReal y) :
    Ideal.exp2 (x - y) = ((Real.rpow 2 (x.toReal - y.toReal) : ℝ) : EReal) := by
  obtain ⟨a, rfl⟩ := hx; obtain ⟨b, rfl⟩ := hy
  rw [← EReal.coe_sub]; rfl

theorem IsReal.max {x y : EReal} (hx : IsReal x) (hy : IsReal y) : IsReal (max x y) := by
  rcases max_choice x y with h | h <;> rw [h] <;> assumption

theorem IsReal.max_score {x y : EReal} (hx : IsReal x) (hy : Score y) : IsReal (Max.max x y) :=
  isReal_of_ne (fun h => hx.ne_bot (le_bot_iff.mp (h ▸ le_max_left x y)))
    (fun h => by rcases max_choice x y with e | e <;> rw [e] at h <;> [exact hx.ne_top h; exact hy.ne_top h])

theorem Score.max {x y : EReal} (hx : Score x) (hy : Score y) : Score (Max.max x y) := by
  rcases max_choice x y with h | h <;> rw [h] <;> assumption

/-- A running maximum of scores from a score is a score. -/
theorem fold_max_score {ι : Type*} (s : Finset ι) (f : ι → EReal) (b : EReal) (hb : Score b) (h : ∀ i, Score (f i)) :
    Score (s.fold Max.max b f) := by
  classical
  induction s using Finset.induction_on with
  | empty => simpa using hb
  | insert a s ha ih => rw [Finset.fold_insert ha]; exact (h a).max ih

/-- A running maximum of reals from `⊥` over a nonempty range is real. -/
theorem fold_max_real {ι : Type*} (s : Finset ι) (hs : s.Nonempty) (f : ι → EReal) (b : EReal) (hb : Score b)
    (h : ∀ i, IsReal (f i)) : IsReal (s.fold Max.max b f) := by
  classical
  obtain ⟨a, ha⟩ := hs
  rw [← Finset.insert_erase ha, Finset.fold_insert (Finset.notMem_erase a s)]
  exact (h a).max_score (fold_max_score _ _ _ hb fun i => (h i).score)

/-- The row. `P` past keys, `R` the new rows the kernel multiplies (those not of this query masked), `T` tail keys. -/
theorem row {P R T : Type} [Fintype P] [Fintype R] [Fintype T] [Nonempty P]
    (sp vp up : P → EReal) (sn vn : R → EReal) (st vt ut : T → EReal) (mp mb mx : EReal)
    (hsp : ∀ p, IsReal (sp p)) (hsn : ∀ r, Score (sn r)) (hst : ∀ t, Score (st t))
    (hmp : IsReal mp) (hmb : IsReal mb) (hmx : IsReal mx) :
    Ideal.div
      (((∑ p, vp p * up p * Ideal.exp2 (sp p * log2e - mp)) + ∑ r, vn r * Ideal.exp2 (sn r * log2e - mp))
          * Ideal.exp2 (mp - max mp mb)
        + (∑ t, Ideal.exp2 (st t * log2e - mb) * ut t * vt t) * Ideal.exp2 (mb - max mp mb))
      (((∑ p, Ideal.exp2 (sp p * log2e - mp)) + ∑ r, Ideal.exp2 (sn r * log2e - mp)) * Ideal.exp2 (mp - max mp mb)
        + (∑ t, Ideal.exp2 (st t * log2e - mb)) * Ideal.exp2 (mb - max mp mb))
    = (∑ p, Ideal.div (Ideal.exp (sp p - mx))
          ((∑ p, Ideal.exp (sp p - mx)) + (∑ t, Ideal.exp (st t - mx)) + ∑ r, Ideal.exp (sn r - mx)) * up p * vp p)
      + (∑ t, Ideal.div (Ideal.exp (st t - mx))
          ((∑ p, Ideal.exp (sp p - mx)) + (∑ t, Ideal.exp (st t - mx)) + ∑ r, Ideal.exp (sn r - mx)) * ut t * vt t)
      + ∑ r, Ideal.div (Ideal.exp (sn r - mx))
          ((∑ p, Ideal.exp (sp p - mx)) + (∑ t, Ideal.exp (st t - mx)) + ∑ r, Ideal.exp (sn r - mx)) * vn r := by
  have hM : IsReal (max mp mb) := hmp.max hmb
  set M := max mp mb with hMdef
  simp only [fun p => exp2_sub (hsp p).score hmp, fun r => exp2_sub (hsn r) hmp, fun t => exp2_sub (hst t) hmb,
    exp2_real hmp hM, exp2_real hmb hM, fun p => exp_sub (hsp p).score hmx, fun r => exp_sub (hsn r) hmx,
    fun t => exp_sub (hst t) hmx]
  simp only [← coe_sum, ← EReal.coe_add, ← EReal.coe_mul, ← Finset.sum_mul]
  set cp := Real.rpow 2 (-mp.toReal) with hcp
  set cb := Real.rpow 2 (-mb.toReal) with hcb
  set ap := Real.rpow 2 (mp.toReal - M.toReal) with hap
  set ab := Real.rpow 2 (mb.toReal - M.toReal) with hab
  set cx := Real.exp (-mx.toReal) with hcx
  set c := Real.rpow 2 (-M.toReal) with hc
  have e1 : cp * ap = c := by
    rw [hcp, hap, hc]; show (2 : ℝ) ^ (-mp.toReal) * (2 : ℝ) ^ (mp.toReal - M.toReal) = (2 : ℝ) ^ (-M.toReal)
    rw [← Real.rpow_add (by norm_num)]; congr 1; ring
  have e2 : cb * ab = c := by
    rw [hcb, hab, hc]; show (2 : ℝ) ^ (-mb.toReal) * (2 : ℝ) ^ (mb.toReal - M.toReal) = (2 : ℝ) ^ (-M.toReal)
    rw [← Real.rpow_add (by norm_num)]; congr 1; ring
  have cpos : 0 < c := Real.rpow_pos_of_pos (by norm_num) _
  have appos : 0 < ap := Real.rpow_pos_of_pos (by norm_num) _
  have abpos : 0 < ab := Real.rpow_pos_of_pos (by norm_num) _
  have cxpos : 0 < cx := Real.exp_pos _
  set Wp := ∑ p, wt (sp p)
  set Wt := ∑ t, wt (st t)
  set Wn := ∑ r, wt (sn r)
  have hWp : 0 < Wp := Finset.sum_pos (fun p _ => (hsp p).wt_pos) Finset.univ_nonempty
  have hWt : 0 ≤ Wt := Finset.sum_nonneg fun t _ => wt_nonneg _
  have hWn : 0 ≤ Wn := Finset.sum_nonneg fun t _ => wt_nonneg _
  have hW : 0 < Wp + Wt + Wn := by linarith
  have den : (Wp * cp + Wn * cp) * ap + Wt * cb * ab = (Wp + Wt + Wn) * c := by
    calc _ = (Wp + Wn) * (cp * ap) + Wt * (cb * ab) := by ring
      _ = _ := by rw [e1, e2]; ring
  have denr : Wp * cx + Wt * cx + Wn * cx = (Wp + Wt + Wn) * cx := by ring
  rw [den, denr]
  set W := Wp + Wt + Wn with hWdef
  have hq : ∀ w : ℝ, Ideal.div ((w * cx : ℝ) : EReal) ((W * cx : ℝ) : EReal) = ((W⁻¹ * w : ℝ) : EReal) := by
    intro w
    rw [Ideal.div_coe (mul_pos hW cxpos).ne', ← EReal.coe_mul]
    congr 1
    field_simp
  simp only [hq]
  have num : ((∑ p, vp p * up p * ((wt (sp p) * cp : ℝ) : EReal)) + ∑ r, vn r * ((wt (sn r) * cp : ℝ) : EReal)) * (ap : EReal)
        + (∑ t, ((wt (st t) * cb : ℝ) : EReal) * ut t * vt t) * (ab : EReal)
      = (c : EReal) * ((∑ p, (wt (sp p) : EReal) * up p * vp p) + (∑ t, (wt (st t) : EReal) * ut t * vt t)
          + ∑ r, (wt (sn r) : EReal) * vn r) := by
    rw [mul_comm _ (ap : EReal), mul_comm _ (ab : EReal), mul_add_real ap appos.le, mul_add_real c cpos.le,
      mul_add_real c cpos.le, mul_sum_real _ _ ap appos.le, mul_sum_real _ _ ap appos.le, mul_sum_real _ _ ab abpos.le,
      mul_sum_real _ _ c cpos.le, mul_sum_real _ _ c cpos.le, mul_sum_real _ _ c cpos.le, add_right_comm]
    refine congrArg₂ (· + ·) (congrArg₂ (· + ·) ?_ ?_) ?_
    · refine Finset.sum_congr rfl fun p _ => ?_
      rw [← e1, EReal.coe_mul, EReal.coe_mul]; ac_rfl
    · refine Finset.sum_congr rfl fun t _ => ?_
      rw [← e2, EReal.coe_mul, EReal.coe_mul]; ac_rfl
    · refine Finset.sum_congr rfl fun r _ => ?_
      rw [← e1, EReal.coe_mul, EReal.coe_mul]; ac_rfl
  rw [num, Ideal.div_coe (mul_pos hW cpos).ne']
  have hc' : ∀ x : EReal, (c : EReal) * x * ((1 / (W * c) : ℝ) : EReal) = ((W⁻¹ : ℝ) : EReal) * x := by
    intro x
    rw [mul_comm (c : EReal) x, mul_assoc, ← EReal.coe_mul, mul_comm x]
    congr 2
    field_simp
  rw [hc']
  have hi : 0 ≤ W⁻¹ := (inv_pos.mpr hW).le
  rw [mul_add_real _ hi, mul_add_real _ hi, mul_sum_real _ _ _ hi, mul_sum_real _ _ _ hi, mul_sum_real _ _ _ hi]
  simp only [EReal.coe_mul, mul_assoc]

end Cert.Soft

end
-- ==== Proof.Row.lean ====
/- The mathematics of one query row, over plain arrays: the three kinds of score (past keys, tail keys below the row's length,
   new keys not after the query), before any softmax. Both programs are read against these. -/
module

public import proofs.«01_k».proof.Proof.Soft
public import Idealize.ShloMosaic.Lib.ValueIdx
public import Idealize.ShloMosaic.PureOps.Ideal.Laws

@[expose] public section

noncomputable section

namespace Cert.Row

open Idealize.ShloMosaic Cert.Soft
open Idealize.ShloMosaic.ValueIdx (eq_ix1)

/-- An array of extended reals of the given extents. -/
abbrev Arr (n : ℕ) (s : Fin n → ℕ) : Type := (⟨n, s⟩ : Shape).Idx → EReal

/-- The softmax scale as both programs hold it: the f32 nearest to `128 ** -0.5`. -/
abbrev C : EReal := ((11863283 / 134217728 : ℝ) : EReal)

theorem ofBits_scale : Ideal.ofBits .f32 0x3DB504F3#32 = C := by
  simp [Ideal.ofBits, Ideal.ieee, -EReal.coe_mul]; norm_num

theorem ofBits_bot : Ideal.ofBits .f32 0xFF800000#32 = ⊥ := by
  simp [Ideal.ofBits, Ideal.ieee]

theorem ofBits_zero : Ideal.ofBits .f32 0x00000000#32 = 0 := by
  simp [Ideal.ofBits, Ideal.ieee]

/-- The score of past key `p`. -/
def sp (K : Arr 3 ![2304, 2, 128]) (ks : Arr 2 ![2304, 2]) (q : Fin 128 → EReal) (kv : Fin 2) (p : Fin 2304) : EReal :=
  (∑ d : Fin 128, K (ix3 p kv d) * q d) * (ks (ix2 p kv) * C)

/-- The score of tail key `t` of batch row `b`: none from the row's length on. -/
def st (K : Arr 4 ![1024, 256, 2, 128]) (ks : Arr 3 ![1024, 256, 2]) (len : BitVec 32) (q : Fin 128 → EReal) (b : Fin 1024) (kv : Fin 2)
    (t : Fin 256) : EReal :=
  if (BitVec.ofNat 32 t.val).slt len then (∑ d : Fin 128, K (ix4 b t kv d) * q d) * (ks (ix3 b t kv) * C) else ⊥

/-- The score of new key `j` for the query at position `s`: none after it. -/
def sn (K : Arr 4 ![1024, 4, 2, 128]) (q : Fin 128 → EReal) (b : Fin 1024) (kv : Fin 2) (s : Fin 4) (j : Fin 4) : EReal :=
  if j ≤ s then (∑ d : Fin 128, K (ix4 b j kv d) * q d) * C else ⊥

theorem isReal_C : IsReal C := isReal_coe _

theorem isReal_sp (K : Arr 3 ![2304, 2, 128]) (ks : Arr 2 ![2304, 2]) (q : Fin 128 → EReal) (hK : ∀ i, IsReal (K i)) (hks : ∀ i, IsReal (ks i))
    (hq : ∀ d, IsReal (q d)) (kv : Fin 2) (p : Fin 2304) : IsReal (sp K ks q kv p) :=
  (isReal_sum _ _ fun d => (hK _).mul (hq d)).mul ((hks _).mul isReal_C)

theorem score_st (K : Arr 4 ![1024, 256, 2, 128]) (ks : Arr 3 ![1024, 256, 2]) (len : BitVec 32) (q : Fin 128 → EReal) (hK : ∀ i, IsReal (K i))
    (hks : ∀ i, IsReal (ks i)) (hq : ∀ d, IsReal (q d)) (b : Fin 1024) (kv : Fin 2) (t : Fin 256) : Score (st K ks len q b kv t) := by
  unfold st
  split
  · exact ((isReal_sum _ _ fun d => (hK _).mul (hq d)).mul ((hks _).mul isReal_C)).score
  · exact .inl rfl

theorem score_sn (K : Arr 4 ![1024, 4, 2, 128]) (q : Fin 128 → EReal) (hK : ∀ i, IsReal (K i)) (hq : ∀ d, IsReal (q d)) (b : Fin 1024) (kv : Fin 2)
    (s j : Fin 4) : Score (sn K q b kv s j) := by
  unfold sn
  split
  · exact ((isReal_sum _ _ fun d => (hK _).mul (hq d)).mul isReal_C).score
  · exact .inl rfl

end Cert.Row

end
-- ==== Proof.StageValue.lean ====
/- What each stage of the kernel computes at one index, over the extended reals, and from that one batch row's and head group's
   result as a softmax over its three kinds of score. -/
module

public import proofs.«01_k».proof.Proof.Stages
public import proofs.«01_k».proof.Proof.Row
public import Idealize.ShloMosaic.Lib.Pointwise
@[expose] public section
set_option maxRecDepth 16384
noncomputable section
namespace Cert.StageValue
open Idealize.ShloMosaic Cert.Soft Cert.Row Cert.KernelIdeal Cert.KernelIdeal.Gen Cert.Stages

theorem row8 (r : Fin 64) (j : Fin 256) : k0_pay108 (ix2 r j) = BitVec.ofNat 32 (r.val / 8) := by
  pointwise [k0_pay108]
  revert r; decide +kernel

theorem sameRow (r : Fin 64) (j : Fin 256) : k0_pay112 colNo k0_pay108 32#32 k0_pay109 k0_pay110 k0_pay111 (ix2 r j)
    = IntOp.cmpi .eq (BitVec.ofNat 32 (r.val / 8)) (BitVec.ofNat 32 (j.val / 32)) := by
  rw [← row8 r j]
  pointwise [k0_pay112, k0_pay109, k0_pay110, k0_pay111, colNo]
  refine congrArg (IntOp.cmpi .eq _) ?_
  revert j; decide +kernel

theorem newOk_word (r : Fin 64) (j : Fin 256) : newOk (ix2 r j)
    = IntOp.andi (IntOp.cmpi .eq (BitVec.ofNat 32 (r.val / 8)) (BitVec.ofNat 32 (j.val / 32)))
      (IntOp.cmpi .sle (BitVec.ofNat 32 (r.val / 2 % 4)) (BitVec.ofNat 32 (j.val / 8 % 4))) := by
  rw [← sameRow r j]
  pointwise [newOk, k0_pay117, k0_pay113, k0_pay114, k0_pay115, k0_pay116, rowNo, colNo]
  refine congrArg (IntOp.andi _) (congrArg₂ (IntOp.cmpi .sle) ?_ ?_)
  · revert r; decide +kernel
  · revert j; decide +kernel

theorem ofGroup_word (kv : BitVec 32) (r : Fin 64) (j : Fin 256) : ofGroup kv (ix2 r j) = IntOp.cmpi .eq (BitVec.ofNat 32 (r.val % 2)) kv := by
  pointwise [ofGroup, rowNo]
  refine congrArg (fun y => IntOp.cmpi .eq y kv) ?_
  revert r; decide +kernel

theorem isZero_word (r : Fin 64) (j : Fin 128) : isZero (ix2 r j) = BitVec.ofBool (decide (r.val / 8 % 2 = 0)) := by
  pointwise [isZero, k0_pay241]
  revert r; decide +kernel

theorem eqWord : ∀ a b : Fin 8, IntOp.cmpi .eq (BitVec.ofNat 32 a.val) (BitVec.ofNat 32 b.val) = BitVec.ofBool (decide (a.val = b.val)) := by decide +kernel
theorem leWord : ∀ a b : Fin 4, IntOp.cmpi .sle (BitVec.ofNat 32 a.val) (BitVec.ofNat 32 b.val) = BitVec.ofBool (decide (a.val ≤ b.val)) := by decide +kernel
theorem eqWord2 : ∀ a b : Fin 2, IntOp.cmpi .eq (BitVec.ofNat 32 a.val) (BitVec.ofNat 32 b.val) = BitVec.ofBool (decide (a.val = b.val)) := by decide +kernel

theorem andi_ofBool (a b : Bool) : IntOp.andi (BitVec.ofBool a) (BitVec.ofBool b) = BitVec.ofBool (a && b) := by
  cases a <;> cases b <;> rfl

theorem mask_word (kv : Fin 2) (r : Fin 64) (j : Fin 256) :
    IntOp.andi (newOk (ix2 r j)) (ofGroup (BitVec.ofNat 32 kv.val) (ix2 r j))
      = BitVec.ofBool (decide (r.val / 8 = j.val / 32 ∧ r.val / 2 % 4 ≤ j.val / 8 % 4 ∧ r.val % 2 = kv.val)) := by
  rw [newOk_word, ofGroup_word, eqWord ⟨r.val / 8, by omega⟩ ⟨j.val / 32, by omega⟩, leWord ⟨r.val / 2 % 4, by omega⟩ ⟨j.val / 8 % 4, by omega⟩,
    eqWord2 ⟨r.val % 2, by omega⟩ kv, andi_ofBool, andi_ofBool]
  congr 1
  simp only [Bool.decide_and, Bool.and_assoc]

/-- The column of the prefix part that batch row `b`'s query at position `s`, head `g` has. -/
def col (b : Fin 8) (s : Fin 4) (g : Fin 8) : Fin 256 := ⟨32 * b.val + (s.val * 8 + g.val), by omega⟩

/-- The row of the block of queries that this column is. -/
def qRow (b : Fin 8) (s : Fin 4) : Fin 32 := ⟨4 * b.val + s.val, by omega⟩

/-- The row of the block of new keys that holds batch row `b`'s key `j` of head group `kv`. -/
def nRow (b : Fin 8) (j : Fin 4) (kv : Fin 2) : Fin 64 := ⟨8 * b.val + (2 * j.val + kv.val), by omega⟩

/-- The row of a batch row's queries that position `s`, group `kv`, head `g` has. -/
def tRow (s : Fin 4) (kv : Fin 2) (g : Fin 8) : Fin 64 := ⟨s.val * 16 + kv.val * 8 + g.val, by omega⟩

/-- The past key that is key `i` of block `n`. -/
def pKey (n : Fin 9) (i : Fin 256) : Fin 2304 := ⟨n.val * 256 + i.val, by omega⟩

theorem q_col (x : Vec Ideal S32x1x8x128 .bf16) (b : Fin 8) (s : Fin 4) (g : Fin 8) (d : Fin 128) (h1 h2) :
    x (ix4 ⟨(col b s g).val / 8, h1⟩ 0 ⟨(col b s g).val % 8, h2⟩ d) = x (ix4 (qRow b s) 0 g d) := by
  have e1 : (⟨(col b s g).val / 8, h1⟩ : Fin 32) = qRow b s := Fin.ext (by simp only [col, qRow]; omega)
  have e2 : (⟨(col b s g).val % 8, h2⟩ : Fin 8) = g := Fin.ext (by simp only [col]; omega)
  rw [e1, e2]

theorem sPast_apply (x : Vec Ideal S32x1x8x128 .bf16) (k : Vec Ideal S1x256x256 .bf16) (i : Fin 256) (b : Fin 8) (s : Fin 4) (g : Fin 8)
    (qf A : Fin 128 → EReal) (w : EReal) (hx : ∀ d, x (ix4 (qRow b s) 0 g d) = qf d) (hw : IsReal w) (hA : ∀ d, IsReal (A d)) (hq : ∀ d, IsReal (qf d))
    (hk : ∀ d : Fin 128, k (ix3 0 i ⟨d.val, by omega⟩) = A d * w) (hl : ∀ d : Fin 128, k (ix3 0 i ⟨128 + d.val, by omega⟩) = 0) :
    sPast (k0_pay120 x) k (ix2 i (col b s g)) = (∑ d, A d * qf d) * w := by
  pointwise [sPast, k0_pay128, k0_pay120, k0_pay119]
  rw [mul_sum_of_real _ _ _ hw fun d => (hA d).mul (hq d)]
  refine (congrArg₂ (fun a c : EReal => a + c) (Finset.sum_congr rfl fun d _ => ?_) (Finset.sum_eq_zero fun d _ => ?_)).trans (add_zero _)
  · exact (congrArg₂ (fun a c : EReal => a * c) (hk d) ((q_col x b s g d _ _).trans (hx d))).trans (mul_right_comm _ _ _)
  · exact (congrArg (fun a : EReal => a * _) (hl d)).trans (zero_mul _)

theorem ofBits_min : IsReal (Ideal.ofBits .f32 0xFF7FFFFF#32) := by
  refine isReal_of_ne ?_ ?_ <;> simp [Ideal.ofBits, Ideal.ieee, -EReal.coe_mul, EReal.coe_ne_bot, EReal.coe_ne_top]

theorem named_scale : (Named.named (F := Ideal) (φ := .f32) κ "scale_log2e" 0x3E0293EE#32 : EReal) = C * log2e := by
  rw [← EReal.coe_mul]
  exact IdealRules.named_const.ideal_named_scalar _ _ _ _ rfl

theorem named_log2e : (Named.named (F := Ideal) (φ := .f32) κ "log2e" 0x3FB8AA3B#32 : EReal) = log2e :=
  IdealRules.named_const.ideal_named_scalar _ _ _ _ rfl

theorem m8At_real (qq : FVec Ideal S256x256 .bf16) (K : ℕ → Vec Ideal S1x256x256 .bf16) (j : Fin 256) :
    ∀ n : ℕ, (∀ a < n, ∀ i, IsReal (sPast qq (K a) (ix2 i j))) → ∀ r : Fin 8, IsReal (m8At qq K n (ix2 r j))
  | 0, _, _ => ofBits_min
  | n + 1, h, r => by
    have ih := m8At_real qq K j n (fun a ha => h a (by omega)) r
    show IsReal (m8Step (m8At qq K n) (sPast qq (K n)) (ix2 r j))
    pointwise [m8Step]
    rw [ofBits_bot]
    exact ih.max_score (fold_max_score _ _ _ (.inl rfl) fun i => (h n (by omega) _).score)

theorem mCol_real (m8 : FVec Ideal S8x256 .f32) (sn : FVec Ideal S64x256 .f32) (j : Fin 256) (h : ∀ r, IsReal (m8 (ix2 r j)))
    (hs : ∀ r, Score (sn (ix2 r j))) : IsReal (mCol m8 sn (ix2 0 j)) := by
  pointwise [mCol]
  rw [ofBits_bot]
  exact fold_max_real _ ⟨0, Finset.mem_univ _⟩ _ _ (.inl rfl) fun r => (h r).max_score (fold_max_score _ _ _ (.inl rfl) fun _ => hs _)

theorem sNew_apply (kv : Fin 2) (x : Vec Ideal S32x1x8x128 .bf16) (kn : Vec Ideal S64x128 .bf16) (r : Fin 64) (b : Fin 8) (s : Fin 4) (g : Fin 8) :
    sNew (BitVec.ofNat 32 kv.val) (k0_pay119 x) kn (ix2 r (col b s g))
      = if r.val / 8 = b.val ∧ r.val / 2 % 4 ≤ s.val ∧ r.val % 2 = kv.val then (∑ d, kn (ix2 r d) * x (ix4 (qRow b s) 0 g d)) * (C * log2e) else ⊥ := by
  pointwise [sNew, k0_pay119]
  rw [mask_word, named_scale, ofBits_bot]
  have e : (r.val / 8 = (col b s g).val / 32 ∧ r.val / 2 % 4 ≤ (col b s g).val / 8 % 4 ∧ r.val % 2 = kv.val)
      = (r.val / 8 = b.val ∧ r.val / 2 % 4 ≤ s.val ∧ r.val % 2 = kv.val) := by
    have e1 : (col b s g).val / 32 = b.val := by simp only [col]; omega
    have e2 : (col b s g).val / 8 % 4 = s.val := by simp only [col]; omega
    rw [e1, e2]
  have e3 : (∑ d, kn (ix2 r d) * x (ix4 ⟨(col b s g).val / 8, by omega⟩ 0 ⟨(col b s g).val % 8, by omega⟩ d))
      = ∑ d, kn (ix2 r d) * x (ix4 (qRow b s) 0 g d) :=
    Finset.sum_congr rfl fun d _ => congrArg (fun y : EReal => kn (ix2 r d) * y) (q_col x b s g d _ _)
  rw [e3]
  by_cases h : r.val / 8 = b.val ∧ r.val / 2 % 4 ≤ s.val ∧ r.val % 2 = kv.val
  · rw [if_pos h, decide_eq_true (e ▸ h)]; rfl
  · rw [if_neg h, decide_eq_false (e ▸ h)]; rfl

theorem score_sNew (kv : Fin 2) (x : Vec Ideal S32x1x8x128 .bf16) (kn : Vec Ideal S64x128 .bf16) (r : Fin 64) (b : Fin 8) (s : Fin 4) (g : Fin 8)
    (hx : ∀ d, IsReal (x (ix4 (qRow b s) 0 g d))) (hk : ∀ j d, IsReal (kn (ix2 (nRow b j kv) d))) :
    Score (sNew (BitVec.ofNat 32 kv.val) (k0_pay119 x) kn (ix2 r (col b s g))) := by
  rw [sNew_apply]
  split
  · next h =>
    have e : r = nRow b ⟨r.val / 2 % 4, by omega⟩ kv := Fin.ext (by simp only [nRow]; omega)
    refine ((isReal_sum _ _ fun d => IsReal.mul ?_ (hx d)).mul (isReal_C.mul (isReal_coe _))).score
    rw [e]; exact hk _ _
  · exact .inl rfl

theorem sNew_row (kv : Fin 2) (x : Vec Ideal S32x1x8x128 .bf16) (kn : Vec Ideal S64x128 .bf16) (b : Fin 8) (s : Fin 4) (g : Fin 8) (j : Fin 4)
    (qf kf : Fin 128 → EReal) (hx : ∀ d, x (ix4 (qRow b s) 0 g d) = qf d) (hk : ∀ d, kn (ix2 (nRow b j kv) d) = kf d) :
    sNew (BitVec.ofNat 32 kv.val) (k0_pay119 x) kn (ix2 (nRow b j kv) (col b s g)) = (if j ≤ s then (∑ d, kf d * qf d) * C else ⊥) * log2e := by
  rw [sNew_apply]
  have e : ((nRow b j kv).val / 8 = b.val ∧ (nRow b j kv).val / 2 % 4 ≤ s.val ∧ (nRow b j kv).val % 2 = kv.val) = (j ≤ s) := by
    refine propext ⟨fun h => ?_, fun h => ?_⟩
    · have := h.2.1; simp only [nRow] at this; show j.val ≤ s.val; omega
    · have : j.val ≤ s.val := h
      refine ⟨?_, ?_, ?_⟩ <;> simp only [nRow] <;> omega
  simp only [e, hx, hk]
  split
  · exact (mul_assoc _ _ _).symm
  · exact (EReal.bot_mul_coe_of_pos (inv_pos.mpr log2_pos)).symm

/-- A sum over the 64 rows of new keys that only batch row `b`, group `kv` takes part in is a sum over its four keys. -/
theorem sum_rows (b : Fin 8) (kv : Fin 2) (f : Fin 64 → EReal) (h : ∀ r : Fin 64, ¬ (r.val / 8 = b.val ∧ r.val % 2 = kv.val) → f r = 0) :
    ∑ r, f r = ∑ j : Fin 4, f (nRow b j kv) := by
  classical
  rw [← Finset.sum_subset (Finset.subset_univ (Finset.univ.image fun j : Fin 4 => nRow b j kv)), Finset.sum_image]
  · intro i _ j _ e
    have := congrArg Fin.val e
    simp only [nRow] at this
    exact Fin.ext (by omega)
  · intro r _ hr
    refine h r fun hh => hr (Finset.mem_image.mpr ⟨⟨r.val / 2 % 4, by omega⟩, Finset.mem_univ _, Fin.ext ?_⟩)
    simp only [nRow]; omega

theorem exp2_bot : Ideal.exp2 ⊥ = 0 := rfl

theorem eNew_apply (sn : FVec Ideal S64x256 .f32) (m : FVec Ideal S1x256 .f32) (r : Fin 64) (j : Fin 256) :
    eNew sn m (ix2 r j) = Ideal.exp2 (sn (ix2 r j) - m (ix2 0 j)) := by
  pointwise [eNew]
  rfl

theorem eNew_zero (kv : Fin 2) (x : Vec Ideal S32x1x8x128 .bf16) (kn : Vec Ideal S64x128 .bf16) (m : FVec Ideal S1x256 .f32) (r : Fin 64) (b : Fin 8) (s : Fin 4) (g : Fin 8)
    (h : ¬ (r.val / 8 = b.val ∧ r.val % 2 = kv.val)) :
    eNew (sNew (BitVec.ofNat 32 kv.val) (k0_pay119 x) kn) m (ix2 r (col b s g)) = 0 := by
  rw [eNew_apply, sNew_apply, if_neg fun hh => h ⟨hh.1, hh.2.2⟩, EReal.bot_sub]
  rfl

theorem ePast_apply (m : FVec Ideal S1x256 .f32) (s : Vec Ideal S1x256x256 .f32) (i j : Fin 256) :
    ePast m s (ix2 i j) = Ideal.exp2 (s (ix3 0 i j) - m (ix2 0 j)) := by
  pointwise [ePast, k0_pay150]
  rfl

theorem l8At_apply (m : FVec Ideal S1x256 .f32) (S : ℕ → Vec Ideal S1x256x256 .f32) (l : FVec Ideal S8x256 .f32) (r : Fin 8) (j : Fin 256) :
    ∀ n : ℕ, l8At m S l n (ix2 r j) = l (ix2 r j) + ∑ a : Fin n, ∑ i : Fin 32, ePast m (S a.val) (ix2 ⟨i.val * 8 + r.val, by omega⟩ j)
  | 0 => by rw [Fin.sum_univ_zero, add_zero]; rfl
  | n + 1 => by
    rw [Fin.sum_univ_castSucc, ← add_assoc]
    refine Eq.trans ?_ (congrArg (fun y : EReal => y + _) (l8At_apply m S l r j n))
    show l8Step (l8At m S l n) (ePast m (S n)) (ix2 r j) = _
    pointwise [l8Step]
    rfl

theorem oAt_apply (m : FVec Ideal S1x256 .f32) (S : ℕ → Vec Ideal S1x256x256 .f32) (V : ℕ → Vec Ideal S1x128x256 .bf16) (o : FVec Ideal S128x256 .f32) (d : Fin 128) (j : Fin 256) :
    ∀ n : ℕ, oAt m S V o n (ix2 d j) = o (ix2 d j) + ∑ a : Fin n, ∑ i : Fin 256, V a.val (ix3 0 d i) * ePast m (S a.val) (ix2 i j)
  | 0 => by rw [Fin.sum_univ_zero, add_zero]; rfl
  | n + 1 => by
    rw [Fin.sum_univ_castSucc, ← add_assoc]
    refine Eq.trans ?_ (congrArg (fun y : EReal => y + _) (oAt_apply m S V o d j n))
    show oStep (oAt m S V o n) (V n) (ePast m (S n)) (ix2 d j) = _
    pointwise [oStep]
    rfl

/-- The eight rows of sums of weights, summed. -/
theorem l8_sum (m : FVec Ideal S1x256 .f32) (S : ℕ → Vec Ideal S1x256x256 .f32) (e : FVec Ideal S64x256 .f32) (j : Fin 256) :
    ∑ r : Fin 8, l8At m S (l8New e) 9 (ix2 r j) = (∑ r : Fin 64, e (ix2 r j)) + ∑ a : Fin 9, ∑ i : Fin 256, ePast m (S a.val) (ix2 i j) := by
  simp only [l8At_apply]
  rw [Finset.sum_add_distrib]
  refine congrArg₂ (fun a c : EReal => a + c) ?_ ?_
  · rw [Fin.sum_univ_tiles 8 8 rfl, Finset.sum_comm]
    refine Finset.sum_congr rfl fun r _ => ?_
    pointwise [l8New]
  · rw [Finset.sum_comm]
    refine Finset.sum_congr rfl fun a _ => ?_
    rw [Fin.sum_univ_tiles 32 8 rfl, Finset.sum_comm]

theorem oNew_apply (vn : Vec Ideal S64x128 .bf16) (e : FVec Ideal S64x256 .f32) (d : Fin 128) (j : Fin 256) :
    oNew vn e (ix2 d j) = ∑ r, vn (ix2 r d) * e (ix2 r j) := by
  pointwise [oNew, k0_pay118]

theorem tS_apply (q : Vec Ideal S64x128 .bf16) (k0 k1 : Vec Ideal S1x1x256x128 .fp8e4m3) (len : BitVec 32) (ks : Vec Ideal S1x2x256 .f32) (s : Fin 4) (kv : Fin 2) (g : Fin 8)
    (t : Fin 256) (qf kf : Fin 128 → EReal) (w : EReal) (hq : ∀ d, q (ix2 (tRow s kv g) d) = qf d) (hk : ∀ d, (if kv = 0 then k0 else k1) (ix4 0 0 t d) = kf d)
    (hw : ks (ix3 0 kv t) = w) :
    tS q k0 k1 len ks (ix4 s kv g t) = (if (BitVec.ofNat 32 t.val).slt len then (∑ d, kf d * qf d) * (w * C) else ⊥) * log2e := by
  pointwise [tS, q2, k0_pay227, k0_pay225, k0_pay221, k0_pay222]
  rw [named_scale, ofBits_bot, hw]
  have e0 : ∀ d : Fin 128, isZero (ix2 (⟨s.val * 16 + kv.val * 8 + g.val, by omega⟩ : Fin 64) d) = BitVec.ofBool (decide (kv = 0)) := fun d => by
    rw [isZero_word]
    refine congrArg BitVec.ofBool (decide_eq_decide.mpr ⟨fun h => Fin.ext ?_, fun h => ?_⟩)
    · show kv.val = 0
      have : (s.val * 16 + kv.val * 8 + g.val) / 8 % 2 = 0 := h
      omega
    · subst h
      show (s.val * 16 + 0 * 8 + g.val) / 8 % 2 = 0
      omega
  simp only [e0]
  have e1 : ∀ c : Bool, (∑ d : Fin 128, Scalar.select (BitVec.ofBool c) (q (ix2 (tRow s kv g) d) * k0 (ix4 0 0 t d)) (0 : EReal))
      + (∑ d : Fin 128, Scalar.select (BitVec.ofBool c) (0 : EReal) (q (ix2 (tRow s kv g) d) * k1 (ix4 0 0 t d)))
      = ∑ d, (if c then k0 else k1) (ix4 0 0 t d) * q (ix2 (tRow s kv g) d) := fun c => by
    cases c
    · refine (congrArg₂ (fun a c : EReal => a + c) (Finset.sum_eq_zero fun d _ => rfl) (Finset.sum_congr rfl fun d _ => ?_)).trans (zero_add _)
      exact mul_comm _ _
    · refine (congrArg₂ (fun a c : EReal => a + c) (Finset.sum_congr rfl fun d _ => ?_) (Finset.sum_eq_zero fun d _ => rfl)).trans (add_zero _)
      exact mul_comm _ _
  have e2 := (e1 (decide (kv = 0))).trans (Finset.sum_congr rfl fun d _ => show _ = kf d * qf d by
    rw [hq]; simp only [decide_eq_true_eq]; rw [hk])
  refine (congrArg (fun y : EReal => Scalar.select (IntOp.cmpi .slt (BitVec.ofNat 32 t.val) len) (y * (w * (C * log2e))) (⊥ : EReal)) e2).trans ?_
  show Scalar.select (BitVec.ofBool ((BitVec.ofNat 32 t.val).slt len)) _ _ = _
  cases (BitVec.ofNat 32 t.val).slt len
  · exact (EReal.bot_mul_coe_of_pos (inv_pos.mpr log2_pos)).symm
  · show (∑ d, kf d * qf d) * (w * (C * log2e)) = (∑ d, kf d * qf d) * (w * C) * log2e
    rw [mul_assoc, mul_assoc]

theorem tM_real (x : FVec Ideal S4x2x8x256 .f32) (s : Fin 4) (kv : Fin 2) (g : Fin 8) (h : ∀ t, Score (x (ix4 s kv g t))) : IsReal (tM x (ix4 s kv g 0)) := by
  pointwise [tM, k0_pay244]
  rw [ofBits_bot, max_comm]
  exact ofBits_min.max_score (fold_max_score _ _ _ (.inl rfl) h)

theorem tL_apply (x : FVec Ideal S4x2x8x256 .f32) (s : Fin 4) (kv : Fin 2) (g : Fin 8) :
    tL x (ix4 s kv g 0) = ∑ t, Ideal.exp2 (x (ix4 s kv g t) - tM x (ix4 s kv g 0)) := by
  pointwise [tL, k0_pay246, k0_pay245]
  rfl

theorem tO_apply (x : FVec Ideal S4x2x8x256 .f32) (v0 v1 : Vec Ideal S1x1x256x128 .fp8e4m3) (vs : Vec Ideal S1x2x256 .f32) (s : Fin 4) (kv : Fin 2) (g : Fin 8) (d : Fin 128) :
    tO v0 v1 x vs (ix4 s kv g ⟨128 * kv.val + d.val, by omega⟩)
      = ∑ t, Ideal.exp2 (x (ix4 s kv g t) - tM x (ix4 s kv g 0)) * vs (ix3 0 kv t) * (if kv = 0 then v0 else v1) (ix4 0 0 t d) := by
  pointwise [tO, k0_pay247, k0_pay245, k0_pay225]
  refine Finset.sum_congr rfl fun t _ => congrArg (fun y : EReal => Ideal.exp2 (x (ix4 s kv g t) - tM x (ix4 s kv g 0)) * vs (ix3 0 kv t) * y) ?_
  by_cases h : kv = 0
  · subst h
    refine Eq.trans ?_ (congrFun (if_pos rfl : (if (0 : Fin 2) = 0 then v0 else v1) = v0).symm _)
    exact (dif_pos (show 128 * 0 + d.val < 128 by omega)).trans (congrArg (fun c => v0 (ix4 0 0 t c)) (Fin.ext (by show 128 * 0 + d.val = d.val; omega)))
  · have h1 : kv.val = 1 := by have : kv.val ≠ 0 := fun e => h (Fin.ext e); omega
    refine Eq.trans ?_ (congrFun (if_neg h : (if kv = 0 then v0 else v1) = v1).symm _)
    exact (dif_neg (show ¬128 * kv.val + d.val < 128 by omega)).trans (congrArg (fun c => v1 (ix4 0 0 t c)) (Fin.ext (by show 128 * kv.val + d.val - 128 = d.val; omega)))

/-- One result of the kernel: batch row `b`, head group `kv`, position `s`, head `g`, place `d`, from what the blocks hold of that row,
    as the softmax over its past, new and tail keys. -/
theorem out_apply (b : Fin 8) (kv : Fin 2) (s : Fin 4) (g : Fin 8) (d : Fin 128) (bt : Fin 1024)
    (x : Vec Ideal S32x1x8x128 .bf16) (kn vn : Vec Ideal S64x128 .bf16) (K : ℕ → Vec Ideal S1x256x256 .bf16) (V : ℕ → Vec Ideal S1x128x256 .bf16)
    (S : ℕ → Vec Ideal S1x256x256 .f32) (q : Vec Ideal S64x128 .bf16) (k0 k1 v0 v1 : Vec Ideal S1x1x256x128 .fp8e4m3) (len : BitVec 32) (ks vs : Vec Ideal S1x2x256 .f32)
    (qf : Fin 128 → EReal) (Kn Vn : Arr 4 ![1024, 4, 2, 128]) (Kp Vp : Arr 3 ![2304, 2, 128]) (ksp vsp : Arr 2 ![2304, 2])
    (Kt Vt : Arr 4 ![1024, 256, 2, 128]) (kst vst : Arr 3 ![1024, 256, 2]) (mx : EReal)
    (rq : ∀ d, IsReal (qf d)) (rKn : ∀ i, IsReal (Kn i)) (rKp : ∀ i, IsReal (Kp i)) (rks : ∀ i, IsReal (ksp i)) (rKt : ∀ i, IsReal (Kt i)) (rkst : ∀ i, IsReal (kst i)) (rmx : IsReal mx)
    (hx : ∀ d, x (ix4 (qRow b s) 0 g d) = qf d) (hq : ∀ d, q (ix2 (tRow s kv g) d) = qf d)
    (hkn : ∀ j d, kn (ix2 (nRow b j kv) d) = Kn (ix4 bt j kv d)) (hvn : ∀ j d, vn (ix2 (nRow b j kv) d) = Vn (ix4 bt j kv d))
    (hK : ∀ (n : Fin 9) (i : Fin 256) (d : Fin 128), K n.val (ix3 0 i ⟨d.val, by omega⟩) = Kp (ix3 (pKey n i) kv d) * (ksp (ix2 (pKey n i) kv) * C * log2e))
    (hl : ∀ (n : Fin 9) (i : Fin 256) (d : Fin 128), K n.val (ix3 0 i ⟨128 + d.val, by omega⟩) = 0)
    (hV : ∀ (n : Fin 9) (i : Fin 256), V n.val (ix3 0 d i) = Vp (ix3 (pKey n i) kv d) * vsp (ix2 (pKey n i) kv))
    (hS : ∀ (n : Fin 9) (i j : Fin 256), S n.val (ix3 0 i j) = sPast (k0_pay120 x) (K n.val) (ix2 i j))
    (hkt : ∀ t d, (if kv = 0 then k0 else k1) (ix4 0 0 t d) = Kt (ix4 bt t kv d)) (hvt : ∀ t, (if kv = 0 then v0 else v1) (ix4 0 0 t d) = Vt (ix4 bt t kv d))
    (hks : ∀ t, ks (ix3 0 kv t) = kst (ix3 bt t kv)) (hvs : ∀ t, vs (ix3 0 kv t) = vst (ix3 bt t kv)) :
    let kw : BitVec 32 := BitVec.ofNat 32 kv.val
    let L := (∑ p, Ideal.exp (sp Kp ksp qf kv p - mx)) + (∑ t, Ideal.exp (st Kt kst len qf bt kv t - mx)) + ∑ j, Ideal.exp (sn Kn qf bt kv s j - mx)
    out b kv (pM kw x kn K) (pL8 kw x kn K S) (pO kw x kn vn K S V) (tS q k0 k1 len ks) v0 v1 vs (ix4 0 s g d)
      = (∑ p, Ideal.div (Ideal.exp (sp Kp ksp qf kv p - mx)) L * vsp (ix2 p kv) * Vp (ix3 p kv d))
        + (∑ t, Ideal.div (Ideal.exp (st Kt kst len qf bt kv t - mx)) L * vst (ix3 bt t kv) * Vt (ix4 bt t kv d))
        + ∑ j, Ideal.div (Ideal.exp (sn Kn qf bt kv s j - mx)) L * Vn (ix4 bt j kv d) := by
  intro kw L
  have rw_ : ∀ (n : Fin 9) (i : Fin 256), IsReal (ksp (ix2 (pKey n i) kv) * C * log2e) := fun n i => ((rks _).mul isReal_C).mul (isReal_coe _)
  -- the past scores
  have es : ∀ (n : Fin 9) (i : Fin 256), sPast (k0_pay120 x) (K n.val) (ix2 i (col b s g)) = sp Kp ksp qf kv (pKey n i) * log2e := fun n i =>
    (sPast_apply x (K n.val) i b s g qf _ _ hx (rw_ n i) (fun d => rKp _) rq (hK n i) (hl n i)).trans (mul_assoc _ _ _).symm
  have rsp := isReal_sp Kp ksp qf rKp rks rq kv
  have rst := score_st Kt kst len qf rKt rkst rq bt kv
  have rsn := score_sn Kn qf rKn rq bt kv s
  -- the shifts
  have rmp : IsReal (pM kw x kn K (ix2 0 (col b s g))) := by
    refine mCol_real _ _ _ (m8At_real _ _ _ 9 fun a ha i => ?_) fun r => score_sNew kv x kn r b s g (fun d => hx d ▸ rq d) fun j d => hkn j d ▸ rKn _
    rw [show K a = K (⟨a, ha⟩ : Fin 9).val from rfl, es]
    exact (rsp _).mul (isReal_coe _)
  have et : ∀ t, tS q k0 k1 len ks (ix4 s kv g t) = st Kt kst len qf bt kv t * log2e := fun t =>
    tS_apply q k0 k1 len ks s kv g t qf _ _ hq (hkt t) (hks t)
  have rmb : IsReal (tM (tS q k0 k1 len ks) (ix4 s kv g 0)) := tM_real _ _ _ _ fun t => et t ▸ score_mul_log2e (rst t)
  -- the weights
  have ep : ∀ (n : Fin 9) (i : Fin 256), ePast (pM kw x kn K) (S n.val) (ix2 i (col b s g))
      = Ideal.exp2 (sp Kp ksp qf kv (pKey n i) * log2e - pM kw x kn K (ix2 0 (col b s g))) := fun n i => by rw [ePast_apply, hS, es]
  have en : ∀ j : Fin 4, eNew (sNew kw (k0_pay119 x) kn) (pM kw x kn K) (ix2 (nRow b j kv) (col b s g))
      = Ideal.exp2 (sn Kn qf bt kv s j * log2e - pM kw x kn K (ix2 0 (col b s g))) := fun j => by
    rw [eNew_apply, sNew_row kv x kn b s g j qf _ hx (hkn j)]; rfl
  have tiles : ∀ f : Fin 2304 → EReal, ∑ p, f p = ∑ n : Fin 9, ∑ i : Fin 256, f (pKey n i) := fun f => Fin.sum_univ_tiles 9 256 rfl f
  -- the sums of weights
  have el : lRows b (pM kw x kn K) (pL8 kw x kn K S) (ix3 s g 0)
      = (∑ p, Ideal.exp2 (sp Kp ksp qf kv p * log2e - pM kw x kn K (ix2 0 (col b s g))))
        + ∑ j, Ideal.exp2 (sn Kn qf bt kv s j * log2e - pM kw x kn K (ix2 0 (col b s g))) := by
    have e1 : lRows b (pM kw x kn K) (pL8 kw x kn K S) (ix3 s g 0) = ∑ r : Fin 8, pL8 kw x kn K S (ix2 r (col b s g)) := by
      pointwise [lRows, k0_pay169, k0_pay167]
      rfl
    rw [e1, tiles, add_comm]
    refine (l8_sum _ _ _ _).trans (congrArg₂ (fun a c : EReal => a + c) ?_ ?_)
    · rw [sum_rows b kv _ fun r hr => eNew_zero kv x kn _ r b s g hr]
      exact Finset.sum_congr rfl fun j _ => en j
    · exact Finset.sum_congr rfl fun n _ => Finset.sum_congr rfl fun i _ => ep n i
  -- the weighted values
  have eo : oRows b (pO kw x kn vn K S V) (ix3 s g d)
      = (∑ p, Vp (ix3 p kv d) * vsp (ix2 p kv) * Ideal.exp2 (sp Kp ksp qf kv p * log2e - pM kw x kn K (ix2 0 (col b s g))))
        + ∑ j, Vn (ix4 bt j kv d) * Ideal.exp2 (sn Kn qf bt kv s j * log2e - pM kw x kn K (ix2 0 (col b s g))) := by
    have e1 : oRows b (pO kw x kn vn K S V) (ix3 s g d) = pO kw x kn vn K S V (ix2 d (col b s g)) := by
      pointwise [oRows, k0_pay166]
      rfl
    rw [e1, tiles, add_comm]
    refine (oAt_apply _ _ _ _ _ _ 9).trans (congrArg₂ (fun a c : EReal => a + c) ?_ ?_)
    · rw [oNew_apply, sum_rows b kv _ fun r hr => ?_]
      · exact Finset.sum_congr rfl fun j _ => congrArg₂ (fun a c : EReal => a * c) (hvn j d) (en j)
      · exact (congrArg (fun y : EReal => _ * y) (eNew_zero kv x kn _ r b s g hr)).trans (mul_zero _)
    · exact Finset.sum_congr rfl fun n _ => Finset.sum_congr rfl fun i _ => congrArg₂ (fun a c : EReal => a * c) (hV n i) (ep n i)
  have em : mRows b (pM kw x kn K) (pL8 kw x kn K S) (ix3 s g 0) = pM kw x kn K (ix2 0 (col b s g)) := by
    pointwise [mRows, k0_pay168, k0_pay167]
    rfl
  have g1 : tGroup kv (tM (tS q k0 k1 len ks)) (ix3 s g 0) = tM (tS q k0 k1 len ks) (ix4 s kv g 0) := by pointwise [tGroup]
  have g2 : tGroup kv (tL (tS q k0 k1 len ks)) (ix3 s g 0)
      = ∑ t, Ideal.exp2 (st Kt kst len qf bt kv t * log2e - tM (tS q k0 k1 len ks) (ix4 s kv g 0)) := by
    refine Eq.trans (show _ = tL (tS q k0 k1 len ks) (ix4 s kv g 0) by pointwise [tGroup]) ((tL_apply _ _ _ _).trans ?_)
    exact Finset.sum_congr rfl fun t _ => by rw [et]
  have g3 : tOGroup kv (tO v0 v1 (tS q k0 k1 len ks) vs) (ix3 s g d)
      = ∑ t, Ideal.exp2 (st Kt kst len qf bt kv t * log2e - tM (tS q k0 k1 len ks) (ix4 s kv g 0)) * vst (ix3 bt t kv) * Vt (ix4 bt t kv d) := by
    refine Eq.trans (show _ = tO v0 v1 (tS q k0 k1 len ks) vs (ix4 s kv g ⟨128 * kv.val + d.val, by omega⟩) by pointwise [tOGroup]) ((tO_apply _ _ _ _ _ _ _ _).trans ?_)
    exact Finset.sum_congr rfl fun t _ => by rw [et, hvs, hvt]
  refine Eq.trans ?_ (row (sp Kp ksp qf kv) (fun p => Vp (ix3 p kv d)) (fun p => vsp (ix2 p kv)) (sn Kn qf bt kv s) (fun j => Vn (ix4 bt j kv d))
    (st Kt kst len qf bt kv) (fun t => Vt (ix4 bt t kv d)) (fun t => vst (ix3 bt t kv)) _ _ mx rsp rsn rst rmp rmb rmx)
  rw [← el, ← eo, ← g2, ← g3, ← em, ← g1]
  pointwise [out, comb]
  rfl

end Cert.StageValue

end
-- ==== Proof.Payloads.lean ====
/- The printed payloads are instances of the kernel's pure computations: the prefix part of each head group, and the sixteen results. -/
module

public import proofs.«01_k».proof.Proof.Stages

@[expose] public section

set_option maxRecDepth 16384

noncomputable section

namespace Cert.Payloads

open Idealize.ShloMosaic Cert.KernelIdeal Cert.KernelIdeal.Gen Cert.Stages

variable {F : FTy → Type} [FloatOps F] [Named F]

/-- One result, from the prefix part's values, maxima and sums of weights already laid out by rows. -/
def outR (b : Fin 8) (kv : Fin 2) (RO : FVec F S256x128 .f32) (RM RL : FVec F S256x1 .f32)
    (s : FVec F S4x2x8x256 .f32) (v0 v1 : Vec F S1x1x256x128 .fp8e4m3) (vs : Vec F S1x2x256 .f32) : FVec F S1x4x8x128 .bf16 :=
  comb (shapeCast S4x8x128 (extractStridedSlice S32x128 ![32 * b.val, 0] RO (slicesO b)) shapeCasts_S32x128_S4x8x128)
    (shapeCast S4x8x1 (extractStridedSlice S32x1 ![32 * b.val, 0] RM (slicesC b)) shapeCasts_S32x1_S4x8x1)
    (shapeCast S4x8x1 (extractStridedSlice S32x1 ![32 * b.val, 0] RL (slicesC b)) shapeCasts_S32x1_S4x8x1)
    (tOGroup kv (tO v0 v1 s vs)) (tGroup kv (tM s)) (tGroup kv (tL s))

theorem outR_eq (b : Fin 8) (kv : Fin 2) (m : FVec F S1x256 .f32) (l8 : FVec F S8x256 .f32) (o : FVec F S128x256 .f32)
    (s : FVec F S4x2x8x256 .f32) (v0 v1 : Vec F S1x1x256x128 .fp8e4m3) (vs : Vec F S1x2x256 .f32) :
    outR b kv (k0_pay166 o) (k0_pay168 m l8) (k0_pay169 m l8) s v0 v1 vs = out b kv m l8 o s v0 v1 vs := rfl

section Prefix

variable (X : Vec F S32x1x8x128 .bf16) (KN VN : Vec F S64x128 .bf16) (K : ℕ → Vec F S1x256x256 .bf16) (S : ℕ → Vec F S1x256x256 .f32) (V : ℕ → Vec F S1x128x256 .bf16)

theorem prefM_0 : (k0_pay168 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay164 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay159 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay152 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay146 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay149 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN (S 0)) (S 1) (S 2)) (k0_pay154 (S 3)) (k0_pay155 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN)) (S 4) (S 5)) (S 6) (S 7) (S 8)))
    = k0_pay168 (pM 0#32 X KN K) (pL8 0#32 X KN K S) := rfl

theorem prefL_0 : (k0_pay169 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay164 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay159 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay152 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay146 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay149 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN (S 0)) (S 1) (S 2)) (k0_pay154 (S 3)) (k0_pay155 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN)) (S 4) (S 5)) (S 6) (S 7) (S 8)))
    = k0_pay169 (pM 0#32 X KN K) (pL8 0#32 X KN K S) := rfl

theorem prefO_0 : (k0_pay166 (k0_pay165 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay160 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay153 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay147 rowNo (k0_pay117 colNo (k0_pay112 colNo k0_pay108 (32#32) k0_pay109 k0_pay110 k0_pay111) (4#32) (k0_pay113 rowNo) (k0_pay114 rowNo) (k0_pay115 rowNo) k0_pay116) (k0_pay118 VN) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN) (k0_pay148 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN (S 0)) (V 0) (S 1) (V 1) (S 2) (V 2)) (k0_pay154 (S 3)) (k0_pay155 (k0_pay144 rowNo (k0_pay117 colNo (k0_pay112 colNo k0_pay108 (32#32) k0_pay109 k0_pay110 k0_pay111) (4#32) (k0_pay113 rowNo) (k0_pay114 rowNo) (k0_pay115 rowNo) k0_pay116) (k0_pay119 X) (k0_pay142 (k0_pay120 X) (k0_pay132 (k0_pay120 X) (k0_pay125 X (K 0) (K 1)) (k0_pay126 X (K 2)) (K 3) (K 4)) (k0_pay135 (k0_pay120 X) (K 5)) (K 6) (K 7) (K 8)) KN)) (V 3) (S 4) (V 4) (S 5) (V 5)) (S 6) (V 6) (S 7) (V 7) (S 8) (V 8)))
    = k0_pay166 (pO 0#32 X KN VN K S V) := rfl

theorem prefM_1 : (k0_pay219 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay213 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay210 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay204 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay198 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (S 0) (S 1) (S 2)) (S 3) (S 4) (S 5)) (S 6) (S 7)) (k0_pay216 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (S 8)))
    = k0_pay168 (pM 1#32 X KN K) (pL8 1#32 X KN K S) := rfl

theorem prefL_1 : (k0_pay220 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay213 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay210 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay204 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay198 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (S 0) (S 1) (S 2)) (S 3) (S 4) (S 5)) (S 6) (S 7)) (k0_pay216 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (S 8)))
    = k0_pay169 (pM 1#32 X KN K) (pL8 1#32 X KN K S) := rfl

theorem prefO_1 : (k0_pay217 (k0_pay214 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay208 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay202 (k0_pay118 VN) (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (k0_pay199 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (constant S128x256 .f32 0x00000000#32) (S 0) (V 0) (S 1) (V 1)) (k0_pay203 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (S 2)) (k0_pay205 (V 2)) (S 3) (V 3) (S 4) (V 4)) (k0_pay209 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (S 5)) (V 5) (S 6) (V 6) (S 7) (V 7)) (k0_pay215 (k0_pay196 rowNo (k0_pay117 colNo (k0_pay112 colNo k0_pay108 (32#32) k0_pay109 k0_pay110 k0_pay111) (4#32) (k0_pay113 rowNo) (k0_pay114 rowNo) (k0_pay115 rowNo) k0_pay116) (k0_pay170 X) (k0_pay192 (k0_pay171 X) (k0_pay184 (k0_pay171 X) (k0_pay174 X (K 0)) (k0_pay177 X (K 1)) (K 2) (K 3) (K 4)) (k0_pay185 (K 5)) (K 6) (K 7)) (k0_pay193 (k0_pay171 X) (K 8)) KN) (S 8)) (V 8))
    = k0_pay166 (pO 1#32 X KN VN K S V) := rfl

end Prefix

section Tail

variable (RO : FVec F S256x128 .f32) (RM RL : FVec F S256x1 .f32) (q : Vec F S64x128 .bf16) (k0 k1 v0 v1 : Vec F S1x1x256x128 .fp8e4m3)
  (len : Elt F .i32) (ks vs : Vec F S1x2x256 .f32)

theorem tail_0_0 : k0_pay237 (k0_pay230 (iota .tc S1x1x256 32 [2] iota_S1x1x256_d2_w32) (k0_pay226 k0_pay221 (k0_pay222 q) k0_pay223 k0_pay224 k0 k1) len ks) (k0_pay232 RO) (k0_pay233 RM) (k0_pay234 RL) (k0_pay235 (iota .tc S1x1x256 32 [2] iota_S1x1x256_d2_w32) (k0_pay225 v0 v1) (k0_pay226 k0_pay221 (k0_pay222 q) k0_pay223 k0_pay224 k0 k1) len ks vs) (k0_pay236 (iota .tc S1x1x256 32 [2] iota_S1x1x256_d2_w32) (k0_pay226 k0_pay221 (k0_pay222 q) k0_pay223 k0_pay224 k0 k1) len ks)
    = outR 0 0 RO RM RL (tS q k0 k1 len ks) v0 v1 vs := rfl

theorem tail_0_1 : k0_pay239 (k0_pay238 RO RM RL (k0_pay228 (iota .tc S1x1x256 32 [2] iota_S1x1x256_d2_w32) (k0_pay226 k0_pay221 (k0_pay222 q) k0_pay223 k0_pay224 k0 k1) len ks) (k0_pay230 (iota .tc S1x1x256 32 [2] iota_S1x1x256_d2_w32) (k0_pay226 k0_pay221 (k0_pay222 q) k0_pay223 k0_pay224 k0 k1) len ks) (k0_pay231 (iota .tc S1x1x256 32 [2] iota_S1x1x256_d2_w32) (k0_pay225 v0 v1) (k0_pay226 k0_pay221 (k0_pay222 q) k0_pay223 k0_pay224 k0 k1) len ks vs))
    = outR 0 1 RO RM RL (tS q k0 k1 len ks) v0 v1 vs := rfl

theorem tail_1_0 : (k0_pay248 RO RM RL (k0_pay242 v0 v1) (k0_pay243 (iota .tc S1x1x256 32 [2] iota_S1x1x256_d2_w32) k0_pay221 (k0_pay240 q) (k0_pay241 (iota .tc S64x128 32 [0] iota_S64x128_d0_w32)) k0 k1 len ks) vs)
    = outR 1 0 RO RM RL (tS q k0 k1 len ks) v0 v1 vs := rfl

theorem tail_1_1 : k0_pay249 RO RM RL (k0_pay244 (k0_pay243 (iota .tc S1x1x256 32 [2] iota_S1x1x256_d2_w32) k0_pay221 (k0_pay240 q) (k0_pay241 (iota .tc S64x128 32 [0] iota_S64x128_d0_w32)) k0 k1 len ks)) (k0_pay246 (k0_pay243 (iota .tc S1x1x256 32 [2] iota_S1x1x256_d2_w32) k0_pay221 (k0_pay240 q) (k0_pay241 (iota .tc S64x128 32 [0] iota_S64x128_d0_w32)) k0 k1 len ks)) (k0_pay247 (k0_pay242 v0 v1) (k0_pay243 (iota .tc S1x1x256 32 [2] iota_S1x1x256_d2_w32) k0_pay221 (k0_pay240 q) (k0_pay241 (iota .tc S64x128 32 [0] iota_S64x128_d0_w32)) k0 k1 len ks) vs)
    = outR 1 1 RO RM RL (tS q k0 k1 len ks) v0 v1 vs := rfl

theorem tail_2_0 : k0_pay262 RM RL (k0_pay257 (iota .tc S1x1x256 32 [2] iota_S1x1x256_d2_w32) (k0_pay253 (iota .tc S64x128 32 [0] iota_S64x128_d0_w32) k0_pay221 (k0_pay250 q) (8#32) (k0_pay251 (iota .tc S64x128 32 [0] iota_S64x128_d0_w32)) (k0_pay252 (iota .tc S64x128 32 [0] iota_S64x128_d0_w32)) 1#32) (k0_pay254 k0 k1) len ks) (k0_pay259 (iota .tc S1x1x256 32 [2] iota_S1x1x256_d2_w32) (k0_pay253 (iota .tc S64x128 32 [0] iota_S64x128_d0_w32) k0_pay221 (k0_pay250 q) (8#32) (k0_pay251 (iota .tc S64x128 32 [0] iota_S64x128_d0_w32)) (k0_pay252 (iota .tc S64x128 32 [0] iota_S64x128_d0_w32)) 1#32) (k0_pay254 k0 k1) len ks) (k0_pay260 (iota .tc S1x1x256 32 [2] iota_S1x1x256_d2_w32) (k0_pay253 (iota .tc S64x128 32 [0] iota_S64x128_d0_w32) k0_pay221 (k0_pay250 q) (8#32) (k0_pay251 (iota .tc S64x128 32 [0] iota_S64x128_d0_w32)) (k0_pay252 (iota .tc S64x128 32 [0] iota_S64x128_d0_w32)) 1#32) (k0_pay254 k0 k1) (k0_pay255 v0) v1 len ks vs) (k0_pay261 RO)
    = outR 2 0 RO RM RL (tS q k0 k1 len ks) v0 v1 vs := rfl

theorem tail_2_1 : k0_pay270 (k0_pay268 RO RM (k0_pay257 (iota .tc S1x1x256 32 [2] iota_S1x1x256_d2_w32) (k0_pay253 (iota .tc S64x128 32 [0] iota_S64x128_d0_w32) k0_pay221 (k0_pay250 q) (8#32) (k0_pay251 (iota .tc S64x128 32 [0] iota_S64x128_d0_w32)) (k0_pay252 (iota .tc S64x128 32 [0] iota_S64x128_d0_w32)) 1#32) (k0_pay254 k0 k1) len ks) (k0_pay260 (iota .tc S1x1x256 32 [2] iota_S1x1x256_d2_w32) (k0_pay253 (iota .tc S64x128 32 [0] iota_S64x128_d0_w32) k0_pay221 (k0_pay250 q) (8#32) (k0_pay251 (iota .tc S64x128 32 [0] iota_S64x128_d0_w32)) (k0_pay252 (iota .tc S64x128 32 [0] iota_S64x128_d0_w32)) 1#32) (k0_pay254 k0 k1) (k0_pay255 v0) v1 len ks vs)) (k0_pay269 RM RL (k0_pay257 (iota .tc S1x1x256 32 [2] iota_S1x1x256_d2_w32) (k0_pay253 (iota .tc S64x128 32 [0] iota_S64x128_d0_w32) k0_pay221 (k0_pay250 q) (8#32) (k0_pay251 (iota .tc S64x128 32 [0] iota_S64x128_d0_w32)) (k0_pay252 (iota .tc S64x128 32 [0] iota_S64x128_d0_w32)) 1#32) (k0_pay254 k0 k1) len ks) (k0_pay259 (iota .tc S1x1x256 32 [2] iota_S1x1x256_d2_w32) (k0_pay253 (iota .tc S64x128 32 [0] iota_S64x128_d0_w32) k0_pay221 (k0_pay250 q) (8#32) (k0_pay251 (iota .tc S64x128 32 [0] iota_S64x128_d0_w32)) (k0_pay252 (iota .tc S64x128 32 [0] iota_S64x128_d0_w32)) 1#32) (k0_pay254 k0 k1) len ks))
    = outR 2 1 RO RM RL (tS q k0 k1 len ks) v0 v1 vs := rfl

theorem tail_3_0 : k0_pay286 (k0_pay285 RO RM RL (k0_pay275 v0 v1) (k0_pay276 k0_pay221 (k0_pay271 q) (2#32) (k0_pay272 (iota .tc S64x128 32 [0] iota_S64x128_d0_w32)) (k0_pay273 (iota .tc S64x128 32 [0] iota_S64x128_d0_w32)) (k0_pay274 (iota .tc S64x128 32 [0] iota_S64x128_d0_w32)) (0#32) k0 k1) (k0_pay277 ks) (k0_pay278 (iota .tc S1x1x256 32 [2] iota_S1x1x256_d2_w32)) (k0_pay279 len) vs)
    = outR 3 0 RO RM RL (tS q k0 k1 len ks) v0 v1 vs := rfl

theorem tail_3_1 : k0_pay287 RO RM RL (k0_pay281 (k0_pay276 k0_pay221 (k0_pay271 q) (2#32) (k0_pay272 (iota .tc S64x128 32 [0] iota_S64x128_d0_w32)) (k0_pay273 (iota .tc S64x128 32 [0] iota_S64x128_d0_w32)) (k0_pay274 (iota .tc S64x128 32 [0] iota_S64x128_d0_w32)) (0#32) k0 k1) (k0_pay277 ks) (k0_pay278 (iota .tc S1x1x256 32 [2] iota_S1x1x256_d2_w32)) (k0_pay279 len)) (k0_pay283 (k0_pay276 k0_pay221 (k0_pay271 q) (2#32) (k0_pay272 (iota .tc S64x128 32 [0] iota_S64x128_d0_w32)) (k0_pay273 (iota .tc S64x128 32 [0] iota_S64x128_d0_w32)) (k0_pay274 (iota .tc S64x128 32 [0] iota_S64x128_d0_w32)) (0#32) k0 k1) (k0_pay277 ks) (k0_pay278 (iota .tc S1x1x256 32 [2] iota_S1x1x256_d2_w32)) (k0_pay279 len)) (k0_pay284 (k0_pay275 v0 v1) (k0_pay276 k0_pay221 (k0_pay271 q) (2#32) (k0_pay272 (iota .tc S64x128 32 [0] iota_S64x128_d0_w32)) (k0_pay273 (iota .tc S64x128 32 [0] iota_S64x128_d0_w32)) (k0_pay274 (iota .tc S64x128 32 [0] iota_S64x128_d0_w32)) (0#32) k0 k1) (k0_pay277 ks) (k0_pay278 (iota .tc S1x1x256 32 [2] iota_S1x1x256_d2_w32)) (k0_pay279 len) vs)
    = outR 3 1 RO RM RL (tS q k0 k1 len ks) v0 v1 vs := rfl

theorem tail_4_0 : k0_pay302 RO RM RL (k0_pay295 v0 v1) (k0_pay297 (iota .tc S1x1x256 32 [2] iota_S1x1x256_d2_w32) (k0_pay292 (iota .tc S64x128 32 [0] iota_S64x128_d0_w32) k0_pay221 (k0_pay288 q) (8#32) (k0_pay289 (iota .tc S64x128 32 [0] iota_S64x128_d0_w32)) (k0_pay290 (iota .tc S64x128 32 [0] iota_S64x128_d0_w32)) (k0_pay291 (iota .tc S64x128 32 [0] iota_S64x128_d0_w32))) (k0_pay293 k0) (k0_pay294 k1) len ks) (k0_pay298 (iota .tc S1x1x256 32 [2] iota_S1x1x256_d2_w32) (k0_pay292 (iota .tc S64x128 32 [0] iota_S64x128_d0_w32) k0_pay221 (k0_pay288 q) (8#32) (k0_pay289 (iota .tc S64x128 32 [0] iota_S64x128_d0_w32)) (k0_pay290 (iota .tc S64x128 32 [0] iota_S64x128_d0_w32)) (k0_pay291 (iota .tc S64x128 32 [0] iota_S64x128_d0_w32))) (k0_pay293 k0) (k0_pay294 k1) len ks) (k0_pay299 (iota .tc S1x1x256 32 [2] iota_S1x1x256_d2_w32) (k0_pay292 (iota .tc S64x128 32 [0] iota_S64x128_d0_w32) k0_pay221 (k0_pay288 q) (8#32) (k0_pay289 (iota .tc S64x128 32 [0] iota_S64x128_d0_w32)) (k0_pay290 (iota .tc S64x128 32 [0] iota_S64x128_d0_w32)) (k0_pay291 (iota .tc S64x128 32 [0] iota_S64x128_d0_w32))) (k0_pay293 k0) (k0_pay294 k1) len ks) (k0_pay300 vs)
    = outR 4 0 RO RM RL (tS q k0 k1 len ks) v0 v1 vs := rfl

theorem tail_4_1 : k0_pay312 (k0_pay303 RO) (k0_pay305 RL) (k0_pay306 (k0_pay295 v0 v1) (k0_pay298 (iota .tc S1x1x256 32 [2] iota_S1x1x256_d2_w32) (k0_pay292 (iota .tc S64x128 32 [0] iota_S64x128_d0_w32) k0_pay221 (k0_pay288 q) (8#32) (k0_pay289 (iota .tc S64x128 32 [0] iota_S64x128_d0_w32)) (k0_pay290 (iota .tc S64x128 32 [0] iota_S64x128_d0_w32)) (k0_pay291 (iota .tc S64x128 32 [0] iota_S64x128_d0_w32))) (k0_pay293 k0) (k0_pay294 k1) len ks) (k0_pay300 vs)) (k0_pay308 (k0_pay299 (iota .tc S1x1x256 32 [2] iota_S1x1x256_d2_w32) (k0_pay292 (iota .tc S64x128 32 [0] iota_S64x128_d0_w32) k0_pay221 (k0_pay288 q) (8#32) (k0_pay289 (iota .tc S64x128 32 [0] iota_S64x128_d0_w32)) (k0_pay290 (iota .tc S64x128 32 [0] iota_S64x128_d0_w32)) (k0_pay291 (iota .tc S64x128 32 [0] iota_S64x128_d0_w32))) (k0_pay293 k0) (k0_pay294 k1) len ks)) (k0_pay310 RM (k0_pay297 (iota .tc S1x1x256 32 [2] iota_S1x1x256_d2_w32) (k0_pay292 (iota .tc S64x128 32 [0] iota_S64x128_d0_w32) k0_pay221 (k0_pay288 q) (8#32) (k0_pay289 (iota .tc S64x128 32 [0] iota_S64x128_d0_w32)) (k0_pay290 (iota .tc S64x128 32 [0] iota_S64x128_d0_w32)) (k0_pay291 (iota .tc S64x128 32 [0] iota_S64x128_d0_w32))) (k0_pay293 k0) (k0_pay294 k1) len ks)) (k0_pay311 RM (k0_pay297 (iota .tc S1x1x256 32 [2] iota_S1x1x256_d2_w32) (k0_pay292 (iota .tc S64x128 32 [0] iota_S64x128_d0_w32) k0_pay221 (k0_pay288 q) (8#32) (k0_pay289 (iota .tc S64x128 32 [0] iota_S64x128_d0_w32)) (k0_pay290 (iota .tc S64x128 32 [0] iota_S64x128_d0_w32)) (k0_pay291 (iota .tc S64x128 32 [0] iota_S64x128_d0_w32))) (k0_pay293 k0) (k0_pay294 k1) len ks))
    = outR 4 1 RO RM RL (tS q k0 k1 len ks) v0 v1 vs := rfl

theorem tail_5_0 : k0_pay332 (k0_pay324 RL) (k0_pay325 (iota .tc S1x1x256 32 [2] iota_S1x1x256_d2_w32) (k0_pay316 v0 v1) (k0_pay317 k0_pay221 (k0_pay313 q) (k0_pay314 (iota .tc S64x128 32 [0] iota_S64x128_d0_w32)) (2#32) k0_pay315 k0 k1) len ks vs) (k0_pay327 (iota .tc S1x1x256 32 [2] iota_S1x1x256_d2_w32) (k0_pay317 k0_pay221 (k0_pay313 q) (k0_pay314 (iota .tc S64x128 32 [0] iota_S64x128_d0_w32)) (2#32) k0_pay315 k0 k1) len ks) (k0_pay329 RM (iota .tc S1x1x256 32 [2] iota_S1x1x256_d2_w32) (k0_pay317 k0_pay221 (k0_pay313 q) (k0_pay314 (iota .tc S64x128 32 [0] iota_S64x128_d0_w32)) (2#32) k0_pay315 k0 k1) len ks) (k0_pay330 RM (iota .tc S1x1x256 32 [2] iota_S1x1x256_d2_w32) (k0_pay317 k0_pay221 (k0_pay313 q) (k0_pay314 (iota .tc S64x128 32 [0] iota_S64x128_d0_w32)) (2#32) k0_pay315 k0 k1) len ks) (k0_pay331 RO RM (iota .tc S1x1x256 32 [2] iota_S1x1x256_d2_w32) (k0_pay317 k0_pay221 (k0_pay313 q) (k0_pay314 (iota .tc S64x128 32 [0] iota_S64x128_d0_w32)) (2#32) k0_pay315 k0 k1) len ks)
    = outR 5 0 RO RM RL (tS q k0 k1 len ks) v0 v1 vs := rfl

theorem tail_5_1 : k0_pay333 RO RM RL (k0_pay319 (iota .tc S1x1x256 32 [2] iota_S1x1x256_d2_w32) (k0_pay317 k0_pay221 (k0_pay313 q) (k0_pay314 (iota .tc S64x128 32 [0] iota_S64x128_d0_w32)) (2#32) k0_pay315 k0 k1) len ks) (k0_pay321 (iota .tc S1x1x256 32 [2] iota_S1x1x256_d2_w32) (k0_pay317 k0_pay221 (k0_pay313 q) (k0_pay314 (iota .tc S64x128 32 [0] iota_S64x128_d0_w32)) (2#32) k0_pay315 k0 k1) len ks) (k0_pay322 (iota .tc S1x1x256 32 [2] iota_S1x1x256_d2_w32) (k0_pay316 v0 v1) (k0_pay317 k0_pay221 (k0_pay313 q) (k0_pay314 (iota .tc S64x128 32 [0] iota_S64x128_d0_w32)) (2#32) k0_pay315 k0 k1) len ks vs)
    = outR 5 1 RO RM RL (tS q k0 k1 len ks) v0 v1 vs := rfl

theorem tail_6_0 : k0_pay343 RO RM RL (k0_pay337 v0 v1) (k0_pay339 (iota .tc S1x1x256 32 [2] iota_S1x1x256_d2_w32) (k0_pay336 (iota .tc S64x128 32 [0] iota_S64x128_d0_w32) k0_pay221 (k0_pay334 q) (8#32) (k0_pay335 (iota .tc S64x128 32 [0] iota_S64x128_d0_w32))) k0 k1 len ks) (k0_pay340 (iota .tc S1x1x256 32 [2] iota_S1x1x256_d2_w32) (k0_pay336 (iota .tc S64x128 32 [0] iota_S64x128_d0_w32) k0_pay221 (k0_pay334 q) (8#32) (k0_pay335 (iota .tc S64x128 32 [0] iota_S64x128_d0_w32))) k0 k1 len ks) vs
    = outR 6 0 RO RM RL (tS q k0 k1 len ks) v0 v1 vs := rfl

theorem tail_6_1 : k0_pay349 (k0_pay341 (k0_pay340 (iota .tc S1x1x256 32 [2] iota_S1x1x256_d2_w32) (k0_pay336 (iota .tc S64x128 32 [0] iota_S64x128_d0_w32) k0_pay221 (k0_pay334 q) (8#32) (k0_pay335 (iota .tc S64x128 32 [0] iota_S64x128_d0_w32))) k0 k1 len ks)) (k0_pay344 RO) (k0_pay345 RM) (k0_pay346 RL) (k0_pay347 (k0_pay337 v0 v1) (k0_pay340 (iota .tc S1x1x256 32 [2] iota_S1x1x256_d2_w32) (k0_pay336 (iota .tc S64x128 32 [0] iota_S64x128_d0_w32) k0_pay221 (k0_pay334 q) (8#32) (k0_pay335 (iota .tc S64x128 32 [0] iota_S64x128_d0_w32))) k0 k1 len ks) vs) (k0_pay348 (k0_pay339 (iota .tc S1x1x256 32 [2] iota_S1x1x256_d2_w32) (k0_pay336 (iota .tc S64x128 32 [0] iota_S64x128_d0_w32) k0_pay221 (k0_pay334 q) (8#32) (k0_pay335 (iota .tc S64x128 32 [0] iota_S64x128_d0_w32))) k0 k1 len ks))
    = outR 6 1 RO RM RL (tS q k0 k1 len ks) v0 v1 vs := rfl

theorem tail_7_0 : k0_pay367 (k0_pay361 RO) (k0_pay362 RM) (k0_pay363 RL) (k0_pay364 (iota .tc S1x1x256 32 [2] iota_S1x1x256_d2_w32) (k0_pay354 v0 v1) (k0_pay355 k0_pay221 (k0_pay350 q) (k0_pay351 (iota .tc S64x128 32 [0] iota_S64x128_d0_w32)) (k0_pay352 (iota .tc S64x128 32 [0] iota_S64x128_d0_w32)) k0_pay353 k0 k1) len ks vs) (k0_pay365 (iota .tc S1x1x256 32 [2] iota_S1x1x256_d2_w32) (k0_pay355 k0_pay221 (k0_pay350 q) (k0_pay351 (iota .tc S64x128 32 [0] iota_S64x128_d0_w32)) (k0_pay352 (iota .tc S64x128 32 [0] iota_S64x128_d0_w32)) k0_pay353 k0 k1) len ks) (k0_pay366 (iota .tc S1x1x256 32 [2] iota_S1x1x256_d2_w32) (k0_pay355 k0_pay221 (k0_pay350 q) (k0_pay351 (iota .tc S64x128 32 [0] iota_S64x128_d0_w32)) (k0_pay352 (iota .tc S64x128 32 [0] iota_S64x128_d0_w32)) k0_pay353 k0 k1) len ks)
    = outR 7 0 RO RM RL (tS q k0 k1 len ks) v0 v1 vs := rfl

theorem tail_7_1 : (k0_pay368 RO RM RL (k0_pay357 (iota .tc S1x1x256 32 [2] iota_S1x1x256_d2_w32) (k0_pay355 k0_pay221 (k0_pay350 q) (k0_pay351 (iota .tc S64x128 32 [0] iota_S64x128_d0_w32)) (k0_pay352 (iota .tc S64x128 32 [0] iota_S64x128_d0_w32)) k0_pay353 k0 k1) len ks) (k0_pay359 (iota .tc S1x1x256 32 [2] iota_S1x1x256_d2_w32) (k0_pay355 k0_pay221 (k0_pay350 q) (k0_pay351 (iota .tc S64x128 32 [0] iota_S64x128_d0_w32)) (k0_pay352 (iota .tc S64x128 32 [0] iota_S64x128_d0_w32)) k0_pay353 k0 k1) len ks) (k0_pay360 (iota .tc S1x1x256 32 [2] iota_S1x1x256_d2_w32) (k0_pay354 v0 v1) (k0_pay355 k0_pay221 (k0_pay350 q) (k0_pay351 (iota .tc S64x128 32 [0] iota_S64x128_d0_w32)) (k0_pay352 (iota .tc S64x128 32 [0] iota_S64x128_d0_w32)) k0_pay353 k0 k1) len ks vs))
    = outR 7 1 RO RM RL (tS q k0 k1 len ks) v0 v1 vs := rfl

end Tail

end Cert.Payloads

end
-- ==== Proof.Block.lean ====
/- The result as one formula of the twelve arrays, and what it means for the blocks of one grid point to hold those arrays. -/
module

public import proofs.«01_k».proof.Proof.StageValue
public import proofs.«01_k».proof.Proof.Payloads
public import proofs.«01_k».proof.Proof.Gen.KernelIdeal.Frame
public import Idealize.ShloMosaic.Lib.Pipeline.ValueKit

@[expose] public section

set_option maxRecDepth 16384

noncomputable section

namespace Cert.Block

open Idealize.ShloMosaic Idealize.ShloMosaic.TcCoe Cert.KernelIdeal Cert.KernelIdeal.Gen Cert.Stages Cert.StageValue Cert.Soft Cert.Row

/-- The twelve arrays, and a shift for every softmax row. -/
structure Inp where
  x : Arr 5 ![1024, 4, 2, 8, 128]
  kn : Arr 4 ![1024, 4, 2, 128]
  vn : Arr 4 ![1024, 4, 2, 128]
  kp : Arr 3 ![2304, 2, 128]
  vp : Arr 3 ![2304, 2, 128]
  ksp : Arr 2 ![2304, 2]
  vsp : Arr 2 ![2304, 2]
  kt : Arr 4 ![1024, 256, 2, 128]
  vt : Arr 4 ![1024, 256, 2, 128]
  kst : Arr 3 ![1024, 256, 2]
  vst : Arr 3 ![1024, 256, 2]
  len : Fin 1024 → BitVec 32
  mx : Fin 1024 → Fin 4 → Fin 2 → Fin 8 → EReal

/-- The arrays that enter a score, and the shifts, are real. -/
structure Inp.Real (I : Inp) : Prop where
  x : ∀ i, IsReal (I.x i)
  kn : ∀ i, IsReal (I.kn i)
  kp : ∀ i, IsReal (I.kp i)
  ksp : ∀ i, IsReal (I.ksp i)
  kt : ∀ i, IsReal (I.kt i)
  kst : ∀ i, IsReal (I.kst i)
  mx : ∀ b s kv g, IsReal (I.mx b s kv g)

/-- The sum of weights of one softmax row. -/
def wsum (I : Inp) (b : Fin 1024) (s : Fin 4) (kv : Fin 2) (g : Fin 8) : EReal :=
  (∑ p, Ideal.exp (sp I.kp I.ksp (fun d => I.x (ix5 b s kv g d)) kv p - I.mx b s kv g))
    + (∑ t, Ideal.exp (st I.kt I.kst (I.len b) (fun d => I.x (ix5 b s kv g d)) b kv t - I.mx b s kv g))
    + ∑ j, Ideal.exp (sn I.kn (fun d => I.x (ix5 b s kv g d)) b kv s j - I.mx b s kv g)

/-- The result at batch row `b`, position `s`, head group `kv`, head `g`, place `d`. -/
def res (I : Inp) (b : Fin 1024) (s : Fin 4) (kv : Fin 2) (g : Fin 8) (d : Fin 128) : EReal :=
  (∑ p, Ideal.div (Ideal.exp (sp I.kp I.ksp (fun d => I.x (ix5 b s kv g d)) kv p - I.mx b s kv g)) (wsum I b s kv g) * I.vsp (ix2 p kv) * I.vp (ix3 p kv d))
    + (∑ t, Ideal.div (Ideal.exp (st I.kt I.kst (I.len b) (fun d => I.x (ix5 b s kv g d)) b kv t - I.mx b s kv g)) (wsum I b s kv g) * I.vst (ix3 b t kv) * I.vt (ix4 b t kv d))
    + ∑ j, Ideal.div (Ideal.exp (sn I.kn (fun d => I.x (ix5 b s kv g d)) b kv s j - I.mx b s kv g)) (wsum I b s kv g) * I.vn (ix4 b j kv d)

/-- The batch row that row `b` of grid point `t` is. -/
def bRow (t : Fin 128) (b : Fin 8) : Fin 1024 := ⟨8 * t.val + b.val, by omega⟩

/-- The two scratch arrays hold the past keys, multiplied out, beside zeros, and the past values, multiplied out and transposed. -/
structure ScrOk (I : Inp) (ka : Vec Ideal S2x2304x256 .bf16) (vt : Vec Ideal S2x128x2304 .bf16) : Prop where
  k : ∀ (kv : Fin 2) (p : Fin 2304) (d : Fin 128), ka (ix3 kv p ⟨d.val, by omega⟩) = I.kp (ix3 p kv d) * (I.ksp (ix2 p kv) * C * log2e)
  l : ∀ (kv : Fin 2) (p : Fin 2304) (d : Fin 128), ka (ix3 kv p ⟨128 + d.val, by omega⟩) = 0
  v : ∀ (kv : Fin 2) (p : Fin 2304) (d : Fin 128), vt (ix3 kv d p) = I.vp (ix3 p kv d) * I.vsp (ix2 p kv)

/-- The blocks of grid point `t` hold the arrays' rows `8t … 8t+7`. -/
structure BlkOk (I : Inp) (t : Fin 128) (x0 : Vec Ideal S512x128 .bf16) (x1 x2 : Vec Ideal S32x1x8x128 .bf16) (x3 x4 : Vec Ideal S64x128 .bf16)
    (x9 x10 : Vec Ideal S8x2x256x128 .fp8e4m3) (x11 x12 : Vec Ideal S8x2x256 .f32) : Prop where
  q : ∀ b s kv g d, x0 (ix2 ⟨64 * b.val + (tRow s kv g).val, by have := (tRow s kv g).isLt; omega⟩ d) = I.x (ix5 (bRow t b) s kv g d)
  x_0 : ∀ b s g d, x1 (ix4 (qRow b s) 0 g d) = I.x (ix5 (bRow t b) s 0 g d)
  x_1 : ∀ b s g d, x2 (ix4 (qRow b s) 0 g d) = I.x (ix5 (bRow t b) s 1 g d)
  kn : ∀ b j kv d, x3 (ix2 (nRow b j kv) d) = I.kn (ix4 (bRow t b) j kv d)
  vn : ∀ b j kv d, x4 (ix2 (nRow b j kv) d) = I.vn (ix4 (bRow t b) j kv d)
  kt : ∀ (b : Fin 8) (kv : Fin 2) (p : Fin 256) d, x9 (ix4 b kv p d) = I.kt (ix4 (bRow t b) p kv d)
  vt : ∀ (b : Fin 8) (kv : Fin 2) (p : Fin 256) d, x10 (ix4 b kv p d) = I.vt (ix4 (bRow t b) p kv d)
  kst : ∀ (b : Fin 8) (kv : Fin 2) (p : Fin 256), x11 (ix3 b kv p) = I.kst (ix3 (bRow t b) p kv)
  vst : ∀ (b : Fin 8) (kv : Fin 2) (p : Fin 256), x12 (ix3 b kv p) = I.vst (ix3 (bRow t b) p kv)

/-- The block of results of grid point `t`. -/
def resBlk (I : Inp) (t : Fin 128) : Vec Ideal S8x4x16x128 .bf16 := fun y =>
  res I (bRow t (y 0)) (y 1) ⟨(y 2).val / 8, by have : (y 2).val < 16 := (y 2).isLt; omega⟩ ⟨(y 2).val % 8, Nat.mod_lt _ (by decide)⟩ (y 3)

section Reads

variable {s : Shape} {e : EltTy}

theorem rd (a : Memref sig .tc .vmem s e) (h : a.IsWhole) (x : Vec Ideal s e) (off size : Fin s.rank → Nat) (inb) (j : (Rect.unit off size inb).shape.Idx)
    (i : s.Idx) (hi : ∀ a, (i a : ℕ) = off a + j a) : View.readAt (Elt Ideal) a.view (Rect.unit off size inb).toLoadRect (h.unread x) j = x i := by
  rw [View.readAt_eq_ld, h.read_unread]
  exact View.ld_unit_apply_of x off size inb j i hi

theorem rc (v : View sig .tc .vmem s e) (L : List (View.Piece (Elt Ideal) s e)) (off size : Fin s.rank → Nat) (inb) (j : (Rect.unit off size inb).shape.Idx)
    (i : s.Idx) (hi : ∀ a, (i a : ℕ) = off a + j a) : v.readCov L (Rect.unit off size inb).toLoadRect j = View.canon L i := by
  rw [View.readCov_eq_canon']
  exact View.ld_unit_apply_of (View.canon L) off size inb j i hi

end Reads

theorem hi2 {n0 n1 m0 m1 : ℕ} (o0 o1 : ℕ) (i0 : Fin n0) (i1 : Fin n1) (j0 : Fin m0) (j1 : Fin m1) (h0 : i0.val = o0 + j0.val) (h1 : i1.val = o1 + j1.val) :
    ∀ a, (ix2 i0 i1 a : ℕ) = (![o0, o1] : Fin 2 → ℕ) a + (ix2 j0 j1 a : ℕ)
  | 0 => h0
  | 1 => h1

theorem hi3 {n0 n1 n2 m0 m1 m2 : ℕ} (o0 o1 o2 : ℕ) (i0 : Fin n0) (i1 : Fin n1) (i2 : Fin n2) (j0 : Fin m0) (j1 : Fin m1) (j2 : Fin m2)
    (h0 : i0.val = o0 + j0.val) (h1 : i1.val = o1 + j1.val) (h2 : i2.val = o2 + j2.val) :
    ∀ a, (ix3 i0 i1 i2 a : ℕ) = (![o0, o1, o2] : Fin 3 → ℕ) a + (ix3 j0 j1 j2 a : ℕ)
  | 0 => h0
  | 1 => h1
  | 2 => h2

theorem hi4 {n0 n1 n2 n3 m0 m1 m2 m3 : ℕ} (o0 o1 o2 o3 : ℕ) (i0 : Fin n0) (i1 : Fin n1) (i2 : Fin n2) (i3 : Fin n3) (j0 : Fin m0) (j1 : Fin m1) (j2 : Fin m2) (j3 : Fin m3)
    (h0 : i0.val = o0 + j0.val) (h1 : i1.val = o1 + j1.val) (h2 : i2.val = o2 + j2.val) (h3 : i3.val = o3 + j3.val) :
    ∀ a, (ix4 i0 i1 i2 i3 a : ℕ) = (![o0, o1, o2, o3] : Fin 4 → ℕ) a + (ix4 j0 j1 j2 j3 a : ℕ)
  | 0 => h0
  | 1 => h1
  | 2 => h2
  | 3 => h3

theorem pS_apply (x : Vec Ideal S32x1x8x128 .bf16) (K : ℕ → Vec Ideal S1x256x256 .bf16) (n : ℕ) (i j : Fin 256) :
    pS x K n (ix3 0 i j) = sPast (k0_pay120 x) (K n) (ix2 i j) := by
  pointwise [pS, stored]

/-- A load of one block of stored scores misses a store of another. -/
theorem skip {F : FTy → Type} [FloatOps F] (v : View sig .tc .vmem S2x2304x256 .f32) (a o a' o' : ℕ) (inb : ∀ x, (![a, o, 0] : Fin 3 → Nat) x + S1x256x256.size x ≤ S2x2304x256.size x)
    (inb' : ∀ x, (![a', o', 0] : Fin 3 → Nat) x + S1x256x256.size x ≤ S2x2304x256.size x) (w : Vec F S1x256x256 .f32) (L : List (View.Piece (Elt F) S2x2304x256 .f32))
    (h : o + 256 ≤ o' ∨ o' + 256 ≤ o) :
    v.readCov (⟨Rect.unit (s := S2x2304x256) ![a, o, 0] S1x256x256.size inb, w⟩ :: L) (Rect.unit (s := S2x2304x256) ![a', o', 0] S1x256x256.size inb').toLoadRect
      = v.readCov L (Rect.unit (s := S2x2304x256) ![a', o', 0] S1x256x256.size inb').toLoadRect :=
  View.readCov_cons_of_disjoint v _ L _ (Rect.unit_disjoint (s := S2x2304x256) (off := ![a, o, 0]) (size := S1x256x256.size) (off' := ![a', o', 0]) (size' := S1x256x256.size) (inb := inb) (inb' := inb') (1 : Fin 3) h)

/-- One result of a grid point, from what its parts read of the blocks. -/
theorem res_of (I : Inp) (R : I.Real) (t : Fin 128) (b : Fin 8) (kv : Fin 2) (s : Fin 4) (g : Fin 8) (d : Fin 128)
    {ka : Vec Ideal S2x2304x256 .bf16} {va : Vec Ideal S2x128x2304 .bf16} (Z : ScrOk I ka va)
    (X : Vec Ideal S32x1x8x128 .bf16) (kn vn : Vec Ideal S64x128 .bf16) (K : ℕ → Vec Ideal S1x256x256 .bf16) (V : ℕ → Vec Ideal S1x128x256 .bf16)
    (S : ℕ → Vec Ideal S1x256x256 .f32) (q : Vec Ideal S64x128 .bf16) (k0 k1 v0 v1 : Vec Ideal S1x1x256x128 .fp8e4m3) (len : BitVec 32) (ks vs : Vec Ideal S1x2x256 .f32)
    (hx : ∀ s g d, X (ix4 (qRow b s) 0 g d) = I.x (ix5 (bRow t b) s kv g d)) (hq : ∀ d, q (ix2 (tRow s kv g) d) = I.x (ix5 (bRow t b) s kv g d))
    (hkn : ∀ j d, kn (ix2 (nRow b j kv) d) = I.kn (ix4 (bRow t b) j kv d)) (hvn : ∀ j d, vn (ix2 (nRow b j kv) d) = I.vn (ix4 (bRow t b) j kv d))
    (hK : ∀ (n : Fin 9) (i j : Fin 256), K n.val (ix3 0 i j) = ka (ix3 kv (pKey n i) j))
    (hV : ∀ (n : Fin 9) (d : Fin 128) (i : Fin 256), V n.val (ix3 0 d i) = va (ix3 kv d (pKey n i)))
    (hS : ∀ (n : Fin 9), S n.val = pS X K n.val)
    (hk0 : ∀ p d, k0 (ix4 0 0 p d) = I.kt (ix4 (bRow t b) p 0 d)) (hk1 : ∀ p d, k1 (ix4 0 0 p d) = I.kt (ix4 (bRow t b) p 1 d))
    (hv0 : ∀ p d, v0 (ix4 0 0 p d) = I.vt (ix4 (bRow t b) p 0 d)) (hv1 : ∀ p d, v1 (ix4 0 0 p d) = I.vt (ix4 (bRow t b) p 1 d))
    (hlen : len = I.len (bRow t b))
    (hks : ∀ kv p, ks (ix3 0 kv p) = I.kst (ix3 (bRow t b) p kv)) (hvs : ∀ kv p, vs (ix3 0 kv p) = I.vst (ix3 (bRow t b) p kv)) :
    out b kv (pM (BitVec.ofNat 32 kv.val) X kn K) (pL8 (BitVec.ofNat 32 kv.val) X kn K S) (pO (BitVec.ofNat 32 kv.val) X kn vn K S V) (tS q k0 k1 len ks) v0 v1 vs (ix4 0 s g d)
      = res I (bRow t b) s kv g d := by
  subst hlen
  refine out_apply b kv s g d (bRow t b) X kn vn K V S q k0 k1 v0 v1 _ ks vs (fun d => I.x (ix5 (bRow t b) s kv g d)) I.kn I.vn I.kp I.vp I.ksp I.vsp I.kt I.vt I.kst I.vst
    (I.mx (bRow t b) s kv g) (fun _ => R.x _) R.kn R.kp R.ksp R.kt R.kst (R.mx _ _ _ _) (fun d => hx s g d) hq hkn hvn
    (fun n i d => (hK n i _).trans (Z.k _ _ _)) (fun n i d => (hK n i _).trans (Z.l _ _ _)) (fun n i => (hV n d i).trans (Z.v _ _ _))
    (fun n i j => (congrFun (hS n) _).trans (pS_apply _ _ _ _ _)) ?_ ?_ (fun p => hks kv p) (fun p => hvs kv p)
  · intro p d
    by_cases h : kv = 0
    · subst h; exact hk0 p d
    · obtain rfl : kv = 1 := by omega
      exact hk1 p d
  · intro p
    by_cases h : kv = 0
    · subst h; exact hv0 p d
    · obtain rfl : kv = 1 := by omega
      exact hv1 p d

/-- One printed result, once its prefix parts are known. -/
theorem join {F : FTy → Type} [FloatOps F] [Named F] {b : Fin 8} {kv : Fin 2} {P : FVec F S1x4x8x128 .bf16} {RO : FVec F S256x128 .f32} {RM RL : FVec F S256x1 .f32}
    {s : FVec F S4x2x8x256 .f32} {v0 v1 : Vec F S1x1x256x128 .fp8e4m3} {vs : Vec F S1x2x256 .f32} {m : FVec F S1x256 .f32} {l8 : FVec F S8x256 .f32} {o : FVec F S128x256 .f32}
    (hP : P = Payloads.outR b kv RO RM RL s v0 v1 vs) (hO : RO = k0_pay166 o) (hM : RM = k0_pay168 m l8) (hL : RL = k0_pay169 m l8) :
    P = out b kv m l8 o s v0 v1 vs := by
  subst hO hM hL
  exact hP.trans (Payloads.outR_eq ..)

/-- A piece of the result's block holds the block's results at its places. -/
theorem fin_piece (I : Inp) (t : Fin 128) (b : Fin 8) (kv : Fin 2) (P : FVec Ideal S1x4x8x128 .bf16)
    (hP : ∀ s g d, P (ix4 0 s g d) = res I (bRow t b) s kv g d) (x : S1x4x8x128.Idx) (y : S8x4x16x128.Idx)
    (h0 : (y 0).val = b.val + (x 0).val) (h1 : (y 1).val = 0 + (x 1).val) (h2 : (y 2).val = 8 * kv.val + (x 2).val) (h3 : (y 3).val = 0 + (x 3).val) :
    P x = resBlk I t y := by
  have x0 : (x 0).val < 1 := (x 0).isLt
  have x2 : (x 2).val < 8 := (x 2).isLt
  have e : x = ix4 0 (x 1) (x 2) (x 3) := (eq_ix4 x).trans (by rw [show x 0 = (0 : Fin 1) from Fin.ext (by show (x 0).val = 0; omega)]; rfl)
  rw [e]
  refine (hP _ _ _).trans ?_
  unfold resBlk
  rw [show b = (y 0 : Fin 8) from Fin.ext (by omega), show (x 1 : Fin 4) = y 1 from Fin.ext (by omega), show (x 3 : Fin 128) = y 3 from Fin.ext (by omega),
    show kv = (⟨(y 2).val / 8, by have : (y 2).val < 16 := (y 2).isLt; omega⟩ : Fin 2) from Fin.ext (by show kv.val = (y 2).val / 8; omega),
    show (x 2 : Fin 8) = ⟨(y 2).val % 8, Nat.mod_lt _ (by decide)⟩ from Fin.ext (by show (x 2).val = (y 2).val % 8; omega)]
  rfl

end Cert.Block

end
-- ==== Proof.RefValue.lean ====
/- What the reference's operations compute at one result index, as a function of its arguments and of what its region leaves:
   the softmax over the three kinds of score of the query's row, then the sum over the values. -/
module

public import proofs.«01_k».proof.Proof.Gen.ReferenceIdeal.Read
public import proofs.«01_k».proof.Proof.Row
public import Idealize.ShloMosaic.Lib.Pointwise

@[expose] public section

set_option maxRecDepth 16384

noncomputable section

namespace Cert.RefValue

open Idealize.ShloMosaic Cert.Soft Cert.Row Cert.ReferenceIdeal Cert.ReferenceIdeal.Read Cert.ReferenceIdeal.Gen

variable (x1 x2 : (⟨S1024x4x2x128, .bf16⟩ : BufTy).Contents (Elt Ideal)) (x5 x6 : (⟨S2304x2, .f32⟩ : BufTy).Contents (Elt Ideal))
  (x9 x10 : (⟨S1024x256x2, .f32⟩ : BufTy).Contents (Elt Ideal)) (x11 : (⟨S1024, .i32⟩ : BufTy).Contents (Elt Ideal))
  (r0 r1 : (⟨S2304x2x128, .bf16⟩ : BufTy).Contents (Elt Ideal)) (r2 r3 : (⟨S1024x256x2x128, .bf16⟩ : BufTy).Contents (Elt Ideal))
  (e0 : (⟨S1024x4x2x8x128, .bf16⟩ : BufTy).Contents (Elt Ideal))
  (b : Fin 1024) (s : Fin 4) (kv : Fin 2) (g : Fin 8)

/-- The query of the row. -/
abbrev qry (d : Fin 128) : EReal := e0 (ix5 b s kv g d)

theorem past_apply (p : Fin 2304) : val_main_v12 (F := Ideal) x5 r0 e0 (ix5 b s kv g p) = sp r0 x5 (qry e0 b s kv g) kv p := by
  rw [val_main_v12_apply, val_main_v5_apply, val_main_v4_apply, val_main_v11_apply, val_main_v10_apply, val_main_v9_apply, val_main_v8_apply,
    val_main_v7_apply, val_main_v6_apply, val_main_cst_apply]
  refine congrArg₂ (fun a c : EReal => a * c) (Finset.sum_congr rfl fun d _ => congrArg₂ (fun a c : EReal => a * c) (congrArg r0 (eq_ix3 _)) (congrArg e0 (eq_ix5 _)))
    (congrArg₂ (fun a c : EReal => a * c) (congrArg x5 (eq_ix2 _)) ofBits_scale)

theorem select_ite {α : Type} (c : Prop) [Decidable c] (x y : α) : Scalar.select (BitVec.ofBool (decide c)) x y = if c then x else y := by
  by_cases h : c <;> simp [Scalar.select, h]

theorem tail_apply (t : Fin 256) : val_main_v32 (F := Ideal) x9 x11 r2 e0 (ix5 b s kv g t) = st r2 x9 (x11 (ix1 b)) (qry e0 b s kv g) b kv t := by
  rw [val_main_v32_apply, val_main_v20_apply, val_main_v14_apply, val_main_v13_apply, val_main_v19_apply, val_main_v18_apply, val_main_v17_apply,
    val_main_v16_apply, val_main_v15_apply, val_main_cst_0_apply, val_main_call0_v1_apply, val_main_v31_apply, val_main_v30_apply, val_main_v28_apply,
    val_main_v26_apply, val_main_v25_apply, val_main_v29_apply, val_main_v27_apply, val_main_call0_v2_apply, val_main_call0_v0_apply, val_main_cst_2_apply]
  unfold st
  rw [← select_ite]
  refine congr (congrArg₂ _ ?_ ?_) ofBits_bot
  · rw [Bool.decide_eq_true]
    exact congrArg (fun y => IntOp.cmpi .slt _ (x11 y)) (eq_ix1 _)
  · exact congrArg₂ (fun a c : EReal => a * c) (Finset.sum_congr rfl fun d _ => congrArg₂ (fun a c : EReal => a * c) (congrArg r2 (eq_ix4 _)) (congrArg e0 (eq_ix5 _)))
      (congrArg₂ (fun a c : EReal => a * c) (congrArg x9 (eq_ix3 _)) ofBits_scale)

theorem new_apply (j : Fin 4) : val_main_v41 (F := Ideal) x1 e0 (ix5 b s kv g j) = sn x1 (qry e0 b s kv g) b kv s j := by
  rw [val_main_v41_apply, val_main_v24_apply, val_main_v22_apply, val_main_v21_apply, val_main_v23_apply, val_main_cst_1_apply, val_main_call1_v1_apply,
    val_main_v40_apply, val_main_v39_apply, val_main_v37_apply, val_main_v34_apply, val_main_v33_apply, val_main_v38_apply, val_main_v36_apply, val_main_v35_apply,
    val_main_call1_v2_apply, val_main_call1_v0_apply, val_main_cst_3_apply]
  unfold sn
  rw [← select_ite]
  refine congr (congrArg₂ _ ?_ ?_) ofBits_bot
  · show IntOp.cmpi .sge (BitVec.ofNat 32 s.val) (BitVec.ofNat 32 j.val) = _
    revert s j
    decide
  · exact congrArg₂ (fun a c : EReal => a * c) (Finset.sum_congr rfl fun d _ => congrArg₂ (fun a c : EReal => a * c) (congrArg x1 (eq_ix4 _)) (congrArg e0 (eq_ix5 _)))
      ofBits_scale

/-- The row's shift: the greatest score. -/
def mx : EReal := val_main_v49 (F := Ideal) x1 x5 x9 x11 r0 r2 e0 (ix5 b s kv g 0)

/-- The row's shift is real: every past score is. -/
theorem isReal_mx (hsp : ∀ p, IsReal (sp r0 x5 (qry e0 b s kv g) kv p)) (hst : ∀ t, Score (st r2 x9 (x11 (ix1 b)) (qry e0 b s kv g) b kv t))
    (hsn : ∀ j, Score (sn x1 (qry e0 b s kv g) b kv s j)) : IsReal (mx x1 x5 x9 x11 r0 r2 e0 b s kv g) := by
  unfold mx
  rw [val_main_v49_apply, val_main_v46_apply, val_main_v43_apply, val_main_v45_apply, val_main_v48_apply]
  unfold val_main_v42 val_main_v44 val_main_v47
  have hb : Score (Ideal.ofBits .f32 0xFF800000#32) := .inl ofBits_bot
  refine IsReal.max_score (IsReal.max_score ?_ ?_) ?_
  · pointwise
    exact fold_max_real _ Finset.univ_nonempty _ _ hb fun p => (past_apply x5 r0 e0 b s kv g p).symm ▸ hsp p
  · pointwise
    exact fold_max_score _ _ _ hb fun t => (tail_apply x9 x11 r2 e0 b s kv g t).symm ▸ hst t
  · pointwise
    exact fold_max_score _ _ _ hb fun j => (new_apply x1 e0 b s kv g j).symm ▸ hsn j

/-- The row's unnormalized weights and their sum. -/
def wp (p : Fin 2304) : EReal := Ideal.exp (sp r0 x5 (qry e0 b s kv g) kv p - mx x1 x5 x9 x11 r0 r2 e0 b s kv g)
def wt (t : Fin 256) : EReal := Ideal.exp (st r2 x9 (x11 (ix1 b)) (qry e0 b s kv g) b kv t - mx x1 x5 x9 x11 r0 r2 e0 b s kv g)
def wn (j : Fin 4) : EReal := Ideal.exp (sn x1 (qry e0 b s kv g) b kv s j - mx x1 x5 x9 x11 r0 r2 e0 b s kv g)
def L : EReal := (∑ p, wp x1 x5 x9 x11 r0 r2 e0 b s kv g p) + (∑ t, wt x1 x5 x9 x11 r0 r2 e0 b s kv g t) + ∑ j, wn x1 x5 x9 x11 r0 r2 e0 b s kv g j

theorem ep_apply (p : Fin 2304) : val_main_v52 (F := Ideal) x1 x5 x9 x11 r0 r2 e0 (ix5 b s kv g p) = wp x1 x5 x9 x11 r0 r2 e0 b s kv g p := by
  rw [val_main_v52_apply, val_main_v51_apply, past_apply, val_main_v50_apply]
  exact congrArg (fun y => Ideal.exp (_ - val_main_v49 (F := Ideal) x1 x5 x9 x11 r0 r2 e0 y)) (eq_ix5 _)

theorem et_apply (t : Fin 256) : val_main_v55 (F := Ideal) x1 x5 x9 x11 r0 r2 e0 (ix5 b s kv g t) = wt x1 x5 x9 x11 r0 r2 e0 b s kv g t := by
  rw [val_main_v55_apply, val_main_v54_apply, tail_apply, val_main_v53_apply]
  exact congrArg (fun y => Ideal.exp (_ - val_main_v49 (F := Ideal) x1 x5 x9 x11 r0 r2 e0 y)) (eq_ix5 _)

theorem en_apply (j : Fin 4) : val_main_v58 (F := Ideal) x1 x5 x9 x11 r0 r2 e0 (ix5 b s kv g j) = wn x1 x5 x9 x11 r0 r2 e0 b s kv g j := by
  rw [val_main_v58_apply, val_main_v57_apply, new_apply, val_main_v56_apply]
  exact congrArg (fun y => Ideal.exp (_ - val_main_v49 (F := Ideal) x1 x5 x9 x11 r0 r2 e0 y)) (eq_ix5 _)

theorem l_apply : val_main_v66 (F := Ideal) x1 x5 x9 x11 r0 r2 e0 (ix5 b s kv g 0) = L x1 x5 x9 x11 r0 r2 e0 b s kv g := by
  rw [val_main_v66_apply, val_main_v63_apply, val_main_v60_apply, val_main_v59_apply, val_main_v62_apply, val_main_v61_apply, val_main_v65_apply, val_main_v64_apply,
    val_main_cst_7_apply, val_main_cst_8_apply, val_main_cst_9_apply]
  have z (a : EReal) : (FloatOps.ofBits .f32 0x00000000#32 : Ideal .f32) + a = a := (congrArg (· + a) ofBits_zero).trans (zero_add a)
  refine congrArg₂ (fun a c : EReal => a + c) (congrArg₂ (fun a c : EReal => a + c) ((z _).trans ?_) ((z _).trans ?_)) ((z _).trans ?_)
  · exact Finset.sum_congr rfl fun k _ => (congrArg _ (eq_ix5 _)).trans (ep_apply x1 x5 x9 x11 r0 r2 e0 b s kv g k)
  · exact Finset.sum_congr rfl fun k _ => (congrArg _ (eq_ix5 _)).trans (et_apply x1 x5 x9 x11 r0 r2 e0 b s kv g k)
  · exact Finset.sum_congr rfl fun k _ => (congrArg _ (eq_ix5 _)).trans (en_apply x1 x5 x9 x11 r0 r2 e0 b s kv g k)

theorem pp_apply (p : Fin 2304) : val_main_v78 (F := Ideal) x1 x5 x6 x9 x11 r0 r2 e0 (ix5 b s kv g p)
    = Ideal.div (wp x1 x5 x9 x11 r0 r2 e0 b s kv g p) (L x1 x5 x9 x11 r0 r2 e0 b s kv g) * x6 (ix2 p kv) := by
  rw [val_main_v78_apply, val_main_v77_apply, val_main_v68_apply, ep_apply, val_main_v67_apply, val_main_v76_apply, val_main_v75_apply, val_main_v74_apply, val_main_v73_apply]
  refine congrArg₂ (fun a c : EReal => a * c) (congrArg (Ideal.div _) ?_) (congrArg x6 (eq_ix2 _))
  exact (congrArg _ (eq_ix5 _)).trans (l_apply x1 x5 x9 x11 r0 r2 e0 b s kv g)

theorem pt_apply (t : Fin 256) : val_main_v85 (F := Ideal) x1 x5 x9 x10 x11 r0 r2 e0 (ix5 b s kv g t)
    = Ideal.div (wt x1 x5 x9 x11 r0 r2 e0 b s kv g t) (L x1 x5 x9 x11 r0 r2 e0 b s kv g) * x10 (ix3 b t kv) := by
  rw [val_main_v85_apply, val_main_v84_apply, val_main_v70_apply, et_apply, val_main_v69_apply, val_main_v83_apply, val_main_v82_apply, val_main_v81_apply]
  refine congrArg₂ (fun a c : EReal => a * c) (congrArg (Ideal.div _) ?_) (congrArg x10 (eq_ix3 _))
  exact (congrArg _ (eq_ix5 _)).trans (l_apply x1 x5 x9 x11 r0 r2 e0 b s kv g)

theorem pn_apply (j : Fin 4) : val_main_v88 (F := Ideal) x1 x5 x9 x11 r0 r2 e0 (ix5 b s kv g j)
    = Ideal.div (wn x1 x5 x9 x11 r0 r2 e0 b s kv g j) (L x1 x5 x9 x11 r0 r2 e0 b s kv g) := by
  rw [val_main_v88_apply, val_main_v72_apply, en_apply, val_main_v71_apply]
  exact congrArg (Ideal.div _) ((congrArg _ (eq_ix5 _)).trans (l_apply x1 x5 x9 x11 r0 r2 e0 b s kv g))

/-- The reference's sums at result coordinates `(b, s, kv, g, d)`. -/
theorem out_apply (d : Fin 128) : val_main_v92 (F := Ideal) x1 x2 x5 x6 x9 x10 x11 r0 r1 r2 r3 e0 (ix5 b s kv g d)
    = (∑ p, Ideal.div (wp x1 x5 x9 x11 r0 r2 e0 b s kv g p) (L x1 x5 x9 x11 r0 r2 e0 b s kv g) * x6 (ix2 p kv) * r1 (ix3 p kv d))
      + (∑ t, Ideal.div (wt x1 x5 x9 x11 r0 r2 e0 b s kv g t) (L x1 x5 x9 x11 r0 r2 e0 b s kv g) * x10 (ix3 b t kv) * r3 (ix4 b t kv d))
      + ∑ j, Ideal.div (wn x1 x5 x9 x11 r0 r2 e0 b s kv g j) (L x1 x5 x9 x11 r0 r2 e0 b s kv g) * x2 (ix4 b j kv d) := by
  rw [val_main_v92_apply, val_main_v91_apply, val_main_v80_apply, val_main_v79_apply, val_main_v87_apply, val_main_v86_apply, val_main_v90_apply, val_main_v89_apply]
  refine congrArg₂ (fun a c : EReal => a + c) (congrArg₂ (fun a c : EReal => a + c) ?_ ?_) ?_
  · refine Finset.sum_congr rfl fun k _ => (mul_comm _ _).trans (congrArg₂ (fun a c : EReal => a * c) ?_ (congrArg r1 (eq_ix3 _)))
    exact (congrArg _ (eq_ix5 _)).trans (pp_apply x1 x5 x6 x9 x11 r0 r2 e0 b s kv g k)
  · refine Finset.sum_congr rfl fun k _ => (mul_comm _ _).trans (congrArg₂ (fun a c : EReal => a * c) ?_ (congrArg r3 (eq_ix4 _)))
    exact (congrArg _ (eq_ix5 _)).trans (pt_apply x1 x5 x9 x10 x11 r0 r2 e0 b s kv g k)
  · refine Finset.sum_congr rfl fun k _ => (mul_comm _ _).trans (congrArg₂ (fun a c : EReal => a * c) ?_ (congrArg x2 (eq_ix4 _)))
    exact (congrArg _ (eq_ix5 _)).trans (pn_apply x1 x5 x9 x11 r0 r2 e0 b s kv g k)

end Cert.RefValue

end
-- ==== Proof.Args.lean ====
/- The twelve argument arrays as the softmax rows read them. -/
module

public import proofs.«01_k».proof.Proof.Block
public import proofs.«01_k».proof.Proof.RefValue

@[expose] public section

set_option maxRecDepth 16384

noncomputable section

namespace Cert.Args

open Idealize.ShloMosaic Cert.Soft Cert.Row Cert.Block

/-- Head `8·kv + g` of the sixteen. -/
def head (kv : Fin 2) (g : Fin 8) : Fin 16 := ⟨8 * kv.val + g.val, by omega⟩

/-- The queries with their head axis split. -/
def qs (a0 : Arr 4 ![1024, 4, 16, 128]) : Arr 5 ![1024, 4, 2, 8, 128] := fun i =>
  a0 (ix4 (i 0 : Fin 1024) (i 1 : Fin 4) (head (i 2) (i 3)) (i 4 : Fin 128))

variable (a0 : Arr 4 ![1024, 4, 16, 128]) (a1 a2 : Arr 4 ![1024, 4, 2, 128]) (a3 a4 : Arr 3 ![2304, 2, 128]) (a5 a6 : Arr 2 ![2304, 2])
  (a7 a8 : Arr 4 ![1024, 256, 2, 128]) (a9 a10 : Arr 3 ![1024, 256, 2]) (a11 : (⟨1, ![1024]⟩ : Shape).Idx → BitVec 32)

/-- The arguments, the rows shifted by their largest score. -/
def inp : Inp where
  x := qs a0
  kn := a1
  vn := a2
  kp := a3
  vp := a4
  ksp := a5
  vsp := a6
  kt := a7
  vt := a8
  kst := a9
  vst := a10
  len b := a11 (ix1 b)
  mx b s kv g := RefValue.mx a1 a5 a9 a11 a3 a7 (qs a0) b s kv g

/-- When the arrays that enter a score are real, so are the shifts. -/
theorem inp_real (h0 : ∀ i, IsReal (a0 i)) (h1 : ∀ i, IsReal (a1 i)) (h3 : ∀ i, IsReal (a3 i)) (h5 : ∀ i, IsReal (a5 i)) (h7 : ∀ i, IsReal (a7 i))
    (h9 : ∀ i, IsReal (a9 i)) : (inp a0 a1 a2 a3 a4 a5 a6 a7 a8 a9 a10 a11).Real where
  x _ := h0 _
  kn := h1
  kp := h3
  ksp := h5
  kt := h7
  kst := h9
  mx b s kv g := RefValue.isReal_mx _ _ _ _ _ _ _ b s kv g
    (fun p => isReal_sp _ _ _ h3 h5 (fun _ => h0 _) kv p) (fun t => score_st _ _ _ _ h7 h9 (fun _ => h0 _) b kv t)
    (fun j => score_sn _ _ h1 (fun _ => h0 _) b kv s j)

/-- The result the attention gives at an index of the flat result array. -/
def G (I : Inp) : Arr 3 ![1024, 4, 2048] := fun i =>
  have : (i 2).val < 2048 := (i 2).isLt
  res I (i 0) (i 1) ⟨(i 2).val / 1024, by omega⟩ ⟨(i 2).val / 128 % 8, by omega⟩ ⟨(i 2).val % 128, by omega⟩

end Cert.Args

end
-- ==== Proof.Finite.lean ====
/- What the precondition says of the six arrays a score reads: every element is real. -/
module

public import proofs.«01_k».proof.Proof.Args
public import proofs.«01_k».proof.Pre_finite
public import Idealize.ShloMosaic.Lib.ReduceAll

@[expose] public section

set_option maxRecDepth 16384

noncomputable section

namespace Cert.Finite

open Idealize.ShloMosaic Cert.Soft

theorem top32 : Ideal.ofBits .f32 0x7F800000#32 = ⊤ := by simp [Ideal.ofBits, Ideal.ieee]
theorem top16 : Ideal.ofBits .bf16 0x7F80#16 = ⊤ := by simp [Ideal.ofBits, Ideal.ieee]

/-- A number whose absolute value is below infinity is real. -/
theorem real_of_abs (x : EReal) (h : Ideal.cmp .olt (max x (-x)) ⊤ = 1#1) : IsReal x := by
  have hl : max x (-x) < ⊤ := by
    by_contra hn
    simp [Ideal.cmp, hn] at h
  refine isReal_of_ne (fun e => ?_) (fun e => ?_) <;> simp [e] at hl

/-- Two flags whose conjunction is one are one. -/
theorem and_one (a b : BitVec 1) (h : a &&& b = 1#1) : a = 1#1 ∧ b = 1#1 := by
  revert a b; decide

open Cert.Pre_finite in
/-- The precondition, array by array. -/
theorem of_fn [Cert.Pre_finite.Facts] (a0 : FVec Ideal S1024x4x16x128 .bf16) (a1 a2 : FVec Ideal S1024x4x2x128 .bf16) (a3 : FVec Ideal S2304x2x128 .f32)
    (a4 : FVec Ideal S2304x2x128 .fp8e4m3) (a5 a6 : FVec Ideal S2304x2 .f32) (a7 : FVec Ideal S1024x256x2x128 .f32)
    (a8 : FVec Ideal S1024x256x2x128 .fp8e4m3) (a9 a10 : FVec Ideal S1024x256x2 .f32) (a11 : IVec S1024 32)
    (h : Cert.Pre_finite.fn (F := Ideal) a0 a1 a2 a3 a4 a5 a6 a7 a8 a9 a10 a11 = fun _ => 1#1) :
    (∀ i, IsReal (a0 i)) ∧ (∀ i, IsReal (a1 i)) ∧ (∀ i, IsReal (a3 i)) ∧ (∀ i, IsReal (a5 i)) ∧ (∀ i, IsReal (a7 i)) ∧ ∀ i, IsReal (a9 i) := by
  haveI : Subsingleton S_.Idx := ⟨fun x y => funext fun a => absurd a.isLt (by simp [S_])⟩
  replace h := congrFun h (Shape.Idx.first Cert.Pre_finite.Facts.h_S_)
  dsimp only [fn, fn_part1] at h
  obtain ⟨h, h9⟩ := and_one _ _ h
  obtain ⟨h, h7⟩ := and_one _ _ h
  obtain ⟨h, h5⟩ := and_one _ _ h
  obtain ⟨h, h3⟩ := and_one _ _ h
  obtain ⟨h0, h1⟩ := and_one _ _ h
  refine ⟨fun i => real_of_abs _ ?_, fun i => real_of_abs _ ?_, fun i => real_of_abs _ ?_, fun i => real_of_abs _ ?_, fun i => real_of_abs _ ?_, fun i => real_of_abs _ ?_⟩
  · rw [← top16]; exact Host.reduce_andi_all _ _ _ _ _ h0 i
  · rw [← top16]; exact Host.reduce_andi_all _ _ _ _ _ h1 i
  · rw [← top32]; exact Host.reduce_andi_all _ _ _ _ _ h3 i
  · rw [← top32]; exact Host.reduce_andi_all _ _ _ _ _ h5 i
  · rw [← top32]; exact Host.reduce_andi_all _ _ _ _ _ h7 i
  · rw [← top32]; exact Host.reduce_andi_all _ _ _ _ _ h9 i

end Cert.Finite

end
-- ==== Proof.Fill.lean ====
/- The two payloads that fill the scratch arrays, at coordinates: 128 past keys multiplied out beside what that product loses when
   rounded (nothing, over the reals), and 128 past values multiplied out and transposed. -/
module

public import proofs.«01_k».proof.Proof.Block

@[expose] public section

set_option maxRecDepth 16384

noncomputable section

namespace Cert.Fill

open Idealize.ShloMosaic Idealize.ShloMosaic.TcCoe Cert.KernelIdeal Cert.KernelIdeal.Gen Cert.Stages Cert.StageValue Cert.Soft Cert.Row Cert.Block

variable (ks : Vec Ideal S1x128 .f32) (k : Vec Ideal S1x128x128 .fp8e4m3)

theorem hi_apply (i d : Fin 128) : k0_pay1 ks k (ix3 0 i ⟨d.val, by omega⟩) = k (ix3 0 i d) * (ks (ix2 0 i) * C * log2e) := by
  pointwise [k0_pay1]
  rw [named_log2e, ofBits_scale]

theorem lo_apply (i d : Fin 128) : k0_pay1 ks k (ix3 0 i ⟨128 + d.val, by omega⟩)
    = k (ix3 0 i d) * (ks (ix2 0 i) * C * log2e) - k (ix3 0 i d) * (ks (ix2 0 i) * C * log2e) := by
  pointwise [k0_pay1]
  rw [named_log2e, ofBits_scale]

theorem v_apply (i d : Fin 128) : k0_pay2 ks k (ix3 0 d i) = k (ix3 0 i d) * ks (ix2 0 i) := by
  pointwise [k0_pay2]

/-- What the first scratch array holds. -/
def kaG (I : Inp) : Vec Ideal S2x2304x256 .bf16 := fun y =>
  if h : (y 2).val < 128 then I.kp (ix3 (y 1) (y 0) ⟨(y 2).val, h⟩) * (I.ksp (ix2 (y 1) (y 0)) * C * log2e) else 0

/-- What the second scratch array holds. -/
def vtG (I : Inp) : Vec Ideal S2x128x2304 .bf16 := fun y => I.vp (ix3 (y 2) (y 0) (y 1)) * I.vsp (ix2 (y 2) (y 0))

theorem scrOk (I : Inp) : ScrOk I (kaG I) (vtG I) where
  k kv p d := dif_pos d.isLt
  l kv p d := dif_neg (show ¬128 + d.val < 128 by omega)
  v _ _ _ := rfl

/-- The blocks the scratch arrays are filled from. -/
structure FillOk (I : Inp) (x5 x6 : Vec Ideal S2x2304x128 .fp8e4m3) (x7 x8 : Vec Ideal S2x2304 .f32) : Prop where
  k : ∀ (kv : Fin 2) (p : Fin 2304) (d : Fin 128), x5 (ix3 kv p d) = I.kp (ix3 p kv d)
  v : ∀ (kv : Fin 2) (p : Fin 2304) (d : Fin 128), x6 (ix3 kv p d) = I.vp (ix3 p kv d)
  ks : ∀ (kv : Fin 2) (p : Fin 2304), x7 (ix2 kv p) = I.ksp (ix2 p kv)
  vs : ∀ (kv : Fin 2) (p : Fin 2304), x8 (ix2 kv p) = I.vsp (ix2 p kv)

variable {x5 x6 : Vec Ideal S2x2304x128 .fp8e4m3} {x7 x8 : Vec Ideal S2x2304 .f32}

theorem ka_hi (I : Inp) (H : FillOk I x5 x6 x7 x8) (kv : Fin 2) (n : Fin 18)
    (hk : ∀ i d : Fin 128, k (ix3 0 i d) = x5 (ix3 kv ⟨128 * n.val + i.val, by omega⟩ d))
    (hks : ∀ i : Fin 128, ks (ix2 0 i) = x7 (ix2 kv ⟨128 * n.val + i.val, by omega⟩)) (i d : Fin 128) :
    k0_pay1 ks k (ix3 0 i ⟨d.val, by omega⟩) = I.kp (ix3 ⟨128 * n.val + i.val, by omega⟩ kv d) * (I.ksp (ix2 ⟨128 * n.val + i.val, by omega⟩ kv) * C * log2e) := by
  rw [hi_apply, hk, hks, H.k, H.ks]

theorem ka_lo (I : Inp) (R : I.Real) (H : FillOk I x5 x6 x7 x8) (kv : Fin 2) (n : Fin 18)
    (hk : ∀ i d : Fin 128, k (ix3 0 i d) = x5 (ix3 kv ⟨128 * n.val + i.val, by omega⟩ d))
    (hks : ∀ i : Fin 128, ks (ix2 0 i) = x7 (ix2 kv ⟨128 * n.val + i.val, by omega⟩)) (i d : Fin 128) :
    k0_pay1 ks k (ix3 0 i ⟨128 + d.val, by omega⟩) = 0 := by
  rw [lo_apply, hk, hks, H.k, H.ks]
  exact ((R.kp _).mul (((R.ksp _).mul isReal_C).mul (isReal_coe _))).sub_self

theorem vt_at (I : Inp) (H : FillOk I x5 x6 x7 x8) (kv : Fin 2) (n : Fin 18)
    (hk : ∀ i d : Fin 128, k (ix3 0 i d) = x6 (ix3 kv ⟨128 * n.val + i.val, by omega⟩ d))
    (hks : ∀ i : Fin 128, ks (ix2 0 i) = x8 (ix2 kv ⟨128 * n.val + i.val, by omega⟩)) (i d : Fin 128) :
    k0_pay2 ks k (ix3 0 d i) = I.vp (ix3 ⟨128 * n.val + i.val, by omega⟩ kv d) * I.vsp (ix2 ⟨128 * n.val + i.val, by omega⟩ kv) := by
  rw [v_apply, hk, hks, H.v, H.vs]

theorem ka_piece (I : Inp) (R : I.Real) (H : FillOk I x5 x6 x7 x8) (kv : Fin 2) (n : Fin 18)
    (hk : ∀ i d : Fin 128, k (ix3 0 i d) = x5 (ix3 kv ⟨128 * n.val + i.val, by omega⟩ d))
    (hks : ∀ i : Fin 128, ks (ix2 0 i) = x7 (ix2 kv ⟨128 * n.val + i.val, by omega⟩)) (x : S1x128x256.Idx) (y : S2x2304x256.Idx)
    (h0 : (y 0).val = kv.val + (x 0).val) (h1 : (y 1).val = 128 * n.val + (x 1).val) (h2 : (y 2).val = 0 + (x 2).val) :
    k0_pay1 ks k x = kaG I y := by
  have x0 : (x 0).val < 1 := (x 0).isLt
  have x1 : (x 1).val < 128 := (x 1).isLt
  have x2 : (x 2).val < 256 := (x 2).isLt
  have e : x = ix3 0 (x 1) (x 2) := (eq_ix3 x).trans (by rw [show x 0 = (0 : Fin 1) from Fin.ext (by show (x 0).val = 0; omega)]; rfl)
  have ey : y = ix3 kv ⟨128 * n.val + (x 1).val, by omega⟩ (x 2) := by
    refine (eq_ix3 y).trans ?_
    rw [show (y 0 : Fin 2) = kv from Fin.ext (by omega), show (y 1 : Fin 2304) = ⟨128 * n.val + (x 1).val, by omega⟩ from Fin.ext h1, show (y 2 : Fin 256) = x 2 from Fin.ext (by omega)]
    rfl
  rw [e, ey]
  by_cases h : (x 2).val < 128
  · refine Eq.trans ?_ (dif_pos h).symm
    exact ka_hi ks k I H kv n hk hks (x 1) ⟨(x 2).val, h⟩
  · have e2 : (x 2 : Fin 256) = ⟨128 + (⟨(x 2).val - 128, by omega⟩ : Fin 128).val, by show 128 + ((x 2).val - 128) < 256; omega⟩ := Fin.ext (by show (x 2).val = 128 + ((x 2).val - 128); omega)
    refine Eq.trans ?_ (dif_neg h).symm
    exact (congrArg (fun z : Fin 256 => k0_pay1 ks k (ix3 0 (x 1) z)) e2).trans (ka_lo ks k I R H kv n hk hks (x 1) _)

theorem vt_piece (I : Inp) (H : FillOk I x5 x6 x7 x8) (kv : Fin 2) (n : Fin 18)
    (hk : ∀ i d : Fin 128, k (ix3 0 i d) = x6 (ix3 kv ⟨128 * n.val + i.val, by omega⟩ d))
    (hks : ∀ i : Fin 128, ks (ix2 0 i) = x8 (ix2 kv ⟨128 * n.val + i.val, by omega⟩)) (x : S1x128x128.Idx) (y : S2x128x2304.Idx)
    (h0 : (y 0).val = kv.val + (x 0).val) (h1 : (y 1).val = 0 + (x 1).val) (h2 : (y 2).val = 128 * n.val + (x 2).val) :
    k0_pay2 ks k x = vtG I y := by
  have x0 : (x 0).val < 1 := (x 0).isLt
  have x2 : (x 2).val < 128 := (x 2).isLt
  have e : x = ix3 0 (x 1) (x 2) := (eq_ix3 x).trans (by rw [show x 0 = (0 : Fin 1) from Fin.ext (by show (x 0).val = 0; omega)]; rfl)
  have ey : y = ix3 kv (x 1) ⟨128 * n.val + (x 2).val, by omega⟩ := by
    refine (eq_ix3 y).trans ?_
    rw [show (y 0 : Fin 2) = kv from Fin.ext (by omega), show (y 2 : Fin 2304) = ⟨128 * n.val + (x 2).val, by omega⟩ from Fin.ext h2, show (y 1 : Fin 128) = x 1 from Fin.ext (by omega)]
    rfl
  rw [e, ey]
  exact vt_at ks k I H kv n hk hks (x 2) (x 1)

end Cert.Fill

end
-- ==== Proof.Blocks.lean ====
/- The grid points' blocks as parts of the arguments. -/
module

public import proofs.«01_k».proof.Proof.Args
public import proofs.«01_k».proof.Proof.Fill

@[expose] public section

set_option maxRecDepth 16384
set_option maxHeartbeats 400000

noncomputable section

namespace Cert.Blocks

open Idealize.ShloMosaic Idealize.ShloMosaic.TcCoe Cert.KernelIdeal Cert.KernelIdeal.Gen Cert.Block Cert.StageValue

variable (m : (ℓ : Loc nD τ sig) → Buf (Elt Ideal) ℓ) (hO : Ok m) (c : Dev nD)

/-- The arguments of the run, as the softmax rows read them. -/
def inp : Inp := Args.inp (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
  (m ((c : Thread nD τ).loc main_arg11))

theorem size_grid : grid0.N = 128 := rfl

/-- Grid point `t`. -/
abbrev pt (t : Fin 128) : Fin grid0.N := ⟨t.val, lt_of_lt_of_eq t.isLt size_grid.symm⟩

theorem tab0 : ∀ t : Fin grid0.N, cc0_transform_0 (grid0.coords t) = ![t.val, 0] := by decide +kernel
theorem blk0 (t : Fin grid0.N) (i : Fin 512) (j : Fin 128) :
    iblk m hO c 0 t (ix2 i j) = V m c main_v2 (ix2 (⟨512 * t.val + i.val, by have := t.isLt; have : grid0.N = 128 := rfl; omega⟩ : Fin 65536) j) := by
  unfold iblk
  refine congrArg (V m c main_v2) (funext fun (a : Fin 2) => Fin.ext ?_)
  refine (((cfgM m hO).win 0).rect_emb_val t (ix2 i j) a).trans ?_
  show cc0_transform_0 (grid0.coords t) a * S512x128.size a + _ = _
  rw [tab0 t]
  match a with
  | 0 => show t.val * 512 + i.val = 512 * t.val + i.val; omega
  | 1 => show 0 * 128 + j.val = j.val; omega

theorem tab1 : ∀ t : Fin grid0.N, cc0_transform_1 (grid0.coords t) = ![t.val, 0, 0, 0] := by decide +kernel
theorem blk1 (t : Fin grid0.N) (i : Fin 32) (k : Fin 8) (l : Fin 128) :
    iblk m hO c 1 t (ix4 i (0 : Fin 1) k l) = V m c main_v3 (ix4 (⟨32 * t.val + i.val, by have := t.isLt; have : grid0.N = 128 := rfl; omega⟩ : Fin 4096) (0 : Fin 2) k l) := by
  unfold iblk
  refine congrArg (V m c main_v3) (funext fun (a : Fin 4) => Fin.ext ?_)
  refine (((cfgM m hO).win 1).rect_emb_val t (ix4 i (0 : Fin 1) k l) a).trans ?_
  show cc0_transform_1 (grid0.coords t) a * S32x1x8x128.size a + _ = _
  rw [tab1 t]
  match a with
  | 0 => show t.val * 32 + i.val = 32 * t.val + i.val; omega
  | 1 => rfl
  | 2 => show 0 * 8 + k.val = k.val; omega
  | 3 => show 0 * 128 + l.val = l.val; omega

theorem tab2 : ∀ t : Fin grid0.N, cc0_transform_2 (grid0.coords t) = ![t.val, 1, 0, 0] := by decide +kernel
theorem blk2 (t : Fin grid0.N) (i : Fin 32) (k : Fin 8) (l : Fin 128) :
    iblk m hO c 2 t (ix4 i (0 : Fin 1) k l) = V m c main_v3 (ix4 (⟨32 * t.val + i.val, by have := t.isLt; have : grid0.N = 128 := rfl; omega⟩ : Fin 4096) (1 : Fin 2) k l) := by
  unfold iblk
  refine congrArg (V m c main_v3) (funext fun (a : Fin 4) => Fin.ext ?_)
  refine (((cfgM m hO).win 2).rect_emb_val t (ix4 i (0 : Fin 1) k l) a).trans ?_
  show cc0_transform_2 (grid0.coords t) a * S32x1x8x128.size a + _ = _
  rw [tab2 t]
  match a with
  | 0 => show t.val * 32 + i.val = 32 * t.val + i.val; omega
  | 1 => rfl
  | 2 => show 0 * 8 + k.val = k.val; omega
  | 3 => show 0 * 128 + l.val = l.val; omega

theorem tab3 : ∀ t : Fin grid0.N, cc0_transform_3 (grid0.coords t) = ![t.val, 0] := by decide +kernel
theorem blk3 (t : Fin grid0.N) (i : Fin 64) (j : Fin 128) :
    iblk m hO c 3 t (ix2 i j) = V m c main_v4 (ix2 (⟨64 * t.val + i.val, by have := t.isLt; have : grid0.N = 128 := rfl; omega⟩ : Fin 8192) j) := by
  unfold iblk
  refine congrArg (V m c main_v4) (funext fun (a : Fin 2) => Fin.ext ?_)
  refine (((cfgM m hO).win 3).rect_emb_val t (ix2 i j) a).trans ?_
  show cc0_transform_3 (grid0.coords t) a * S64x128.size a + _ = _
  rw [tab3 t]
  match a with
  | 0 => show t.val * 64 + i.val = 64 * t.val + i.val; omega
  | 1 => show 0 * 128 + j.val = j.val; omega

theorem tab4 : ∀ t : Fin grid0.N, cc0_transform_4 (grid0.coords t) = ![t.val, 0] := by decide +kernel
theorem blk4 (t : Fin grid0.N) (i : Fin 64) (j : Fin 128) :
    iblk m hO c 4 t (ix2 i j) = V m c main_v5 (ix2 (⟨64 * t.val + i.val, by have := t.isLt; have : grid0.N = 128 := rfl; omega⟩ : Fin 8192) j) := by
  unfold iblk
  refine congrArg (V m c main_v5) (funext fun (a : Fin 2) => Fin.ext ?_)
  refine (((cfgM m hO).win 4).rect_emb_val t (ix2 i j) a).trans ?_
  show cc0_transform_4 (grid0.coords t) a * S64x128.size a + _ = _
  rw [tab4 t]
  match a with
  | 0 => show t.val * 64 + i.val = 64 * t.val + i.val; omega
  | 1 => show 0 * 128 + j.val = j.val; omega

theorem tab5 : ∀ t : Fin grid0.N, cc0_transform_5 (grid0.coords t) = ![0, 0, 0] := by decide +kernel
theorem blk5 (t : Fin grid0.N) (i : Fin 2) (j : Fin 2304) (k : Fin 128) :
    iblk m hO c 5 t (ix3 i j k) = V m c main_v6 (ix3 i j k) := by
  unfold iblk
  refine congrArg (V m c main_v6) (funext fun (a : Fin 3) => Fin.ext ?_)
  refine (((cfgM m hO).win 5).rect_emb_val t (ix3 i j k) a).trans ?_
  show cc0_transform_5 (grid0.coords t) a * S2x2304x128.size a + _ = _
  rw [tab5 t]
  match a with
  | 0 => show 0 * 2 + i.val = i.val; omega
  | 1 => show 0 * 2304 + j.val = j.val; omega
  | 2 => show 0 * 128 + k.val = k.val; omega

theorem tab6 : ∀ t : Fin grid0.N, cc0_transform_6 (grid0.coords t) = ![0, 0, 0] := by decide +kernel
theorem blk6 (t : Fin grid0.N) (i : Fin 2) (j : Fin 2304) (k : Fin 128) :
    iblk m hO c 6 t (ix3 i j k) = V m c main_v7 (ix3 i j k) := by
  unfold iblk
  refine congrArg (V m c main_v7) (funext fun (a : Fin 3) => Fin.ext ?_)
  refine (((cfgM m hO).win 6).rect_emb_val t (ix3 i j k) a).trans ?_
  show cc0_transform_6 (grid0.coords t) a * S2x2304x128.size a + _ = _
  rw [tab6 t]
  match a with
  | 0 => show 0 * 2 + i.val = i.val; omega
  | 1 => show 0 * 2304 + j.val = j.val; omega
  | 2 => show 0 * 128 + k.val = k.val; omega

theorem tab7 : ∀ t : Fin grid0.N, cc0_transform_7 (grid0.coords t) = ![0, 0] := by decide +kernel
theorem blk7 (t : Fin grid0.N) (i : Fin 2) (j : Fin 2304) :
    iblk m hO c 7 t (ix2 i j) = V m c main_v12 (ix2 i j) := by
  unfold iblk
  refine congrArg (V m c main_v12) (funext fun (a : Fin 2) => Fin.ext ?_)
  refine (((cfgM m hO).win 7).rect_emb_val t (ix2 i j) a).trans ?_
  show cc0_transform_7 (grid0.coords t) a * S2x2304.size a + _ = _
  rw [tab7 t]
  match a with
  | 0 => show 0 * 2 + i.val = i.val; omega
  | 1 => show 0 * 2304 + j.val = j.val; omega

theorem tab8 : ∀ t : Fin grid0.N, cc0_transform_8 (grid0.coords t) = ![0, 0] := by decide +kernel
theorem blk8 (t : Fin grid0.N) (i : Fin 2) (j : Fin 2304) :
    iblk m hO c 8 t (ix2 i j) = V m c main_v13 (ix2 i j) := by
  unfold iblk
  refine congrArg (V m c main_v13) (funext fun (a : Fin 2) => Fin.ext ?_)
  refine (((cfgM m hO).win 8).rect_emb_val t (ix2 i j) a).trans ?_
  show cc0_transform_8 (grid0.coords t) a * S2x2304.size a + _ = _
  rw [tab8 t]
  match a with
  | 0 => show 0 * 2 + i.val = i.val; omega
  | 1 => show 0 * 2304 + j.val = j.val; omega

theorem tab9 : ∀ t : Fin grid0.N, cc0_transform_9 (grid0.coords t) = ![t.val, 0, 0, 0] := by decide +kernel
theorem blk9 (t : Fin grid0.N) (i : Fin 8) (j : Fin 2) (k : Fin 256) (l : Fin 128) :
    iblk m hO c 9 t (ix4 i j k l) = V m c main_v8 (ix4 (⟨8 * t.val + i.val, by have := t.isLt; have : grid0.N = 128 := rfl; omega⟩ : Fin 1024) j k l) := by
  unfold iblk
  refine congrArg (V m c main_v8) (funext fun (a : Fin 4) => Fin.ext ?_)
  refine (((cfgM m hO).win 9).rect_emb_val t (ix4 i j k l) a).trans ?_
  show cc0_transform_9 (grid0.coords t) a * S8x2x256x128.size a + _ = _
  rw [tab9 t]
  match a with
  | 0 => show t.val * 8 + i.val = 8 * t.val + i.val; omega
  | 1 => show 0 * 2 + j.val = j.val; omega
  | 2 => show 0 * 256 + k.val = k.val; omega
  | 3 => show 0 * 128 + l.val = l.val; omega

theorem tab10 : ∀ t : Fin grid0.N, cc0_transform_10 (grid0.coords t) = ![t.val, 0, 0, 0] := by decide +kernel
theorem blk10 (t : Fin grid0.N) (i : Fin 8) (j : Fin 2) (k : Fin 256) (l : Fin 128) :
    iblk m hO c 10 t (ix4 i j k l) = V m c main_v9 (ix4 (⟨8 * t.val + i.val, by have := t.isLt; have : grid0.N = 128 := rfl; omega⟩ : Fin 1024) j k l) := by
  unfold iblk
  refine congrArg (V m c main_v9) (funext fun (a : Fin 4) => Fin.ext ?_)
  refine (((cfgM m hO).win 10).rect_emb_val t (ix4 i j k l) a).trans ?_
  show cc0_transform_10 (grid0.coords t) a * S8x2x256x128.size a + _ = _
  rw [tab10 t]
  match a with
  | 0 => show t.val * 8 + i.val = 8 * t.val + i.val; omega
  | 1 => show 0 * 2 + j.val = j.val; omega
  | 2 => show 0 * 256 + k.val = k.val; omega
  | 3 => show 0 * 128 + l.val = l.val; omega

theorem tab11 : ∀ t : Fin grid0.N, cc0_transform_11 (grid0.coords t) = ![t.val, 0, 0] := by decide +kernel
theorem blk11 (t : Fin grid0.N) (i : Fin 8) (j : Fin 2) (k : Fin 256) :
    iblk m hO c 11 t (ix3 i j k) = V m c main_v10 (ix3 (⟨8 * t.val + i.val, by have := t.isLt; have : grid0.N = 128 := rfl; omega⟩ : Fin 1024) j k) := by
  unfold iblk
  refine congrArg (V m c main_v10) (funext fun (a : Fin 3) => Fin.ext ?_)
  refine (((cfgM m hO).win 11).rect_emb_val t (ix3 i j k) a).trans ?_
  show cc0_transform_11 (grid0.coords t) a * S8x2x256.size a + _ = _
  rw [tab11 t]
  match a with
  | 0 => show t.val * 8 + i.val = 8 * t.val + i.val; omega
  | 1 => show 0 * 2 + j.val = j.val; omega
  | 2 => show 0 * 256 + k.val = k.val; omega

theorem tab12 : ∀ t : Fin grid0.N, cc0_transform_12 (grid0.coords t) = ![t.val, 0, 0] := by decide +kernel
theorem blk12 (t : Fin grid0.N) (i : Fin 8) (j : Fin 2) (k : Fin 256) :
    iblk m hO c 12 t (ix3 i j k) = V m c main_v11 (ix3 (⟨8 * t.val + i.val, by have := t.isLt; have : grid0.N = 128 := rfl; omega⟩ : Fin 1024) j k) := by
  unfold iblk
  refine congrArg (V m c main_v11) (funext fun (a : Fin 3) => Fin.ext ?_)
  refine (((cfgM m hO).win 12).rect_emb_val t (ix3 i j k) a).trans ?_
  show cc0_transform_12 (grid0.coords t) a * S8x2x256.size a + _ = _
  rw [tab12 t]
  match a with
  | 0 => show t.val * 8 + i.val = 8 * t.val + i.val; omega
  | 1 => show 0 * 2 + j.val = j.val; omega
  | 2 => show 0 * 256 + k.val = k.val; omega

theorem ent2 : V m c main_v2 = shapeCast S65536x128 (m ((c : Thread nD τ).loc main_arg0)) shapeCasts_S1024x4x16x128_S65536x128 := by entry_read; rfl
theorem ent3 : V m c main_v3 = shapeCast S4096x2x8x128 (m ((c : Thread nD τ).loc main_arg0)) shapeCasts_S1024x4x16x128_S4096x2x8x128 := by entry_read; rfl
theorem ent4 : V m c main_v4 = shapeCast S8192x128 (m ((c : Thread nD τ).loc main_arg1)) shapeCasts_S1024x4x2x128_S8192x128 := by entry_read; rfl
theorem ent5 : V m c main_v5 = shapeCast S8192x128 (m ((c : Thread nD τ).loc main_arg2)) shapeCasts_S1024x4x2x128_S8192x128 := by entry_read; rfl
theorem ent6 (kv : Fin 2) (p : Fin 2304) (d : Fin 128) : V m c main_v6 (ix3 kv p d) = m ((c : Thread nD τ).loc main_arg3) (ix3 p kv d) := by
  have h : V m c main_v6 = transpose S2x2304x128 [1, 0, 2] (m ((c : Thread nD τ).loc main_arg3) : Vec Ideal S2304x2x128 .f32) transposes_S2304x2x128_S2x2304x128_1_0_2 := by entry_read; rfl
  rw [h]
  exact transpose_apply _ _ _ (ix3 kv p d) (ix3 p kv d) (fun a => match a with | 0 => rfl | 1 => rfl | 2 => rfl)
theorem ent7 (kv : Fin 2) (p : Fin 2304) (d : Fin 128) : V m c main_v7 (ix3 kv p d) = m ((c : Thread nD τ).loc main_arg4) (ix3 p kv d) := by
  have h : V m c main_v7 = transpose S2x2304x128 [1, 0, 2] (m ((c : Thread nD τ).loc main_arg4) : Vec Ideal S2304x2x128 .fp8e4m3) transposes_S2304x2x128_S2x2304x128_1_0_2 := by entry_read; rfl
  rw [h]
  exact transpose_apply _ _ _ (ix3 kv p d) (ix3 p kv d) (fun a => match a with | 0 => rfl | 1 => rfl | 2 => rfl)
theorem ent8 (b : Fin 1024) (kv : Fin 2) (p : Fin 256) (d : Fin 128) : V m c main_v8 (ix4 b kv p d) = m ((c : Thread nD τ).loc main_arg7) (ix4 b p kv d) := by
  have h : V m c main_v8 = transpose S1024x2x256x128 [0, 2, 1, 3] (m ((c : Thread nD τ).loc main_arg7) : Vec Ideal S1024x256x2x128 .f32) transposes_S1024x256x2x128_S1024x2x256x128_0_2_1_3 := by entry_read; rfl
  rw [h]
  exact transpose_apply _ _ _ (ix4 b kv p d) (ix4 b p kv d) (fun a => match a with | 0 => rfl | 1 => rfl | 2 => rfl | 3 => rfl)
theorem ent9 (b : Fin 1024) (kv : Fin 2) (p : Fin 256) (d : Fin 128) : V m c main_v9 (ix4 b kv p d) = m ((c : Thread nD τ).loc main_arg8) (ix4 b p kv d) := by
  have h : V m c main_v9 = transpose S1024x2x256x128 [0, 2, 1, 3] (m ((c : Thread nD τ).loc main_arg8) : Vec Ideal S1024x256x2x128 .fp8e4m3) transposes_S1024x256x2x128_S1024x2x256x128_0_2_1_3 := by entry_read; rfl
  rw [h]
  exact transpose_apply _ _ _ (ix4 b kv p d) (ix4 b p kv d) (fun a => match a with | 0 => rfl | 1 => rfl | 2 => rfl | 3 => rfl)
theorem ent10 (b : Fin 1024) (kv : Fin 2) (p : Fin 256) : V m c main_v10 (ix3 b kv p) = m ((c : Thread nD τ).loc main_arg9) (ix3 b p kv) := by
  have h : V m c main_v10 = transpose S1024x2x256 [0, 2, 1] (m ((c : Thread nD τ).loc main_arg9) : Vec Ideal S1024x256x2 .f32) transposes_S1024x256x2_S1024x2x256_0_2_1 := by entry_read; rfl
  rw [h]
  exact transpose_apply _ _ _ (ix3 b kv p) (ix3 b p kv) (fun a => match a with | 0 => rfl | 1 => rfl | 2 => rfl)
theorem ent11 (b : Fin 1024) (kv : Fin 2) (p : Fin 256) : V m c main_v11 (ix3 b kv p) = m ((c : Thread nD τ).loc main_arg10) (ix3 b p kv) := by
  have h : V m c main_v11 = transpose S1024x2x256 [0, 2, 1] (m ((c : Thread nD τ).loc main_arg10) : Vec Ideal S1024x256x2 .f32) transposes_S1024x256x2_S1024x2x256_0_2_1 := by entry_read; rfl
  rw [h]
  exact transpose_apply _ _ _ (ix3 b kv p) (ix3 b p kv) (fun a => match a with | 0 => rfl | 1 => rfl | 2 => rfl)
theorem ent12 (kv : Fin 2) (p : Fin 2304) : V m c main_v12 (ix2 kv p) = m ((c : Thread nD τ).loc main_arg5) (ix2 p kv) := by
  have h : V m c main_v12 = transpose S2x2304 [1, 0] (m ((c : Thread nD τ).loc main_arg5) : Vec Ideal S2304x2 .f32) transposes_S2304x2_S2x2304_1_0 := by entry_read; rfl
  rw [h]
  exact transpose_apply _ _ _ (ix2 kv p) (ix2 p kv) (fun a => match a with | 0 => rfl | 1 => rfl)
theorem ent13 (kv : Fin 2) (p : Fin 2304) : V m c main_v13 (ix2 kv p) = m ((c : Thread nD τ).loc main_arg6) (ix2 p kv) := by
  have h : V m c main_v13 = transpose S2x2304 [1, 0] (m ((c : Thread nD τ).loc main_arg6) : Vec Ideal S2304x2 .f32) transposes_S2304x2_S2x2304_1_0 := by entry_read; rfl
  rw [h]
  exact transpose_apply _ _ _ (ix2 kv p) (ix2 p kv) (fun a => match a with | 0 => rfl | 1 => rfl)

theorem q (t : Fin 128) (b : Fin 8) (s : Fin 4) (kv : Fin 2) (g : Fin 8) (d : Fin 128) : iblk m hO c 0 (pt t) (ix2 (⟨64 * b.val + (tRow s kv g).val, by have := (tRow s kv g).isLt; omega⟩ : Fin 512) d) = (inp m c).x (ix5 (bRow t b) s kv g d) := by
  refine (blk0 m hO c (pt t) _ d).trans ((congrFun (ent2 m c) _).trans ?_)
  refine (shapeCast_apply _ _ _ (ix4 (bRow t b) s (Args.head kv g) d) ?_).trans ?_
  · rw [Shape.rowMajor_val_four, Shape.rowMajor_val_two]
    show (((8 * t.val + b.val) * 4 + s.val) * 16 + (8 * kv.val + g.val)) * 128 + d.val
      = (512 * t.val + (64 * b.val + (s.val * 16 + kv.val * 8 + g.val))) * 128 + d.val
    omega
  · rfl

theorem x_0 (t : Fin 128) (b : Fin 8) (s : Fin 4) (g : Fin 8) (d : Fin 128) : iblk m hO c 1 (pt t) (ix4 (qRow b s) (0 : Fin 1) g d) = (inp m c).x (ix5 (bRow t b) s 0 g d) := by
  refine (blk1 m hO c (pt t) _ g d).trans ((congrFun (ent3 m c) _).trans ?_)
  refine (shapeCast_apply _ _ _ (ix4 (bRow t b) s (Args.head 0 g) d) ?_).trans ?_
  · rw [Shape.rowMajor_val_four, Shape.rowMajor_val_four]
    show (((8 * t.val + b.val) * 4 + s.val) * 16 + (8 * 0 + g.val)) * 128 + d.val
      = (((32 * t.val + (4 * b.val + s.val)) * 2 + 0) * 8 + g.val) * 128 + d.val
    omega
  · rfl

theorem x_1 (t : Fin 128) (b : Fin 8) (s : Fin 4) (g : Fin 8) (d : Fin 128) : iblk m hO c 2 (pt t) (ix4 (qRow b s) (0 : Fin 1) g d) = (inp m c).x (ix5 (bRow t b) s 1 g d) := by
  refine (blk2 m hO c (pt t) _ g d).trans ((congrFun (ent3 m c) _).trans ?_)
  refine (shapeCast_apply _ _ _ (ix4 (bRow t b) s (Args.head 1 g) d) ?_).trans ?_
  · rw [Shape.rowMajor_val_four, Shape.rowMajor_val_four]
    show (((8 * t.val + b.val) * 4 + s.val) * 16 + (8 * 1 + g.val)) * 128 + d.val
      = (((32 * t.val + (4 * b.val + s.val)) * 2 + 1) * 8 + g.val) * 128 + d.val
    omega
  · rfl

theorem kn (t : Fin 128) (b : Fin 8) (j : Fin 4) (kv : Fin 2) (d : Fin 128) : iblk m hO c 3 (pt t) (ix2 (nRow b j kv) d) = (inp m c).kn (ix4 (bRow t b) j kv d) := by
  refine (blk3 m hO c (pt t) _ d).trans ((congrFun (ent4 m c) _).trans ?_)
  refine (shapeCast_apply _ _ _ (ix4 (bRow t b) j kv d) ?_).trans ?_
  · rw [Shape.rowMajor_val_four, Shape.rowMajor_val_two]
    show (((8 * t.val + b.val) * 4 + j.val) * 2 + kv.val) * 128 + d.val
      = (64 * t.val + (8 * b.val + (2 * j.val + kv.val))) * 128 + d.val
    omega
  · rfl

theorem vn (t : Fin 128) (b : Fin 8) (j : Fin 4) (kv : Fin 2) (d : Fin 128) : iblk m hO c 4 (pt t) (ix2 (nRow b j kv) d) = (inp m c).vn (ix4 (bRow t b) j kv d) := by
  refine (blk4 m hO c (pt t) _ d).trans ((congrFun (ent5 m c) _).trans ?_)
  refine (shapeCast_apply _ _ _ (ix4 (bRow t b) j kv d) ?_).trans ?_
  · rw [Shape.rowMajor_val_four, Shape.rowMajor_val_two]
    show (((8 * t.val + b.val) * 4 + j.val) * 2 + kv.val) * 128 + d.val
      = (64 * t.val + (8 * b.val + (2 * j.val + kv.val))) * 128 + d.val
    omega
  · rfl

theorem kt (t : Fin 128) (b : Fin 8) (kv : Fin 2) (p : Fin 256) (d : Fin 128) : iblk m hO c 9 (pt t) (ix4 b kv p d) = (inp m c).kt (ix4 (bRow t b) p kv d) :=
  (blk9 m hO c (pt t) b kv p d).trans (ent8 m c _ kv p d)

theorem vt (t : Fin 128) (b : Fin 8) (kv : Fin 2) (p : Fin 256) (d : Fin 128) : iblk m hO c 10 (pt t) (ix4 b kv p d) = (inp m c).vt (ix4 (bRow t b) p kv d) :=
  (blk10 m hO c (pt t) b kv p d).trans (ent9 m c _ kv p d)

theorem kst (t : Fin 128) (b : Fin 8) (kv : Fin 2) (p : Fin 256) : iblk m hO c 11 (pt t) (ix3 b kv p) = (inp m c).kst (ix3 (bRow t b) p kv) :=
  (blk11 m hO c (pt t) b kv p).trans (ent10 m c _ kv p)

theorem vst (t : Fin 128) (b : Fin 8) (kv : Fin 2) (p : Fin 256) : iblk m hO c 12 (pt t) (ix3 b kv p) = (inp m c).vst (ix3 (bRow t b) p kv) :=
  (blk12 m hO c (pt t) b kv p).trans (ent11 m c _ kv p)

/-- The argument blocks of point `t`. -/
theorem blkOk (t : Fin 128) : BlkOk (inp m c) t (iblk m hO c 0 (pt t)) (iblk m hO c 1 (pt t)) (iblk m hO c 2 (pt t)) (iblk m hO c 3 (pt t)) (iblk m hO c 4 (pt t))
    (iblk m hO c 9 (pt t)) (iblk m hO c 10 (pt t)) (iblk m hO c 11 (pt t)) (iblk m hO c 12 (pt t)) :=
  ⟨q m hO c t, x_0 m hO c t, x_1 m hO c t, kn m hO c t, vn m hO c t, kt m hO c t, vt m hO c t, kst m hO c t, vst m hO c t⟩

/-- The blocks the scratch arrays are filled from, at any point. -/
theorem fillOk (t : Fin 128) : Fill.FillOk (inp m c) (iblk m hO c 5 (pt t)) (iblk m hO c 6 (pt t)) (iblk m hO c 7 (pt t)) (iblk m hO c 8 (pt t)) :=
  ⟨fun kv p d => (blk5 m hO c (pt t) kv p d).trans (ent6 m c kv p d), fun kv p d => (blk6 m hO c (pt t) kv p d).trans (ent7 m c kv p d),
    fun kv p => (blk7 m hO c (pt t) kv p).trans (ent12 m c kv p), fun kv p => (blk8 m hO c (pt t) kv p).trans (ent13 m c kv p)⟩

end Cert.Blocks

end
-- ==== Proof.WordsA.lean ====
/- What the body of a grid point that fills the scratch arrays stores into the result, as the kernel's pure computations over what it reads. -/
module

public import proofs.«01_k».proof.Proof.Block

@[expose] public section

set_option maxRecDepth 16384

noncomputable section

namespace Cert.WordsA

open Idealize.ShloMosaic Idealize.ShloMosaic.TcCoe Idealize.ShloMosaic.Tactic Cert.KernelIdeal Cert.KernelIdeal.Gen Cert.Stages

variable {F : FTy → Type} [FloatOps F] [Named F]
variable (c : Dev nD) (i : grid0.Coords) (arg2 : Memref sig .tc .vmem S512x128 .bf16) (harg2 : arg2.IsWhole) (arg3 : Memref sig .tc .vmem S32x1x8x128 .bf16) (harg3 : arg3.IsWhole) (arg4 : Memref sig .tc .vmem S32x1x8x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S2x2304x128 .fp8e4m3) (harg7 : arg7.IsWhole) (arg8 : Memref sig .tc .vmem S2x2304x128 .fp8e4m3) (harg8 : arg8.IsWhole) (arg9 : Memref sig .tc .vmem S2x2304 .f32) (harg9 : arg9.IsWhole) (arg10 : Memref sig .tc .vmem S2x2304 .f32) (harg10 : arg10.IsWhole) (arg11 : Memref sig .tc .vmem S8x2x256x128 .fp8e4m3) (harg11 : arg11.IsWhole) (arg12 : Memref sig .tc .vmem S8x2x256x128 .fp8e4m3) (harg12 : arg12.IsWhole) (arg13 : Memref sig .tc .vmem S8x2x256 .f32) (harg13 : arg13.IsWhole) (arg14 : Memref sig .tc .vmem S8x2x256 .f32) (harg14 : arg14.IsWhole) (arg15 : Memref sig .tc .vmem S8x4x16x128 .bf16) (harg15 : arg15.IsWhole) (arg16 : Memref sig .tc .vmem S2x2304x256 .bf16) (harg16 : arg16.IsWhole) (arg17 : Memref sig .tc .vmem S2x128x2304 .bf16) (harg17 : arg17.IsWhole) (arg18 : Memref sig .tc .vmem S2x2304x256 .f32) (harg18 : arg18.IsWhole) (hc0 : cond0_0 i) (x0 : Vec F S512x128 .bf16) (x1 : Vec F S32x1x8x128 .bf16) (x2 : Vec F S32x1x8x128 .bf16) (x3 : Vec F S64x128 .bf16) (x4 : Vec F S64x128 .bf16) (x5 : Vec F S2x2304x128 .fp8e4m3) (x6 : Vec F S2x2304x128 .fp8e4m3) (x7 : Vec F S2x2304 .f32) (x8 : Vec F S2x2304 .f32) (x9 : Vec F S8x2x256x128 .fp8e4m3) (x10 : Vec F S8x2x256x128 .fp8e4m3) (x11 : Vec F S8x2x256 .f32) (x12 : Vec F S8x2x256 .f32) (xt0 : TbBuf0 (F := F) c tbM0_0)

/-- The blocks of past keys of head group 0, as read. -/
def K0 : ℕ → Vec F S1x256x256 .bf16
  | 0 => kernelRun0_A.sl.v144 c arg7 harg7 arg9 harg9 arg16 x5 x7
  | 1 => kernelRun0_A.sl.v153 c arg7 harg7 arg9 harg9 arg16 x5 x7
  | 2 => kernelRun0_A.sl.v162 c arg7 harg7 arg9 harg9 arg16 x5 x7
  | 3 => kernelRun0_A.sl.v171 c arg7 harg7 arg9 harg9 arg16 x5 x7
  | 4 => kernelRun0_A.sl.v180 c arg7 harg7 arg9 harg9 arg16 x5 x7
  | 5 => kernelRun0_A.sl.v189 c arg7 harg7 arg9 harg9 arg16 x5 x7
  | 6 => kernelRun0_A.sl.v198 c arg7 harg7 arg9 harg9 arg16 x5 x7
  | 7 => kernelRun0_A.sl.v207 c arg7 harg7 arg9 harg9 arg16 x5 x7
  | _ => kernelRun0_A.sl.v216 c arg7 harg7 arg9 harg9 arg16 x5 x7

/-- The blocks of past values of head group 0, as read. -/
def V0 : ℕ → Vec F S1x128x256 .bf16
  | 0 => kernelRun0_A.sl.v271 c arg8 harg8 arg10 harg10 arg17 x6 x8
  | 1 => kernelRun0_A.sl.v284 c arg8 harg8 arg10 harg10 arg17 x6 x8
  | 2 => kernelRun0_A.sl.v297 c arg8 harg8 arg10 harg10 arg17 x6 x8
  | 3 => kernelRun0_A.sl.v310 c arg8 harg8 arg10 harg10 arg17 x6 x8
  | 4 => kernelRun0_A.sl.v323 c arg8 harg8 arg10 harg10 arg17 x6 x8
  | 5 => kernelRun0_A.sl.v336 c arg8 harg8 arg10 harg10 arg17 x6 x8
  | 6 => kernelRun0_A.sl.v349 c arg8 harg8 arg10 harg10 arg17 x6 x8
  | 7 => kernelRun0_A.sl.v362 c arg8 harg8 arg10 harg10 arg17 x6 x8
  | _ => kernelRun0_A.sl.v375 c arg8 harg8 arg10 harg10 arg17 x6 x8

/-- The stored score blocks of head group 0, as read. -/
def S0 : ℕ → Vec F S1x256x256 .f32
  | 0 => kernelRun0_A.sl.v263 c arg3 harg3 arg7 harg7 arg9 harg9 arg16 arg18 x1 x5 x7
  | 1 => kernelRun0_A.sl.v276 c arg3 harg3 arg7 harg7 arg9 harg9 arg16 arg18 x1 x5 x7
  | 2 => kernelRun0_A.sl.v289 c arg3 harg3 arg7 harg7 arg9 harg9 arg16 arg18 x1 x5 x7
  | 3 => kernelRun0_A.sl.v302 c arg3 harg3 arg7 harg7 arg9 harg9 arg16 arg18 x1 x5 x7
  | 4 => kernelRun0_A.sl.v315 c arg3 harg3 arg7 harg7 arg9 harg9 arg16 arg18 x1 x5 x7
  | 5 => kernelRun0_A.sl.v328 c arg3 harg3 arg7 harg7 arg9 harg9 arg16 arg18 x1 x5 x7
  | 6 => kernelRun0_A.sl.v341 c arg3 harg3 arg7 harg7 arg9 harg9 arg16 arg18 x1 x5 x7
  | 7 => kernelRun0_A.sl.v354 c arg3 harg3 arg7 harg7 arg9 harg9 arg16 arg18 x1 x5 x7
  | _ => kernelRun0_A.sl.v367 c arg3 harg3 arg7 harg7 arg9 harg9 arg16 arg18 x1 x5 x7

theorem s0_0 : kernelRun0_A.sl.v263 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 0 := by
  unfold kernelRun0_A.sl.v263 kernelRun0_A.sl.HS2_9
  refine (Block.skip _ 0 2048 0 0 _ _ _ _ (by decide)).trans ?_
  refine (Block.skip _ 0 1792 0 0 _ _ _ _ (by decide)).trans ?_
  refine (Block.skip _ 0 1536 0 0 _ _ _ _ (by decide)).trans ?_
  refine (Block.skip _ 0 1280 0 0 _ _ _ _ (by decide)).trans ?_
  refine (Block.skip _ 0 1024 0 0 _ _ _ _ (by decide)).trans ?_
  refine (Block.skip _ 0 768 0 0 _ _ _ _ (by decide)).trans ?_
  refine (Block.skip _ 0 512 0 0 _ _ _ _ (by decide)).trans ?_
  refine (Block.skip _ 0 256 0 0 _ _ _ _ (by decide)).trans ?_
  exact (View.readCov_cons_toLoadRect _ _ _ _).trans rfl

theorem s0_1 : kernelRun0_A.sl.v276 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 1 := by
  unfold kernelRun0_A.sl.v276 kernelRun0_A.sl.HS2_9
  refine (Block.skip _ 0 2048 0 256 _ _ _ _ (by decide)).trans ?_
  refine (Block.skip _ 0 1792 0 256 _ _ _ _ (by decide)).trans ?_
  refine (Block.skip _ 0 1536 0 256 _ _ _ _ (by decide)).trans ?_
  refine (Block.skip _ 0 1280 0 256 _ _ _ _ (by decide)).trans ?_
  refine (Block.skip _ 0 1024 0 256 _ _ _ _ (by decide)).trans ?_
  refine (Block.skip _ 0 768 0 256 _ _ _ _ (by decide)).trans ?_
  refine (Block.skip _ 0 512 0 256 _ _ _ _ (by decide)).trans ?_
  exact (View.readCov_cons_toLoadRect _ _ _ _).trans rfl

theorem s0_2 : kernelRun0_A.sl.v289 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 2 := by
  unfold kernelRun0_A.sl.v289 kernelRun0_A.sl.HS2_9
  refine (Block.skip _ 0 2048 0 512 _ _ _ _ (by decide)).trans ?_
  refine (Block.skip _ 0 1792 0 512 _ _ _ _ (by decide)).trans ?_
  refine (Block.skip _ 0 1536 0 512 _ _ _ _ (by decide)).trans ?_
  refine (Block.skip _ 0 1280 0 512 _ _ _ _ (by decide)).trans ?_
  refine (Block.skip _ 0 1024 0 512 _ _ _ _ (by decide)).trans ?_
  refine (Block.skip _ 0 768 0 512 _ _ _ _ (by decide)).trans ?_
  exact (View.readCov_cons_toLoadRect _ _ _ _).trans rfl

theorem s0_3 : kernelRun0_A.sl.v302 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 3 := by
  unfold kernelRun0_A.sl.v302 kernelRun0_A.sl.HS2_9
  refine (Block.skip _ 0 2048 0 768 _ _ _ _ (by decide)).trans ?_
  refine (Block.skip _ 0 1792 0 768 _ _ _ _ (by decide)).trans ?_
  refine (Block.skip _ 0 1536 0 768 _ _ _ _ (by decide)).trans ?_
  refine (Block.skip _ 0 1280 0 768 _ _ _ _ (by decide)).trans ?_
  refine (Block.skip _ 0 1024 0 768 _ _ _ _ (by decide)).trans ?_
  exact (View.readCov_cons_toLoadRect _ _ _ _).trans rfl

theorem s0_4 : kernelRun0_A.sl.v315 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 4 := by
  unfold kernelRun0_A.sl.v315 kernelRun0_A.sl.HS2_9
  refine (Block.skip _ 0 2048 0 1024 _ _ _ _ (by decide)).trans ?_
  refine (Block.skip _ 0 1792 0 1024 _ _ _ _ (by decide)).trans ?_
  refine (Block.skip _ 0 1536 0 1024 _ _ _ _ (by decide)).trans ?_
  refine (Block.skip _ 0 1280 0 1024 _ _ _ _ (by decide)).trans ?_
  exact (View.readCov_cons_toLoadRect _ _ _ _).trans rfl

theorem s0_5 : kernelRun0_A.sl.v328 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 5 := by
  unfold kernelRun0_A.sl.v328 kernelRun0_A.sl.HS2_9
  refine (Block.skip _ 0 2048 0 1280 _ _ _ _ (by decide)).trans ?_
  refine (Block.skip _ 0 1792 0 1280 _ _ _ _ (by decide)).trans ?_
  refine (Block.skip _ 0 1536 0 1280 _ _ _ _ (by decide)).trans ?_
  exact (View.readCov_cons_toLoadRect _ _ _ _).trans rfl

theorem s0_6 : kernelRun0_A.sl.v341 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 6 := by
  unfold kernelRun0_A.sl.v341 kernelRun0_A.sl.HS2_9
  refine (Block.skip _ 0 2048 0 1536 _ _ _ _ (by decide)).trans ?_
  refine (Block.skip _ 0 1792 0 1536 _ _ _ _ (by decide)).trans ?_
  exact (View.readCov_cons_toLoadRect _ _ _ _).trans rfl

theorem s0_7 : kernelRun0_A.sl.v354 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 7 := by
  unfold kernelRun0_A.sl.v354 kernelRun0_A.sl.HS2_9
  refine (Block.skip _ 0 2048 0 1792 _ _ _ _ (by decide)).trans ?_
  exact (View.readCov_cons_toLoadRect _ _ _ _).trans rfl

theorem s0_8 : kernelRun0_A.sl.v367 c arg3 harg3 arg7 harg7 arg9 harg9 arg16 arg18 x1 x5 x7 = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) 8 := by
  unfold kernelRun0_A.sl.v367 kernelRun0_A.sl.HS2_9
  exact (View.readCov_cons_toLoadRect _ _ _ _).trans rfl

theorem s0 : ∀ n : Fin 9, (S0 c arg3 harg3 arg7 harg7 arg9 harg9 arg16 arg18 x1 x5 x7) n.val = pS (View.readAt (Elt F) arg3.view (Rect.unit (s := S32x1x8x128) ![0, 0, 0, 0] S32x1x8x128.size inb_S32x1x8x128_S32x1x8x128_0_0_0_0).toLoadRect (harg3.unread x1)) (K0 c arg7 harg7 arg9 harg9 arg16 x5 x7) n.val
  | 0 => (s0_0 c arg3 harg3 arg7 harg7 arg9 harg9 arg16 arg18 x1 x5 x7)
  | 1 => (s0_1 c arg3 harg3 arg7 harg7 arg9 harg9 arg16 arg18 x1 x5 x7)
  | 2 => (s0_2 c arg3 harg3 arg7 harg7 arg9 harg9 arg16 arg18 x1 x5 x7)
  | 3 => (s0_3 c arg3 harg3 arg7 harg7 arg9 harg9 arg16 arg18 x1 x5 x7)
  | 4 => (s0_4 c arg3 harg3 arg7 harg7 arg9 harg9 arg16 arg18 x1 x5 x7)
  | 5 => (s0_5 c arg3 harg3 arg7 harg7 arg9 harg9 arg16 arg18 x1 x5 x7)
  | 6 => (s0_6 c arg3 harg3 arg7 harg7 arg9 harg9 arg16 arg18 x1 x5 x7)
  | 7 => (s0_7 c arg3 harg3 arg7 harg7 arg9 harg9 arg16 arg18 x1 x5 x7)
  | 8 => (s0_8 c arg3 harg3 arg7 harg7 arg9 harg9 arg16 arg18 x1 x5 x7)

theorem o0 : kernelRun0_A.sl.r_60 c arg3 harg3 arg5 harg5 arg6 harg6 arg7 harg7 arg8 harg8 arg9 harg9 arg10 harg10 arg16 arg17 arg18 x1 x3 x4 x5 x6 x7 x8 = k0_pay166 (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) :=
  Payloads.prefO_0 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)

theorem m0 : kernelRun0_A.sl.r_61 c arg3 harg3 arg5 harg5 arg7 harg7 arg9 harg9 arg16 arg18 x1 x3 x5 x7 = k0_pay168 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) :=
  Payloads.prefM_0 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)

theorem l0 : kernelRun0_A.sl.r_62 c arg3 harg3 arg5 harg5 arg7 harg7 arg9 harg9 arg16 arg18 x1 x3 x5 x7 = k0_pay169 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) :=
  Payloads.prefL_0 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)

/-- The blocks of past keys of head group 1, as read. -/
def K1 : ℕ → Vec F S1x256x256 .bf16
  | 0 => kernelRun0_A.sl.v398 c arg7 harg7 arg9 harg9 arg16 x5 x7
  | 1 => kernelRun0_A.sl.v407 c arg7 harg7 arg9 harg9 arg16 x5 x7
  | 2 => kernelRun0_A.sl.v416 c arg7 harg7 arg9 harg9 arg16 x5 x7
  | 3 => kernelRun0_A.sl.v425 c arg7 harg7 arg9 harg9 arg16 x5 x7
  | 4 => kernelRun0_A.sl.v434 c arg7 harg7 arg9 harg9 arg16 x5 x7
  | 5 => kernelRun0_A.sl.v443 c arg7 harg7 arg9 harg9 arg16 x5 x7
  | 6 => kernelRun0_A.sl.v452 c arg7 harg7 arg9 harg9 arg16 x5 x7
  | 7 => kernelRun0_A.sl.v461 c arg7 harg7 arg9 harg9 arg16 x5 x7
  | _ => kernelRun0_A.sl.v470 c arg7 harg7 arg9 harg9 arg16 x5 x7

/-- The blocks of past values of head group 1, as read. -/
def V1 : ℕ → Vec F S1x128x256 .bf16
  | 0 => kernelRun0_A.sl.v525 c arg8 harg8 arg10 harg10 arg17 x6 x8
  | 1 => kernelRun0_A.sl.v538 c arg8 harg8 arg10 harg10 arg17 x6 x8
  | 2 => kernelRun0_A.sl.v551 c arg8 harg8 arg10 harg10 arg17 x6 x8
  | 3 => kernelRun0_A.sl.v564 c arg8 harg8 arg10 harg10 arg17 x6 x8
  | 4 => kernelRun0_A.sl.v577 c arg8 harg8 arg10 harg10 arg17 x6 x8
  | 5 => kernelRun0_A.sl.v590 c arg8 harg8 arg10 harg10 arg17 x6 x8
  | 6 => kernelRun0_A.sl.v603 c arg8 harg8 arg10 harg10 arg17 x6 x8
  | 7 => kernelRun0_A.sl.v616 c arg8 harg8 arg10 harg10 arg17 x6 x8
  | _ => kernelRun0_A.sl.v629 c arg8 harg8 arg10 harg10 arg17 x6 x8

/-- The stored score blocks of head group 1, as read. -/
def S1 : ℕ → Vec F S1x256x256 .f32
  | 0 => kernelRun0_A.sl.v517 c arg3 harg3 arg4 harg4 arg7 harg7 arg9 harg9 arg16 arg18 x1 x2 x5 x7
  | 1 => kernelRun0_A.sl.v530 c arg3 harg3 arg4 harg4 arg7 harg7 arg9 harg9 arg16 arg18 x1 x2 x5 x7
  | 2 => kernelRun0_A.sl.v543 c arg3 harg3 arg4 harg4 arg7 harg7 arg9 harg9 arg16 arg18 x1 x2 x5 x7
  | 3 => kernelRun0_A.sl.v556 c arg3 harg3 arg4 harg4 arg7 harg7 arg9 harg9 arg16 arg18 x1 x2 x5 x7
  | 4 => kernelRun0_A.sl.v569 c arg3 harg3 arg4 harg4 arg7 harg7 arg9 harg9 arg16 arg18 x1 x2 x5 x7
  | 5 => kernelRun0_A.sl.v582 c arg3 harg3 arg4 harg4 arg7 harg7 arg9 harg9 arg16 arg18 x1 x2 x5 x7
  | 6 => kernelRun0_A.sl.v595 c arg3 harg3 arg4 harg4 arg7 harg7 arg9 harg9 arg16 arg18 x1 x2 x5 x7
  | 7 => kernelRun0_A.sl.v608 c arg3 harg3 arg4 harg4 arg7 harg7 arg9 harg9 arg16 arg18 x1 x2 x5 x7
  | _ => kernelRun0_A.sl.v621 c arg3 harg3 arg4 harg4 arg7 harg7 arg9 harg9 arg16 arg18 x1 x2 x5 x7

theorem s1_0 : kernelRun0_A.sl.v517 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 0 := by
  unfold kernelRun0_A.sl.v517 kernelRun0_A.sl.HS2_18
  refine (Block.skip _ 1 2048 1 0 _ _ _ _ (by decide)).trans ?_
  refine (Block.skip _ 1 1792 1 0 _ _ _ _ (by decide)).trans ?_
  refine (Block.skip _ 1 1536 1 0 _ _ _ _ (by decide)).trans ?_
  refine (Block.skip _ 1 1280 1 0 _ _ _ _ (by decide)).trans ?_
  refine (Block.skip _ 1 1024 1 0 _ _ _ _ (by decide)).trans ?_
  refine (Block.skip _ 1 768 1 0 _ _ _ _ (by decide)).trans ?_
  refine (Block.skip _ 1 512 1 0 _ _ _ _ (by decide)).trans ?_
  refine (Block.skip _ 1 256 1 0 _ _ _ _ (by decide)).trans ?_
  exact (View.readCov_cons_toLoadRect _ _ _ _).trans rfl

theorem s1_1 : kernelRun0_A.sl.v530 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 1 := by
  unfold kernelRun0_A.sl.v530 kernelRun0_A.sl.HS2_18
  refine (Block.skip _ 1 2048 1 256 _ _ _ _ (by decide)).trans ?_
  refine (Block.skip _ 1 1792 1 256 _ _ _ _ (by decide)).trans ?_
  refine (Block.skip _ 1 1536 1 256 _ _ _ _ (by decide)).trans ?_
  refine (Block.skip _ 1 1280 1 256 _ _ _ _ (by decide)).trans ?_
  refine (Block.skip _ 1 1024 1 256 _ _ _ _ (by decide)).trans ?_
  refine (Block.skip _ 1 768 1 256 _ _ _ _ (by decide)).trans ?_
  refine (Block.skip _ 1 512 1 256 _ _ _ _ (by decide)).trans ?_
  exact (View.readCov_cons_toLoadRect _ _ _ _).trans rfl

theorem s1_2 : kernelRun0_A.sl.v543 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 2 := by
  unfold kernelRun0_A.sl.v543 kernelRun0_A.sl.HS2_18
  refine (Block.skip _ 1 2048 1 512 _ _ _ _ (by decide)).trans ?_
  refine (Block.skip _ 1 1792 1 512 _ _ _ _ (by decide)).trans ?_
  refine (Block.skip _ 1 1536 1 512 _ _ _ _ (by decide)).trans ?_
  refine (Block.skip _ 1 1280 1 512 _ _ _ _ (by decide)).trans ?_
  refine (Block.skip _ 1 1024 1 512 _ _ _ _ (by decide)).trans ?_
  refine (Block.skip _ 1 768 1 512 _ _ _ _ (by decide)).trans ?_
  exact (View.readCov_cons_toLoadRect _ _ _ _).trans rfl

theorem s1_3 : kernelRun0_A.sl.v556 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 3 := by
  unfold kernelRun0_A.sl.v556 kernelRun0_A.sl.HS2_18
  refine (Block.skip _ 1 2048 1 768 _ _ _ _ (by decide)).trans ?_
  refine (Block.skip _ 1 1792 1 768 _ _ _ _ (by decide)).trans ?_
  refine (Block.skip _ 1 1536 1 768 _ _ _ _ (by decide)).trans ?_
  refine (Block.skip _ 1 1280 1 768 _ _ _ _ (by decide)).trans ?_
  refine (Block.skip _ 1 1024 1 768 _ _ _ _ (by decide)).trans ?_
  exact (View.readCov_cons_toLoadRect _ _ _ _).trans rfl

theorem s1_4 : kernelRun0_A.sl.v569 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 4 := by
  unfold kernelRun0_A.sl.v569 kernelRun0_A.sl.HS2_18
  refine (Block.skip _ 1 2048 1 1024 _ _ _ _ (by decide)).trans ?_
  refine (Block.skip _ 1 1792 1 1024 _ _ _ _ (by decide)).trans ?_
  refine (Block.skip _ 1 1536 1 1024 _ _ _ _ (by decide)).trans ?_
  refine (Block.skip _ 1 1280 1 1024 _ _ _ _ (by decide)).trans ?_
  exact (View.readCov_cons_toLoadRect _ _ _ _).trans rfl

theorem s1_5 : kernelRun0_A.sl.v582 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 5 := by
  unfold kernelRun0_A.sl.v582 kernelRun0_A.sl.HS2_18
  refine (Block.skip _ 1 2048 1 1280 _ _ _ _ (by decide)).trans ?_
  refine (Block.skip _ 1 1792 1 1280 _ _ _ _ (by decide)).trans ?_
  refine (Block.skip _ 1 1536 1 1280 _ _ _ _ (by decide)).trans ?_
  exact (View.readCov_cons_toLoadRect _ _ _ _).trans rfl

theorem s1_6 : kernelRun0_A.sl.v595 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 6 := by
  unfold kernelRun0_A.sl.v595 kernelRun0_A.sl.HS2_18
  refine (Block.skip _ 1 2048 1 1536 _ _ _ _ (by decide)).trans ?_
  refine (Block.skip _ 1 1792 1 1536 _ _ _ _ (by decide)).trans ?_
  exact (View.readCov_cons_toLoadRect _ _ _ _).trans rfl

theorem s1_7 : kernelRun0_A.sl.v608 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 7 := by
  unfold kernelRun0_A.sl.v608 kernelRun0_A.sl.HS2_18
  refine (Block.skip _ 1 2048 1 1792 _ _ _ _ (by decide)).trans ?_
  exact (View.readCov_cons_toLoadRect _ _ _ _).trans rfl

theorem s1_8 : kernelRun0_A.sl.v621 c arg3 harg3 arg4 harg4 arg7 harg7 arg9 harg9 arg16 arg18 x1 x2 x5 x7 = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) 8 := by
  unfold kernelRun0_A.sl.v621 kernelRun0_A.sl.HS2_18
  exact (View.readCov_cons_toLoadRect _ _ _ _).trans rfl

theorem s1 : ∀ n : Fin 9, (S1 c arg3 harg3 arg4 harg4 arg7 harg7 arg9 harg9 arg16 arg18 x1 x2 x5 x7) n.val = pS (View.readAt (Elt F) arg4.view (Rect.unit (s := S32x1x8x128) ![0, 0, 0, 0] S32x1x8x128.size inb_S32x1x8x128_S32x1x8x128_0_0_0_0).toLoadRect (harg4.unread x2)) (K1 c arg7 harg7 arg9 harg9 arg16 x5 x7) n.val
  | 0 => (s1_0 c arg3 harg3 arg4 harg4 arg7 harg7 arg9 harg9 arg16 arg18 x1 x2 x5 x7)
  | 1 => (s1_1 c arg3 harg3 arg4 harg4 arg7 harg7 arg9 harg9 arg16 arg18 x1 x2 x5 x7)
  | 2 => (s1_2 c arg3 harg3 arg4 harg4 arg7 harg7 arg9 harg9 arg16 arg18 x1 x2 x5 x7)
  | 3 => (s1_3 c arg3 harg3 arg4 harg4 arg7 harg7 arg9 harg9 arg16 arg18 x1 x2 x5 x7)
  | 4 => (s1_4 c arg3 harg3 arg4 harg4 arg7 harg7 arg9 harg9 arg16 arg18 x1 x2 x5 x7)
  | 5 => (s1_5 c arg3 harg3 arg4 harg4 arg7 harg7 arg9 harg9 arg16 arg18 x1 x2 x5 x7)
  | 6 => (s1_6 c arg3 harg3 arg4 harg4 arg7 harg7 arg9 harg9 arg16 arg18 x1 x2 x5 x7)
  | 7 => (s1_7 c arg3 harg3 arg4 harg4 arg7 harg7 arg9 harg9 arg16 arg18 x1 x2 x5 x7)
  | 8 => (s1_8 c arg3 harg3 arg4 harg4 arg7 harg7 arg9 harg9 arg16 arg18 x1 x2 x5 x7)

theorem o1 : kernelRun0_A.sl.r_85 c arg3 harg3 arg4 harg4 arg5 harg5 arg6 harg6 arg7 harg7 arg8 harg8 arg9 harg9 arg10 harg10 arg16 arg17 arg18 x1 x2 x3 x4 x5 x6 x7 x8 = k0_pay166 (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) :=
  Payloads.prefO_1 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)

theorem m1 : kernelRun0_A.sl.r_86 c arg3 harg3 arg4 harg4 arg5 harg5 arg7 harg7 arg9 harg9 arg16 arg18 x1 x2 x3 x5 x7 = k0_pay168 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) :=
  Payloads.prefM_1 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)

theorem l1 : kernelRun0_A.sl.r_87 c arg3 harg3 arg4 harg4 arg5 harg5 arg7 harg7 arg9 harg9 arg16 arg18 x1 x2 x3 x5 x7 = k0_pay169 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) :=
  Payloads.prefL_1 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)

theorem p0_0 : k0_pay237 (kernelRun0_A.sl.r_93 c i arg2 harg2 arg11 harg11 arg13 harg13 x0 x9 x11 xt0) (kernelRun0_A.sl.r_95 c arg3 harg3 arg5 harg5 arg6 harg6 arg7 harg7 arg8 harg8 arg9 harg9 arg10 harg10 arg16 arg17 arg18 x1 x3 x4 x5 x6 x7 x8) (kernelRun0_A.sl.r_96 c arg3 harg3 arg5 harg5 arg7 harg7 arg9 harg9 arg16 arg18 x1 x3 x5 x7) (kernelRun0_A.sl.r_97 c arg3 harg3 arg5 harg5 arg7 harg7 arg9 harg9 arg16 arg18 x1 x3 x5 x7) (kernelRun0_A.sl.r_98 c i arg2 harg2 arg11 harg11 arg12 harg12 arg13 harg13 arg14 harg14 x0 x9 x10 x11 x12 xt0) (kernelRun0_A.sl.r_99 c i arg2 harg2 arg11 harg11 arg13 harg13 x0 x9 x11 xt0) = out 0 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) (tS (View.readAt (Elt F) arg2.view (Rect.unit (s := S512x128) ![0, 0] S64x128.size inb_S512x128_S64x128_0_0).toLoadRect (harg2.unread x0)) (View.readAt (Elt F) arg11.view (Rect.unit (s := S8x2x256x128) ![0, 0, 0, 0] S1x1x256x128.size inb_S8x2x256x128_S1x1x256x128_0_0_0_0).toLoadRect (harg11.unread x9)) (View.readAt (Elt F) arg11.view (Rect.unit (s := S8x2x256x128) ![0, 1, 0, 0] S1x1x256x128.size inb_S8x2x256x128_S1x1x256x128_0_1_0_0).toLoadRect (harg11.unread x9)) (kernelRun0_A.sl.r_91 c i xt0) (View.readAt (Elt F) arg13.view (Rect.unit (s := S8x2x256) ![0, 0, 0] S1x2x256.size inb_S8x2x256_S1x2x256_0_0_0).toLoadRect (harg13.unread x11))) (View.readAt (Elt F) arg12.view (Rect.unit (s := S8x2x256x128) ![0, 0, 0, 0] S1x1x256x128.size inb_S8x2x256x128_S1x1x256x128_0_0_0_0).toLoadRect (harg12.unread x10)) (View.readAt (Elt F) arg12.view (Rect.unit (s := S8x2x256x128) ![0, 1, 0, 0] S1x1x256x128.size inb_S8x2x256x128_S1x1x256x128_0_1_0_0).toLoadRect (harg12.unread x10)) (View.readAt (Elt F) arg14.view (Rect.unit (s := S8x2x256) ![0, 0, 0] S1x2x256.size inb_S8x2x256_S1x2x256_0_0_0).toLoadRect (harg14.unread x12)) :=
  Block.join (Payloads.tail_0_0 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (View.readAt (Elt F) arg2.view (Rect.unit (s := S512x128) ![0, 0] S64x128.size inb_S512x128_S64x128_0_0).toLoadRect (harg2.unread x0)) (View.readAt (Elt F) arg11.view (Rect.unit (s := S8x2x256x128) ![0, 0, 0, 0] S1x1x256x128.size inb_S8x2x256x128_S1x1x256x128_0_0_0_0).toLoadRect (harg11.unread x9)) (View.readAt (Elt F) arg11.view (Rect.unit (s := S8x2x256x128) ![0, 1, 0, 0] S1x1x256x128.size inb_S8x2x256x128_S1x1x256x128_0_1_0_0).toLoadRect (harg11.unread x9)) (View.readAt (Elt F) arg12.view (Rect.unit (s := S8x2x256x128) ![0, 0, 0, 0] S1x1x256x128.size inb_S8x2x256x128_S1x1x256x128_0_0_0_0).toLoadRect (harg12.unread x10)) (View.readAt (Elt F) arg12.view (Rect.unit (s := S8x2x256x128) ![0, 1, 0, 0] S1x1x256x128.size inb_S8x2x256x128_S1x1x256x128_0_1_0_0).toLoadRect (harg12.unread x10)) (kernelRun0_A.sl.r_91 c i xt0) (View.readAt (Elt F) arg13.view (Rect.unit (s := S8x2x256) ![0, 0, 0] S1x2x256.size inb_S8x2x256_S1x2x256_0_0_0).toLoadRect (harg13.unread x11)) (View.readAt (Elt F) arg14.view (Rect.unit (s := S8x2x256) ![0, 0, 0] S1x2x256.size inb_S8x2x256_S1x2x256_0_0_0).toLoadRect (harg14.unread x12))) (o0 c arg3 harg3 arg5 harg5 arg6 harg6 arg7 harg7 arg8 harg8 arg9 harg9 arg10 harg10 arg16 arg17 arg18 x1 x3 x4 x5 x6 x7 x8) (m0 c arg3 harg3 arg5 harg5 arg7 harg7 arg9 harg9 arg16 arg18 x1 x3 x5 x7) (l0 c arg3 harg3 arg5 harg5 arg7 harg7 arg9 harg9 arg16 arg18 x1 x3 x5 x7)

theorem p0_1 : k0_pay239 (kernelRun0_A.sl.r_100 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) = out 0 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) (tS (View.readAt (Elt F) arg2.view (Rect.unit (s := S512x128) ![0, 0] S64x128.size inb_S512x128_S64x128_0_0).toLoadRect (harg2.unread x0)) (View.readAt (Elt F) arg11.view (Rect.unit (s := S8x2x256x128) ![0, 0, 0, 0] S1x1x256x128.size inb_S8x2x256x128_S1x1x256x128_0_0_0_0).toLoadRect (harg11.unread x9)) (View.readAt (Elt F) arg11.view (Rect.unit (s := S8x2x256x128) ![0, 1, 0, 0] S1x1x256x128.size inb_S8x2x256x128_S1x1x256x128_0_1_0_0).toLoadRect (harg11.unread x9)) (kernelRun0_A.sl.r_91 c i xt0) (View.readAt (Elt F) arg13.view (Rect.unit (s := S8x2x256) ![0, 0, 0] S1x2x256.size inb_S8x2x256_S1x2x256_0_0_0).toLoadRect (harg13.unread x11))) (View.readAt (Elt F) arg12.view (Rect.unit (s := S8x2x256x128) ![0, 0, 0, 0] S1x1x256x128.size inb_S8x2x256x128_S1x1x256x128_0_0_0_0).toLoadRect (harg12.unread x10)) (View.readAt (Elt F) arg12.view (Rect.unit (s := S8x2x256x128) ![0, 1, 0, 0] S1x1x256x128.size inb_S8x2x256x128_S1x1x256x128_0_1_0_0).toLoadRect (harg12.unread x10)) (View.readAt (Elt F) arg14.view (Rect.unit (s := S8x2x256) ![0, 0, 0] S1x2x256.size inb_S8x2x256_S1x2x256_0_0_0).toLoadRect (harg14.unread x12)) :=
  Block.join (Payloads.tail_0_1 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (View.readAt (Elt F) arg2.view (Rect.unit (s := S512x128) ![0, 0] S64x128.size inb_S512x128_S64x128_0_0).toLoadRect (harg2.unread x0)) (View.readAt (Elt F) arg11.view (Rect.unit (s := S8x2x256x128) ![0, 0, 0, 0] S1x1x256x128.size inb_S8x2x256x128_S1x1x256x128_0_0_0_0).toLoadRect (harg11.unread x9)) (View.readAt (Elt F) arg11.view (Rect.unit (s := S8x2x256x128) ![0, 1, 0, 0] S1x1x256x128.size inb_S8x2x256x128_S1x1x256x128_0_1_0_0).toLoadRect (harg11.unread x9)) (View.readAt (Elt F) arg12.view (Rect.unit (s := S8x2x256x128) ![0, 0, 0, 0] S1x1x256x128.size inb_S8x2x256x128_S1x1x256x128_0_0_0_0).toLoadRect (harg12.unread x10)) (View.readAt (Elt F) arg12.view (Rect.unit (s := S8x2x256x128) ![0, 1, 0, 0] S1x1x256x128.size inb_S8x2x256x128_S1x1x256x128_0_1_0_0).toLoadRect (harg12.unread x10)) (kernelRun0_A.sl.r_91 c i xt0) (View.readAt (Elt F) arg13.view (Rect.unit (s := S8x2x256) ![0, 0, 0] S1x2x256.size inb_S8x2x256_S1x2x256_0_0_0).toLoadRect (harg13.unread x11)) (View.readAt (Elt F) arg14.view (Rect.unit (s := S8x2x256) ![0, 0, 0] S1x2x256.size inb_S8x2x256_S1x2x256_0_0_0).toLoadRect (harg14.unread x12))) (o1 c arg3 harg3 arg4 harg4 arg5 harg5 arg6 harg6 arg7 harg7 arg8 harg8 arg9 harg9 arg10 harg10 arg16 arg17 arg18 x1 x2 x3 x4 x5 x6 x7 x8) (m1 c arg3 harg3 arg4 harg4 arg5 harg5 arg7 harg7 arg9 harg9 arg16 arg18 x1 x2 x3 x5 x7) (l1 c arg3 harg3 arg4 harg4 arg5 harg5 arg7 harg7 arg9 harg9 arg16 arg18 x1 x2 x3 x5 x7)

theorem p1_0 : kernelRun0_A.sl.r_108 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0 = out 1 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) (tS (View.readAt (Elt F) arg2.view (Rect.unit (s := S512x128) ![64, 0] S64x128.size inb_S512x128_S64x128_64_0).toLoadRect (harg2.unread x0)) (View.readAt (Elt F) arg11.view (Rect.unit (s := S8x2x256x128) ![1, 0, 0, 0] S1x1x256x128.size inb_S8x2x256x128_S1x1x256x128_1_0_0_0).toLoadRect (harg11.unread x9)) (View.readAt (Elt F) arg11.view (Rect.unit (s := S8x2x256x128) ![1, 1, 0, 0] S1x1x256x128.size inb_S8x2x256x128_S1x1x256x128_1_1_0_0).toLoadRect (harg11.unread x9)) (kernelRun0_A.sl.r_102 c i xt0) (View.readAt (Elt F) arg13.view (Rect.unit (s := S8x2x256) ![1, 0, 0] S1x2x256.size inb_S8x2x256_S1x2x256_1_0_0).toLoadRect (harg13.unread x11))) (View.readAt (Elt F) arg12.view (Rect.unit (s := S8x2x256x128) ![1, 0, 0, 0] S1x1x256x128.size inb_S8x2x256x128_S1x1x256x128_1_0_0_0).toLoadRect (harg12.unread x10)) (View.readAt (Elt F) arg12.view (Rect.unit (s := S8x2x256x128) ![1, 1, 0, 0] S1x1x256x128.size inb_S8x2x256x128_S1x1x256x128_1_1_0_0).toLoadRect (harg12.unread x10)) (View.readAt (Elt F) arg14.view (Rect.unit (s := S8x2x256) ![1, 0, 0] S1x2x256.size inb_S8x2x256_S1x2x256_1_0_0).toLoadRect (harg14.unread x12)) :=
  Block.join (Payloads.tail_1_0 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (View.readAt (Elt F) arg2.view (Rect.unit (s := S512x128) ![64, 0] S64x128.size inb_S512x128_S64x128_64_0).toLoadRect (harg2.unread x0)) (View.readAt (Elt F) arg11.view (Rect.unit (s := S8x2x256x128) ![1, 0, 0, 0] S1x1x256x128.size inb_S8x2x256x128_S1x1x256x128_1_0_0_0).toLoadRect (harg11.unread x9)) (View.readAt (Elt F) arg11.view (Rect.unit (s := S8x2x256x128) ![1, 1, 0, 0] S1x1x256x128.size inb_S8x2x256x128_S1x1x256x128_1_1_0_0).toLoadRect (harg11.unread x9)) (View.readAt (Elt F) arg12.view (Rect.unit (s := S8x2x256x128) ![1, 0, 0, 0] S1x1x256x128.size inb_S8x2x256x128_S1x1x256x128_1_0_0_0).toLoadRect (harg12.unread x10)) (View.readAt (Elt F) arg12.view (Rect.unit (s := S8x2x256x128) ![1, 1, 0, 0] S1x1x256x128.size inb_S8x2x256x128_S1x1x256x128_1_1_0_0).toLoadRect (harg12.unread x10)) (kernelRun0_A.sl.r_102 c i xt0) (View.readAt (Elt F) arg13.view (Rect.unit (s := S8x2x256) ![1, 0, 0] S1x2x256.size inb_S8x2x256_S1x2x256_1_0_0).toLoadRect (harg13.unread x11)) (View.readAt (Elt F) arg14.view (Rect.unit (s := S8x2x256) ![1, 0, 0] S1x2x256.size inb_S8x2x256_S1x2x256_1_0_0).toLoadRect (harg14.unread x12))) (o0 c arg3 harg3 arg5 harg5 arg6 harg6 arg7 harg7 arg8 harg8 arg9 harg9 arg10 harg10 arg16 arg17 arg18 x1 x3 x4 x5 x6 x7 x8) (m0 c arg3 harg3 arg5 harg5 arg7 harg7 arg9 harg9 arg16 arg18 x1 x3 x5 x7) (l0 c arg3 harg3 arg5 harg5 arg7 harg7 arg9 harg9 arg16 arg18 x1 x3 x5 x7)

theorem p1_1 : k0_pay249 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (kernelRun0_A.sl.r_105 c i arg2 harg2 arg11 harg11 arg13 harg13 x0 x9 x11 xt0) (kernelRun0_A.sl.r_106 c i arg2 harg2 arg11 harg11 arg13 harg13 x0 x9 x11 xt0) (kernelRun0_A.sl.r_107 c i arg2 harg2 arg11 harg11 arg12 harg12 arg13 harg13 arg14 harg14 x0 x9 x10 x11 x12 xt0) = out 1 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) (tS (View.readAt (Elt F) arg2.view (Rect.unit (s := S512x128) ![64, 0] S64x128.size inb_S512x128_S64x128_64_0).toLoadRect (harg2.unread x0)) (View.readAt (Elt F) arg11.view (Rect.unit (s := S8x2x256x128) ![1, 0, 0, 0] S1x1x256x128.size inb_S8x2x256x128_S1x1x256x128_1_0_0_0).toLoadRect (harg11.unread x9)) (View.readAt (Elt F) arg11.view (Rect.unit (s := S8x2x256x128) ![1, 1, 0, 0] S1x1x256x128.size inb_S8x2x256x128_S1x1x256x128_1_1_0_0).toLoadRect (harg11.unread x9)) (kernelRun0_A.sl.r_102 c i xt0) (View.readAt (Elt F) arg13.view (Rect.unit (s := S8x2x256) ![1, 0, 0] S1x2x256.size inb_S8x2x256_S1x2x256_1_0_0).toLoadRect (harg13.unread x11))) (View.readAt (Elt F) arg12.view (Rect.unit (s := S8x2x256x128) ![1, 0, 0, 0] S1x1x256x128.size inb_S8x2x256x128_S1x1x256x128_1_0_0_0).toLoadRect (harg12.unread x10)) (View.readAt (Elt F) arg12.view (Rect.unit (s := S8x2x256x128) ![1, 1, 0, 0] S1x1x256x128.size inb_S8x2x256x128_S1x1x256x128_1_1_0_0).toLoadRect (harg12.unread x10)) (View.readAt (Elt F) arg14.view (Rect.unit (s := S8x2x256) ![1, 0, 0] S1x2x256.size inb_S8x2x256_S1x2x256_1_0_0).toLoadRect (harg14.unread x12)) :=
  Block.join (Payloads.tail_1_1 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (View.readAt (Elt F) arg2.view (Rect.unit (s := S512x128) ![64, 0] S64x128.size inb_S512x128_S64x128_64_0).toLoadRect (harg2.unread x0)) (View.readAt (Elt F) arg11.view (Rect.unit (s := S8x2x256x128) ![1, 0, 0, 0] S1x1x256x128.size inb_S8x2x256x128_S1x1x256x128_1_0_0_0).toLoadRect (harg11.unread x9)) (View.readAt (Elt F) arg11.view (Rect.unit (s := S8x2x256x128) ![1, 1, 0, 0] S1x1x256x128.size inb_S8x2x256x128_S1x1x256x128_1_1_0_0).toLoadRect (harg11.unread x9)) (View.readAt (Elt F) arg12.view (Rect.unit (s := S8x2x256x128) ![1, 0, 0, 0] S1x1x256x128.size inb_S8x2x256x128_S1x1x256x128_1_0_0_0).toLoadRect (harg12.unread x10)) (View.readAt (Elt F) arg12.view (Rect.unit (s := S8x2x256x128) ![1, 1, 0, 0] S1x1x256x128.size inb_S8x2x256x128_S1x1x256x128_1_1_0_0).toLoadRect (harg12.unread x10)) (kernelRun0_A.sl.r_102 c i xt0) (View.readAt (Elt F) arg13.view (Rect.unit (s := S8x2x256) ![1, 0, 0] S1x2x256.size inb_S8x2x256_S1x2x256_1_0_0).toLoadRect (harg13.unread x11)) (View.readAt (Elt F) arg14.view (Rect.unit (s := S8x2x256) ![1, 0, 0] S1x2x256.size inb_S8x2x256_S1x2x256_1_0_0).toLoadRect (harg14.unread x12))) (o1 c arg3 harg3 arg4 harg4 arg5 harg5 arg6 harg6 arg7 harg7 arg8 harg8 arg9 harg9 arg10 harg10 arg16 arg17 arg18 x1 x2 x3 x4 x5 x6 x7 x8) (m1 c arg3 harg3 arg4 harg4 arg5 harg5 arg7 harg7 arg9 harg9 arg16 arg18 x1 x2 x3 x5 x7) (l1 c arg3 harg3 arg4 harg4 arg5 harg5 arg7 harg7 arg9 harg9 arg16 arg18 x1 x2 x3 x5 x7)

theorem p2_0 : k0_pay262 (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (kernelRun0_A.sl.r_114 c i arg2 harg2 arg11 harg11 arg13 harg13 x0 x9 x11 xt0) (kernelRun0_A.sl.r_115 c i arg2 harg2 arg11 harg11 arg13 harg13 x0 x9 x11 xt0) (kernelRun0_A.sl.r_116 c i arg2 harg2 arg11 harg11 arg12 harg12 arg13 harg13 arg14 harg14 x0 x9 x10 x11 x12 xt0) (kernelRun0_A.sl.r_117 c arg3 harg3 arg5 harg5 arg6 harg6 arg7 harg7 arg8 harg8 arg9 harg9 arg10 harg10 arg16 arg17 arg18 x1 x3 x4 x5 x6 x7 x8) = out 2 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) (tS (View.readAt (Elt F) arg2.view (Rect.unit (s := S512x128) ![128, 0] S64x128.size inb_S512x128_S64x128_128_0).toLoadRect (harg2.unread x0)) (View.readAt (Elt F) arg11.view (Rect.unit (s := S8x2x256x128) ![2, 0, 0, 0] S1x1x256x128.size inb_S8x2x256x128_S1x1x256x128_2_0_0_0).toLoadRect (harg11.unread x9)) (View.readAt (Elt F) arg11.view (Rect.unit (s := S8x2x256x128) ![2, 1, 0, 0] S1x1x256x128.size inb_S8x2x256x128_S1x1x256x128_2_1_0_0).toLoadRect (harg11.unread x9)) (kernelRun0_A.sl.r_113 c i xt0) (View.readAt (Elt F) arg13.view (Rect.unit (s := S8x2x256) ![2, 0, 0] S1x2x256.size inb_S8x2x256_S1x2x256_2_0_0).toLoadRect (harg13.unread x11))) (View.readAt (Elt F) arg12.view (Rect.unit (s := S8x2x256x128) ![2, 0, 0, 0] S1x1x256x128.size inb_S8x2x256x128_S1x1x256x128_2_0_0_0).toLoadRect (harg12.unread x10)) (View.readAt (Elt F) arg12.view (Rect.unit (s := S8x2x256x128) ![2, 1, 0, 0] S1x1x256x128.size inb_S8x2x256x128_S1x1x256x128_2_1_0_0).toLoadRect (harg12.unread x10)) (View.readAt (Elt F) arg14.view (Rect.unit (s := S8x2x256) ![2, 0, 0] S1x2x256.size inb_S8x2x256_S1x2x256_2_0_0).toLoadRect (harg14.unread x12)) :=
  Block.join (Payloads.tail_2_0 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (View.readAt (Elt F) arg2.view (Rect.unit (s := S512x128) ![128, 0] S64x128.size inb_S512x128_S64x128_128_0).toLoadRect (harg2.unread x0)) (View.readAt (Elt F) arg11.view (Rect.unit (s := S8x2x256x128) ![2, 0, 0, 0] S1x1x256x128.size inb_S8x2x256x128_S1x1x256x128_2_0_0_0).toLoadRect (harg11.unread x9)) (View.readAt (Elt F) arg11.view (Rect.unit (s := S8x2x256x128) ![2, 1, 0, 0] S1x1x256x128.size inb_S8x2x256x128_S1x1x256x128_2_1_0_0).toLoadRect (harg11.unread x9)) (View.readAt (Elt F) arg12.view (Rect.unit (s := S8x2x256x128) ![2, 0, 0, 0] S1x1x256x128.size inb_S8x2x256x128_S1x1x256x128_2_0_0_0).toLoadRect (harg12.unread x10)) (View.readAt (Elt F) arg12.view (Rect.unit (s := S8x2x256x128) ![2, 1, 0, 0] S1x1x256x128.size inb_S8x2x256x128_S1x1x256x128_2_1_0_0).toLoadRect (harg12.unread x10)) (kernelRun0_A.sl.r_113 c i xt0) (View.readAt (Elt F) arg13.view (Rect.unit (s := S8x2x256) ![2, 0, 0] S1x2x256.size inb_S8x2x256_S1x2x256_2_0_0).toLoadRect (harg13.unread x11)) (View.readAt (Elt F) arg14.view (Rect.unit (s := S8x2x256) ![2, 0, 0] S1x2x256.size inb_S8x2x256_S1x2x256_2_0_0).toLoadRect (harg14.unread x12))) (o0 c arg3 harg3 arg5 harg5 arg6 harg6 arg7 harg7 arg8 harg8 arg9 harg9 arg10 harg10 arg16 arg17 arg18 x1 x3 x4 x5 x6 x7 x8) (m0 c arg3 harg3 arg5 harg5 arg7 harg7 arg9 harg9 arg16 arg18 x1 x3 x5 x7) (l0 c arg3 harg3 arg5 harg5 arg7 harg7 arg9 harg9 arg16 arg18 x1 x3 x5 x7)

theorem p2_1 : k0_pay270 (kernelRun0_A.sl.r_118 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) (kernelRun0_A.sl.r_119 c i arg2 harg2 arg3 harg3 arg4 harg4 arg5 harg5 arg7 harg7 arg9 harg9 arg11 harg11 arg13 harg13 arg16 arg18 x0 x1 x2 x3 x5 x7 x9 x11 xt0) = out 2 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) (tS (View.readAt (Elt F) arg2.view (Rect.unit (s := S512x128) ![128, 0] S64x128.size inb_S512x128_S64x128_128_0).toLoadRect (harg2.unread x0)) (View.readAt (Elt F) arg11.view (Rect.unit (s := S8x2x256x128) ![2, 0, 0, 0] S1x1x256x128.size inb_S8x2x256x128_S1x1x256x128_2_0_0_0).toLoadRect (harg11.unread x9)) (View.readAt (Elt F) arg11.view (Rect.unit (s := S8x2x256x128) ![2, 1, 0, 0] S1x1x256x128.size inb_S8x2x256x128_S1x1x256x128_2_1_0_0).toLoadRect (harg11.unread x9)) (kernelRun0_A.sl.r_113 c i xt0) (View.readAt (Elt F) arg13.view (Rect.unit (s := S8x2x256) ![2, 0, 0] S1x2x256.size inb_S8x2x256_S1x2x256_2_0_0).toLoadRect (harg13.unread x11))) (View.readAt (Elt F) arg12.view (Rect.unit (s := S8x2x256x128) ![2, 0, 0, 0] S1x1x256x128.size inb_S8x2x256x128_S1x1x256x128_2_0_0_0).toLoadRect (harg12.unread x10)) (View.readAt (Elt F) arg12.view (Rect.unit (s := S8x2x256x128) ![2, 1, 0, 0] S1x1x256x128.size inb_S8x2x256x128_S1x1x256x128_2_1_0_0).toLoadRect (harg12.unread x10)) (View.readAt (Elt F) arg14.view (Rect.unit (s := S8x2x256) ![2, 0, 0] S1x2x256.size inb_S8x2x256_S1x2x256_2_0_0).toLoadRect (harg14.unread x12)) :=
  Block.join (Payloads.tail_2_1 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (View.readAt (Elt F) arg2.view (Rect.unit (s := S512x128) ![128, 0] S64x128.size inb_S512x128_S64x128_128_0).toLoadRect (harg2.unread x0)) (View.readAt (Elt F) arg11.view (Rect.unit (s := S8x2x256x128) ![2, 0, 0, 0] S1x1x256x128.size inb_S8x2x256x128_S1x1x256x128_2_0_0_0).toLoadRect (harg11.unread x9)) (View.readAt (Elt F) arg11.view (Rect.unit (s := S8x2x256x128) ![2, 1, 0, 0] S1x1x256x128.size inb_S8x2x256x128_S1x1x256x128_2_1_0_0).toLoadRect (harg11.unread x9)) (View.readAt (Elt F) arg12.view (Rect.unit (s := S8x2x256x128) ![2, 0, 0, 0] S1x1x256x128.size inb_S8x2x256x128_S1x1x256x128_2_0_0_0).toLoadRect (harg12.unread x10)) (View.readAt (Elt F) arg12.view (Rect.unit (s := S8x2x256x128) ![2, 1, 0, 0] S1x1x256x128.size inb_S8x2x256x128_S1x1x256x128_2_1_0_0).toLoadRect (harg12.unread x10)) (kernelRun0_A.sl.r_113 c i xt0) (View.readAt (Elt F) arg13.view (Rect.unit (s := S8x2x256) ![2, 0, 0] S1x2x256.size inb_S8x2x256_S1x2x256_2_0_0).toLoadRect (harg13.unread x11)) (View.readAt (Elt F) arg14.view (Rect.unit (s := S8x2x256) ![2, 0, 0] S1x2x256.size inb_S8x2x256_S1x2x256_2_0_0).toLoadRect (harg14.unread x12))) (o1 c arg3 harg3 arg4 harg4 arg5 harg5 arg6 harg6 arg7 harg7 arg8 harg8 arg9 harg9 arg10 harg10 arg16 arg17 arg18 x1 x2 x3 x4 x5 x6 x7 x8) (m1 c arg3 harg3 arg4 harg4 arg5 harg5 arg7 harg7 arg9 harg9 arg16 arg18 x1 x2 x3 x5 x7) (l1 c arg3 harg3 arg4 harg4 arg5 harg5 arg7 harg7 arg9 harg9 arg16 arg18 x1 x2 x3 x5 x7)

theorem p3_0 : k0_pay286 (kernelRun0_A.sl.r_129 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) = out 3 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) (tS (View.readAt (Elt F) arg2.view (Rect.unit (s := S512x128) ![192, 0] S64x128.size inb_S512x128_S64x128_192_0).toLoadRect (harg2.unread x0)) (View.readAt (Elt F) arg11.view (Rect.unit (s := S8x2x256x128) ![3, 0, 0, 0] S1x1x256x128.size inb_S8x2x256x128_S1x1x256x128_3_0_0_0).toLoadRect (harg11.unread x9)) (View.readAt (Elt F) arg11.view (Rect.unit (s := S8x2x256x128) ![3, 1, 0, 0] S1x1x256x128.size inb_S8x2x256x128_S1x1x256x128_3_1_0_0).toLoadRect (harg11.unread x9)) (kernelRun0_A.sl.r_121 c i xt0) (View.readAt (Elt F) arg13.view (Rect.unit (s := S8x2x256) ![3, 0, 0] S1x2x256.size inb_S8x2x256_S1x2x256_3_0_0).toLoadRect (harg13.unread x11))) (View.readAt (Elt F) arg12.view (Rect.unit (s := S8x2x256x128) ![3, 0, 0, 0] S1x1x256x128.size inb_S8x2x256x128_S1x1x256x128_3_0_0_0).toLoadRect (harg12.unread x10)) (View.readAt (Elt F) arg12.view (Rect.unit (s := S8x2x256x128) ![3, 1, 0, 0] S1x1x256x128.size inb_S8x2x256x128_S1x1x256x128_3_1_0_0).toLoadRect (harg12.unread x10)) (View.readAt (Elt F) arg14.view (Rect.unit (s := S8x2x256) ![3, 0, 0] S1x2x256.size inb_S8x2x256_S1x2x256_3_0_0).toLoadRect (harg14.unread x12)) :=
  Block.join (Payloads.tail_3_0 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (View.readAt (Elt F) arg2.view (Rect.unit (s := S512x128) ![192, 0] S64x128.size inb_S512x128_S64x128_192_0).toLoadRect (harg2.unread x0)) (View.readAt (Elt F) arg11.view (Rect.unit (s := S8x2x256x128) ![3, 0, 0, 0] S1x1x256x128.size inb_S8x2x256x128_S1x1x256x128_3_0_0_0).toLoadRect (harg11.unread x9)) (View.readAt (Elt F) arg11.view (Rect.unit (s := S8x2x256x128) ![3, 1, 0, 0] S1x1x256x128.size inb_S8x2x256x128_S1x1x256x128_3_1_0_0).toLoadRect (harg11.unread x9)) (View.readAt (Elt F) arg12.view (Rect.unit (s := S8x2x256x128) ![3, 0, 0, 0] S1x1x256x128.size inb_S8x2x256x128_S1x1x256x128_3_0_0_0).toLoadRect (harg12.unread x10)) (View.readAt (Elt F) arg12.view (Rect.unit (s := S8x2x256x128) ![3, 1, 0, 0] S1x1x256x128.size inb_S8x2x256x128_S1x1x256x128_3_1_0_0).toLoadRect (harg12.unread x10)) (kernelRun0_A.sl.r_121 c i xt0) (View.readAt (Elt F) arg13.view (Rect.unit (s := S8x2x256) ![3, 0, 0] S1x2x256.size inb_S8x2x256_S1x2x256_3_0_0).toLoadRect (harg13.unread x11)) (View.readAt (Elt F) arg14.view (Rect.unit (s := S8x2x256) ![3, 0, 0] S1x2x256.size inb_S8x2x256_S1x2x256_3_0_0).toLoadRect (harg14.unread x12))) (o0 c arg3 harg3 arg5 harg5 arg6 harg6 arg7 harg7 arg8 harg8 arg9 harg9 arg10 harg10 arg16 arg17 arg18 x1 x3 x4 x5 x6 x7 x8) (m0 c arg3 harg3 arg5 harg5 arg7 harg7 arg9 harg9 arg16 arg18 x1 x3 x5 x7) (l0 c arg3 harg3 arg5 harg5 arg7 harg7 arg9 harg9 arg16 arg18 x1 x3 x5 x7)

theorem p3_1 : k0_pay287 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (kernelRun0_A.sl.r_126 c i arg2 harg2 arg11 harg11 arg13 harg13 x0 x9 x11 xt0) (kernelRun0_A.sl.r_127 c i arg2 harg2 arg11 harg11 arg13 harg13 x0 x9 x11 xt0) (kernelRun0_A.sl.r_128 c i arg2 harg2 arg11 harg11 arg12 harg12 arg13 harg13 arg14 harg14 x0 x9 x10 x11 x12 xt0) = out 3 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) (tS (View.readAt (Elt F) arg2.view (Rect.unit (s := S512x128) ![192, 0] S64x128.size inb_S512x128_S64x128_192_0).toLoadRect (harg2.unread x0)) (View.readAt (Elt F) arg11.view (Rect.unit (s := S8x2x256x128) ![3, 0, 0, 0] S1x1x256x128.size inb_S8x2x256x128_S1x1x256x128_3_0_0_0).toLoadRect (harg11.unread x9)) (View.readAt (Elt F) arg11.view (Rect.unit (s := S8x2x256x128) ![3, 1, 0, 0] S1x1x256x128.size inb_S8x2x256x128_S1x1x256x128_3_1_0_0).toLoadRect (harg11.unread x9)) (kernelRun0_A.sl.r_121 c i xt0) (View.readAt (Elt F) arg13.view (Rect.unit (s := S8x2x256) ![3, 0, 0] S1x2x256.size inb_S8x2x256_S1x2x256_3_0_0).toLoadRect (harg13.unread x11))) (View.readAt (Elt F) arg12.view (Rect.unit (s := S8x2x256x128) ![3, 0, 0, 0] S1x1x256x128.size inb_S8x2x256x128_S1x1x256x128_3_0_0_0).toLoadRect (harg12.unread x10)) (View.readAt (Elt F) arg12.view (Rect.unit (s := S8x2x256x128) ![3, 1, 0, 0] S1x1x256x128.size inb_S8x2x256x128_S1x1x256x128_3_1_0_0).toLoadRect (harg12.unread x10)) (View.readAt (Elt F) arg14.view (Rect.unit (s := S8x2x256) ![3, 0, 0] S1x2x256.size inb_S8x2x256_S1x2x256_3_0_0).toLoadRect (harg14.unread x12)) :=
  Block.join (Payloads.tail_3_1 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (View.readAt (Elt F) arg2.view (Rect.unit (s := S512x128) ![192, 0] S64x128.size inb_S512x128_S64x128_192_0).toLoadRect (harg2.unread x0)) (View.readAt (Elt F) arg11.view (Rect.unit (s := S8x2x256x128) ![3, 0, 0, 0] S1x1x256x128.size inb_S8x2x256x128_S1x1x256x128_3_0_0_0).toLoadRect (harg11.unread x9)) (View.readAt (Elt F) arg11.view (Rect.unit (s := S8x2x256x128) ![3, 1, 0, 0] S1x1x256x128.size inb_S8x2x256x128_S1x1x256x128_3_1_0_0).toLoadRect (harg11.unread x9)) (View.readAt (Elt F) arg12.view (Rect.unit (s := S8x2x256x128) ![3, 0, 0, 0] S1x1x256x128.size inb_S8x2x256x128_S1x1x256x128_3_0_0_0).toLoadRect (harg12.unread x10)) (View.readAt (Elt F) arg12.view (Rect.unit (s := S8x2x256x128) ![3, 1, 0, 0] S1x1x256x128.size inb_S8x2x256x128_S1x1x256x128_3_1_0_0).toLoadRect (harg12.unread x10)) (kernelRun0_A.sl.r_121 c i xt0) (View.readAt (Elt F) arg13.view (Rect.unit (s := S8x2x256) ![3, 0, 0] S1x2x256.size inb_S8x2x256_S1x2x256_3_0_0).toLoadRect (harg13.unread x11)) (View.readAt (Elt F) arg14.view (Rect.unit (s := S8x2x256) ![3, 0, 0] S1x2x256.size inb_S8x2x256_S1x2x256_3_0_0).toLoadRect (harg14.unread x12))) (o1 c arg3 harg3 arg4 harg4 arg5 harg5 arg6 harg6 arg7 harg7 arg8 harg8 arg9 harg9 arg10 harg10 arg16 arg17 arg18 x1 x2 x3 x4 x5 x6 x7 x8) (m1 c arg3 harg3 arg4 harg4 arg5 harg5 arg7 harg7 arg9 harg9 arg16 arg18 x1 x2 x3 x5 x7) (l1 c arg3 harg3 arg4 harg4 arg5 harg5 arg7 harg7 arg9 harg9 arg16 arg18 x1 x2 x3 x5 x7)

theorem p4_0 : k0_pay302 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (kernelRun0_A.sl.r_135 c arg12 harg12 x10) (kernelRun0_A.sl.r_136 c i arg2 harg2 arg11 harg11 arg13 harg13 x0 x9 x11 xt0) (kernelRun0_A.sl.r_137 c i arg2 harg2 arg11 harg11 arg13 harg13 x0 x9 x11 xt0) (kernelRun0_A.sl.r_138 c i arg2 harg2 arg11 harg11 arg13 harg13 x0 x9 x11 xt0) (kernelRun0_A.sl.r_139 c arg14 harg14 x12) = out 4 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) (tS (View.readAt (Elt F) arg2.view (Rect.unit (s := S512x128) ![256, 0] S64x128.size inb_S512x128_S64x128_256_0).toLoadRect (harg2.unread x0)) (View.readAt (Elt F) arg11.view (Rect.unit (s := S8x2x256x128) ![4, 0, 0, 0] S1x1x256x128.size inb_S8x2x256x128_S1x1x256x128_4_0_0_0).toLoadRect (harg11.unread x9)) (View.readAt (Elt F) arg11.view (Rect.unit (s := S8x2x256x128) ![4, 1, 0, 0] S1x1x256x128.size inb_S8x2x256x128_S1x1x256x128_4_1_0_0).toLoadRect (harg11.unread x9)) (kernelRun0_A.sl.r_134 c i xt0) (View.readAt (Elt F) arg13.view (Rect.unit (s := S8x2x256) ![4, 0, 0] S1x2x256.size inb_S8x2x256_S1x2x256_4_0_0).toLoadRect (harg13.unread x11))) (View.readAt (Elt F) arg12.view (Rect.unit (s := S8x2x256x128) ![4, 0, 0, 0] S1x1x256x128.size inb_S8x2x256x128_S1x1x256x128_4_0_0_0).toLoadRect (harg12.unread x10)) (View.readAt (Elt F) arg12.view (Rect.unit (s := S8x2x256x128) ![4, 1, 0, 0] S1x1x256x128.size inb_S8x2x256x128_S1x1x256x128_4_1_0_0).toLoadRect (harg12.unread x10)) (View.readAt (Elt F) arg14.view (Rect.unit (s := S8x2x256) ![4, 0, 0] S1x2x256.size inb_S8x2x256_S1x2x256_4_0_0).toLoadRect (harg14.unread x12)) :=
  Block.join (Payloads.tail_4_0 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (View.readAt (Elt F) arg2.view (Rect.unit (s := S512x128) ![256, 0] S64x128.size inb_S512x128_S64x128_256_0).toLoadRect (harg2.unread x0)) (View.readAt (Elt F) arg11.view (Rect.unit (s := S8x2x256x128) ![4, 0, 0, 0] S1x1x256x128.size inb_S8x2x256x128_S1x1x256x128_4_0_0_0).toLoadRect (harg11.unread x9)) (View.readAt (Elt F) arg11.view (Rect.unit (s := S8x2x256x128) ![4, 1, 0, 0] S1x1x256x128.size inb_S8x2x256x128_S1x1x256x128_4_1_0_0).toLoadRect (harg11.unread x9)) (View.readAt (Elt F) arg12.view (Rect.unit (s := S8x2x256x128) ![4, 0, 0, 0] S1x1x256x128.size inb_S8x2x256x128_S1x1x256x128_4_0_0_0).toLoadRect (harg12.unread x10)) (View.readAt (Elt F) arg12.view (Rect.unit (s := S8x2x256x128) ![4, 1, 0, 0] S1x1x256x128.size inb_S8x2x256x128_S1x1x256x128_4_1_0_0).toLoadRect (harg12.unread x10)) (kernelRun0_A.sl.r_134 c i xt0) (View.readAt (Elt F) arg13.view (Rect.unit (s := S8x2x256) ![4, 0, 0] S1x2x256.size inb_S8x2x256_S1x2x256_4_0_0).toLoadRect (harg13.unread x11)) (View.readAt (Elt F) arg14.view (Rect.unit (s := S8x2x256) ![4, 0, 0] S1x2x256.size inb_S8x2x256_S1x2x256_4_0_0).toLoadRect (harg14.unread x12))) (o0 c arg3 harg3 arg5 harg5 arg6 harg6 arg7 harg7 arg8 harg8 arg9 harg9 arg10 harg10 arg16 arg17 arg18 x1 x3 x4 x5 x6 x7 x8) (m0 c arg3 harg3 arg5 harg5 arg7 harg7 arg9 harg9 arg16 arg18 x1 x3 x5 x7) (l0 c arg3 harg3 arg5 harg5 arg7 harg7 arg9 harg9 arg16 arg18 x1 x3 x5 x7)

theorem p4_1 : k0_pay312 (kernelRun0_A.sl.r_140 c arg3 harg3 arg4 harg4 arg5 harg5 arg6 harg6 arg7 harg7 arg8 harg8 arg9 harg9 arg10 harg10 arg16 arg17 arg18 x1 x2 x3 x4 x5 x6 x7 x8) (kernelRun0_A.sl.r_141 c arg3 harg3 arg4 harg4 arg5 harg5 arg7 harg7 arg9 harg9 arg16 arg18 x1 x2 x3 x5 x7) (kernelRun0_A.sl.r_142 c i arg2 harg2 arg11 harg11 arg12 harg12 arg13 harg13 arg14 harg14 x0 x9 x10 x11 x12 xt0) (kernelRun0_A.sl.r_143 c i arg2 harg2 arg11 harg11 arg13 harg13 x0 x9 x11 xt0) (kernelRun0_A.sl.r_144 c i arg2 harg2 arg3 harg3 arg4 harg4 arg5 harg5 arg7 harg7 arg9 harg9 arg11 harg11 arg13 harg13 arg16 arg18 x0 x1 x2 x3 x5 x7 x9 x11 xt0) (kernelRun0_A.sl.r_145 c i arg2 harg2 arg3 harg3 arg4 harg4 arg5 harg5 arg7 harg7 arg9 harg9 arg11 harg11 arg13 harg13 arg16 arg18 x0 x1 x2 x3 x5 x7 x9 x11 xt0) = out 4 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) (tS (View.readAt (Elt F) arg2.view (Rect.unit (s := S512x128) ![256, 0] S64x128.size inb_S512x128_S64x128_256_0).toLoadRect (harg2.unread x0)) (View.readAt (Elt F) arg11.view (Rect.unit (s := S8x2x256x128) ![4, 0, 0, 0] S1x1x256x128.size inb_S8x2x256x128_S1x1x256x128_4_0_0_0).toLoadRect (harg11.unread x9)) (View.readAt (Elt F) arg11.view (Rect.unit (s := S8x2x256x128) ![4, 1, 0, 0] S1x1x256x128.size inb_S8x2x256x128_S1x1x256x128_4_1_0_0).toLoadRect (harg11.unread x9)) (kernelRun0_A.sl.r_134 c i xt0) (View.readAt (Elt F) arg13.view (Rect.unit (s := S8x2x256) ![4, 0, 0] S1x2x256.size inb_S8x2x256_S1x2x256_4_0_0).toLoadRect (harg13.unread x11))) (View.readAt (Elt F) arg12.view (Rect.unit (s := S8x2x256x128) ![4, 0, 0, 0] S1x1x256x128.size inb_S8x2x256x128_S1x1x256x128_4_0_0_0).toLoadRect (harg12.unread x10)) (View.readAt (Elt F) arg12.view (Rect.unit (s := S8x2x256x128) ![4, 1, 0, 0] S1x1x256x128.size inb_S8x2x256x128_S1x1x256x128_4_1_0_0).toLoadRect (harg12.unread x10)) (View.readAt (Elt F) arg14.view (Rect.unit (s := S8x2x256) ![4, 0, 0] S1x2x256.size inb_S8x2x256_S1x2x256_4_0_0).toLoadRect (harg14.unread x12)) :=
  Block.join (Payloads.tail_4_1 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (View.readAt (Elt F) arg2.view (Rect.unit (s := S512x128) ![256, 0] S64x128.size inb_S512x128_S64x128_256_0).toLoadRect (harg2.unread x0)) (View.readAt (Elt F) arg11.view (Rect.unit (s := S8x2x256x128) ![4, 0, 0, 0] S1x1x256x128.size inb_S8x2x256x128_S1x1x256x128_4_0_0_0).toLoadRect (harg11.unread x9)) (View.readAt (Elt F) arg11.view (Rect.unit (s := S8x2x256x128) ![4, 1, 0, 0] S1x1x256x128.size inb_S8x2x256x128_S1x1x256x128_4_1_0_0).toLoadRect (harg11.unread x9)) (View.readAt (Elt F) arg12.view (Rect.unit (s := S8x2x256x128) ![4, 0, 0, 0] S1x1x256x128.size inb_S8x2x256x128_S1x1x256x128_4_0_0_0).toLoadRect (harg12.unread x10)) (View.readAt (Elt F) arg12.view (Rect.unit (s := S8x2x256x128) ![4, 1, 0, 0] S1x1x256x128.size inb_S8x2x256x128_S1x1x256x128_4_1_0_0).toLoadRect (harg12.unread x10)) (kernelRun0_A.sl.r_134 c i xt0) (View.readAt (Elt F) arg13.view (Rect.unit (s := S8x2x256) ![4, 0, 0] S1x2x256.size inb_S8x2x256_S1x2x256_4_0_0).toLoadRect (harg13.unread x11)) (View.readAt (Elt F) arg14.view (Rect.unit (s := S8x2x256) ![4, 0, 0] S1x2x256.size inb_S8x2x256_S1x2x256_4_0_0).toLoadRect (harg14.unread x12))) (o1 c arg3 harg3 arg4 harg4 arg5 harg5 arg6 harg6 arg7 harg7 arg8 harg8 arg9 harg9 arg10 harg10 arg16 arg17 arg18 x1 x2 x3 x4 x5 x6 x7 x8) (m1 c arg3 harg3 arg4 harg4 arg5 harg5 arg7 harg7 arg9 harg9 arg16 arg18 x1 x2 x3 x5 x7) (l1 c arg3 harg3 arg4 harg4 arg5 harg5 arg7 harg7 arg9 harg9 arg16 arg18 x1 x2 x3 x5 x7)

theorem p5_0 : k0_pay332 (kernelRun0_A.sl.r_153 c arg3 harg3 arg5 harg5 arg7 harg7 arg9 harg9 arg16 arg18 x1 x3 x5 x7) (kernelRun0_A.sl.r_154 c i arg2 harg2 arg11 harg11 arg12 harg12 arg13 harg13 arg14 harg14 x0 x9 x10 x11 x12 xt0) (kernelRun0_A.sl.r_155 c i arg2 harg2 arg11 harg11 arg13 harg13 x0 x9 x11 xt0) (kernelRun0_A.sl.r_156 c i arg2 harg2 arg3 harg3 arg5 harg5 arg7 harg7 arg9 harg9 arg11 harg11 arg13 harg13 arg16 arg18 x0 x1 x3 x5 x7 x9 x11 xt0) (kernelRun0_A.sl.r_157 c i arg2 harg2 arg3 harg3 arg5 harg5 arg7 harg7 arg9 harg9 arg11 harg11 arg13 harg13 arg16 arg18 x0 x1 x3 x5 x7 x9 x11 xt0) (kernelRun0_A.sl.r_158 c i arg2 harg2 arg3 harg3 arg5 harg5 arg6 harg6 arg7 harg7 arg8 harg8 arg9 harg9 arg10 harg10 arg11 harg11 arg13 harg13 arg16 arg17 arg18 x0 x1 x3 x4 x5 x6 x7 x8 x9 x11 xt0) = out 5 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) (tS (View.readAt (Elt F) arg2.view (Rect.unit (s := S512x128) ![320, 0] S64x128.size inb_S512x128_S64x128_320_0).toLoadRect (harg2.unread x0)) (View.readAt (Elt F) arg11.view (Rect.unit (s := S8x2x256x128) ![5, 0, 0, 0] S1x1x256x128.size inb_S8x2x256x128_S1x1x256x128_5_0_0_0).toLoadRect (harg11.unread x9)) (View.readAt (Elt F) arg11.view (Rect.unit (s := S8x2x256x128) ![5, 1, 0, 0] S1x1x256x128.size inb_S8x2x256x128_S1x1x256x128_5_1_0_0).toLoadRect (harg11.unread x9)) (kernelRun0_A.sl.r_147 c i xt0) (View.readAt (Elt F) arg13.view (Rect.unit (s := S8x2x256) ![5, 0, 0] S1x2x256.size inb_S8x2x256_S1x2x256_5_0_0).toLoadRect (harg13.unread x11))) (View.readAt (Elt F) arg12.view (Rect.unit (s := S8x2x256x128) ![5, 0, 0, 0] S1x1x256x128.size inb_S8x2x256x128_S1x1x256x128_5_0_0_0).toLoadRect (harg12.unread x10)) (View.readAt (Elt F) arg12.view (Rect.unit (s := S8x2x256x128) ![5, 1, 0, 0] S1x1x256x128.size inb_S8x2x256x128_S1x1x256x128_5_1_0_0).toLoadRect (harg12.unread x10)) (View.readAt (Elt F) arg14.view (Rect.unit (s := S8x2x256) ![5, 0, 0] S1x2x256.size inb_S8x2x256_S1x2x256_5_0_0).toLoadRect (harg14.unread x12)) :=
  Block.join (Payloads.tail_5_0 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (View.readAt (Elt F) arg2.view (Rect.unit (s := S512x128) ![320, 0] S64x128.size inb_S512x128_S64x128_320_0).toLoadRect (harg2.unread x0)) (View.readAt (Elt F) arg11.view (Rect.unit (s := S8x2x256x128) ![5, 0, 0, 0] S1x1x256x128.size inb_S8x2x256x128_S1x1x256x128_5_0_0_0).toLoadRect (harg11.unread x9)) (View.readAt (Elt F) arg11.view (Rect.unit (s := S8x2x256x128) ![5, 1, 0, 0] S1x1x256x128.size inb_S8x2x256x128_S1x1x256x128_5_1_0_0).toLoadRect (harg11.unread x9)) (View.readAt (Elt F) arg12.view (Rect.unit (s := S8x2x256x128) ![5, 0, 0, 0] S1x1x256x128.size inb_S8x2x256x128_S1x1x256x128_5_0_0_0).toLoadRect (harg12.unread x10)) (View.readAt (Elt F) arg12.view (Rect.unit (s := S8x2x256x128) ![5, 1, 0, 0] S1x1x256x128.size inb_S8x2x256x128_S1x1x256x128_5_1_0_0).toLoadRect (harg12.unread x10)) (kernelRun0_A.sl.r_147 c i xt0) (View.readAt (Elt F) arg13.view (Rect.unit (s := S8x2x256) ![5, 0, 0] S1x2x256.size inb_S8x2x256_S1x2x256_5_0_0).toLoadRect (harg13.unread x11)) (View.readAt (Elt F) arg14.view (Rect.unit (s := S8x2x256) ![5, 0, 0] S1x2x256.size inb_S8x2x256_S1x2x256_5_0_0).toLoadRect (harg14.unread x12))) (o0 c arg3 harg3 arg5 harg5 arg6 harg6 arg7 harg7 arg8 harg8 arg9 harg9 arg10 harg10 arg16 arg17 arg18 x1 x3 x4 x5 x6 x7 x8) (m0 c arg3 harg3 arg5 harg5 arg7 harg7 arg9 harg9 arg16 arg18 x1 x3 x5 x7) (l0 c arg3 harg3 arg5 harg5 arg7 harg7 arg9 harg9 arg16 arg18 x1 x3 x5 x7)

theorem p5_1 : k0_pay333 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (kernelRun0_A.sl.r_150 c i arg2 harg2 arg11 harg11 arg13 harg13 x0 x9 x11 xt0) (kernelRun0_A.sl.r_151 c i arg2 harg2 arg11 harg11 arg13 harg13 x0 x9 x11 xt0) (kernelRun0_A.sl.r_152 c i arg2 harg2 arg11 harg11 arg12 harg12 arg13 harg13 arg14 harg14 x0 x9 x10 x11 x12 xt0) = out 5 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) (tS (View.readAt (Elt F) arg2.view (Rect.unit (s := S512x128) ![320, 0] S64x128.size inb_S512x128_S64x128_320_0).toLoadRect (harg2.unread x0)) (View.readAt (Elt F) arg11.view (Rect.unit (s := S8x2x256x128) ![5, 0, 0, 0] S1x1x256x128.size inb_S8x2x256x128_S1x1x256x128_5_0_0_0).toLoadRect (harg11.unread x9)) (View.readAt (Elt F) arg11.view (Rect.unit (s := S8x2x256x128) ![5, 1, 0, 0] S1x1x256x128.size inb_S8x2x256x128_S1x1x256x128_5_1_0_0).toLoadRect (harg11.unread x9)) (kernelRun0_A.sl.r_147 c i xt0) (View.readAt (Elt F) arg13.view (Rect.unit (s := S8x2x256) ![5, 0, 0] S1x2x256.size inb_S8x2x256_S1x2x256_5_0_0).toLoadRect (harg13.unread x11))) (View.readAt (Elt F) arg12.view (Rect.unit (s := S8x2x256x128) ![5, 0, 0, 0] S1x1x256x128.size inb_S8x2x256x128_S1x1x256x128_5_0_0_0).toLoadRect (harg12.unread x10)) (View.readAt (Elt F) arg12.view (Rect.unit (s := S8x2x256x128) ![5, 1, 0, 0] S1x1x256x128.size inb_S8x2x256x128_S1x1x256x128_5_1_0_0).toLoadRect (harg12.unread x10)) (View.readAt (Elt F) arg14.view (Rect.unit (s := S8x2x256) ![5, 0, 0] S1x2x256.size inb_S8x2x256_S1x2x256_5_0_0).toLoadRect (harg14.unread x12)) :=
  Block.join (Payloads.tail_5_1 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (View.readAt (Elt F) arg2.view (Rect.unit (s := S512x128) ![320, 0] S64x128.size inb_S512x128_S64x128_320_0).toLoadRect (harg2.unread x0)) (View.readAt (Elt F) arg11.view (Rect.unit (s := S8x2x256x128) ![5, 0, 0, 0] S1x1x256x128.size inb_S8x2x256x128_S1x1x256x128_5_0_0_0).toLoadRect (harg11.unread x9)) (View.readAt (Elt F) arg11.view (Rect.unit (s := S8x2x256x128) ![5, 1, 0, 0] S1x1x256x128.size inb_S8x2x256x128_S1x1x256x128_5_1_0_0).toLoadRect (harg11.unread x9)) (View.readAt (Elt F) arg12.view (Rect.unit (s := S8x2x256x128) ![5, 0, 0, 0] S1x1x256x128.size inb_S8x2x256x128_S1x1x256x128_5_0_0_0).toLoadRect (harg12.unread x10)) (View.readAt (Elt F) arg12.view (Rect.unit (s := S8x2x256x128) ![5, 1, 0, 0] S1x1x256x128.size inb_S8x2x256x128_S1x1x256x128_5_1_0_0).toLoadRect (harg12.unread x10)) (kernelRun0_A.sl.r_147 c i xt0) (View.readAt (Elt F) arg13.view (Rect.unit (s := S8x2x256) ![5, 0, 0] S1x2x256.size inb_S8x2x256_S1x2x256_5_0_0).toLoadRect (harg13.unread x11)) (View.readAt (Elt F) arg14.view (Rect.unit (s := S8x2x256) ![5, 0, 0] S1x2x256.size inb_S8x2x256_S1x2x256_5_0_0).toLoadRect (harg14.unread x12))) (o1 c arg3 harg3 arg4 harg4 arg5 harg5 arg6 harg6 arg7 harg7 arg8 harg8 arg9 harg9 arg10 harg10 arg16 arg17 arg18 x1 x2 x3 x4 x5 x6 x7 x8) (m1 c arg3 harg3 arg4 harg4 arg5 harg5 arg7 harg7 arg9 harg9 arg16 arg18 x1 x2 x3 x5 x7) (l1 c arg3 harg3 arg4 harg4 arg5 harg5 arg7 harg7 arg9 harg9 arg16 arg18 x1 x2 x3 x5 x7)

theorem p6_0 : k0_pay343 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (kernelRun0_A.sl.r_162 c arg12 harg12 x10) (kernelRun0_A.sl.r_163 c i arg2 harg2 arg11 harg11 arg13 harg13 x0 x9 x11 xt0) (kernelRun0_A.sl.r_164 c i arg2 harg2 arg11 harg11 arg13 harg13 x0 x9 x11 xt0) (View.readAt (Elt F) arg14.view (Rect.unit (s := S8x2x256) ![6, 0, 0] ![1, 2, 256] inb_S8x2x256_S1x2x256_6_0_0).toLoadRect (harg14.unread x12)) = out 6 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) (tS (View.readAt (Elt F) arg2.view (Rect.unit (s := S512x128) ![384, 0] S64x128.size inb_S512x128_S64x128_384_0).toLoadRect (harg2.unread x0)) (View.readAt (Elt F) arg11.view (Rect.unit (s := S8x2x256x128) ![6, 0, 0, 0] S1x1x256x128.size inb_S8x2x256x128_S1x1x256x128_6_0_0_0).toLoadRect (harg11.unread x9)) (View.readAt (Elt F) arg11.view (Rect.unit (s := S8x2x256x128) ![6, 1, 0, 0] S1x1x256x128.size inb_S8x2x256x128_S1x1x256x128_6_1_0_0).toLoadRect (harg11.unread x9)) (kernelRun0_A.sl.r_161 c i xt0) (View.readAt (Elt F) arg13.view (Rect.unit (s := S8x2x256) ![6, 0, 0] S1x2x256.size inb_S8x2x256_S1x2x256_6_0_0).toLoadRect (harg13.unread x11))) (View.readAt (Elt F) arg12.view (Rect.unit (s := S8x2x256x128) ![6, 0, 0, 0] S1x1x256x128.size inb_S8x2x256x128_S1x1x256x128_6_0_0_0).toLoadRect (harg12.unread x10)) (View.readAt (Elt F) arg12.view (Rect.unit (s := S8x2x256x128) ![6, 1, 0, 0] S1x1x256x128.size inb_S8x2x256x128_S1x1x256x128_6_1_0_0).toLoadRect (harg12.unread x10)) (View.readAt (Elt F) arg14.view (Rect.unit (s := S8x2x256) ![6, 0, 0] S1x2x256.size inb_S8x2x256_S1x2x256_6_0_0).toLoadRect (harg14.unread x12)) :=
  Block.join (Payloads.tail_6_0 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (View.readAt (Elt F) arg2.view (Rect.unit (s := S512x128) ![384, 0] S64x128.size inb_S512x128_S64x128_384_0).toLoadRect (harg2.unread x0)) (View.readAt (Elt F) arg11.view (Rect.unit (s := S8x2x256x128) ![6, 0, 0, 0] S1x1x256x128.size inb_S8x2x256x128_S1x1x256x128_6_0_0_0).toLoadRect (harg11.unread x9)) (View.readAt (Elt F) arg11.view (Rect.unit (s := S8x2x256x128) ![6, 1, 0, 0] S1x1x256x128.size inb_S8x2x256x128_S1x1x256x128_6_1_0_0).toLoadRect (harg11.unread x9)) (View.readAt (Elt F) arg12.view (Rect.unit (s := S8x2x256x128) ![6, 0, 0, 0] S1x1x256x128.size inb_S8x2x256x128_S1x1x256x128_6_0_0_0).toLoadRect (harg12.unread x10)) (View.readAt (Elt F) arg12.view (Rect.unit (s := S8x2x256x128) ![6, 1, 0, 0] S1x1x256x128.size inb_S8x2x256x128_S1x1x256x128_6_1_0_0).toLoadRect (harg12.unread x10)) (kernelRun0_A.sl.r_161 c i xt0) (View.readAt (Elt F) arg13.view (Rect.unit (s := S8x2x256) ![6, 0, 0] S1x2x256.size inb_S8x2x256_S1x2x256_6_0_0).toLoadRect (harg13.unread x11)) (View.readAt (Elt F) arg14.view (Rect.unit (s := S8x2x256) ![6, 0, 0] S1x2x256.size inb_S8x2x256_S1x2x256_6_0_0).toLoadRect (harg14.unread x12))) (o0 c arg3 harg3 arg5 harg5 arg6 harg6 arg7 harg7 arg8 harg8 arg9 harg9 arg10 harg10 arg16 arg17 arg18 x1 x3 x4 x5 x6 x7 x8) (m0 c arg3 harg3 arg5 harg5 arg7 harg7 arg9 harg9 arg16 arg18 x1 x3 x5 x7) (l0 c arg3 harg3 arg5 harg5 arg7 harg7 arg9 harg9 arg16 arg18 x1 x3 x5 x7)

theorem p6_1 : k0_pay349 (kernelRun0_A.sl.r_165 c i arg2 harg2 arg11 harg11 arg13 harg13 x0 x9 x11 xt0) (kernelRun0_A.sl.r_166 c arg3 harg3 arg4 harg4 arg5 harg5 arg6 harg6 arg7 harg7 arg8 harg8 arg9 harg9 arg10 harg10 arg16 arg17 arg18 x1 x2 x3 x4 x5 x6 x7 x8) (kernelRun0_A.sl.r_167 c arg3 harg3 arg4 harg4 arg5 harg5 arg7 harg7 arg9 harg9 arg16 arg18 x1 x2 x3 x5 x7) (kernelRun0_A.sl.r_168 c arg3 harg3 arg4 harg4 arg5 harg5 arg7 harg7 arg9 harg9 arg16 arg18 x1 x2 x3 x5 x7) (kernelRun0_A.sl.r_169 c i arg2 harg2 arg11 harg11 arg12 harg12 arg13 harg13 arg14 harg14 x0 x9 x10 x11 x12 xt0) (kernelRun0_A.sl.r_170 c i arg2 harg2 arg11 harg11 arg13 harg13 x0 x9 x11 xt0) = out 6 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) (tS (View.readAt (Elt F) arg2.view (Rect.unit (s := S512x128) ![384, 0] S64x128.size inb_S512x128_S64x128_384_0).toLoadRect (harg2.unread x0)) (View.readAt (Elt F) arg11.view (Rect.unit (s := S8x2x256x128) ![6, 0, 0, 0] S1x1x256x128.size inb_S8x2x256x128_S1x1x256x128_6_0_0_0).toLoadRect (harg11.unread x9)) (View.readAt (Elt F) arg11.view (Rect.unit (s := S8x2x256x128) ![6, 1, 0, 0] S1x1x256x128.size inb_S8x2x256x128_S1x1x256x128_6_1_0_0).toLoadRect (harg11.unread x9)) (kernelRun0_A.sl.r_161 c i xt0) (View.readAt (Elt F) arg13.view (Rect.unit (s := S8x2x256) ![6, 0, 0] S1x2x256.size inb_S8x2x256_S1x2x256_6_0_0).toLoadRect (harg13.unread x11))) (View.readAt (Elt F) arg12.view (Rect.unit (s := S8x2x256x128) ![6, 0, 0, 0] S1x1x256x128.size inb_S8x2x256x128_S1x1x256x128_6_0_0_0).toLoadRect (harg12.unread x10)) (View.readAt (Elt F) arg12.view (Rect.unit (s := S8x2x256x128) ![6, 1, 0, 0] S1x1x256x128.size inb_S8x2x256x128_S1x1x256x128_6_1_0_0).toLoadRect (harg12.unread x10)) (View.readAt (Elt F) arg14.view (Rect.unit (s := S8x2x256) ![6, 0, 0] S1x2x256.size inb_S8x2x256_S1x2x256_6_0_0).toLoadRect (harg14.unread x12)) :=
  Block.join (Payloads.tail_6_1 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (View.readAt (Elt F) arg2.view (Rect.unit (s := S512x128) ![384, 0] S64x128.size inb_S512x128_S64x128_384_0).toLoadRect (harg2.unread x0)) (View.readAt (Elt F) arg11.view (Rect.unit (s := S8x2x256x128) ![6, 0, 0, 0] S1x1x256x128.size inb_S8x2x256x128_S1x1x256x128_6_0_0_0).toLoadRect (harg11.unread x9)) (View.readAt (Elt F) arg11.view (Rect.unit (s := S8x2x256x128) ![6, 1, 0, 0] S1x1x256x128.size inb_S8x2x256x128_S1x1x256x128_6_1_0_0).toLoadRect (harg11.unread x9)) (View.readAt (Elt F) arg12.view (Rect.unit (s := S8x2x256x128) ![6, 0, 0, 0] S1x1x256x128.size inb_S8x2x256x128_S1x1x256x128_6_0_0_0).toLoadRect (harg12.unread x10)) (View.readAt (Elt F) arg12.view (Rect.unit (s := S8x2x256x128) ![6, 1, 0, 0] S1x1x256x128.size inb_S8x2x256x128_S1x1x256x128_6_1_0_0).toLoadRect (harg12.unread x10)) (kernelRun0_A.sl.r_161 c i xt0) (View.readAt (Elt F) arg13.view (Rect.unit (s := S8x2x256) ![6, 0, 0] S1x2x256.size inb_S8x2x256_S1x2x256_6_0_0).toLoadRect (harg13.unread x11)) (View.readAt (Elt F) arg14.view (Rect.unit (s := S8x2x256) ![6, 0, 0] S1x2x256.size inb_S8x2x256_S1x2x256_6_0_0).toLoadRect (harg14.unread x12))) (o1 c arg3 harg3 arg4 harg4 arg5 harg5 arg6 harg6 arg7 harg7 arg8 harg8 arg9 harg9 arg10 harg10 arg16 arg17 arg18 x1 x2 x3 x4 x5 x6 x7 x8) (m1 c arg3 harg3 arg4 harg4 arg5 harg5 arg7 harg7 arg9 harg9 arg16 arg18 x1 x2 x3 x5 x7) (l1 c arg3 harg3 arg4 harg4 arg5 harg5 arg7 harg7 arg9 harg9 arg16 arg18 x1 x2 x3 x5 x7)

theorem p7_0 : k0_pay367 (kernelRun0_A.sl.r_178 c arg3 harg3 arg5 harg5 arg6 harg6 arg7 harg7 arg8 harg8 arg9 harg9 arg10 harg10 arg16 arg17 arg18 x1 x3 x4 x5 x6 x7 x8) (kernelRun0_A.sl.r_179 c arg3 harg3 arg5 harg5 arg7 harg7 arg9 harg9 arg16 arg18 x1 x3 x5 x7) (kernelRun0_A.sl.r_180 c arg3 harg3 arg5 harg5 arg7 harg7 arg9 harg9 arg16 arg18 x1 x3 x5 x7) (kernelRun0_A.sl.r_181 c i arg2 harg2 arg11 harg11 arg12 harg12 arg13 harg13 arg14 harg14 x0 x9 x10 x11 x12 xt0) (kernelRun0_A.sl.r_182 c i arg2 harg2 arg11 harg11 arg13 harg13 x0 x9 x11 xt0) (kernelRun0_A.sl.r_183 c i arg2 harg2 arg11 harg11 arg13 harg13 x0 x9 x11 xt0) = out 7 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 c arg7 harg7 arg9 harg9 arg16 x5 x7) (S0 c arg3 harg3 arg7 harg7 arg9 harg9 arg16 arg18 x1 x5 x7)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 c arg7 harg7 arg9 harg9 arg16 x5 x7) (S0 c arg3 harg3 arg7 harg7 arg9 harg9 arg16 arg18 x1 x5 x7) (V0 c arg8 harg8 arg10 harg10 arg17 x6 x8)) (tS (View.readAt (Elt F) arg2.view (Rect.unit (s := S512x128) ![448, 0] S64x128.size inb_S512x128_S64x128_448_0).toLoadRect (harg2.unread x0)) (View.readAt (Elt F) arg11.view (Rect.unit (s := S8x2x256x128) ![7, 0, 0, 0] S1x1x256x128.size inb_S8x2x256x128_S1x1x256x128_7_0_0_0).toLoadRect (harg11.unread x9)) (View.readAt (Elt F) arg11.view (Rect.unit (s := S8x2x256x128) ![7, 1, 0, 0] S1x1x256x128.size inb_S8x2x256x128_S1x1x256x128_7_1_0_0).toLoadRect (harg11.unread x9)) (kernelRun0_A.sl.r_174 c i xt0) (View.readAt (Elt F) arg13.view (Rect.unit (s := S8x2x256) ![7, 0, 0] S1x2x256.size inb_S8x2x256_S1x2x256_7_0_0).toLoadRect (harg13.unread x11))) (View.readAt (Elt F) arg12.view (Rect.unit (s := S8x2x256x128) ![7, 0, 0, 0] S1x1x256x128.size inb_S8x2x256x128_S1x1x256x128_7_0_0_0).toLoadRect (harg12.unread x10)) (View.readAt (Elt F) arg12.view (Rect.unit (s := S8x2x256x128) ![7, 1, 0, 0] S1x1x256x128.size inb_S8x2x256x128_S1x1x256x128_7_1_0_0).toLoadRect (harg12.unread x10)) (View.readAt (Elt F) arg14.view (Rect.unit (s := S8x2x256) ![7, 0, 0] S1x2x256.size inb_S8x2x256_S1x2x256_7_0_0).toLoadRect (harg14.unread x12)) :=
  Block.join (Payloads.tail_7_0 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (View.readAt (Elt F) arg2.view (Rect.unit (s := S512x128) ![448, 0] S64x128.size inb_S512x128_S64x128_448_0).toLoadRect (harg2.unread x0)) (View.readAt (Elt F) arg11.view (Rect.unit (s := S8x2x256x128) ![7, 0, 0, 0] S1x1x256x128.size inb_S8x2x256x128_S1x1x256x128_7_0_0_0).toLoadRect (harg11.unread x9)) (View.readAt (Elt F) arg11.view (Rect.unit (s := S8x2x256x128) ![7, 1, 0, 0] S1x1x256x128.size inb_S8x2x256x128_S1x1x256x128_7_1_0_0).toLoadRect (harg11.unread x9)) (View.readAt (Elt F) arg12.view (Rect.unit (s := S8x2x256x128) ![7, 0, 0, 0] S1x1x256x128.size inb_S8x2x256x128_S1x1x256x128_7_0_0_0).toLoadRect (harg12.unread x10)) (View.readAt (Elt F) arg12.view (Rect.unit (s := S8x2x256x128) ![7, 1, 0, 0] S1x1x256x128.size inb_S8x2x256x128_S1x1x256x128_7_1_0_0).toLoadRect (harg12.unread x10)) (kernelRun0_A.sl.r_174 c i xt0) (View.readAt (Elt F) arg13.view (Rect.unit (s := S8x2x256) ![7, 0, 0] S1x2x256.size inb_S8x2x256_S1x2x256_7_0_0).toLoadRect (harg13.unread x11)) (View.readAt (Elt F) arg14.view (Rect.unit (s := S8x2x256) ![7, 0, 0] S1x2x256.size inb_S8x2x256_S1x2x256_7_0_0).toLoadRect (harg14.unread x12))) (o0 c arg3 harg3 arg5 harg5 arg6 harg6 arg7 harg7 arg8 harg8 arg9 harg9 arg10 harg10 arg16 arg17 arg18 x1 x3 x4 x5 x6 x7 x8) (m0 c arg3 harg3 arg5 harg5 arg7 harg7 arg9 harg9 arg16 arg18 x1 x3 x5 x7) (l0 c arg3 harg3 arg5 harg5 arg7 harg7 arg9 harg9 arg16 arg18 x1 x3 x5 x7)

theorem p7_1 : kernelRun0_A.sl.r_184 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 = out 7 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 c arg7 harg7 arg9 harg9 arg16 x5 x7) (S1 c arg3 harg3 arg4 harg4 arg7 harg7 arg9 harg9 arg16 arg18 x1 x2 x5 x7)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 c arg7 harg7 arg9 harg9 arg16 x5 x7) (S1 c arg3 harg3 arg4 harg4 arg7 harg7 arg9 harg9 arg16 arg18 x1 x2 x5 x7) (V1 c arg8 harg8 arg10 harg10 arg17 x6 x8)) (tS (View.readAt (Elt F) arg2.view (Rect.unit (s := S512x128) ![448, 0] S64x128.size inb_S512x128_S64x128_448_0).toLoadRect (harg2.unread x0)) (View.readAt (Elt F) arg11.view (Rect.unit (s := S8x2x256x128) ![7, 0, 0, 0] S1x1x256x128.size inb_S8x2x256x128_S1x1x256x128_7_0_0_0).toLoadRect (harg11.unread x9)) (View.readAt (Elt F) arg11.view (Rect.unit (s := S8x2x256x128) ![7, 1, 0, 0] S1x1x256x128.size inb_S8x2x256x128_S1x1x256x128_7_1_0_0).toLoadRect (harg11.unread x9)) (kernelRun0_A.sl.r_174 c i xt0) (View.readAt (Elt F) arg13.view (Rect.unit (s := S8x2x256) ![7, 0, 0] S1x2x256.size inb_S8x2x256_S1x2x256_7_0_0).toLoadRect (harg13.unread x11))) (View.readAt (Elt F) arg12.view (Rect.unit (s := S8x2x256x128) ![7, 0, 0, 0] S1x1x256x128.size inb_S8x2x256x128_S1x1x256x128_7_0_0_0).toLoadRect (harg12.unread x10)) (View.readAt (Elt F) arg12.view (Rect.unit (s := S8x2x256x128) ![7, 1, 0, 0] S1x1x256x128.size inb_S8x2x256x128_S1x1x256x128_7_1_0_0).toLoadRect (harg12.unread x10)) (View.readAt (Elt F) arg14.view (Rect.unit (s := S8x2x256) ![7, 0, 0] S1x2x256.size inb_S8x2x256_S1x2x256_7_0_0).toLoadRect (harg14.unread x12)) :=
  Block.join (Payloads.tail_7_1 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (View.readAt (Elt F) arg2.view (Rect.unit (s := S512x128) ![448, 0] S64x128.size inb_S512x128_S64x128_448_0).toLoadRect (harg2.unread x0)) (View.readAt (Elt F) arg11.view (Rect.unit (s := S8x2x256x128) ![7, 0, 0, 0] S1x1x256x128.size inb_S8x2x256x128_S1x1x256x128_7_0_0_0).toLoadRect (harg11.unread x9)) (View.readAt (Elt F) arg11.view (Rect.unit (s := S8x2x256x128) ![7, 1, 0, 0] S1x1x256x128.size inb_S8x2x256x128_S1x1x256x128_7_1_0_0).toLoadRect (harg11.unread x9)) (View.readAt (Elt F) arg12.view (Rect.unit (s := S8x2x256x128) ![7, 0, 0, 0] S1x1x256x128.size inb_S8x2x256x128_S1x1x256x128_7_0_0_0).toLoadRect (harg12.unread x10)) (View.readAt (Elt F) arg12.view (Rect.unit (s := S8x2x256x128) ![7, 1, 0, 0] S1x1x256x128.size inb_S8x2x256x128_S1x1x256x128_7_1_0_0).toLoadRect (harg12.unread x10)) (kernelRun0_A.sl.r_174 c i xt0) (View.readAt (Elt F) arg13.view (Rect.unit (s := S8x2x256) ![7, 0, 0] S1x2x256.size inb_S8x2x256_S1x2x256_7_0_0).toLoadRect (harg13.unread x11)) (View.readAt (Elt F) arg14.view (Rect.unit (s := S8x2x256) ![7, 0, 0] S1x2x256.size inb_S8x2x256_S1x2x256_7_0_0).toLoadRect (harg14.unread x12))) (o1 c arg3 harg3 arg4 harg4 arg5 harg5 arg6 harg6 arg7 harg7 arg8 harg8 arg9 harg9 arg10 harg10 arg16 arg17 arg18 x1 x2 x3 x4 x5 x6 x7 x8) (m1 c arg3 harg3 arg4 harg4 arg5 harg5 arg7 harg7 arg9 harg9 arg16 arg18 x1 x2 x3 x5 x7) (l1 c arg3 harg3 arg4 harg4 arg5 harg5 arg7 harg7 arg9 harg9 arg16 arg18 x1 x2 x3 x5 x7)

end Cert.WordsA

end
-- ==== Proof.FillA.lean ====
/- Filling the scratch arrays: what their thirty-six stores leave in each. -/
module

public import proofs.«01_k».proof.Proof.Fill

@[expose] public section

set_option maxRecDepth 16384
set_option maxHeartbeats 1000000

noncomputable section

namespace Cert.FillA

open Idealize.ShloMosaic Idealize.ShloMosaic.TcCoe Idealize.ShloMosaic.Tactic Cert.KernelIdeal Cert.KernelIdeal.Gen Cert.Stages Cert.StageValue Cert.Block

open Cert.Fill

section Words

variable {F : FTy → Type} [FloatOps F] [Named F]
variable (c : Dev nD) (i : grid0.Coords) (arg2 : Memref sig .tc .vmem S512x128 .bf16) (harg2 : arg2.IsWhole) (arg3 : Memref sig .tc .vmem S32x1x8x128 .bf16) (harg3 : arg3.IsWhole) (arg4 : Memref sig .tc .vmem S32x1x8x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S2x2304x128 .fp8e4m3) (harg7 : arg7.IsWhole) (arg8 : Memref sig .tc .vmem S2x2304x128 .fp8e4m3) (harg8 : arg8.IsWhole) (arg9 : Memref sig .tc .vmem S2x2304 .f32) (harg9 : arg9.IsWhole) (arg10 : Memref sig .tc .vmem S2x2304 .f32) (harg10 : arg10.IsWhole) (arg11 : Memref sig .tc .vmem S8x2x256x128 .fp8e4m3) (harg11 : arg11.IsWhole) (arg12 : Memref sig .tc .vmem S8x2x256x128 .fp8e4m3) (harg12 : arg12.IsWhole) (arg13 : Memref sig .tc .vmem S8x2x256 .f32) (harg13 : arg13.IsWhole) (arg14 : Memref sig .tc .vmem S8x2x256 .f32) (harg14 : arg14.IsWhole) (arg15 : Memref sig .tc .vmem S8x4x16x128 .bf16) (harg15 : arg15.IsWhole) (arg16 : Memref sig .tc .vmem S2x2304x256 .bf16) (harg16 : arg16.IsWhole) (arg17 : Memref sig .tc .vmem S2x128x2304 .bf16) (harg17 : arg17.IsWhole) (arg18 : Memref sig .tc .vmem S2x2304x256 .f32) (harg18 : arg18.IsWhole) (hc0 : cond0_0 i) (x0 : Vec F S512x128 .bf16) (x1 : Vec F S32x1x8x128 .bf16) (x2 : Vec F S32x1x8x128 .bf16) (x3 : Vec F S64x128 .bf16) (x4 : Vec F S64x128 .bf16) (x5 : Vec F S2x2304x128 .fp8e4m3) (x6 : Vec F S2x2304x128 .fp8e4m3) (x7 : Vec F S2x2304 .f32) (x8 : Vec F S2x2304 .f32) (x9 : Vec F S8x2x256x128 .fp8e4m3) (x10 : Vec F S8x2x256x128 .fp8e4m3) (x11 : Vec F S8x2x256 .f32) (x12 : Vec F S8x2x256 .f32) (xt0 : TbBuf0 (F := F) c tbM0_0)

theorem w0_1_17 : k0_pay106 (kernelRun0_A.sl.r_35 c arg9 harg9 x7) kernelRun0_A.sl.cst_1410 (View.readAt (Elt F) arg7.view (Rect.unit (s := S2x2304x128) ![1, 2176, 0] S1x128x128.size inb_S2x2304x128_S1x128x128_1_2176_0).toLoadRect (harg7.unread x5)) = k0_pay1 (View.readAt (Elt F) arg9.view (Rect.unit (s := S2x2304) ![1, 2176] S1x128.size inb_S2x2304_S1x128_1_2176).toLoadRect (harg9.unread x7)) (View.readAt (Elt F) arg7.view (Rect.unit (s := S2x2304x128) ![1, 2176, 0] S1x128x128.size inb_S2x2304x128_S1x128x128_1_2176_0).toLoadRect (harg7.unread x5)) := rfl

theorem w0_1_16 : k0_pay103 (View.readAt (Elt F) arg9.view (Rect.unit (s := S2x2304) ![1, 2048] S1x128.size inb_S2x2304_S1x128_1_2048).toLoadRect (harg9.unread x7)) (View.readAt (Elt F) arg7.view (Rect.unit (s := S2x2304x128) ![1, 2048, 0] S1x128x128.size inb_S2x2304x128_S1x128x128_1_2048_0).toLoadRect (harg7.unread x5)) = k0_pay1 (View.readAt (Elt F) arg9.view (Rect.unit (s := S2x2304) ![1, 2048] S1x128.size inb_S2x2304_S1x128_1_2048).toLoadRect (harg9.unread x7)) (View.readAt (Elt F) arg7.view (Rect.unit (s := S2x2304x128) ![1, 2048, 0] S1x128x128.size inb_S2x2304x128_S1x128x128_1_2048_0).toLoadRect (harg7.unread x5)) := rfl

theorem w0_1_15 : k0_pay100 (View.readAt (Elt F) arg9.view (Rect.unit (s := S2x2304) ![1, 1920] S1x128.size inb_S2x2304_S1x128_1_1920).toLoadRect (harg9.unread x7)) (View.readAt (Elt F) arg7.view (Rect.unit (s := S2x2304x128) ![1, 1920, 0] S1x128x128.size inb_S2x2304x128_S1x128x128_1_1920_0).toLoadRect (harg7.unread x5)) = k0_pay1 (View.readAt (Elt F) arg9.view (Rect.unit (s := S2x2304) ![1, 1920] S1x128.size inb_S2x2304_S1x128_1_1920).toLoadRect (harg9.unread x7)) (View.readAt (Elt F) arg7.view (Rect.unit (s := S2x2304x128) ![1, 1920, 0] S1x128x128.size inb_S2x2304x128_S1x128x128_1_1920_0).toLoadRect (harg7.unread x5)) := rfl

theorem w0_1_14 : k0_pay96 (View.readAt (Elt F) arg9.view (Rect.unit (s := S2x2304) ![1, 1792] S1x128.size inb_S2x2304_S1x128_1_1792).toLoadRect (harg9.unread x7)) (View.readAt (Elt F) arg7.view (Rect.unit (s := S2x2304x128) ![1, 1792, 0] S1x128x128.size inb_S2x2304x128_S1x128x128_1_1792_0).toLoadRect (harg7.unread x5)) = k0_pay1 (View.readAt (Elt F) arg9.view (Rect.unit (s := S2x2304) ![1, 1792] S1x128.size inb_S2x2304_S1x128_1_1792).toLoadRect (harg9.unread x7)) (View.readAt (Elt F) arg7.view (Rect.unit (s := S2x2304x128) ![1, 1792, 0] S1x128x128.size inb_S2x2304x128_S1x128x128_1_1792_0).toLoadRect (harg7.unread x5)) := rfl

theorem w0_1_13 : k0_pay93 (View.readAt (Elt F) arg9.view (Rect.unit (s := S2x2304) ![1, 1664] S1x128.size inb_S2x2304_S1x128_1_1664).toLoadRect (harg9.unread x7)) (View.readAt (Elt F) arg7.view (Rect.unit (s := S2x2304x128) ![1, 1664, 0] S1x128x128.size inb_S2x2304x128_S1x128x128_1_1664_0).toLoadRect (harg7.unread x5)) = k0_pay1 (View.readAt (Elt F) arg9.view (Rect.unit (s := S2x2304) ![1, 1664] S1x128.size inb_S2x2304_S1x128_1_1664).toLoadRect (harg9.unread x7)) (View.readAt (Elt F) arg7.view (Rect.unit (s := S2x2304x128) ![1, 1664, 0] S1x128x128.size inb_S2x2304x128_S1x128x128_1_1664_0).toLoadRect (harg7.unread x5)) := rfl

theorem w0_1_12 : k0_pay91 (kernelRun0_A.sl.r_30 c arg7 harg7 arg9 harg9 x5 x7) = k0_pay1 (View.readAt (Elt F) arg9.view (Rect.unit (s := S2x2304) ![1, 1536] S1x128.size inb_S2x2304_S1x128_1_1536).toLoadRect (harg9.unread x7)) (View.readAt (Elt F) arg7.view (Rect.unit (s := S2x2304x128) ![1, 1536, 0] S1x128x128.size inb_S2x2304x128_S1x128x128_1_1536_0).toLoadRect (harg7.unread x5)) := rfl

theorem w0_1_11 : k0_pay88 (kernelRun0_A.sl.r_28 c arg7 harg7 arg9 harg9 x5 x7) (kernelRun0_A.sl.r_29 c arg7 harg7 arg9 harg9 x5 x7) = k0_pay1 (View.readAt (Elt F) arg9.view (Rect.unit (s := S2x2304) ![1, 1408] S1x128.size inb_S2x2304_S1x128_1_1408).toLoadRect (harg9.unread x7)) (View.readAt (Elt F) arg7.view (Rect.unit (s := S2x2304x128) ![1, 1408, 0] S1x128x128.size inb_S2x2304x128_S1x128x128_1_1408_0).toLoadRect (harg7.unread x5)) := rfl

theorem w0_1_10 : k0_pay83 (kernelRun0_A.sl.r_27 c arg9 harg9 x7) (View.readAt (Elt F) arg7.view (Rect.unit (s := S2x2304x128) ![1, 1280, 0] S1x128x128.size inb_S2x2304x128_S1x128x128_1_1280_0).toLoadRect (harg7.unread x5)) = k0_pay1 (View.readAt (Elt F) arg9.view (Rect.unit (s := S2x2304) ![1, 1280] S1x128.size inb_S2x2304_S1x128_1_1280).toLoadRect (harg9.unread x7)) (View.readAt (Elt F) arg7.view (Rect.unit (s := S2x2304x128) ![1, 1280, 0] S1x128x128.size inb_S2x2304x128_S1x128x128_1_1280_0).toLoadRect (harg7.unread x5)) := rfl

theorem w0_1_9 : k0_pay80 (kernelRun0_A.sl.r_26 c arg9 harg9 x7) k0_pay79 (View.readAt (Elt F) arg7.view (Rect.unit (s := S2x2304x128) ![1, 1152, 0] S1x128x128.size inb_S2x2304x128_S1x128x128_1_1152_0).toLoadRect (harg7.unread x5)) = k0_pay1 (View.readAt (Elt F) arg9.view (Rect.unit (s := S2x2304) ![1, 1152] S1x128.size inb_S2x2304_S1x128_1_1152).toLoadRect (harg9.unread x7)) (View.readAt (Elt F) arg7.view (Rect.unit (s := S2x2304x128) ![1, 1152, 0] S1x128x128.size inb_S2x2304x128_S1x128x128_1_1152_0).toLoadRect (harg7.unread x5)) := rfl

theorem w0_1_8 : k0_pay76 (View.readAt (Elt F) arg9.view (Rect.unit (s := S2x2304) ![1, 1024] S1x128.size inb_S2x2304_S1x128_1_1024).toLoadRect (harg9.unread x7)) (View.readAt (Elt F) arg7.view (Rect.unit (s := S2x2304x128) ![1, 1024, 0] S1x128x128.size inb_S2x2304x128_S1x128x128_1_1024_0).toLoadRect (harg7.unread x5)) = k0_pay1 (View.readAt (Elt F) arg9.view (Rect.unit (s := S2x2304) ![1, 1024] S1x128.size inb_S2x2304_S1x128_1_1024).toLoadRect (harg9.unread x7)) (View.readAt (Elt F) arg7.view (Rect.unit (s := S2x2304x128) ![1, 1024, 0] S1x128x128.size inb_S2x2304x128_S1x128x128_1_1024_0).toLoadRect (harg7.unread x5)) := rfl

theorem w0_1_7 : k0_pay74 (View.readAt (Elt F) arg9.view (Rect.unit (s := S2x2304) ![1, 896] S1x128.size inb_S2x2304_S1x128_1_896).toLoadRect (harg9.unread x7)) (View.readAt (Elt F) arg7.view (Rect.unit (s := S2x2304x128) ![1, 896, 0] S1x128x128.size inb_S2x2304x128_S1x128x128_1_896_0).toLoadRect (harg7.unread x5)) = k0_pay1 (View.readAt (Elt F) arg9.view (Rect.unit (s := S2x2304) ![1, 896] S1x128.size inb_S2x2304_S1x128_1_896).toLoadRect (harg9.unread x7)) (View.readAt (Elt F) arg7.view (Rect.unit (s := S2x2304x128) ![1, 896, 0] S1x128x128.size inb_S2x2304x128_S1x128x128_1_896_0).toLoadRect (harg7.unread x5)) := rfl

theorem w0_1_6 : k0_pay71 (View.readAt (Elt F) arg9.view (Rect.unit (s := S2x2304) ![1, 768] S1x128.size inb_S2x2304_S1x128_1_768).toLoadRect (harg9.unread x7)) (View.readAt (Elt F) arg7.view (Rect.unit (s := S2x2304x128) ![1, 768, 0] S1x128x128.size inb_S2x2304x128_S1x128x128_1_768_0).toLoadRect (harg7.unread x5)) = k0_pay1 (View.readAt (Elt F) arg9.view (Rect.unit (s := S2x2304) ![1, 768] S1x128.size inb_S2x2304_S1x128_1_768).toLoadRect (harg9.unread x7)) (View.readAt (Elt F) arg7.view (Rect.unit (s := S2x2304x128) ![1, 768, 0] S1x128x128.size inb_S2x2304x128_S1x128x128_1_768_0).toLoadRect (harg7.unread x5)) := rfl

theorem w0_1_5 : k0_pay67 (View.readAt (Elt F) arg9.view (Rect.unit (s := S2x2304) ![1, 640] S1x128.size inb_S2x2304_S1x128_1_640).toLoadRect (harg9.unread x7)) (View.readAt (Elt F) arg7.view (Rect.unit (s := S2x2304x128) ![1, 640, 0] S1x128x128.size inb_S2x2304x128_S1x128x128_1_640_0).toLoadRect (harg7.unread x5)) = k0_pay1 (View.readAt (Elt F) arg9.view (Rect.unit (s := S2x2304) ![1, 640] S1x128.size inb_S2x2304_S1x128_1_640).toLoadRect (harg9.unread x7)) (View.readAt (Elt F) arg7.view (Rect.unit (s := S2x2304x128) ![1, 640, 0] S1x128x128.size inb_S2x2304x128_S1x128x128_1_640_0).toLoadRect (harg7.unread x5)) := rfl

theorem w0_1_4 : k0_pay65 (View.readAt (Elt F) arg9.view (Rect.unit (s := S2x2304) ![1, 512] S1x128.size inb_S2x2304_S1x128_1_512).toLoadRect (harg9.unread x7)) (View.readAt (Elt F) arg7.view (Rect.unit (s := S2x2304x128) ![1, 512, 0] S1x128x128.size inb_S2x2304x128_S1x128x128_1_512_0).toLoadRect (harg7.unread x5)) = k0_pay1 (View.readAt (Elt F) arg9.view (Rect.unit (s := S2x2304) ![1, 512] S1x128.size inb_S2x2304_S1x128_1_512).toLoadRect (harg9.unread x7)) (View.readAt (Elt F) arg7.view (Rect.unit (s := S2x2304x128) ![1, 512, 0] S1x128x128.size inb_S2x2304x128_S1x128x128_1_512_0).toLoadRect (harg7.unread x5)) := rfl

theorem w0_1_3 : k0_pay63 (kernelRun0_A.sl.r_22 c arg7 harg7 arg9 harg9 x5 x7) = k0_pay1 (View.readAt (Elt F) arg9.view (Rect.unit (s := S2x2304) ![1, 384] S1x128.size inb_S2x2304_S1x128_1_384).toLoadRect (harg9.unread x7)) (View.readAt (Elt F) arg7.view (Rect.unit (s := S2x2304x128) ![1, 384, 0] S1x128x128.size inb_S2x2304x128_S1x128x128_1_384_0).toLoadRect (harg7.unread x5)) := rfl

theorem w0_1_2 : k0_pay60 (kernelRun0_A.sl.r_21 c arg7 harg7 arg9 harg9 x5 x7) = k0_pay1 (View.readAt (Elt F) arg9.view (Rect.unit (s := S2x2304) ![1, 256] S1x128.size inb_S2x2304_S1x128_1_256).toLoadRect (harg9.unread x7)) (View.readAt (Elt F) arg7.view (Rect.unit (s := S2x2304x128) ![1, 256, 0] S1x128x128.size inb_S2x2304x128_S1x128x128_1_256_0).toLoadRect (harg7.unread x5)) := rfl

theorem w0_1_1 : k0_pay57 (kernelRun0_A.sl.r_20 c arg9 harg9 x7) (View.readAt (Elt F) arg7.view (Rect.unit (s := S2x2304x128) ![1, 128, 0] S1x128x128.size inb_S2x2304x128_S1x128x128_1_128_0).toLoadRect (harg7.unread x5)) = k0_pay1 (View.readAt (Elt F) arg9.view (Rect.unit (s := S2x2304) ![1, 128] S1x128.size inb_S2x2304_S1x128_1_128).toLoadRect (harg9.unread x7)) (View.readAt (Elt F) arg7.view (Rect.unit (s := S2x2304x128) ![1, 128, 0] S1x128x128.size inb_S2x2304x128_S1x128x128_1_128_0).toLoadRect (harg7.unread x5)) := rfl

theorem w0_1_0 : k0_pay54 (kernelRun0_A.sl.r_19 c arg9 harg9 x7) k0_pay53 (View.readAt (Elt F) arg7.view (Rect.unit (s := S2x2304x128) ![1, 0, 0] S1x128x128.size inb_S2x2304x128_S1x128x128_1_0_0).toLoadRect (harg7.unread x5)) = k0_pay1 (View.readAt (Elt F) arg9.view (Rect.unit (s := S2x2304) ![1, 0] S1x128.size inb_S2x2304_S1x128_1_0).toLoadRect (harg9.unread x7)) (View.readAt (Elt F) arg7.view (Rect.unit (s := S2x2304x128) ![1, 0, 0] S1x128x128.size inb_S2x2304x128_S1x128x128_1_0_0).toLoadRect (harg7.unread x5)) := rfl

theorem w0_0_17 : k0_pay50 (View.readAt (Elt F) arg9.view (Rect.unit (s := S2x2304) ![0, 2176] S1x128.size inb_S2x2304_S1x128_0_2176).toLoadRect (harg9.unread x7)) (View.readAt (Elt F) arg7.view (Rect.unit (s := S2x2304x128) ![0, 2176, 0] S1x128x128.size inb_S2x2304x128_S1x128x128_0_2176_0).toLoadRect (harg7.unread x5)) = k0_pay1 (View.readAt (Elt F) arg9.view (Rect.unit (s := S2x2304) ![0, 2176] S1x128.size inb_S2x2304_S1x128_0_2176).toLoadRect (harg9.unread x7)) (View.readAt (Elt F) arg7.view (Rect.unit (s := S2x2304x128) ![0, 2176, 0] S1x128x128.size inb_S2x2304x128_S1x128x128_0_2176_0).toLoadRect (harg7.unread x5)) := rfl

theorem w0_0_16 : k0_pay48 (View.readAt (Elt F) arg9.view (Rect.unit (s := S2x2304) ![0, 2048] S1x128.size inb_S2x2304_S1x128_0_2048).toLoadRect (harg9.unread x7)) (View.readAt (Elt F) arg7.view (Rect.unit (s := S2x2304x128) ![0, 2048, 0] S1x128x128.size inb_S2x2304x128_S1x128x128_0_2048_0).toLoadRect (harg7.unread x5)) = k0_pay1 (View.readAt (Elt F) arg9.view (Rect.unit (s := S2x2304) ![0, 2048] S1x128.size inb_S2x2304_S1x128_0_2048).toLoadRect (harg9.unread x7)) (View.readAt (Elt F) arg7.view (Rect.unit (s := S2x2304x128) ![0, 2048, 0] S1x128x128.size inb_S2x2304x128_S1x128x128_0_2048_0).toLoadRect (harg7.unread x5)) := rfl

theorem w0_0_15 : k0_pay45 (View.readAt (Elt F) arg9.view (Rect.unit (s := S2x2304) ![0, 1920] S1x128.size inb_S2x2304_S1x128_0_1920).toLoadRect (harg9.unread x7)) (View.readAt (Elt F) arg7.view (Rect.unit (s := S2x2304x128) ![0, 1920, 0] S1x128x128.size inb_S2x2304x128_S1x128x128_0_1920_0).toLoadRect (harg7.unread x5)) = k0_pay1 (View.readAt (Elt F) arg9.view (Rect.unit (s := S2x2304) ![0, 1920] S1x128.size inb_S2x2304_S1x128_0_1920).toLoadRect (harg9.unread x7)) (View.readAt (Elt F) arg7.view (Rect.unit (s := S2x2304x128) ![0, 1920, 0] S1x128x128.size inb_S2x2304x128_S1x128x128_0_1920_0).toLoadRect (harg7.unread x5)) := rfl

theorem w0_0_14 : k0_pay42 (View.readAt (Elt F) arg9.view (Rect.unit (s := S2x2304) ![0, 1792] S1x128.size inb_S2x2304_S1x128_0_1792).toLoadRect (harg9.unread x7)) (View.readAt (Elt F) arg7.view (Rect.unit (s := S2x2304x128) ![0, 1792, 0] S1x128x128.size inb_S2x2304x128_S1x128x128_0_1792_0).toLoadRect (harg7.unread x5)) = k0_pay1 (View.readAt (Elt F) arg9.view (Rect.unit (s := S2x2304) ![0, 1792] S1x128.size inb_S2x2304_S1x128_0_1792).toLoadRect (harg9.unread x7)) (View.readAt (Elt F) arg7.view (Rect.unit (s := S2x2304x128) ![0, 1792, 0] S1x128x128.size inb_S2x2304x128_S1x128x128_0_1792_0).toLoadRect (harg7.unread x5)) := rfl

theorem w0_0_13 : kernelRun0_A.sl.r_15 c arg7 harg7 arg9 harg9 x5 x7 = k0_pay1 (View.readAt (Elt F) arg9.view (Rect.unit (s := S2x2304) ![0, 1664] S1x128.size inb_S2x2304_S1x128_0_1664).toLoadRect (harg9.unread x7)) (View.readAt (Elt F) arg7.view (Rect.unit (s := S2x2304x128) ![0, 1664, 0] S1x128x128.size inb_S2x2304x128_S1x128x128_0_1664_0).toLoadRect (harg7.unread x5)) := rfl

theorem w0_0_12 : k0_pay38 (kernelRun0_A.sl.r_13 c arg7 harg7 arg9 harg9 x5 x7) (kernelRun0_A.sl.r_14 c arg7 harg7 arg9 harg9 x5 x7) = k0_pay1 (View.readAt (Elt F) arg9.view (Rect.unit (s := S2x2304) ![0, 1536] S1x128.size inb_S2x2304_S1x128_0_1536).toLoadRect (harg9.unread x7)) (View.readAt (Elt F) arg7.view (Rect.unit (s := S2x2304x128) ![0, 1536, 0] S1x128x128.size inb_S2x2304x128_S1x128x128_0_1536_0).toLoadRect (harg7.unread x5)) := rfl

theorem w0_0_11 : k0_pay33 (kernelRun0_A.sl.r_11 c arg9 harg9 x7) (kernelRun0_A.sl.r_12 c arg7 harg7 x5) = k0_pay1 (View.readAt (Elt F) arg9.view (Rect.unit (s := S2x2304) ![0, 1408] S1x128.size inb_S2x2304_S1x128_0_1408).toLoadRect (harg9.unread x7)) (View.readAt (Elt F) arg7.view (Rect.unit (s := S2x2304x128) ![0, 1408, 0] S1x128x128.size inb_S2x2304x128_S1x128x128_0_1408_0).toLoadRect (harg7.unread x5)) := rfl

theorem w0_0_10 : k0_pay30 (kernelRun0_A.sl.r_10 c arg9 harg9 x7) (View.readAt (Elt F) arg7.view (Rect.unit (s := S2x2304x128) ![0, 1280, 0] S1x128x128.size inb_S2x2304x128_S1x128x128_0_1280_0).toLoadRect (harg7.unread x5)) = k0_pay1 (View.readAt (Elt F) arg9.view (Rect.unit (s := S2x2304) ![0, 1280] S1x128.size inb_S2x2304_S1x128_0_1280).toLoadRect (harg9.unread x7)) (View.readAt (Elt F) arg7.view (Rect.unit (s := S2x2304x128) ![0, 1280, 0] S1x128x128.size inb_S2x2304x128_S1x128x128_0_1280_0).toLoadRect (harg7.unread x5)) := rfl

theorem w0_0_9 : k0_pay27 (kernelRun0_A.sl.r_9 c arg9 harg9 x7) (View.readAt (Elt F) arg7.view (Rect.unit (s := S2x2304x128) ![0, 1152, 0] S1x128x128.size inb_S2x2304x128_S1x128x128_0_1152_0).toLoadRect (harg7.unread x5)) = k0_pay1 (View.readAt (Elt F) arg9.view (Rect.unit (s := S2x2304) ![0, 1152] S1x128.size inb_S2x2304_S1x128_0_1152).toLoadRect (harg9.unread x7)) (View.readAt (Elt F) arg7.view (Rect.unit (s := S2x2304x128) ![0, 1152, 0] S1x128x128.size inb_S2x2304x128_S1x128x128_0_1152_0).toLoadRect (harg7.unread x5)) := rfl

theorem w0_0_8 : k0_pay25 (View.readAt (Elt F) arg9.view (Rect.unit (s := S2x2304) ![0, 1024] S1x128.size inb_S2x2304_S1x128_0_1024).toLoadRect (harg9.unread x7)) (View.readAt (Elt F) arg7.view (Rect.unit (s := S2x2304x128) ![0, 1024, 0] S1x128x128.size inb_S2x2304x128_S1x128x128_0_1024_0).toLoadRect (harg7.unread x5)) = k0_pay1 (View.readAt (Elt F) arg9.view (Rect.unit (s := S2x2304) ![0, 1024] S1x128.size inb_S2x2304_S1x128_0_1024).toLoadRect (harg9.unread x7)) (View.readAt (Elt F) arg7.view (Rect.unit (s := S2x2304x128) ![0, 1024, 0] S1x128x128.size inb_S2x2304x128_S1x128x128_0_1024_0).toLoadRect (harg7.unread x5)) := rfl

theorem w0_0_7 : k0_pay22 (View.readAt (Elt F) arg9.view (Rect.unit (s := S2x2304) ![0, 896] S1x128.size inb_S2x2304_S1x128_0_896).toLoadRect (harg9.unread x7)) (View.readAt (Elt F) arg7.view (Rect.unit (s := S2x2304x128) ![0, 896, 0] S1x128x128.size inb_S2x2304x128_S1x128x128_0_896_0).toLoadRect (harg7.unread x5)) = k0_pay1 (View.readAt (Elt F) arg9.view (Rect.unit (s := S2x2304) ![0, 896] S1x128.size inb_S2x2304_S1x128_0_896).toLoadRect (harg9.unread x7)) (View.readAt (Elt F) arg7.view (Rect.unit (s := S2x2304x128) ![0, 896, 0] S1x128x128.size inb_S2x2304x128_S1x128x128_0_896_0).toLoadRect (harg7.unread x5)) := rfl

theorem w0_0_6 : k0_pay18 (View.readAt (Elt F) arg9.view (Rect.unit (s := S2x2304) ![0, 768] S1x128.size inb_S2x2304_S1x128_0_768).toLoadRect (harg9.unread x7)) (View.readAt (Elt F) arg7.view (Rect.unit (s := S2x2304x128) ![0, 768, 0] S1x128x128.size inb_S2x2304x128_S1x128x128_0_768_0).toLoadRect (harg7.unread x5)) = k0_pay1 (View.readAt (Elt F) arg9.view (Rect.unit (s := S2x2304) ![0, 768] S1x128.size inb_S2x2304_S1x128_0_768).toLoadRect (harg9.unread x7)) (View.readAt (Elt F) arg7.view (Rect.unit (s := S2x2304x128) ![0, 768, 0] S1x128x128.size inb_S2x2304x128_S1x128x128_0_768_0).toLoadRect (harg7.unread x5)) := rfl

theorem w0_0_5 : k0_pay16 (View.readAt (Elt F) arg9.view (Rect.unit (s := S2x2304) ![0, 640] S1x128.size inb_S2x2304_S1x128_0_640).toLoadRect (harg9.unread x7)) (View.readAt (Elt F) arg7.view (Rect.unit (s := S2x2304x128) ![0, 640, 0] S1x128x128.size inb_S2x2304x128_S1x128x128_0_640_0).toLoadRect (harg7.unread x5)) = k0_pay1 (View.readAt (Elt F) arg9.view (Rect.unit (s := S2x2304) ![0, 640] S1x128.size inb_S2x2304_S1x128_0_640).toLoadRect (harg9.unread x7)) (View.readAt (Elt F) arg7.view (Rect.unit (s := S2x2304x128) ![0, 640, 0] S1x128x128.size inb_S2x2304x128_S1x128x128_0_640_0).toLoadRect (harg7.unread x5)) := rfl

theorem w0_0_4 : k0_pay14 (kernelRun0_A.sl.r_4 c arg7 harg7 arg9 harg9 x5 x7) = k0_pay1 (View.readAt (Elt F) arg9.view (Rect.unit (s := S2x2304) ![0, 512] S1x128.size inb_S2x2304_S1x128_0_512).toLoadRect (harg9.unread x7)) (View.readAt (Elt F) arg7.view (Rect.unit (s := S2x2304x128) ![0, 512, 0] S1x128x128.size inb_S2x2304x128_S1x128x128_0_512_0).toLoadRect (harg7.unread x5)) := rfl

theorem w0_0_3 : k0_pay11 (kernelRun0_A.sl.r_2 c arg7 harg7 arg9 harg9 x5 x7) (kernelRun0_A.sl.r_3 c arg7 harg7 arg9 harg9 x5 x7) = k0_pay1 (View.readAt (Elt F) arg9.view (Rect.unit (s := S2x2304) ![0, 384] S1x128.size inb_S2x2304_S1x128_0_384).toLoadRect (harg9.unread x7)) (View.readAt (Elt F) arg7.view (Rect.unit (s := S2x2304x128) ![0, 384, 0] S1x128x128.size inb_S2x2304x128_S1x128x128_0_384_0).toLoadRect (harg7.unread x5)) := rfl

theorem w0_0_2 : k0_pay7 (kernelRun0_A.sl.r_1 c arg9 harg9 x7) (View.readAt (Elt F) arg7.view (Rect.unit (s := S2x2304x128) ![0, 256, 0] S1x128x128.size inb_S2x2304x128_S1x128x128_0_256_0).toLoadRect (harg7.unread x5)) = k0_pay1 (View.readAt (Elt F) arg9.view (Rect.unit (s := S2x2304) ![0, 256] S1x128.size inb_S2x2304_S1x128_0_256).toLoadRect (harg9.unread x7)) (View.readAt (Elt F) arg7.view (Rect.unit (s := S2x2304x128) ![0, 256, 0] S1x128x128.size inb_S2x2304x128_S1x128x128_0_256_0).toLoadRect (harg7.unread x5)) := rfl

theorem w0_0_1 : k0_pay4 (kernelRun0_A.sl.r c arg9 harg9 x7) (View.readAt (Elt F) arg7.view (Rect.unit (s := S2x2304x128) ![0, 128, 0] S1x128x128.size inb_S2x2304x128_S1x128x128_0_128_0).toLoadRect (harg7.unread x5)) = k0_pay1 (View.readAt (Elt F) arg9.view (Rect.unit (s := S2x2304) ![0, 128] S1x128.size inb_S2x2304_S1x128_0_128).toLoadRect (harg9.unread x7)) (View.readAt (Elt F) arg7.view (Rect.unit (s := S2x2304x128) ![0, 128, 0] S1x128x128.size inb_S2x2304x128_S1x128x128_0_128_0).toLoadRect (harg7.unread x5)) := rfl

theorem w0_0_0 : k0_pay1 (View.readAt (Elt F) arg9.view (Rect.unit (s := S2x2304) ![0, 0] S1x128.size inb_S2x2304_S1x128_0_0).toLoadRect (harg9.unread x7)) (View.readAt (Elt F) arg7.view (Rect.unit (s := S2x2304x128) ![0, 0, 0] S1x128x128.size inb_S2x2304x128_S1x128x128_0_0_0).toLoadRect (harg7.unread x5)) = k0_pay1 (View.readAt (Elt F) arg9.view (Rect.unit (s := S2x2304) ![0, 0] S1x128.size inb_S2x2304_S1x128_0_0).toLoadRect (harg9.unread x7)) (View.readAt (Elt F) arg7.view (Rect.unit (s := S2x2304x128) ![0, 0, 0] S1x128x128.size inb_S2x2304x128_S1x128x128_0_0_0).toLoadRect (harg7.unread x5)) := rfl

theorem w1_1_17 : k0_pay107 (View.readAt (Elt F) arg10.view (Rect.unit (s := S2x2304) ![1, 2176] S1x128.size inb_S2x2304_S1x128_1_2176).toLoadRect (harg10.unread x8)) (View.readAt (Elt F) arg8.view (Rect.unit (s := S2x2304x128) ![1, 2176, 0] S1x128x128.size inb_S2x2304x128_S1x128x128_1_2176_0).toLoadRect (harg8.unread x6)) = k0_pay2 (View.readAt (Elt F) arg10.view (Rect.unit (s := S2x2304) ![1, 2176] S1x128.size inb_S2x2304_S1x128_1_2176).toLoadRect (harg10.unread x8)) (View.readAt (Elt F) arg8.view (Rect.unit (s := S2x2304x128) ![1, 2176, 0] S1x128x128.size inb_S2x2304x128_S1x128x128_1_2176_0).toLoadRect (harg8.unread x6)) := rfl

theorem w1_1_16 : k0_pay104 (View.readAt (Elt F) arg10.view (Rect.unit (s := S2x2304) ![1, 2048] S1x128.size inb_S2x2304_S1x128_1_2048).toLoadRect (harg10.unread x8)) (View.readAt (Elt F) arg8.view (Rect.unit (s := S2x2304x128) ![1, 2048, 0] S1x128x128.size inb_S2x2304x128_S1x128x128_1_2048_0).toLoadRect (harg8.unread x6)) = k0_pay2 (View.readAt (Elt F) arg10.view (Rect.unit (s := S2x2304) ![1, 2048] S1x128.size inb_S2x2304_S1x128_1_2048).toLoadRect (harg10.unread x8)) (View.readAt (Elt F) arg8.view (Rect.unit (s := S2x2304x128) ![1, 2048, 0] S1x128x128.size inb_S2x2304x128_S1x128x128_1_2048_0).toLoadRect (harg8.unread x6)) := rfl

theorem w1_1_15 : k0_pay102 (kernelRun0_A.sl.r_34 c arg8 harg8 arg10 harg10 x6 x8) = k0_pay2 (View.readAt (Elt F) arg10.view (Rect.unit (s := S2x2304) ![1, 1920] S1x128.size inb_S2x2304_S1x128_1_1920).toLoadRect (harg10.unread x8)) (View.readAt (Elt F) arg8.view (Rect.unit (s := S2x2304x128) ![1, 1920, 0] S1x128x128.size inb_S2x2304x128_S1x128x128_1_1920_0).toLoadRect (harg8.unread x6)) := rfl

theorem w1_1_14 : k0_pay99 (kernelRun0_A.sl.r_32 c arg8 harg8 x6) (kernelRun0_A.sl.r_33 c arg10 harg10 x8) = k0_pay2 (View.readAt (Elt F) arg10.view (Rect.unit (s := S2x2304) ![1, 1792] S1x128.size inb_S2x2304_S1x128_1_1792).toLoadRect (harg10.unread x8)) (View.readAt (Elt F) arg8.view (Rect.unit (s := S2x2304x128) ![1, 1792, 0] S1x128x128.size inb_S2x2304x128_S1x128x128_1_1792_0).toLoadRect (harg8.unread x6)) := rfl

theorem w1_1_13 : k0_pay95 (kernelRun0_A.sl.r_31 c arg10 harg10 x8) (View.readAt (Elt F) arg8.view (Rect.unit (s := S2x2304x128) ![1, 1664, 0] S1x128x128.size inb_S2x2304x128_S1x128x128_1_1664_0).toLoadRect (harg8.unread x6)) = k0_pay2 (View.readAt (Elt F) arg10.view (Rect.unit (s := S2x2304) ![1, 1664] S1x128.size inb_S2x2304_S1x128_1_1664).toLoadRect (harg10.unread x8)) (View.readAt (Elt F) arg8.view (Rect.unit (s := S2x2304x128) ![1, 1664, 0] S1x128x128.size inb_S2x2304x128_S1x128x128_1_1664_0).toLoadRect (harg8.unread x6)) := rfl

theorem w1_1_12 : k0_pay92 (View.readAt (Elt F) arg10.view (Rect.unit (s := S2x2304) ![1, 1536] S1x128.size inb_S2x2304_S1x128_1_1536).toLoadRect (harg10.unread x8)) (View.readAt (Elt F) arg8.view (Rect.unit (s := S2x2304x128) ![1, 1536, 0] S1x128x128.size inb_S2x2304x128_S1x128x128_1_1536_0).toLoadRect (harg8.unread x6)) = k0_pay2 (View.readAt (Elt F) arg10.view (Rect.unit (s := S2x2304) ![1, 1536] S1x128.size inb_S2x2304_S1x128_1_1536).toLoadRect (harg10.unread x8)) (View.readAt (Elt F) arg8.view (Rect.unit (s := S2x2304x128) ![1, 1536, 0] S1x128x128.size inb_S2x2304x128_S1x128x128_1_1536_0).toLoadRect (harg8.unread x6)) := rfl

theorem w1_1_11 : k0_pay89 (View.readAt (Elt F) arg10.view (Rect.unit (s := S2x2304) ![1, 1408] S1x128.size inb_S2x2304_S1x128_1_1408).toLoadRect (harg10.unread x8)) (View.readAt (Elt F) arg8.view (Rect.unit (s := S2x2304x128) ![1, 1408, 0] S1x128x128.size inb_S2x2304x128_S1x128x128_1_1408_0).toLoadRect (harg8.unread x6)) = k0_pay2 (View.readAt (Elt F) arg10.view (Rect.unit (s := S2x2304) ![1, 1408] S1x128.size inb_S2x2304_S1x128_1_1408).toLoadRect (harg10.unread x8)) (View.readAt (Elt F) arg8.view (Rect.unit (s := S2x2304x128) ![1, 1408, 0] S1x128x128.size inb_S2x2304x128_S1x128x128_1_1408_0).toLoadRect (harg8.unread x6)) := rfl

theorem w1_1_10 : k0_pay84 (View.readAt (Elt F) arg10.view (Rect.unit (s := S2x2304) ![1, 1280] S1x128.size inb_S2x2304_S1x128_1_1280).toLoadRect (harg10.unread x8)) (View.readAt (Elt F) arg8.view (Rect.unit (s := S2x2304x128) ![1, 1280, 0] S1x128x128.size inb_S2x2304x128_S1x128x128_1_1280_0).toLoadRect (harg8.unread x6)) = k0_pay2 (View.readAt (Elt F) arg10.view (Rect.unit (s := S2x2304) ![1, 1280] S1x128.size inb_S2x2304_S1x128_1_1280).toLoadRect (harg10.unread x8)) (View.readAt (Elt F) arg8.view (Rect.unit (s := S2x2304x128) ![1, 1280, 0] S1x128x128.size inb_S2x2304x128_S1x128x128_1_1280_0).toLoadRect (harg8.unread x6)) := rfl

theorem w1_1_9 : k0_pay81 (View.readAt (Elt F) arg10.view (Rect.unit (s := S2x2304) ![1, 1152] S1x128.size inb_S2x2304_S1x128_1_1152).toLoadRect (harg10.unread x8)) (View.readAt (Elt F) arg8.view (Rect.unit (s := S2x2304x128) ![1, 1152, 0] S1x128x128.size inb_S2x2304x128_S1x128x128_1_1152_0).toLoadRect (harg8.unread x6)) = k0_pay2 (View.readAt (Elt F) arg10.view (Rect.unit (s := S2x2304) ![1, 1152] S1x128.size inb_S2x2304_S1x128_1_1152).toLoadRect (harg10.unread x8)) (View.readAt (Elt F) arg8.view (Rect.unit (s := S2x2304x128) ![1, 1152, 0] S1x128x128.size inb_S2x2304x128_S1x128x128_1_1152_0).toLoadRect (harg8.unread x6)) := rfl

theorem w1_1_8 : k0_pay77 (View.readAt (Elt F) arg10.view (Rect.unit (s := S2x2304) ![1, 1024] S1x128.size inb_S2x2304_S1x128_1_1024).toLoadRect (harg10.unread x8)) (View.readAt (Elt F) arg8.view (Rect.unit (s := S2x2304x128) ![1, 1024, 0] S1x128x128.size inb_S2x2304x128_S1x128x128_1_1024_0).toLoadRect (harg8.unread x6)) = k0_pay2 (View.readAt (Elt F) arg10.view (Rect.unit (s := S2x2304) ![1, 1024] S1x128.size inb_S2x2304_S1x128_1_1024).toLoadRect (harg10.unread x8)) (View.readAt (Elt F) arg8.view (Rect.unit (s := S2x2304x128) ![1, 1024, 0] S1x128x128.size inb_S2x2304x128_S1x128x128_1_1024_0).toLoadRect (harg8.unread x6)) := rfl

theorem w1_1_7 : k0_pay75 (View.readAt (Elt F) arg10.view (Rect.unit (s := S2x2304) ![1, 896] S1x128.size inb_S2x2304_S1x128_1_896).toLoadRect (harg10.unread x8)) (View.readAt (Elt F) arg8.view (Rect.unit (s := S2x2304x128) ![1, 896, 0] S1x128x128.size inb_S2x2304x128_S1x128x128_1_896_0).toLoadRect (harg8.unread x6)) = k0_pay2 (View.readAt (Elt F) arg10.view (Rect.unit (s := S2x2304) ![1, 896] S1x128.size inb_S2x2304_S1x128_1_896).toLoadRect (harg10.unread x8)) (View.readAt (Elt F) arg8.view (Rect.unit (s := S2x2304x128) ![1, 896, 0] S1x128x128.size inb_S2x2304x128_S1x128x128_1_896_0).toLoadRect (harg8.unread x6)) := rfl

theorem w1_1_6 : k0_pay73 (kernelRun0_A.sl.r_25 c arg8 harg8 arg10 harg10 x6 x8) = k0_pay2 (View.readAt (Elt F) arg10.view (Rect.unit (s := S2x2304) ![1, 768] S1x128.size inb_S2x2304_S1x128_1_768).toLoadRect (harg10.unread x8)) (View.readAt (Elt F) arg8.view (Rect.unit (s := S2x2304x128) ![1, 768, 0] S1x128x128.size inb_S2x2304x128_S1x128x128_1_768_0).toLoadRect (harg8.unread x6)) := rfl

theorem w1_1_5 : k0_pay70 (kernelRun0_A.sl.r_23 c arg10 harg10 x8) (kernelRun0_A.sl.r_24 c arg8 harg8 x6) = k0_pay2 (View.readAt (Elt F) arg10.view (Rect.unit (s := S2x2304) ![1, 640] S1x128.size inb_S2x2304_S1x128_1_640).toLoadRect (harg10.unread x8)) (View.readAt (Elt F) arg8.view (Rect.unit (s := S2x2304x128) ![1, 640, 0] S1x128x128.size inb_S2x2304x128_S1x128x128_1_640_0).toLoadRect (harg8.unread x6)) := rfl

theorem w1_1_4 : k0_pay66 (View.readAt (Elt F) arg10.view (Rect.unit (s := S2x2304) ![1, 512] S1x128.size inb_S2x2304_S1x128_1_512).toLoadRect (harg10.unread x8)) (View.readAt (Elt F) arg8.view (Rect.unit (s := S2x2304x128) ![1, 512, 0] S1x128x128.size inb_S2x2304x128_S1x128x128_1_512_0).toLoadRect (harg8.unread x6)) = k0_pay2 (View.readAt (Elt F) arg10.view (Rect.unit (s := S2x2304) ![1, 512] S1x128.size inb_S2x2304_S1x128_1_512).toLoadRect (harg10.unread x8)) (View.readAt (Elt F) arg8.view (Rect.unit (s := S2x2304x128) ![1, 512, 0] S1x128x128.size inb_S2x2304x128_S1x128x128_1_512_0).toLoadRect (harg8.unread x6)) := rfl

theorem w1_1_3 : k0_pay64 (View.readAt (Elt F) arg10.view (Rect.unit (s := S2x2304) ![1, 384] S1x128.size inb_S2x2304_S1x128_1_384).toLoadRect (harg10.unread x8)) (View.readAt (Elt F) arg8.view (Rect.unit (s := S2x2304x128) ![1, 384, 0] S1x128x128.size inb_S2x2304x128_S1x128x128_1_384_0).toLoadRect (harg8.unread x6)) = k0_pay2 (View.readAt (Elt F) arg10.view (Rect.unit (s := S2x2304) ![1, 384] S1x128.size inb_S2x2304_S1x128_1_384).toLoadRect (harg10.unread x8)) (View.readAt (Elt F) arg8.view (Rect.unit (s := S2x2304x128) ![1, 384, 0] S1x128x128.size inb_S2x2304x128_S1x128x128_1_384_0).toLoadRect (harg8.unread x6)) := rfl

theorem w1_1_2 : k0_pay61 (View.readAt (Elt F) arg10.view (Rect.unit (s := S2x2304) ![1, 256] S1x128.size inb_S2x2304_S1x128_1_256).toLoadRect (harg10.unread x8)) (View.readAt (Elt F) arg8.view (Rect.unit (s := S2x2304x128) ![1, 256, 0] S1x128x128.size inb_S2x2304x128_S1x128x128_1_256_0).toLoadRect (harg8.unread x6)) = k0_pay2 (View.readAt (Elt F) arg10.view (Rect.unit (s := S2x2304) ![1, 256] S1x128.size inb_S2x2304_S1x128_1_256).toLoadRect (harg10.unread x8)) (View.readAt (Elt F) arg8.view (Rect.unit (s := S2x2304x128) ![1, 256, 0] S1x128x128.size inb_S2x2304x128_S1x128x128_1_256_0).toLoadRect (harg8.unread x6)) := rfl

theorem w1_1_1 : k0_pay58 (View.readAt (Elt F) arg10.view (Rect.unit (s := S2x2304) ![1, 128] S1x128.size inb_S2x2304_S1x128_1_128).toLoadRect (harg10.unread x8)) (View.readAt (Elt F) arg8.view (Rect.unit (s := S2x2304x128) ![1, 128, 0] S1x128x128.size inb_S2x2304x128_S1x128x128_1_128_0).toLoadRect (harg8.unread x6)) = k0_pay2 (View.readAt (Elt F) arg10.view (Rect.unit (s := S2x2304) ![1, 128] S1x128.size inb_S2x2304_S1x128_1_128).toLoadRect (harg10.unread x8)) (View.readAt (Elt F) arg8.view (Rect.unit (s := S2x2304x128) ![1, 128, 0] S1x128x128.size inb_S2x2304x128_S1x128x128_1_128_0).toLoadRect (harg8.unread x6)) := rfl

theorem w1_1_0 : k0_pay55 (View.readAt (Elt F) arg10.view (Rect.unit (s := S2x2304) ![1, 0] S1x128.size inb_S2x2304_S1x128_1_0).toLoadRect (harg10.unread x8)) (View.readAt (Elt F) arg8.view (Rect.unit (s := S2x2304x128) ![1, 0, 0] S1x128x128.size inb_S2x2304x128_S1x128x128_1_0_0).toLoadRect (harg8.unread x6)) = k0_pay2 (View.readAt (Elt F) arg10.view (Rect.unit (s := S2x2304) ![1, 0] S1x128.size inb_S2x2304_S1x128_1_0).toLoadRect (harg10.unread x8)) (View.readAt (Elt F) arg8.view (Rect.unit (s := S2x2304x128) ![1, 0, 0] S1x128x128.size inb_S2x2304x128_S1x128x128_1_0_0).toLoadRect (harg8.unread x6)) := rfl

theorem w1_0_17 : k0_pay51 (View.readAt (Elt F) arg10.view (Rect.unit (s := S2x2304) ![0, 2176] S1x128.size inb_S2x2304_S1x128_0_2176).toLoadRect (harg10.unread x8)) (View.readAt (Elt F) arg8.view (Rect.unit (s := S2x2304x128) ![0, 2176, 0] S1x128x128.size inb_S2x2304x128_S1x128x128_0_2176_0).toLoadRect (harg8.unread x6)) = k0_pay2 (View.readAt (Elt F) arg10.view (Rect.unit (s := S2x2304) ![0, 2176] S1x128.size inb_S2x2304_S1x128_0_2176).toLoadRect (harg10.unread x8)) (View.readAt (Elt F) arg8.view (Rect.unit (s := S2x2304x128) ![0, 2176, 0] S1x128x128.size inb_S2x2304x128_S1x128x128_0_2176_0).toLoadRect (harg8.unread x6)) := rfl

theorem w1_0_16 : kernelRun0_A.sl.r_18 c arg8 harg8 arg10 harg10 x6 x8 = k0_pay2 (View.readAt (Elt F) arg10.view (Rect.unit (s := S2x2304) ![0, 2048] S1x128.size inb_S2x2304_S1x128_0_2048).toLoadRect (harg10.unread x8)) (View.readAt (Elt F) arg8.view (Rect.unit (s := S2x2304x128) ![0, 2048, 0] S1x128x128.size inb_S2x2304x128_S1x128x128_0_2048_0).toLoadRect (harg8.unread x6)) := rfl

theorem w1_0_15 : k0_pay47 (kernelRun0_A.sl.r_17 c arg8 harg8 arg10 harg10 x6 x8) = k0_pay2 (View.readAt (Elt F) arg10.view (Rect.unit (s := S2x2304) ![0, 1920] S1x128.size inb_S2x2304_S1x128_0_1920).toLoadRect (harg10.unread x8)) (View.readAt (Elt F) arg8.view (Rect.unit (s := S2x2304x128) ![0, 1920, 0] S1x128x128.size inb_S2x2304x128_S1x128x128_0_1920_0).toLoadRect (harg8.unread x6)) := rfl

theorem w1_0_14 : k0_pay44 (kernelRun0_A.sl.r_16 c arg10 harg10 x8) (View.readAt (Elt F) arg8.view (Rect.unit (s := S2x2304x128) ![0, 1792, 0] S1x128x128.size inb_S2x2304x128_S1x128x128_0_1792_0).toLoadRect (harg8.unread x6)) = k0_pay2 (View.readAt (Elt F) arg10.view (Rect.unit (s := S2x2304) ![0, 1792] S1x128.size inb_S2x2304_S1x128_0_1792).toLoadRect (harg10.unread x8)) (View.readAt (Elt F) arg8.view (Rect.unit (s := S2x2304x128) ![0, 1792, 0] S1x128x128.size inb_S2x2304x128_S1x128x128_0_1792_0).toLoadRect (harg8.unread x6)) := rfl

theorem w1_0_13 : k0_pay41 (View.readAt (Elt F) arg10.view (Rect.unit (s := S2x2304) ![0, 1664] S1x128.size inb_S2x2304_S1x128_0_1664).toLoadRect (harg10.unread x8)) (View.readAt (Elt F) arg8.view (Rect.unit (s := S2x2304x128) ![0, 1664, 0] S1x128x128.size inb_S2x2304x128_S1x128x128_0_1664_0).toLoadRect (harg8.unread x6)) = k0_pay2 (View.readAt (Elt F) arg10.view (Rect.unit (s := S2x2304) ![0, 1664] S1x128.size inb_S2x2304_S1x128_0_1664).toLoadRect (harg10.unread x8)) (View.readAt (Elt F) arg8.view (Rect.unit (s := S2x2304x128) ![0, 1664, 0] S1x128x128.size inb_S2x2304x128_S1x128x128_0_1664_0).toLoadRect (harg8.unread x6)) := rfl

theorem w1_0_12 : k0_pay39 (View.readAt (Elt F) arg10.view (Rect.unit (s := S2x2304) ![0, 1536] S1x128.size inb_S2x2304_S1x128_0_1536).toLoadRect (harg10.unread x8)) (View.readAt (Elt F) arg8.view (Rect.unit (s := S2x2304x128) ![0, 1536, 0] S1x128x128.size inb_S2x2304x128_S1x128x128_0_1536_0).toLoadRect (harg8.unread x6)) = k0_pay2 (View.readAt (Elt F) arg10.view (Rect.unit (s := S2x2304) ![0, 1536] S1x128.size inb_S2x2304_S1x128_0_1536).toLoadRect (harg10.unread x8)) (View.readAt (Elt F) arg8.view (Rect.unit (s := S2x2304x128) ![0, 1536, 0] S1x128x128.size inb_S2x2304x128_S1x128x128_0_1536_0).toLoadRect (harg8.unread x6)) := rfl

theorem w1_0_11 : k0_pay34 (View.readAt (Elt F) arg10.view (Rect.unit (s := S2x2304) ![0, 1408] S1x128.size inb_S2x2304_S1x128_0_1408).toLoadRect (harg10.unread x8)) (View.readAt (Elt F) arg8.view (Rect.unit (s := S2x2304x128) ![0, 1408, 0] S1x128x128.size inb_S2x2304x128_S1x128x128_0_1408_0).toLoadRect (harg8.unread x6)) = k0_pay2 (View.readAt (Elt F) arg10.view (Rect.unit (s := S2x2304) ![0, 1408] S1x128.size inb_S2x2304_S1x128_0_1408).toLoadRect (harg10.unread x8)) (View.readAt (Elt F) arg8.view (Rect.unit (s := S2x2304x128) ![0, 1408, 0] S1x128x128.size inb_S2x2304x128_S1x128x128_0_1408_0).toLoadRect (harg8.unread x6)) := rfl

theorem w1_0_10 : k0_pay31 (View.readAt (Elt F) arg10.view (Rect.unit (s := S2x2304) ![0, 1280] S1x128.size inb_S2x2304_S1x128_0_1280).toLoadRect (harg10.unread x8)) (View.readAt (Elt F) arg8.view (Rect.unit (s := S2x2304x128) ![0, 1280, 0] S1x128x128.size inb_S2x2304x128_S1x128x128_0_1280_0).toLoadRect (harg8.unread x6)) = k0_pay2 (View.readAt (Elt F) arg10.view (Rect.unit (s := S2x2304) ![0, 1280] S1x128.size inb_S2x2304_S1x128_0_1280).toLoadRect (harg10.unread x8)) (View.readAt (Elt F) arg8.view (Rect.unit (s := S2x2304x128) ![0, 1280, 0] S1x128x128.size inb_S2x2304x128_S1x128x128_0_1280_0).toLoadRect (harg8.unread x6)) := rfl

theorem w1_0_9 : k0_pay28 (View.readAt (Elt F) arg10.view (Rect.unit (s := S2x2304) ![0, 1152] S1x128.size inb_S2x2304_S1x128_0_1152).toLoadRect (harg10.unread x8)) (View.readAt (Elt F) arg8.view (Rect.unit (s := S2x2304x128) ![0, 1152, 0] S1x128x128.size inb_S2x2304x128_S1x128x128_0_1152_0).toLoadRect (harg8.unread x6)) = k0_pay2 (View.readAt (Elt F) arg10.view (Rect.unit (s := S2x2304) ![0, 1152] S1x128.size inb_S2x2304_S1x128_0_1152).toLoadRect (harg10.unread x8)) (View.readAt (Elt F) arg8.view (Rect.unit (s := S2x2304x128) ![0, 1152, 0] S1x128x128.size inb_S2x2304x128_S1x128x128_0_1152_0).toLoadRect (harg8.unread x6)) := rfl

theorem w1_0_8 : k0_pay26 (View.readAt (Elt F) arg10.view (Rect.unit (s := S2x2304) ![0, 1024] S1x128.size inb_S2x2304_S1x128_0_1024).toLoadRect (harg10.unread x8)) (View.readAt (Elt F) arg8.view (Rect.unit (s := S2x2304x128) ![0, 1024, 0] S1x128x128.size inb_S2x2304x128_S1x128x128_0_1024_0).toLoadRect (harg8.unread x6)) = k0_pay2 (View.readAt (Elt F) arg10.view (Rect.unit (s := S2x2304) ![0, 1024] S1x128.size inb_S2x2304_S1x128_0_1024).toLoadRect (harg10.unread x8)) (View.readAt (Elt F) arg8.view (Rect.unit (s := S2x2304x128) ![0, 1024, 0] S1x128x128.size inb_S2x2304x128_S1x128x128_0_1024_0).toLoadRect (harg8.unread x6)) := rfl

theorem w1_0_7 : k0_pay24 (kernelRun0_A.sl.r_8 c arg8 harg8 arg10 harg10 x6 x8) = k0_pay2 (View.readAt (Elt F) arg10.view (Rect.unit (s := S2x2304) ![0, 896] S1x128.size inb_S2x2304_S1x128_0_896).toLoadRect (harg10.unread x8)) (View.readAt (Elt F) arg8.view (Rect.unit (s := S2x2304x128) ![0, 896, 0] S1x128x128.size inb_S2x2304x128_S1x128x128_0_896_0).toLoadRect (harg8.unread x6)) := rfl

theorem w1_0_6 : k0_pay21 (kernelRun0_A.sl.r_6 c arg10 harg10 x8) (kernelRun0_A.sl.r_7 c arg8 harg8 x6) = k0_pay2 (View.readAt (Elt F) arg10.view (Rect.unit (s := S2x2304) ![0, 768] S1x128.size inb_S2x2304_S1x128_0_768).toLoadRect (harg10.unread x8)) (View.readAt (Elt F) arg8.view (Rect.unit (s := S2x2304x128) ![0, 768, 0] S1x128x128.size inb_S2x2304x128_S1x128x128_0_768_0).toLoadRect (harg8.unread x6)) := rfl

theorem w1_0_5 : k0_pay17 (kernelRun0_A.sl.r_5 c arg10 harg10 x8) (View.readAt (Elt F) arg8.view (Rect.unit (s := S2x2304x128) ![0, 640, 0] S1x128x128.size inb_S2x2304x128_S1x128x128_0_640_0).toLoadRect (harg8.unread x6)) = k0_pay2 (View.readAt (Elt F) arg10.view (Rect.unit (s := S2x2304) ![0, 640] S1x128.size inb_S2x2304_S1x128_0_640).toLoadRect (harg10.unread x8)) (View.readAt (Elt F) arg8.view (Rect.unit (s := S2x2304x128) ![0, 640, 0] S1x128x128.size inb_S2x2304x128_S1x128x128_0_640_0).toLoadRect (harg8.unread x6)) := rfl

theorem w1_0_4 : k0_pay15 (View.readAt (Elt F) arg10.view (Rect.unit (s := S2x2304) ![0, 512] S1x128.size inb_S2x2304_S1x128_0_512).toLoadRect (harg10.unread x8)) (View.readAt (Elt F) arg8.view (Rect.unit (s := S2x2304x128) ![0, 512, 0] S1x128x128.size inb_S2x2304x128_S1x128x128_0_512_0).toLoadRect (harg8.unread x6)) = k0_pay2 (View.readAt (Elt F) arg10.view (Rect.unit (s := S2x2304) ![0, 512] S1x128.size inb_S2x2304_S1x128_0_512).toLoadRect (harg10.unread x8)) (View.readAt (Elt F) arg8.view (Rect.unit (s := S2x2304x128) ![0, 512, 0] S1x128x128.size inb_S2x2304x128_S1x128x128_0_512_0).toLoadRect (harg8.unread x6)) := rfl

theorem w1_0_3 : k0_pay12 (View.readAt (Elt F) arg10.view (Rect.unit (s := S2x2304) ![0, 384] S1x128.size inb_S2x2304_S1x128_0_384).toLoadRect (harg10.unread x8)) (View.readAt (Elt F) arg8.view (Rect.unit (s := S2x2304x128) ![0, 384, 0] S1x128x128.size inb_S2x2304x128_S1x128x128_0_384_0).toLoadRect (harg8.unread x6)) = k0_pay2 (View.readAt (Elt F) arg10.view (Rect.unit (s := S2x2304) ![0, 384] S1x128.size inb_S2x2304_S1x128_0_384).toLoadRect (harg10.unread x8)) (View.readAt (Elt F) arg8.view (Rect.unit (s := S2x2304x128) ![0, 384, 0] S1x128x128.size inb_S2x2304x128_S1x128x128_0_384_0).toLoadRect (harg8.unread x6)) := rfl

theorem w1_0_2 : k0_pay8 (View.readAt (Elt F) arg10.view (Rect.unit (s := S2x2304) ![0, 256] S1x128.size inb_S2x2304_S1x128_0_256).toLoadRect (harg10.unread x8)) (View.readAt (Elt F) arg8.view (Rect.unit (s := S2x2304x128) ![0, 256, 0] S1x128x128.size inb_S2x2304x128_S1x128x128_0_256_0).toLoadRect (harg8.unread x6)) = k0_pay2 (View.readAt (Elt F) arg10.view (Rect.unit (s := S2x2304) ![0, 256] S1x128.size inb_S2x2304_S1x128_0_256).toLoadRect (harg10.unread x8)) (View.readAt (Elt F) arg8.view (Rect.unit (s := S2x2304x128) ![0, 256, 0] S1x128x128.size inb_S2x2304x128_S1x128x128_0_256_0).toLoadRect (harg8.unread x6)) := rfl

theorem w1_0_1 : k0_pay5 (View.readAt (Elt F) arg10.view (Rect.unit (s := S2x2304) ![0, 128] S1x128.size inb_S2x2304_S1x128_0_128).toLoadRect (harg10.unread x8)) (View.readAt (Elt F) arg8.view (Rect.unit (s := S2x2304x128) ![0, 128, 0] S1x128x128.size inb_S2x2304x128_S1x128x128_0_128_0).toLoadRect (harg8.unread x6)) = k0_pay2 (View.readAt (Elt F) arg10.view (Rect.unit (s := S2x2304) ![0, 128] S1x128.size inb_S2x2304_S1x128_0_128).toLoadRect (harg10.unread x8)) (View.readAt (Elt F) arg8.view (Rect.unit (s := S2x2304x128) ![0, 128, 0] S1x128x128.size inb_S2x2304x128_S1x128x128_0_128_0).toLoadRect (harg8.unread x6)) := rfl

theorem w1_0_0 : k0_pay2 (View.readAt (Elt F) arg10.view (Rect.unit (s := S2x2304) ![0, 0] S1x128.size inb_S2x2304_S1x128_0_0).toLoadRect (harg10.unread x8)) (View.readAt (Elt F) arg8.view (Rect.unit (s := S2x2304x128) ![0, 0, 0] S1x128x128.size inb_S2x2304x128_S1x128x128_0_0_0).toLoadRect (harg8.unread x6)) = k0_pay2 (View.readAt (Elt F) arg10.view (Rect.unit (s := S2x2304) ![0, 0] S1x128.size inb_S2x2304_S1x128_0_0).toLoadRect (harg10.unread x8)) (View.readAt (Elt F) arg8.view (Rect.unit (s := S2x2304x128) ![0, 0, 0] S1x128x128.size inb_S2x2304x128_S1x128x128_0_0_0).toLoadRect (harg8.unread x6)) := rfl

end Words

variable (c : Dev nD) (i : grid0.Coords) (arg2 : Memref sig .tc .vmem S512x128 .bf16) (harg2 : arg2.IsWhole) (arg3 : Memref sig .tc .vmem S32x1x8x128 .bf16) (harg3 : arg3.IsWhole) (arg4 : Memref sig .tc .vmem S32x1x8x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S2x2304x128 .fp8e4m3) (harg7 : arg7.IsWhole) (arg8 : Memref sig .tc .vmem S2x2304x128 .fp8e4m3) (harg8 : arg8.IsWhole) (arg9 : Memref sig .tc .vmem S2x2304 .f32) (harg9 : arg9.IsWhole) (arg10 : Memref sig .tc .vmem S2x2304 .f32) (harg10 : arg10.IsWhole) (arg11 : Memref sig .tc .vmem S8x2x256x128 .fp8e4m3) (harg11 : arg11.IsWhole) (arg12 : Memref sig .tc .vmem S8x2x256x128 .fp8e4m3) (harg12 : arg12.IsWhole) (arg13 : Memref sig .tc .vmem S8x2x256 .f32) (harg13 : arg13.IsWhole) (arg14 : Memref sig .tc .vmem S8x2x256 .f32) (harg14 : arg14.IsWhole) (arg15 : Memref sig .tc .vmem S8x4x16x128 .bf16) (harg15 : arg15.IsWhole) (arg16 : Memref sig .tc .vmem S2x2304x256 .bf16) (harg16 : arg16.IsWhole) (arg17 : Memref sig .tc .vmem S2x128x2304 .bf16) (harg17 : arg17.IsWhole) (arg18 : Memref sig .tc .vmem S2x2304x256 .f32) (harg18 : arg18.IsWhole) (hc0 : cond0_0 i) (x0 : Vec Ideal S512x128 .bf16) (x1 : Vec Ideal S32x1x8x128 .bf16) (x2 : Vec Ideal S32x1x8x128 .bf16) (x3 : Vec Ideal S64x128 .bf16) (x4 : Vec Ideal S64x128 .bf16) (x5 : Vec Ideal S2x2304x128 .fp8e4m3) (x6 : Vec Ideal S2x2304x128 .fp8e4m3) (x7 : Vec Ideal S2x2304 .f32) (x8 : Vec Ideal S2x2304 .f32) (x9 : Vec Ideal S8x2x256x128 .fp8e4m3) (x10 : Vec Ideal S8x2x256x128 .fp8e4m3) (x11 : Vec Ideal S8x2x256 .f32) (x12 : Vec Ideal S8x2x256 .f32) (xt0 : TbBuf0 (F := Ideal) c tbM0_0)

variable (I : Inp) (R : I.Real) (H : FillOk I x5 x6 x7 x8)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 R H

/-- What the stores leave in the scratch array, at every place. -/
theorem canon0 : View.canon (kernelRun0_A.sl.HS0_36 c arg7 harg7 arg9 harg9 x5 x7) = kaG I := by
  funext y
  have cov := scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 y
  unfold kernelRun0_A at cov
  dsimp only at cov
  unfold kernelRun0_A.sl.HS0_36 at cov ⊢
  canon_tiles x h using cov
  · exact (congrFun (w0_1_17 c arg7 harg7 arg9 harg9 x5 x7) x).trans (ka_piece _ _ I R H 1 17 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_16 arg7 harg7 arg9 harg9 x5 x7) x).trans (ka_piece _ _ I R H 1 16 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_15 arg7 harg7 arg9 harg9 x5 x7) x).trans (ka_piece _ _ I R H 1 15 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_14 arg7 harg7 arg9 harg9 x5 x7) x).trans (ka_piece _ _ I R H 1 14 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_13 arg7 harg7 arg9 harg9 x5 x7) x).trans (ka_piece _ _ I R H 1 13 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_12 c arg7 harg7 arg9 harg9 x5 x7) x).trans (ka_piece _ _ I R H 1 12 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_11 c arg7 harg7 arg9 harg9 x5 x7) x).trans (ka_piece _ _ I R H 1 11 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_10 c arg7 harg7 arg9 harg9 x5 x7) x).trans (ka_piece _ _ I R H 1 10 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_9 c arg7 harg7 arg9 harg9 x5 x7) x).trans (ka_piece _ _ I R H 1 9 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_8 arg7 harg7 arg9 harg9 x5 x7) x).trans (ka_piece _ _ I R H 1 8 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_7 arg7 harg7 arg9 harg9 x5 x7) x).trans (ka_piece _ _ I R H 1 7 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_6 arg7 harg7 arg9 harg9 x5 x7) x).trans (ka_piece _ _ I R H 1 6 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_5 arg7 harg7 arg9 harg9 x5 x7) x).trans (ka_piece _ _ I R H 1 5 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_4 arg7 harg7 arg9 harg9 x5 x7) x).trans (ka_piece _ _ I R H 1 4 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_3 c arg7 harg7 arg9 harg9 x5 x7) x).trans (ka_piece _ _ I R H 1 3 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_2 c arg7 harg7 arg9 harg9 x5 x7) x).trans (ka_piece _ _ I R H 1 2 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_1 c arg7 harg7 arg9 harg9 x5 x7) x).trans (ka_piece _ _ I R H 1 1 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 h1 (h2.trans (Nat.zero_add _).symm))
  · exact (congrFun (w0_1_0 c arg7 harg7 arg9 harg9 x5 x7) x).trans (ka_piece _ _ I R H 1 0 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y h0 (h1.trans (Nat.zero_add _).symm) (h2.trans (Nat.zero_add _).symm))
  · exact (congrFun (w0_0_17 arg7 harg7 arg9 harg9 x5 x7) x).trans (ka_piece _ _ I R H 0 17 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_16 arg7 harg7 arg9 harg9 x5 x7) x).trans (ka_piece _ _ I R H 0 16 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_15 arg7 harg7 arg9 harg9 x5 x7) x).trans (ka_piece _ _ I R H 0 15 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_14 arg7 harg7 arg9 harg9 x5 x7) x).trans (ka_piece _ _ I R H 0 14 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_13 c arg7 harg7 arg9 harg9 x5 x7) x).trans (ka_piece _ _ I R H 0 13 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_12 c arg7 harg7 arg9 harg9 x5 x7) x).trans (ka_piece _ _ I R H 0 12 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_11 c arg7 harg7 arg9 harg9 x5 x7) x).trans (ka_piece _ _ I R H 0 11 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_10 c arg7 harg7 arg9 harg9 x5 x7) x).trans (ka_piece _ _ I R H 0 10 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_9 c arg7 harg7 arg9 harg9 x5 x7) x).trans (ka_piece _ _ I R H 0 9 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_8 arg7 harg7 arg9 harg9 x5 x7) x).trans (ka_piece _ _ I R H 0 8 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_7 arg7 harg7 arg9 harg9 x5 x7) x).trans (ka_piece _ _ I R H 0 7 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_6 arg7 harg7 arg9 harg9 x5 x7) x).trans (ka_piece _ _ I R H 0 6 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_5 arg7 harg7 arg9 harg9 x5 x7) x).trans (ka_piece _ _ I R H 0 5 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_4 c arg7 harg7 arg9 harg9 x5 x7) x).trans (ka_piece _ _ I R H 0 4 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_3 c arg7 harg7 arg9 harg9 x5 x7) x).trans (ka_piece _ _ I R H 0 3 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_2 c arg7 harg7 arg9 harg9 x5 x7) x).trans (ka_piece _ _ I R H 0 2 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_1 c arg7 harg7 arg9 harg9 x5 x7) x).trans (ka_piece _ _ I R H 0 1 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) h1 (h2.trans (Nat.zero_add _).symm))
  · exact (congrFun (w0_0_0 arg7 harg7 arg9 harg9 x5 x7) x).trans (ka_piece _ _ I R H 0 0 (fun i d => rd arg7 harg7 x5 _ _ _ _ _ (hi3 _ _ _ _ _ _ _ _ _ rfl rfl (Nat.zero_add _).symm)) (fun i => rd arg9 harg9 x7 _ _ _ _ _ (hi2 _ _ _ _ _ _ rfl rfl)) x y (h0.trans (Nat.zero_add _).symm) (h1.trans (Nat.zero_add _).symm) (h2.trans (Nat.zero_add _).symm))

/-- So that is what a filling point leaves. -/
theorem sout0 : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 = kaG I := by
  unfold sout0_A_0
  rw [View.read_writes_junk_eq_canon]
  unfold kernelRun0_A
  dsimp only
  exact canon0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 I R H

/-- What the stores leave in the scratch array, at every place. -/
theorem canon1 : View.canon (kernelRun0_A.sl.HS1_36 c arg8 harg8 arg10 harg10 x6 x8) = vtG I := by
  funext y
  have cov := scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 y
  unfold kernelRun0_A at cov
  dsimp only at cov
  unfold kernelRun0_A.sl.HS1_36 at cov ⊢
  canon_tiles x h using cov
  · exact (congrFun (w1_1_17 arg8 harg8 arg10 harg10 x6 x8) x).trans (vt_piece _ _ I H 1 17 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_16 arg8 harg8 arg10 harg10 x6 x8) x).trans (vt_piece _ _ I H 1 16 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_15 c arg8 harg8 arg10 harg10 x6 x8) x).trans (vt_piece _ _ I H 1 15 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_14 c arg8 harg8 arg10 harg10 x6 x8) x).trans (vt_piece _ _ I H 1 14 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_13 c arg8 harg8 arg10 harg10 x6 x8) x).trans (vt_piece _ _ I H 1 13 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_12 arg8 harg8 arg10 harg10 x6 x8) x).trans (vt_piece _ _ I H 1 12 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_11 arg8 harg8 arg10 harg10 x6 x8) x).trans (vt_piece _ _ I H 1 11 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_10 arg8 harg8 arg10 harg10 x6 x8) x).trans (vt_piece _ _ I H 1 10 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_9 arg8 harg8 arg10 harg10 x6 x8) x).trans (vt_piece _ _ I H 1 9 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_8 arg8 harg8 arg10 harg10 x6 x8) x).trans (vt_piece _ _ I H 1 8 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_7 arg8 harg8 arg10 harg10 x6 x8) x).trans (vt_piece _ _ I H 1 7 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_6 c arg8 harg8 arg10 harg10 x6 x8) x).trans (vt_piece _ _ I H 1 6 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_5 c arg8 harg8 arg10 harg10 x6 x8) x).trans (vt_piece _ _ I H 1 5 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_4 arg8 harg8 arg10 harg10 x6 x8) x).trans (vt_piece _ _ I H 1 4 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_3 arg8 harg8 arg10 harg10 x6 x8) x).trans (vt_piece _ _ I H 1 3 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_2 arg8 harg8 arg10 harg10 x6 x8) x).trans (vt_piece _ _ I H 1 2 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_1 arg8 harg8 arg10 harg10 x6 x8) x).trans (vt_piece _ _ I H 1 1 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) h2)
  · exact (congrFun (w1_1_0 arg8 harg8 arg10 harg10 x6 x8) x).trans (vt_piece _ _ I H 1 0 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y h0 (h1.trans (Nat.zero_add _).symm) (h2.trans (Nat.zero_add _).symm))
  · exact (congrFun (w1_0_17 arg8 harg8 arg10 harg10 x6 x8) x).trans (vt_piece _ _ I H 0 17 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_16 c arg8 harg8 arg10 harg10 x6 x8) x).trans (vt_piece _ _ I H 0 16 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_15 c arg8 harg8 arg10 harg10 x6 x8) x).trans (vt_piece _ _ I H 0 15 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_14 c arg8 harg8 arg10 harg10 x6 x8) x).trans (vt_piece _ _ I H 0 14 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_13 arg8 harg8 arg10 harg10 x6 x8) x).trans (vt_piece _ _ I H 0 13 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_12 arg8 harg8 arg10 harg10 x6 x8) x).trans (vt_piece _ _ I H 0 12 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_11 arg8 harg8 arg10 harg10 x6 x8) x).trans (vt_piece _ _ I H 0 11 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_10 arg8 harg8 arg10 harg10 x6 x8) x).trans (vt_piece _ _ I H 0 10 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_9 arg8 harg8 arg10 harg10 x6 x8) x).trans (vt_piece _ _ I H 0 9 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_8 arg8 harg8 arg10 harg10 x6 x8) x).trans (vt_piece _ _ I H 0 8 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_7 c arg8 harg8 arg10 harg10 x6 x8) x).trans (vt_piece _ _ I H 0 7 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_6 c arg8 harg8 arg10 harg10 x6 x8) x).trans (vt_piece _ _ I H 0 6 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_5 c arg8 harg8 arg10 harg10 x6 x8) x).trans (vt_piece _ _ I H 0 5 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_4 arg8 harg8 arg10 harg10 x6 x8) x).trans (vt_piece _ _ I H 0 4 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_3 arg8 harg8 arg10 harg10 x6 x8) x).trans (vt_piece _ _ I H 0 3 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_2 arg8 harg8 arg10 harg10 x6 x8) x).trans (vt_piece _ _ I H 0 2 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_1 arg8 harg8 arg10 harg10 x6 x8) x).trans (vt_piece _ _ I H 0 1 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) h2)
  · exact (congrFun (w1_0_0 arg8 harg8 arg10 harg10 x6 x8) x).trans (vt_piece _ _ I H 0 0 (fun i d => rd arg8 harg8 x6 _ _ _ _ _ (hi3 _ _ _ _ _ _ _ _ _ rfl rfl (Nat.zero_add _).symm)) (fun i => rd arg10 harg10 x8 _ _ _ _ _ (hi2 _ _ _ _ _ _ rfl rfl)) x y (h0.trans (Nat.zero_add _).symm) (h1.trans (Nat.zero_add _).symm) (h2.trans (Nat.zero_add _).symm))

/-- So that is what a filling point leaves. -/
theorem sout1 : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 = vtG I := by
  unfold sout0_A_1
  rw [View.read_writes_junk_eq_canon]
  unfold kernelRun0_A
  dsimp only
  exact canon1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 I R H

end Cert.FillA

end
-- ==== Proof.CaseA.lean ====
/- The block of results a grid point that fills the scratch arrays leaves. -/
module

public import proofs.«01_k».proof.Proof.WordsA
public import proofs.«01_k».proof.Proof.FillA

@[expose] public section

set_option maxRecDepth 16384
set_option maxHeartbeats 1000000

noncomputable section

namespace Cert.CaseA

open Idealize.ShloMosaic Idealize.ShloMosaic.TcCoe Idealize.ShloMosaic.Tactic Cert.KernelIdeal Cert.KernelIdeal.Gen Cert.Stages Cert.StageValue Cert.Block

open Cert.WordsA

variable (c : Dev nD) (i : grid0.Coords) (arg2 : Memref sig .tc .vmem S512x128 .bf16) (harg2 : arg2.IsWhole) (arg3 : Memref sig .tc .vmem S32x1x8x128 .bf16) (harg3 : arg3.IsWhole) (arg4 : Memref sig .tc .vmem S32x1x8x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S2x2304x128 .fp8e4m3) (harg7 : arg7.IsWhole) (arg8 : Memref sig .tc .vmem S2x2304x128 .fp8e4m3) (harg8 : arg8.IsWhole) (arg9 : Memref sig .tc .vmem S2x2304 .f32) (harg9 : arg9.IsWhole) (arg10 : Memref sig .tc .vmem S2x2304 .f32) (harg10 : arg10.IsWhole) (arg11 : Memref sig .tc .vmem S8x2x256x128 .fp8e4m3) (harg11 : arg11.IsWhole) (arg12 : Memref sig .tc .vmem S8x2x256x128 .fp8e4m3) (harg12 : arg12.IsWhole) (arg13 : Memref sig .tc .vmem S8x2x256 .f32) (harg13 : arg13.IsWhole) (arg14 : Memref sig .tc .vmem S8x2x256 .f32) (harg14 : arg14.IsWhole) (arg15 : Memref sig .tc .vmem S8x4x16x128 .bf16) (harg15 : arg15.IsWhole) (arg16 : Memref sig .tc .vmem S2x2304x256 .bf16) (harg16 : arg16.IsWhole) (arg17 : Memref sig .tc .vmem S2x128x2304 .bf16) (harg17 : arg17.IsWhole) (arg18 : Memref sig .tc .vmem S2x2304x256 .f32) (harg18 : arg18.IsWhole) (hc0 : cond0_0 i) (x0 : Vec Ideal S512x128 .bf16) (x1 : Vec Ideal S32x1x8x128 .bf16) (x2 : Vec Ideal S32x1x8x128 .bf16) (x3 : Vec Ideal S64x128 .bf16) (x4 : Vec Ideal S64x128 .bf16) (x5 : Vec Ideal S2x2304x128 .fp8e4m3) (x6 : Vec Ideal S2x2304x128 .fp8e4m3) (x7 : Vec Ideal S2x2304 .f32) (x8 : Vec Ideal S2x2304 .f32) (x9 : Vec Ideal S8x2x256x128 .fp8e4m3) (x10 : Vec Ideal S8x2x256x128 .fp8e4m3) (x11 : Vec Ideal S8x2x256 .f32) (x12 : Vec Ideal S8x2x256 .f32) (xt0 : TbBuf0 (F := Ideal) c tbM0_0)

theorem k0_at : ∀ (n : Fin 9) (i j : Fin 256), (K0 c arg7 harg7 arg9 harg9 arg16 x5 x7) n.val (ix3 0 i j) = View.canon (kernelRun0_A.sl.HS0_36 c arg7 harg7 arg9 harg9 x5 x7) (ix3 0 (pKey n i) j)
  | 0, i, j => rc arg16.view _ _ _ _ _ _ (hi3 _ _ _ _ _ _ _ _ _ rfl rfl (Nat.zero_add _).symm)
  | 1, i, j => rc arg16.view _ _ _ _ _ _ (hi3 _ _ _ _ _ _ _ _ _ rfl rfl (Nat.zero_add _).symm)
  | 2, i, j => rc arg16.view _ _ _ _ _ _ (hi3 _ _ _ _ _ _ _ _ _ rfl rfl (Nat.zero_add _).symm)
  | 3, i, j => rc arg16.view _ _ _ _ _ _ (hi3 _ _ _ _ _ _ _ _ _ rfl rfl (Nat.zero_add _).symm)
  | 4, i, j => rc arg16.view _ _ _ _ _ _ (hi3 _ _ _ _ _ _ _ _ _ rfl rfl (Nat.zero_add _).symm)
  | 5, i, j => rc arg16.view _ _ _ _ _ _ (hi3 _ _ _ _ _ _ _ _ _ rfl rfl (Nat.zero_add _).symm)
  | 6, i, j => rc arg16.view _ _ _ _ _ _ (hi3 _ _ _ _ _ _ _ _ _ rfl rfl (Nat.zero_add _).symm)
  | 7, i, j => rc arg16.view _ _ _ _ _ _ (hi3 _ _ _ _ _ _ _ _ _ rfl rfl (Nat.zero_add _).symm)
  | 8, i, j => rc arg16.view _ _ _ _ _ _ (hi3 _ _ _ _ _ _ _ _ _ rfl rfl (Nat.zero_add _).symm)

theorem v0_at : ∀ (n : Fin 9) (d : Fin 128) (i : Fin 256), (V0 c arg8 harg8 arg10 harg10 arg17 x6 x8) n.val (ix3 0 d i) = View.canon (kernelRun0_A.sl.HS1_36 c arg8 harg8 arg10 harg10 x6 x8) (ix3 0 d (pKey n i))
  | 0, d, i => rc arg17.view _ _ _ _ _ _ (hi3 _ _ _ _ _ _ _ _ _ rfl (Nat.zero_add _).symm rfl)
  | 1, d, i => rc arg17.view _ _ _ _ _ _ (hi3 _ _ _ _ _ _ _ _ _ rfl (Nat.zero_add _).symm rfl)
  | 2, d, i => rc arg17.view _ _ _ _ _ _ (hi3 _ _ _ _ _ _ _ _ _ rfl (Nat.zero_add _).symm rfl)
  | 3, d, i => rc arg17.view _ _ _ _ _ _ (hi3 _ _ _ _ _ _ _ _ _ rfl (Nat.zero_add _).symm rfl)
  | 4, d, i => rc arg17.view _ _ _ _ _ _ (hi3 _ _ _ _ _ _ _ _ _ rfl (Nat.zero_add _).symm rfl)
  | 5, d, i => rc arg17.view _ _ _ _ _ _ (hi3 _ _ _ _ _ _ _ _ _ rfl (Nat.zero_add _).symm rfl)
  | 6, d, i => rc arg17.view _ _ _ _ _ _ (hi3 _ _ _ _ _ _ _ _ _ rfl (Nat.zero_add _).symm rfl)
  | 7, d, i => rc arg17.view _ _ _ _ _ _ (hi3 _ _ _ _ _ _ _ _ _ rfl (Nat.zero_add _).symm rfl)
  | 8, d, i => rc arg17.view _ _ _ _ _ _ (hi3 _ _ _ _ _ _ _ _ _ rfl (Nat.zero_add _).symm rfl)

theorem k1_at : ∀ (n : Fin 9) (i j : Fin 256), (K1 c arg7 harg7 arg9 harg9 arg16 x5 x7) n.val (ix3 0 i j) = View.canon (kernelRun0_A.sl.HS0_36 c arg7 harg7 arg9 harg9 x5 x7) (ix3 1 (pKey n i) j)
  | 0, i, j => rc arg16.view _ _ _ _ _ _ (hi3 _ _ _ _ _ _ _ _ _ rfl rfl (Nat.zero_add _).symm)
  | 1, i, j => rc arg16.view _ _ _ _ _ _ (hi3 _ _ _ _ _ _ _ _ _ rfl rfl (Nat.zero_add _).symm)
  | 2, i, j => rc arg16.view _ _ _ _ _ _ (hi3 _ _ _ _ _ _ _ _ _ rfl rfl (Nat.zero_add _).symm)
  | 3, i, j => rc arg16.view _ _ _ _ _ _ (hi3 _ _ _ _ _ _ _ _ _ rfl rfl (Nat.zero_add _).symm)
  | 4, i, j => rc arg16.view _ _ _ _ _ _ (hi3 _ _ _ _ _ _ _ _ _ rfl rfl (Nat.zero_add _).symm)
  | 5, i, j => rc arg16.view _ _ _ _ _ _ (hi3 _ _ _ _ _ _ _ _ _ rfl rfl (Nat.zero_add _).symm)
  | 6, i, j => rc arg16.view _ _ _ _ _ _ (hi3 _ _ _ _ _ _ _ _ _ rfl rfl (Nat.zero_add _).symm)
  | 7, i, j => rc arg16.view _ _ _ _ _ _ (hi3 _ _ _ _ _ _ _ _ _ rfl rfl (Nat.zero_add _).symm)
  | 8, i, j => rc arg16.view _ _ _ _ _ _ (hi3 _ _ _ _ _ _ _ _ _ rfl rfl (Nat.zero_add _).symm)

theorem v1_at : ∀ (n : Fin 9) (d : Fin 128) (i : Fin 256), (V1 c arg8 harg8 arg10 harg10 arg17 x6 x8) n.val (ix3 0 d i) = View.canon (kernelRun0_A.sl.HS1_36 c arg8 harg8 arg10 harg10 x6 x8) (ix3 1 d (pKey n i))
  | 0, d, i => rc arg17.view _ _ _ _ _ _ (hi3 _ _ _ _ _ _ _ _ _ rfl (Nat.zero_add _).symm rfl)
  | 1, d, i => rc arg17.view _ _ _ _ _ _ (hi3 _ _ _ _ _ _ _ _ _ rfl (Nat.zero_add _).symm rfl)
  | 2, d, i => rc arg17.view _ _ _ _ _ _ (hi3 _ _ _ _ _ _ _ _ _ rfl (Nat.zero_add _).symm rfl)
  | 3, d, i => rc arg17.view _ _ _ _ _ _ (hi3 _ _ _ _ _ _ _ _ _ rfl (Nat.zero_add _).symm rfl)
  | 4, d, i => rc arg17.view _ _ _ _ _ _ (hi3 _ _ _ _ _ _ _ _ _ rfl (Nat.zero_add _).symm rfl)
  | 5, d, i => rc arg17.view _ _ _ _ _ _ (hi3 _ _ _ _ _ _ _ _ _ rfl (Nat.zero_add _).symm rfl)
  | 6, d, i => rc arg17.view _ _ _ _ _ _ (hi3 _ _ _ _ _ _ _ _ _ rfl (Nat.zero_add _).symm rfl)
  | 7, d, i => rc arg17.view _ _ _ _ _ _ (hi3 _ _ _ _ _ _ _ _ _ rfl (Nat.zero_add _).symm rfl)
  | 8, d, i => rc arg17.view _ _ _ _ _ _ (hi3 _ _ _ _ _ _ _ _ _ rfl (Nat.zero_add _).symm rfl)

variable (I : Inp) (R : I.Real) (t : Fin 128) (Z : ScrOk I (View.canon (kernelRun0_A.sl.HS0_36 c arg7 harg7 arg9 harg9 x5 x7)) (View.canon (kernelRun0_A.sl.HS1_36 c arg8 harg8 arg10 harg10 x6 x8))) (H : BlkOk I t x0 x1 x2 x3 x4 x9 x10 x11 x12)
  (e0 : kernelRun0_A.sl.r_91 c i xt0 = I.len (bRow t 0))
  (e1 : kernelRun0_A.sl.r_102 c i xt0 = I.len (bRow t 1))
  (e2 : kernelRun0_A.sl.r_113 c i xt0 = I.len (bRow t 2))
  (e3 : kernelRun0_A.sl.r_121 c i xt0 = I.len (bRow t 3))
  (e4 : kernelRun0_A.sl.r_134 c i xt0 = I.len (bRow t 4))
  (e5 : kernelRun0_A.sl.r_147 c i xt0 = I.len (bRow t 5))
  (e6 : kernelRun0_A.sl.r_161 c i xt0 = I.len (bRow t 6))
  (e7 : kernelRun0_A.sl.r_174 c i xt0 = I.len (bRow t 7))

include R Z H

include e0 in
theorem r0_0 (s : Fin 4) (g : Fin 8) (d : Fin 128) : (k0_pay237 (kernelRun0_A.sl.r_93 c i arg2 harg2 arg11 harg11 arg13 harg13 x0 x9 x11 xt0) (kernelRun0_A.sl.r_95 c arg3 harg3 arg5 harg5 arg6 harg6 arg7 harg7 arg8 harg8 arg9 harg9 arg10 harg10 arg16 arg17 arg18 x1 x3 x4 x5 x6 x7 x8) (kernelRun0_A.sl.r_96 c arg3 harg3 arg5 harg5 arg7 harg7 arg9 harg9 arg16 arg18 x1 x3 x5 x7) (kernelRun0_A.sl.r_97 c arg3 harg3 arg5 harg5 arg7 harg7 arg9 harg9 arg16 arg18 x1 x3 x5 x7) (kernelRun0_A.sl.r_98 c i arg2 harg2 arg11 harg11 arg12 harg12 arg13 harg13 arg14 harg14 x0 x9 x10 x11 x12 xt0) (kernelRun0_A.sl.r_99 c i arg2 harg2 arg11 harg11 arg13 harg13 x0 x9 x11 xt0)) (ix4 0 s g d) = res I (bRow t 0) s 0 g d :=
  (congrFun (p0_0 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) _).trans (res_of I R t 0 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 0 s g d))
    (fun d => (rd arg2 harg2 x0 _ _ _ _ _ (hi2 _ _ _ _ _ _ rfl (Nat.zero_add _).symm)).trans (H.q 0 s 0 g d))
    (fun j d => (rd arg5 harg5 x3 _ _ _ _ _ (hi2 _ _ _ _ _ _ (Nat.zero_add _).symm (Nat.zero_add _).symm)).trans (H.kn 0 j 0 d))
    (fun j d => (rd arg6 harg6 x4 _ _ _ _ _ (hi2 _ _ _ _ _ _ (Nat.zero_add _).symm (Nat.zero_add _).symm)).trans (H.vn 0 j 0 d))
    (k0_at c arg7 harg7 arg9 harg9 arg16 x5 x7) (v0_at c arg8 harg8 arg10 harg10 arg17 x6 x8) (s0 c arg3 harg3 arg7 harg7 arg9 harg9 arg16 arg18 x1 x5 x7)
    (fun p d => (rd arg11 harg11 x9 _ _ _ _ _ (hi4 _ _ _ _ _ _ _ _ _ _ _ _ rfl rfl (Nat.zero_add _).symm (Nat.zero_add _).symm)).trans (H.kt 0 0 p d))
    (fun p d => (rd arg11 harg11 x9 _ _ _ _ _ (hi4 _ _ _ _ _ _ _ _ _ _ _ _ rfl rfl (Nat.zero_add _).symm (Nat.zero_add _).symm)).trans (H.kt 0 1 p d))
    (fun p d => (rd arg12 harg12 x10 _ _ _ _ _ (hi4 _ _ _ _ _ _ _ _ _ _ _ _ rfl rfl (Nat.zero_add _).symm (Nat.zero_add _).symm)).trans (H.vt 0 0 p d))
    (fun p d => (rd arg12 harg12 x10 _ _ _ _ _ (hi4 _ _ _ _ _ _ _ _ _ _ _ _ rfl rfl (Nat.zero_add _).symm (Nat.zero_add _).symm)).trans (H.vt 0 1 p d))
    e0
    (fun k p => (rd arg13 harg13 x11 _ _ _ _ _ (hi3 _ _ _ _ _ _ _ _ _ rfl (Nat.zero_add _).symm (Nat.zero_add _).symm)).trans (H.kst 0 k p))
    (fun k p => (rd arg14 harg14 x12 _ _ _ _ _ (hi3 _ _ _ _ _ _ _ _ _ rfl (Nat.zero_add _).symm (Nat.zero_add _).symm)).trans (H.vst 0 k p)))

include e0 in
theorem r0_1 (s : Fin 4) (g : Fin 8) (d : Fin 128) : (k0_pay239 (kernelRun0_A.sl.r_100 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0)) (ix4 0 s g d) = res I (bRow t 0) s 1 g d :=
  (congrFun (p0_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) _).trans (res_of I R t 0 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 0 s g d))
    (fun d => (rd arg2 harg2 x0 _ _ _ _ _ (hi2 _ _ _ _ _ _ rfl (Nat.zero_add _).symm)).trans (H.q 0 s 1 g d))
    (fun j d => (rd arg5 harg5 x3 _ _ _ _ _ (hi2 _ _ _ _ _ _ (Nat.zero_add _).symm (Nat.zero_add _).symm)).trans (H.kn 0 j 1 d))
    (fun j d => (rd arg6 harg6 x4 _ _ _ _ _ (hi2 _ _ _ _ _ _ (Nat.zero_add _).symm (Nat.zero_add _).symm)).trans (H.vn 0 j 1 d))
    (k1_at c arg7 harg7 arg9 harg9 arg16 x5 x7) (v1_at c arg8 harg8 arg10 harg10 arg17 x6 x8) (s1 c arg3 harg3 arg4 harg4 arg7 harg7 arg9 harg9 arg16 arg18 x1 x2 x5 x7)
    (fun p d => (rd arg11 harg11 x9 _ _ _ _ _ (hi4 _ _ _ _ _ _ _ _ _ _ _ _ rfl rfl (Nat.zero_add _).symm (Nat.zero_add _).symm)).trans (H.kt 0 0 p d))
    (fun p d => (rd arg11 harg11 x9 _ _ _ _ _ (hi4 _ _ _ _ _ _ _ _ _ _ _ _ rfl rfl (Nat.zero_add _).symm (Nat.zero_add _).symm)).trans (H.kt 0 1 p d))
    (fun p d => (rd arg12 harg12 x10 _ _ _ _ _ (hi4 _ _ _ _ _ _ _ _ _ _ _ _ rfl rfl (Nat.zero_add _).symm (Nat.zero_add _).symm)).trans (H.vt 0 0 p d))
    (fun p d => (rd arg12 harg12 x10 _ _ _ _ _ (hi4 _ _ _ _ _ _ _ _ _ _ _ _ rfl rfl (Nat.zero_add _).symm (Nat.zero_add _).symm)).trans (H.vt 0 1 p d))
    e0
    (fun k p => (rd arg13 harg13 x11 _ _ _ _ _ (hi3 _ _ _ _ _ _ _ _ _ rfl (Nat.zero_add _).symm (Nat.zero_add _).symm)).trans (H.kst 0 k p))
    (fun k p => (rd arg14 harg14 x12 _ _ _ _ _ (hi3 _ _ _ _ _ _ _ _ _ rfl (Nat.zero_add _).symm (Nat.zero_add _).symm)).trans (H.vst 0 k p)))

include e1 in
theorem r1_0 (s : Fin 4) (g : Fin 8) (d : Fin 128) : (kernelRun0_A.sl.r_108 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) (ix4 0 s g d) = res I (bRow t 1) s 0 g d :=
  (congrFun (p1_0 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) _).trans (res_of I R t 1 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 1 s g d))
    (fun d => (rd arg2 harg2 x0 _ _ _ _ _ (hi2 _ _ _ _ _ _ rfl (Nat.zero_add _).symm)).trans (H.q 1 s 0 g d))
    (fun j d => (rd arg5 harg5 x3 _ _ _ _ _ (hi2 _ _ _ _ _ _ (Nat.zero_add _).symm (Nat.zero_add _).symm)).trans (H.kn 1 j 0 d))
    (fun j d => (rd arg6 harg6 x4 _ _ _ _ _ (hi2 _ _ _ _ _ _ (Nat.zero_add _).symm (Nat.zero_add _).symm)).trans (H.vn 1 j 0 d))
    (k0_at c arg7 harg7 arg9 harg9 arg16 x5 x7) (v0_at c arg8 harg8 arg10 harg10 arg17 x6 x8) (s0 c arg3 harg3 arg7 harg7 arg9 harg9 arg16 arg18 x1 x5 x7)
    (fun p d => (rd arg11 harg11 x9 _ _ _ _ _ (hi4 _ _ _ _ _ _ _ _ _ _ _ _ rfl rfl (Nat.zero_add _).symm (Nat.zero_add _).symm)).trans (H.kt 1 0 p d))
    (fun p d => (rd arg11 harg11 x9 _ _ _ _ _ (hi4 _ _ _ _ _ _ _ _ _ _ _ _ rfl rfl (Nat.zero_add _).symm (Nat.zero_add _).symm)).trans (H.kt 1 1 p d))
    (fun p d => (rd arg12 harg12 x10 _ _ _ _ _ (hi4 _ _ _ _ _ _ _ _ _ _ _ _ rfl rfl (Nat.zero_add _).symm (Nat.zero_add _).symm)).trans (H.vt 1 0 p d))
    (fun p d => (rd arg12 harg12 x10 _ _ _ _ _ (hi4 _ _ _ _ _ _ _ _ _ _ _ _ rfl rfl (Nat.zero_add _).symm (Nat.zero_add _).symm)).trans (H.vt 1 1 p d))
    e1
    (fun k p => (rd arg13 harg13 x11 _ _ _ _ _ (hi3 _ _ _ _ _ _ _ _ _ rfl (Nat.zero_add _).symm (Nat.zero_add _).symm)).trans (H.kst 1 k p))
    (fun k p => (rd arg14 harg14 x12 _ _ _ _ _ (hi3 _ _ _ _ _ _ _ _ _ rfl (Nat.zero_add _).symm (Nat.zero_add _).symm)).trans (H.vst 1 k p)))

include e1 in
theorem r1_1 (s : Fin 4) (g : Fin 8) (d : Fin 128) : (k0_pay249 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (kernelRun0_A.sl.r_105 c i arg2 harg2 arg11 harg11 arg13 harg13 x0 x9 x11 xt0) (kernelRun0_A.sl.r_106 c i arg2 harg2 arg11 harg11 arg13 harg13 x0 x9 x11 xt0) (kernelRun0_A.sl.r_107 c i arg2 harg2 arg11 harg11 arg12 harg12 arg13 harg13 arg14 harg14 x0 x9 x10 x11 x12 xt0)) (ix4 0 s g d) = res I (bRow t 1) s 1 g d :=
  (congrFun (p1_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) _).trans (res_of I R t 1 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 1 s g d))
    (fun d => (rd arg2 harg2 x0 _ _ _ _ _ (hi2 _ _ _ _ _ _ rfl (Nat.zero_add _).symm)).trans (H.q 1 s 1 g d))
    (fun j d => (rd arg5 harg5 x3 _ _ _ _ _ (hi2 _ _ _ _ _ _ (Nat.zero_add _).symm (Nat.zero_add _).symm)).trans (H.kn 1 j 1 d))
    (fun j d => (rd arg6 harg6 x4 _ _ _ _ _ (hi2 _ _ _ _ _ _ (Nat.zero_add _).symm (Nat.zero_add _).symm)).trans (H.vn 1 j 1 d))
    (k1_at c arg7 harg7 arg9 harg9 arg16 x5 x7) (v1_at c arg8 harg8 arg10 harg10 arg17 x6 x8) (s1 c arg3 harg3 arg4 harg4 arg7 harg7 arg9 harg9 arg16 arg18 x1 x2 x5 x7)
    (fun p d => (rd arg11 harg11 x9 _ _ _ _ _ (hi4 _ _ _ _ _ _ _ _ _ _ _ _ rfl rfl (Nat.zero_add _).symm (Nat.zero_add _).symm)).trans (H.kt 1 0 p d))
    (fun p d => (rd arg11 harg11 x9 _ _ _ _ _ (hi4 _ _ _ _ _ _ _ _ _ _ _ _ rfl rfl (Nat.zero_add _).symm (Nat.zero_add _).symm)).trans (H.kt 1 1 p d))
    (fun p d => (rd arg12 harg12 x10 _ _ _ _ _ (hi4 _ _ _ _ _ _ _ _ _ _ _ _ rfl rfl (Nat.zero_add _).symm (Nat.zero_add _).symm)).trans (H.vt 1 0 p d))
    (fun p d => (rd arg12 harg12 x10 _ _ _ _ _ (hi4 _ _ _ _ _ _ _ _ _ _ _ _ rfl rfl (Nat.zero_add _).symm (Nat.zero_add _).symm)).trans (H.vt 1 1 p d))
    e1
    (fun k p => (rd arg13 harg13 x11 _ _ _ _ _ (hi3 _ _ _ _ _ _ _ _ _ rfl (Nat.zero_add _).symm (Nat.zero_add _).symm)).trans (H.kst 1 k p))
    (fun k p => (rd arg14 harg14 x12 _ _ _ _ _ (hi3 _ _ _ _ _ _ _ _ _ rfl (Nat.zero_add _).symm (Nat.zero_add _).symm)).trans (H.vst 1 k p)))

include e2 in
theorem r2_0 (s : Fin 4) (g : Fin 8) (d : Fin 128) : (k0_pay262 (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (kernelRun0_A.sl.r_114 c i arg2 harg2 arg11 harg11 arg13 harg13 x0 x9 x11 xt0) (kernelRun0_A.sl.r_115 c i arg2 harg2 arg11 harg11 arg13 harg13 x0 x9 x11 xt0) (kernelRun0_A.sl.r_116 c i arg2 harg2 arg11 harg11 arg12 harg12 arg13 harg13 arg14 harg14 x0 x9 x10 x11 x12 xt0) (kernelRun0_A.sl.r_117 c arg3 harg3 arg5 harg5 arg6 harg6 arg7 harg7 arg8 harg8 arg9 harg9 arg10 harg10 arg16 arg17 arg18 x1 x3 x4 x5 x6 x7 x8)) (ix4 0 s g d) = res I (bRow t 2) s 0 g d :=
  (congrFun (p2_0 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) _).trans (res_of I R t 2 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 2 s g d))
    (fun d => (rd arg2 harg2 x0 _ _ _ _ _ (hi2 _ _ _ _ _ _ rfl (Nat.zero_add _).symm)).trans (H.q 2 s 0 g d))
    (fun j d => (rd arg5 harg5 x3 _ _ _ _ _ (hi2 _ _ _ _ _ _ (Nat.zero_add _).symm (Nat.zero_add _).symm)).trans (H.kn 2 j 0 d))
    (fun j d => (rd arg6 harg6 x4 _ _ _ _ _ (hi2 _ _ _ _ _ _ (Nat.zero_add _).symm (Nat.zero_add _).symm)).trans (H.vn 2 j 0 d))
    (k0_at c arg7 harg7 arg9 harg9 arg16 x5 x7) (v0_at c arg8 harg8 arg10 harg10 arg17 x6 x8) (s0 c arg3 harg3 arg7 harg7 arg9 harg9 arg16 arg18 x1 x5 x7)
    (fun p d => (rd arg11 harg11 x9 _ _ _ _ _ (hi4 _ _ _ _ _ _ _ _ _ _ _ _ rfl rfl (Nat.zero_add _).symm (Nat.zero_add _).symm)).trans (H.kt 2 0 p d))
    (fun p d => (rd arg11 harg11 x9 _ _ _ _ _ (hi4 _ _ _ _ _ _ _ _ _ _ _ _ rfl rfl (Nat.zero_add _).symm (Nat.zero_add _).symm)).trans (H.kt 2 1 p d))
    (fun p d => (rd arg12 harg12 x10 _ _ _ _ _ (hi4 _ _ _ _ _ _ _ _ _ _ _ _ rfl rfl (Nat.zero_add _).symm (Nat.zero_add _).symm)).trans (H.vt 2 0 p d))
    (fun p d => (rd arg12 harg12 x10 _ _ _ _ _ (hi4 _ _ _ _ _ _ _ _ _ _ _ _ rfl rfl (Nat.zero_add _).symm (Nat.zero_add _).symm)).trans (H.vt 2 1 p d))
    e2
    (fun k p => (rd arg13 harg13 x11 _ _ _ _ _ (hi3 _ _ _ _ _ _ _ _ _ rfl (Nat.zero_add _).symm (Nat.zero_add _).symm)).trans (H.kst 2 k p))
    (fun k p => (rd arg14 harg14 x12 _ _ _ _ _ (hi3 _ _ _ _ _ _ _ _ _ rfl (Nat.zero_add _).symm (Nat.zero_add _).symm)).trans (H.vst 2 k p)))

include e2 in
theorem r2_1 (s : Fin 4) (g : Fin 8) (d : Fin 128) : (k0_pay270 (kernelRun0_A.sl.r_118 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) (kernelRun0_A.sl.r_119 c i arg2 harg2 arg3 harg3 arg4 harg4 arg5 harg5 arg7 harg7 arg9 harg9 arg11 harg11 arg13 harg13 arg16 arg18 x0 x1 x2 x3 x5 x7 x9 x11 xt0)) (ix4 0 s g d) = res I (bRow t 2) s 1 g d :=
  (congrFun (p2_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) _).trans (res_of I R t 2 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 2 s g d))
    (fun d => (rd arg2 harg2 x0 _ _ _ _ _ (hi2 _ _ _ _ _ _ rfl (Nat.zero_add _).symm)).trans (H.q 2 s 1 g d))
    (fun j d => (rd arg5 harg5 x3 _ _ _ _ _ (hi2 _ _ _ _ _ _ (Nat.zero_add _).symm (Nat.zero_add _).symm)).trans (H.kn 2 j 1 d))
    (fun j d => (rd arg6 harg6 x4 _ _ _ _ _ (hi2 _ _ _ _ _ _ (Nat.zero_add _).symm (Nat.zero_add _).symm)).trans (H.vn 2 j 1 d))
    (k1_at c arg7 harg7 arg9 harg9 arg16 x5 x7) (v1_at c arg8 harg8 arg10 harg10 arg17 x6 x8) (s1 c arg3 harg3 arg4 harg4 arg7 harg7 arg9 harg9 arg16 arg18 x1 x2 x5 x7)
    (fun p d => (rd arg11 harg11 x9 _ _ _ _ _ (hi4 _ _ _ _ _ _ _ _ _ _ _ _ rfl rfl (Nat.zero_add _).symm (Nat.zero_add _).symm)).trans (H.kt 2 0 p d))
    (fun p d => (rd arg11 harg11 x9 _ _ _ _ _ (hi4 _ _ _ _ _ _ _ _ _ _ _ _ rfl rfl (Nat.zero_add _).symm (Nat.zero_add _).symm)).trans (H.kt 2 1 p d))
    (fun p d => (rd arg12 harg12 x10 _ _ _ _ _ (hi4 _ _ _ _ _ _ _ _ _ _ _ _ rfl rfl (Nat.zero_add _).symm (Nat.zero_add _).symm)).trans (H.vt 2 0 p d))
    (fun p d => (rd arg12 harg12 x10 _ _ _ _ _ (hi4 _ _ _ _ _ _ _ _ _ _ _ _ rfl rfl (Nat.zero_add _).symm (Nat.zero_add _).symm)).trans (H.vt 2 1 p d))
    e2
    (fun k p => (rd arg13 harg13 x11 _ _ _ _ _ (hi3 _ _ _ _ _ _ _ _ _ rfl (Nat.zero_add _).symm (Nat.zero_add _).symm)).trans (H.kst 2 k p))
    (fun k p => (rd arg14 harg14 x12 _ _ _ _ _ (hi3 _ _ _ _ _ _ _ _ _ rfl (Nat.zero_add _).symm (Nat.zero_add _).symm)).trans (H.vst 2 k p)))

include e3 in
theorem r3_0 (s : Fin 4) (g : Fin 8) (d : Fin 128) : (k0_pay286 (kernelRun0_A.sl.r_129 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0)) (ix4 0 s g d) = res I (bRow t 3) s 0 g d :=
  (congrFun (p3_0 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) _).trans (res_of I R t 3 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 3 s g d))
    (fun d => (rd arg2 harg2 x0 _ _ _ _ _ (hi2 _ _ _ _ _ _ rfl (Nat.zero_add _).symm)).trans (H.q 3 s 0 g d))
    (fun j d => (rd arg5 harg5 x3 _ _ _ _ _ (hi2 _ _ _ _ _ _ (Nat.zero_add _).symm (Nat.zero_add _).symm)).trans (H.kn 3 j 0 d))
    (fun j d => (rd arg6 harg6 x4 _ _ _ _ _ (hi2 _ _ _ _ _ _ (Nat.zero_add _).symm (Nat.zero_add _).symm)).trans (H.vn 3 j 0 d))
    (k0_at c arg7 harg7 arg9 harg9 arg16 x5 x7) (v0_at c arg8 harg8 arg10 harg10 arg17 x6 x8) (s0 c arg3 harg3 arg7 harg7 arg9 harg9 arg16 arg18 x1 x5 x7)
    (fun p d => (rd arg11 harg11 x9 _ _ _ _ _ (hi4 _ _ _ _ _ _ _ _ _ _ _ _ rfl rfl (Nat.zero_add _).symm (Nat.zero_add _).symm)).trans (H.kt 3 0 p d))
    (fun p d => (rd arg11 harg11 x9 _ _ _ _ _ (hi4 _ _ _ _ _ _ _ _ _ _ _ _ rfl rfl (Nat.zero_add _).symm (Nat.zero_add _).symm)).trans (H.kt 3 1 p d))
    (fun p d => (rd arg12 harg12 x10 _ _ _ _ _ (hi4 _ _ _ _ _ _ _ _ _ _ _ _ rfl rfl (Nat.zero_add _).symm (Nat.zero_add _).symm)).trans (H.vt 3 0 p d))
    (fun p d => (rd arg12 harg12 x10 _ _ _ _ _ (hi4 _ _ _ _ _ _ _ _ _ _ _ _ rfl rfl (Nat.zero_add _).symm (Nat.zero_add _).symm)).trans (H.vt 3 1 p d))
    e3
    (fun k p => (rd arg13 harg13 x11 _ _ _ _ _ (hi3 _ _ _ _ _ _ _ _ _ rfl (Nat.zero_add _).symm (Nat.zero_add _).symm)).trans (H.kst 3 k p))
    (fun k p => (rd arg14 harg14 x12 _ _ _ _ _ (hi3 _ _ _ _ _ _ _ _ _ rfl (Nat.zero_add _).symm (Nat.zero_add _).symm)).trans (H.vst 3 k p)))

include e3 in
theorem r3_1 (s : Fin 4) (g : Fin 8) (d : Fin 128) : (k0_pay287 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (kernelRun0_A.sl.r_126 c i arg2 harg2 arg11 harg11 arg13 harg13 x0 x9 x11 xt0) (kernelRun0_A.sl.r_127 c i arg2 harg2 arg11 harg11 arg13 harg13 x0 x9 x11 xt0) (kernelRun0_A.sl.r_128 c i arg2 harg2 arg11 harg11 arg12 harg12 arg13 harg13 arg14 harg14 x0 x9 x10 x11 x12 xt0)) (ix4 0 s g d) = res I (bRow t 3) s 1 g d :=
  (congrFun (p3_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) _).trans (res_of I R t 3 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 3 s g d))
    (fun d => (rd arg2 harg2 x0 _ _ _ _ _ (hi2 _ _ _ _ _ _ rfl (Nat.zero_add _).symm)).trans (H.q 3 s 1 g d))
    (fun j d => (rd arg5 harg5 x3 _ _ _ _ _ (hi2 _ _ _ _ _ _ (Nat.zero_add _).symm (Nat.zero_add _).symm)).trans (H.kn 3 j 1 d))
    (fun j d => (rd arg6 harg6 x4 _ _ _ _ _ (hi2 _ _ _ _ _ _ (Nat.zero_add _).symm (Nat.zero_add _).symm)).trans (H.vn 3 j 1 d))
    (k1_at c arg7 harg7 arg9 harg9 arg16 x5 x7) (v1_at c arg8 harg8 arg10 harg10 arg17 x6 x8) (s1 c arg3 harg3 arg4 harg4 arg7 harg7 arg9 harg9 arg16 arg18 x1 x2 x5 x7)
    (fun p d => (rd arg11 harg11 x9 _ _ _ _ _ (hi4 _ _ _ _ _ _ _ _ _ _ _ _ rfl rfl (Nat.zero_add _).symm (Nat.zero_add _).symm)).trans (H.kt 3 0 p d))
    (fun p d => (rd arg11 harg11 x9 _ _ _ _ _ (hi4 _ _ _ _ _ _ _ _ _ _ _ _ rfl rfl (Nat.zero_add _).symm (Nat.zero_add _).symm)).trans (H.kt 3 1 p d))
    (fun p d => (rd arg12 harg12 x10 _ _ _ _ _ (hi4 _ _ _ _ _ _ _ _ _ _ _ _ rfl rfl (Nat.zero_add _).symm (Nat.zero_add _).symm)).trans (H.vt 3 0 p d))
    (fun p d => (rd arg12 harg12 x10 _ _ _ _ _ (hi4 _ _ _ _ _ _ _ _ _ _ _ _ rfl rfl (Nat.zero_add _).symm (Nat.zero_add _).symm)).trans (H.vt 3 1 p d))
    e3
    (fun k p => (rd arg13 harg13 x11 _ _ _ _ _ (hi3 _ _ _ _ _ _ _ _ _ rfl (Nat.zero_add _).symm (Nat.zero_add _).symm)).trans (H.kst 3 k p))
    (fun k p => (rd arg14 harg14 x12 _ _ _ _ _ (hi3 _ _ _ _ _ _ _ _ _ rfl (Nat.zero_add _).symm (Nat.zero_add _).symm)).trans (H.vst 3 k p)))

include e4 in
theorem r4_0 (s : Fin 4) (g : Fin 8) (d : Fin 128) : (k0_pay302 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (kernelRun0_A.sl.r_135 c arg12 harg12 x10) (kernelRun0_A.sl.r_136 c i arg2 harg2 arg11 harg11 arg13 harg13 x0 x9 x11 xt0) (kernelRun0_A.sl.r_137 c i arg2 harg2 arg11 harg11 arg13 harg13 x0 x9 x11 xt0) (kernelRun0_A.sl.r_138 c i arg2 harg2 arg11 harg11 arg13 harg13 x0 x9 x11 xt0) (kernelRun0_A.sl.r_139 c arg14 harg14 x12)) (ix4 0 s g d) = res I (bRow t 4) s 0 g d :=
  (congrFun (p4_0 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) _).trans (res_of I R t 4 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 4 s g d))
    (fun d => (rd arg2 harg2 x0 _ _ _ _ _ (hi2 _ _ _ _ _ _ rfl (Nat.zero_add _).symm)).trans (H.q 4 s 0 g d))
    (fun j d => (rd arg5 harg5 x3 _ _ _ _ _ (hi2 _ _ _ _ _ _ (Nat.zero_add _).symm (Nat.zero_add _).symm)).trans (H.kn 4 j 0 d))
    (fun j d => (rd arg6 harg6 x4 _ _ _ _ _ (hi2 _ _ _ _ _ _ (Nat.zero_add _).symm (Nat.zero_add _).symm)).trans (H.vn 4 j 0 d))
    (k0_at c arg7 harg7 arg9 harg9 arg16 x5 x7) (v0_at c arg8 harg8 arg10 harg10 arg17 x6 x8) (s0 c arg3 harg3 arg7 harg7 arg9 harg9 arg16 arg18 x1 x5 x7)
    (fun p d => (rd arg11 harg11 x9 _ _ _ _ _ (hi4 _ _ _ _ _ _ _ _ _ _ _ _ rfl rfl (Nat.zero_add _).symm (Nat.zero_add _).symm)).trans (H.kt 4 0 p d))
    (fun p d => (rd arg11 harg11 x9 _ _ _ _ _ (hi4 _ _ _ _ _ _ _ _ _ _ _ _ rfl rfl (Nat.zero_add _).symm (Nat.zero_add _).symm)).trans (H.kt 4 1 p d))
    (fun p d => (rd arg12 harg12 x10 _ _ _ _ _ (hi4 _ _ _ _ _ _ _ _ _ _ _ _ rfl rfl (Nat.zero_add _).symm (Nat.zero_add _).symm)).trans (H.vt 4 0 p d))
    (fun p d => (rd arg12 harg12 x10 _ _ _ _ _ (hi4 _ _ _ _ _ _ _ _ _ _ _ _ rfl rfl (Nat.zero_add _).symm (Nat.zero_add _).symm)).trans (H.vt 4 1 p d))
    e4
    (fun k p => (rd arg13 harg13 x11 _ _ _ _ _ (hi3 _ _ _ _ _ _ _ _ _ rfl (Nat.zero_add _).symm (Nat.zero_add _).symm)).trans (H.kst 4 k p))
    (fun k p => (rd arg14 harg14 x12 _ _ _ _ _ (hi3 _ _ _ _ _ _ _ _ _ rfl (Nat.zero_add _).symm (Nat.zero_add _).symm)).trans (H.vst 4 k p)))

include e4 in
theorem r4_1 (s : Fin 4) (g : Fin 8) (d : Fin 128) : (k0_pay312 (kernelRun0_A.sl.r_140 c arg3 harg3 arg4 harg4 arg5 harg5 arg6 harg6 arg7 harg7 arg8 harg8 arg9 harg9 arg10 harg10 arg16 arg17 arg18 x1 x2 x3 x4 x5 x6 x7 x8) (kernelRun0_A.sl.r_141 c arg3 harg3 arg4 harg4 arg5 harg5 arg7 harg7 arg9 harg9 arg16 arg18 x1 x2 x3 x5 x7) (kernelRun0_A.sl.r_142 c i arg2 harg2 arg11 harg11 arg12 harg12 arg13 harg13 arg14 harg14 x0 x9 x10 x11 x12 xt0) (kernelRun0_A.sl.r_143 c i arg2 harg2 arg11 harg11 arg13 harg13 x0 x9 x11 xt0) (kernelRun0_A.sl.r_144 c i arg2 harg2 arg3 harg3 arg4 harg4 arg5 harg5 arg7 harg7 arg9 harg9 arg11 harg11 arg13 harg13 arg16 arg18 x0 x1 x2 x3 x5 x7 x9 x11 xt0) (kernelRun0_A.sl.r_145 c i arg2 harg2 arg3 harg3 arg4 harg4 arg5 harg5 arg7 harg7 arg9 harg9 arg11 harg11 arg13 harg13 arg16 arg18 x0 x1 x2 x3 x5 x7 x9 x11 xt0)) (ix4 0 s g d) = res I (bRow t 4) s 1 g d :=
  (congrFun (p4_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) _).trans (res_of I R t 4 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 4 s g d))
    (fun d => (rd arg2 harg2 x0 _ _ _ _ _ (hi2 _ _ _ _ _ _ rfl (Nat.zero_add _).symm)).trans (H.q 4 s 1 g d))
    (fun j d => (rd arg5 harg5 x3 _ _ _ _ _ (hi2 _ _ _ _ _ _ (Nat.zero_add _).symm (Nat.zero_add _).symm)).trans (H.kn 4 j 1 d))
    (fun j d => (rd arg6 harg6 x4 _ _ _ _ _ (hi2 _ _ _ _ _ _ (Nat.zero_add _).symm (Nat.zero_add _).symm)).trans (H.vn 4 j 1 d))
    (k1_at c arg7 harg7 arg9 harg9 arg16 x5 x7) (v1_at c arg8 harg8 arg10 harg10 arg17 x6 x8) (s1 c arg3 harg3 arg4 harg4 arg7 harg7 arg9 harg9 arg16 arg18 x1 x2 x5 x7)
    (fun p d => (rd arg11 harg11 x9 _ _ _ _ _ (hi4 _ _ _ _ _ _ _ _ _ _ _ _ rfl rfl (Nat.zero_add _).symm (Nat.zero_add _).symm)).trans (H.kt 4 0 p d))
    (fun p d => (rd arg11 harg11 x9 _ _ _ _ _ (hi4 _ _ _ _ _ _ _ _ _ _ _ _ rfl rfl (Nat.zero_add _).symm (Nat.zero_add _).symm)).trans (H.kt 4 1 p d))
    (fun p d => (rd arg12 harg12 x10 _ _ _ _ _ (hi4 _ _ _ _ _ _ _ _ _ _ _ _ rfl rfl (Nat.zero_add _).symm (Nat.zero_add _).symm)).trans (H.vt 4 0 p d))
    (fun p d => (rd arg12 harg12 x10 _ _ _ _ _ (hi4 _ _ _ _ _ _ _ _ _ _ _ _ rfl rfl (Nat.zero_add _).symm (Nat.zero_add _).symm)).trans (H.vt 4 1 p d))
    e4
    (fun k p => (rd arg13 harg13 x11 _ _ _ _ _ (hi3 _ _ _ _ _ _ _ _ _ rfl (Nat.zero_add _).symm (Nat.zero_add _).symm)).trans (H.kst 4 k p))
    (fun k p => (rd arg14 harg14 x12 _ _ _ _ _ (hi3 _ _ _ _ _ _ _ _ _ rfl (Nat.zero_add _).symm (Nat.zero_add _).symm)).trans (H.vst 4 k p)))

include e5 in
theorem r5_0 (s : Fin 4) (g : Fin 8) (d : Fin 128) : (k0_pay332 (kernelRun0_A.sl.r_153 c arg3 harg3 arg5 harg5 arg7 harg7 arg9 harg9 arg16 arg18 x1 x3 x5 x7) (kernelRun0_A.sl.r_154 c i arg2 harg2 arg11 harg11 arg12 harg12 arg13 harg13 arg14 harg14 x0 x9 x10 x11 x12 xt0) (kernelRun0_A.sl.r_155 c i arg2 harg2 arg11 harg11 arg13 harg13 x0 x9 x11 xt0) (kernelRun0_A.sl.r_156 c i arg2 harg2 arg3 harg3 arg5 harg5 arg7 harg7 arg9 harg9 arg11 harg11 arg13 harg13 arg16 arg18 x0 x1 x3 x5 x7 x9 x11 xt0) (kernelRun0_A.sl.r_157 c i arg2 harg2 arg3 harg3 arg5 harg5 arg7 harg7 arg9 harg9 arg11 harg11 arg13 harg13 arg16 arg18 x0 x1 x3 x5 x7 x9 x11 xt0) (kernelRun0_A.sl.r_158 c i arg2 harg2 arg3 harg3 arg5 harg5 arg6 harg6 arg7 harg7 arg8 harg8 arg9 harg9 arg10 harg10 arg11 harg11 arg13 harg13 arg16 arg17 arg18 x0 x1 x3 x4 x5 x6 x7 x8 x9 x11 xt0)) (ix4 0 s g d) = res I (bRow t 5) s 0 g d :=
  (congrFun (p5_0 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) _).trans (res_of I R t 5 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 5 s g d))
    (fun d => (rd arg2 harg2 x0 _ _ _ _ _ (hi2 _ _ _ _ _ _ rfl (Nat.zero_add _).symm)).trans (H.q 5 s 0 g d))
    (fun j d => (rd arg5 harg5 x3 _ _ _ _ _ (hi2 _ _ _ _ _ _ (Nat.zero_add _).symm (Nat.zero_add _).symm)).trans (H.kn 5 j 0 d))
    (fun j d => (rd arg6 harg6 x4 _ _ _ _ _ (hi2 _ _ _ _ _ _ (Nat.zero_add _).symm (Nat.zero_add _).symm)).trans (H.vn 5 j 0 d))
    (k0_at c arg7 harg7 arg9 harg9 arg16 x5 x7) (v0_at c arg8 harg8 arg10 harg10 arg17 x6 x8) (s0 c arg3 harg3 arg7 harg7 arg9 harg9 arg16 arg18 x1 x5 x7)
    (fun p d => (rd arg11 harg11 x9 _ _ _ _ _ (hi4 _ _ _ _ _ _ _ _ _ _ _ _ rfl rfl (Nat.zero_add _).symm (Nat.zero_add _).symm)).trans (H.kt 5 0 p d))
    (fun p d => (rd arg11 harg11 x9 _ _ _ _ _ (hi4 _ _ _ _ _ _ _ _ _ _ _ _ rfl rfl (Nat.zero_add _).symm (Nat.zero_add _).symm)).trans (H.kt 5 1 p d))
    (fun p d => (rd arg12 harg12 x10 _ _ _ _ _ (hi4 _ _ _ _ _ _ _ _ _ _ _ _ rfl rfl (Nat.zero_add _).symm (Nat.zero_add _).symm)).trans (H.vt 5 0 p d))
    (fun p d => (rd arg12 harg12 x10 _ _ _ _ _ (hi4 _ _ _ _ _ _ _ _ _ _ _ _ rfl rfl (Nat.zero_add _).symm (Nat.zero_add _).symm)).trans (H.vt 5 1 p d))
    e5
    (fun k p => (rd arg13 harg13 x11 _ _ _ _ _ (hi3 _ _ _ _ _ _ _ _ _ rfl (Nat.zero_add _).symm (Nat.zero_add _).symm)).trans (H.kst 5 k p))
    (fun k p => (rd arg14 harg14 x12 _ _ _ _ _ (hi3 _ _ _ _ _ _ _ _ _ rfl (Nat.zero_add _).symm (Nat.zero_add _).symm)).trans (H.vst 5 k p)))

include e5 in
theorem r5_1 (s : Fin 4) (g : Fin 8) (d : Fin 128) : (k0_pay333 (kernelRun0_A.sl.r_85 c arg3 harg3 arg4 harg4 arg5 harg5 arg6 harg6 arg7 harg7 arg8 harg8 arg9 harg9 arg10 harg10 arg16 arg17 arg18 x1 x2 x3 x4 x5 x6 x7 x8) (kernelRun0_A.sl.r_86 c arg3 harg3 arg4 harg4 arg5 harg5 arg7 harg7 arg9 harg9 arg16 arg18 x1 x2 x3 x5 x7) (kernelRun0_A.sl.r_87 c arg3 harg3 arg4 harg4 arg5 harg5 arg7 harg7 arg9 harg9 arg16 arg18 x1 x2 x3 x5 x7) (kernelRun0_A.sl.r_150 c i arg2 harg2 arg11 harg11 arg13 harg13 x0 x9 x11 xt0) (kernelRun0_A.sl.r_151 c i arg2 harg2 arg11 harg11 arg13 harg13 x0 x9 x11 xt0) (kernelRun0_A.sl.r_152 c i arg2 harg2 arg11 harg11 arg12 harg12 arg13 harg13 arg14 harg14 x0 x9 x10 x11 x12 xt0)) (ix4 0 s g d) = res I (bRow t 5) s 1 g d :=
  (congrFun (p5_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) _).trans (res_of I R t 5 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 5 s g d))
    (fun d => (rd arg2 harg2 x0 _ _ _ _ _ (hi2 _ _ _ _ _ _ rfl (Nat.zero_add _).symm)).trans (H.q 5 s 1 g d))
    (fun j d => (rd arg5 harg5 x3 _ _ _ _ _ (hi2 _ _ _ _ _ _ (Nat.zero_add _).symm (Nat.zero_add _).symm)).trans (H.kn 5 j 1 d))
    (fun j d => (rd arg6 harg6 x4 _ _ _ _ _ (hi2 _ _ _ _ _ _ (Nat.zero_add _).symm (Nat.zero_add _).symm)).trans (H.vn 5 j 1 d))
    (k1_at c arg7 harg7 arg9 harg9 arg16 x5 x7) (v1_at c arg8 harg8 arg10 harg10 arg17 x6 x8) (s1 c arg3 harg3 arg4 harg4 arg7 harg7 arg9 harg9 arg16 arg18 x1 x2 x5 x7)
    (fun p d => (rd arg11 harg11 x9 _ _ _ _ _ (hi4 _ _ _ _ _ _ _ _ _ _ _ _ rfl rfl (Nat.zero_add _).symm (Nat.zero_add _).symm)).trans (H.kt 5 0 p d))
    (fun p d => (rd arg11 harg11 x9 _ _ _ _ _ (hi4 _ _ _ _ _ _ _ _ _ _ _ _ rfl rfl (Nat.zero_add _).symm (Nat.zero_add _).symm)).trans (H.kt 5 1 p d))
    (fun p d => (rd arg12 harg12 x10 _ _ _ _ _ (hi4 _ _ _ _ _ _ _ _ _ _ _ _ rfl rfl (Nat.zero_add _).symm (Nat.zero_add _).symm)).trans (H.vt 5 0 p d))
    (fun p d => (rd arg12 harg12 x10 _ _ _ _ _ (hi4 _ _ _ _ _ _ _ _ _ _ _ _ rfl rfl (Nat.zero_add _).symm (Nat.zero_add _).symm)).trans (H.vt 5 1 p d))
    e5
    (fun k p => (rd arg13 harg13 x11 _ _ _ _ _ (hi3 _ _ _ _ _ _ _ _ _ rfl (Nat.zero_add _).symm (Nat.zero_add _).symm)).trans (H.kst 5 k p))
    (fun k p => (rd arg14 harg14 x12 _ _ _ _ _ (hi3 _ _ _ _ _ _ _ _ _ rfl (Nat.zero_add _).symm (Nat.zero_add _).symm)).trans (H.vst 5 k p)))

include e6 in
theorem r6_0 (s : Fin 4) (g : Fin 8) (d : Fin 128) : (k0_pay343 (kernelRun0_A.sl.r_60 c arg3 harg3 arg5 harg5 arg6 harg6 arg7 harg7 arg8 harg8 arg9 harg9 arg10 harg10 arg16 arg17 arg18 x1 x3 x4 x5 x6 x7 x8) (kernelRun0_A.sl.r_61 c arg3 harg3 arg5 harg5 arg7 harg7 arg9 harg9 arg16 arg18 x1 x3 x5 x7) (kernelRun0_A.sl.r_62 c arg3 harg3 arg5 harg5 arg7 harg7 arg9 harg9 arg16 arg18 x1 x3 x5 x7) (kernelRun0_A.sl.r_162 c arg12 harg12 x10) (kernelRun0_A.sl.r_163 c i arg2 harg2 arg11 harg11 arg13 harg13 x0 x9 x11 xt0) (kernelRun0_A.sl.r_164 c i arg2 harg2 arg11 harg11 arg13 harg13 x0 x9 x11 xt0) (View.readAt (Elt Ideal) arg14.view (Rect.unit (s := S8x2x256) ![6, 0, 0] ![1, 2, 256] inb_S8x2x256_S1x2x256_6_0_0).toLoadRect (harg14.unread x12))) (ix4 0 s g d) = res I (bRow t 6) s 0 g d :=
  (congrFun (p6_0 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) _).trans (res_of I R t 6 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 6 s g d))
    (fun d => (rd arg2 harg2 x0 _ _ _ _ _ (hi2 _ _ _ _ _ _ rfl (Nat.zero_add _).symm)).trans (H.q 6 s 0 g d))
    (fun j d => (rd arg5 harg5 x3 _ _ _ _ _ (hi2 _ _ _ _ _ _ (Nat.zero_add _).symm (Nat.zero_add _).symm)).trans (H.kn 6 j 0 d))
    (fun j d => (rd arg6 harg6 x4 _ _ _ _ _ (hi2 _ _ _ _ _ _ (Nat.zero_add _).symm (Nat.zero_add _).symm)).trans (H.vn 6 j 0 d))
    (k0_at c arg7 harg7 arg9 harg9 arg16 x5 x7) (v0_at c arg8 harg8 arg10 harg10 arg17 x6 x8) (s0 c arg3 harg3 arg7 harg7 arg9 harg9 arg16 arg18 x1 x5 x7)
    (fun p d => (rd arg11 harg11 x9 _ _ _ _ _ (hi4 _ _ _ _ _ _ _ _ _ _ _ _ rfl rfl (Nat.zero_add _).symm (Nat.zero_add _).symm)).trans (H.kt 6 0 p d))
    (fun p d => (rd arg11 harg11 x9 _ _ _ _ _ (hi4 _ _ _ _ _ _ _ _ _ _ _ _ rfl rfl (Nat.zero_add _).symm (Nat.zero_add _).symm)).trans (H.kt 6 1 p d))
    (fun p d => (rd arg12 harg12 x10 _ _ _ _ _ (hi4 _ _ _ _ _ _ _ _ _ _ _ _ rfl rfl (Nat.zero_add _).symm (Nat.zero_add _).symm)).trans (H.vt 6 0 p d))
    (fun p d => (rd arg12 harg12 x10 _ _ _ _ _ (hi4 _ _ _ _ _ _ _ _ _ _ _ _ rfl rfl (Nat.zero_add _).symm (Nat.zero_add _).symm)).trans (H.vt 6 1 p d))
    e6
    (fun k p => (rd arg13 harg13 x11 _ _ _ _ _ (hi3 _ _ _ _ _ _ _ _ _ rfl (Nat.zero_add _).symm (Nat.zero_add _).symm)).trans (H.kst 6 k p))
    (fun k p => (rd arg14 harg14 x12 _ _ _ _ _ (hi3 _ _ _ _ _ _ _ _ _ rfl (Nat.zero_add _).symm (Nat.zero_add _).symm)).trans (H.vst 6 k p)))

include e6 in
theorem r6_1 (s : Fin 4) (g : Fin 8) (d : Fin 128) : (k0_pay349 (kernelRun0_A.sl.r_165 c i arg2 harg2 arg11 harg11 arg13 harg13 x0 x9 x11 xt0) (kernelRun0_A.sl.r_166 c arg3 harg3 arg4 harg4 arg5 harg5 arg6 harg6 arg7 harg7 arg8 harg8 arg9 harg9 arg10 harg10 arg16 arg17 arg18 x1 x2 x3 x4 x5 x6 x7 x8) (kernelRun0_A.sl.r_167 c arg3 harg3 arg4 harg4 arg5 harg5 arg7 harg7 arg9 harg9 arg16 arg18 x1 x2 x3 x5 x7) (kernelRun0_A.sl.r_168 c arg3 harg3 arg4 harg4 arg5 harg5 arg7 harg7 arg9 harg9 arg16 arg18 x1 x2 x3 x5 x7) (kernelRun0_A.sl.r_169 c i arg2 harg2 arg11 harg11 arg12 harg12 arg13 harg13 arg14 harg14 x0 x9 x10 x11 x12 xt0) (kernelRun0_A.sl.r_170 c i arg2 harg2 arg11 harg11 arg13 harg13 x0 x9 x11 xt0)) (ix4 0 s g d) = res I (bRow t 6) s 1 g d :=
  (congrFun (p6_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) _).trans (res_of I R t 6 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 6 s g d))
    (fun d => (rd arg2 harg2 x0 _ _ _ _ _ (hi2 _ _ _ _ _ _ rfl (Nat.zero_add _).symm)).trans (H.q 6 s 1 g d))
    (fun j d => (rd arg5 harg5 x3 _ _ _ _ _ (hi2 _ _ _ _ _ _ (Nat.zero_add _).symm (Nat.zero_add _).symm)).trans (H.kn 6 j 1 d))
    (fun j d => (rd arg6 harg6 x4 _ _ _ _ _ (hi2 _ _ _ _ _ _ (Nat.zero_add _).symm (Nat.zero_add _).symm)).trans (H.vn 6 j 1 d))
    (k1_at c arg7 harg7 arg9 harg9 arg16 x5 x7) (v1_at c arg8 harg8 arg10 harg10 arg17 x6 x8) (s1 c arg3 harg3 arg4 harg4 arg7 harg7 arg9 harg9 arg16 arg18 x1 x2 x5 x7)
    (fun p d => (rd arg11 harg11 x9 _ _ _ _ _ (hi4 _ _ _ _ _ _ _ _ _ _ _ _ rfl rfl (Nat.zero_add _).symm (Nat.zero_add _).symm)).trans (H.kt 6 0 p d))
    (fun p d => (rd arg11 harg11 x9 _ _ _ _ _ (hi4 _ _ _ _ _ _ _ _ _ _ _ _ rfl rfl (Nat.zero_add _).symm (Nat.zero_add _).symm)).trans (H.kt 6 1 p d))
    (fun p d => (rd arg12 harg12 x10 _ _ _ _ _ (hi4 _ _ _ _ _ _ _ _ _ _ _ _ rfl rfl (Nat.zero_add _).symm (Nat.zero_add _).symm)).trans (H.vt 6 0 p d))
    (fun p d => (rd arg12 harg12 x10 _ _ _ _ _ (hi4 _ _ _ _ _ _ _ _ _ _ _ _ rfl rfl (Nat.zero_add _).symm (Nat.zero_add _).symm)).trans (H.vt 6 1 p d))
    e6
    (fun k p => (rd arg13 harg13 x11 _ _ _ _ _ (hi3 _ _ _ _ _ _ _ _ _ rfl (Nat.zero_add _).symm (Nat.zero_add _).symm)).trans (H.kst 6 k p))
    (fun k p => (rd arg14 harg14 x12 _ _ _ _ _ (hi3 _ _ _ _ _ _ _ _ _ rfl (Nat.zero_add _).symm (Nat.zero_add _).symm)).trans (H.vst 6 k p)))

include e7 in
theorem r7_0 (s : Fin 4) (g : Fin 8) (d : Fin 128) : (k0_pay367 (kernelRun0_A.sl.r_178 c arg3 harg3 arg5 harg5 arg6 harg6 arg7 harg7 arg8 harg8 arg9 harg9 arg10 harg10 arg16 arg17 arg18 x1 x3 x4 x5 x6 x7 x8) (kernelRun0_A.sl.r_179 c arg3 harg3 arg5 harg5 arg7 harg7 arg9 harg9 arg16 arg18 x1 x3 x5 x7) (kernelRun0_A.sl.r_180 c arg3 harg3 arg5 harg5 arg7 harg7 arg9 harg9 arg16 arg18 x1 x3 x5 x7) (kernelRun0_A.sl.r_181 c i arg2 harg2 arg11 harg11 arg12 harg12 arg13 harg13 arg14 harg14 x0 x9 x10 x11 x12 xt0) (kernelRun0_A.sl.r_182 c i arg2 harg2 arg11 harg11 arg13 harg13 x0 x9 x11 xt0) (kernelRun0_A.sl.r_183 c i arg2 harg2 arg11 harg11 arg13 harg13 x0 x9 x11 xt0)) (ix4 0 s g d) = res I (bRow t 7) s 0 g d :=
  (congrFun (p7_0 c i arg2 harg2 arg3 harg3 arg5 harg5 arg6 harg6 arg7 harg7 arg8 harg8 arg9 harg9 arg10 harg10 arg11 harg11 arg12 harg12 arg13 harg13 arg14 harg14 arg16 arg17 arg18 x0 x1 x3 x4 x5 x6 x7 x8 x9 x10 x11 x12 xt0) _).trans (res_of I R t 7 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 7 s g d))
    (fun d => (rd arg2 harg2 x0 _ _ _ _ _ (hi2 _ _ _ _ _ _ rfl (Nat.zero_add _).symm)).trans (H.q 7 s 0 g d))
    (fun j d => (rd arg5 harg5 x3 _ _ _ _ _ (hi2 _ _ _ _ _ _ (Nat.zero_add _).symm (Nat.zero_add _).symm)).trans (H.kn 7 j 0 d))
    (fun j d => (rd arg6 harg6 x4 _ _ _ _ _ (hi2 _ _ _ _ _ _ (Nat.zero_add _).symm (Nat.zero_add _).symm)).trans (H.vn 7 j 0 d))
    (k0_at c arg7 harg7 arg9 harg9 arg16 x5 x7) (v0_at c arg8 harg8 arg10 harg10 arg17 x6 x8) (s0 c arg3 harg3 arg7 harg7 arg9 harg9 arg16 arg18 x1 x5 x7)
    (fun p d => (rd arg11 harg11 x9 _ _ _ _ _ (hi4 _ _ _ _ _ _ _ _ _ _ _ _ rfl rfl (Nat.zero_add _).symm (Nat.zero_add _).symm)).trans (H.kt 7 0 p d))
    (fun p d => (rd arg11 harg11 x9 _ _ _ _ _ (hi4 _ _ _ _ _ _ _ _ _ _ _ _ rfl rfl (Nat.zero_add _).symm (Nat.zero_add _).symm)).trans (H.kt 7 1 p d))
    (fun p d => (rd arg12 harg12 x10 _ _ _ _ _ (hi4 _ _ _ _ _ _ _ _ _ _ _ _ rfl rfl (Nat.zero_add _).symm (Nat.zero_add _).symm)).trans (H.vt 7 0 p d))
    (fun p d => (rd arg12 harg12 x10 _ _ _ _ _ (hi4 _ _ _ _ _ _ _ _ _ _ _ _ rfl rfl (Nat.zero_add _).symm (Nat.zero_add _).symm)).trans (H.vt 7 1 p d))
    e7
    (fun k p => (rd arg13 harg13 x11 _ _ _ _ _ (hi3 _ _ _ _ _ _ _ _ _ rfl (Nat.zero_add _).symm (Nat.zero_add _).symm)).trans (H.kst 7 k p))
    (fun k p => (rd arg14 harg14 x12 _ _ _ _ _ (hi3 _ _ _ _ _ _ _ _ _ rfl (Nat.zero_add _).symm (Nat.zero_add _).symm)).trans (H.vst 7 k p)))

include e7 in
theorem r7_1 (s : Fin 4) (g : Fin 8) (d : Fin 128) : (kernelRun0_A.sl.r_184 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) (ix4 0 s g d) = res I (bRow t 7) s 1 g d :=
  (congrFun (p7_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0) _).trans (res_of I R t 7 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 7 s g d))
    (fun d => (rd arg2 harg2 x0 _ _ _ _ _ (hi2 _ _ _ _ _ _ rfl (Nat.zero_add _).symm)).trans (H.q 7 s 1 g d))
    (fun j d => (rd arg5 harg5 x3 _ _ _ _ _ (hi2 _ _ _ _ _ _ (Nat.zero_add _).symm (Nat.zero_add _).symm)).trans (H.kn 7 j 1 d))
    (fun j d => (rd arg6 harg6 x4 _ _ _ _ _ (hi2 _ _ _ _ _ _ (Nat.zero_add _).symm (Nat.zero_add _).symm)).trans (H.vn 7 j 1 d))
    (k1_at c arg7 harg7 arg9 harg9 arg16 x5 x7) (v1_at c arg8 harg8 arg10 harg10 arg17 x6 x8) (s1 c arg3 harg3 arg4 harg4 arg7 harg7 arg9 harg9 arg16 arg18 x1 x2 x5 x7)
    (fun p d => (rd arg11 harg11 x9 _ _ _ _ _ (hi4 _ _ _ _ _ _ _ _ _ _ _ _ rfl rfl (Nat.zero_add _).symm (Nat.zero_add _).symm)).trans (H.kt 7 0 p d))
    (fun p d => (rd arg11 harg11 x9 _ _ _ _ _ (hi4 _ _ _ _ _ _ _ _ _ _ _ _ rfl rfl (Nat.zero_add _).symm (Nat.zero_add _).symm)).trans (H.kt 7 1 p d))
    (fun p d => (rd arg12 harg12 x10 _ _ _ _ _ (hi4 _ _ _ _ _ _ _ _ _ _ _ _ rfl rfl (Nat.zero_add _).symm (Nat.zero_add _).symm)).trans (H.vt 7 0 p d))
    (fun p d => (rd arg12 harg12 x10 _ _ _ _ _ (hi4 _ _ _ _ _ _ _ _ _ _ _ _ rfl rfl (Nat.zero_add _).symm (Nat.zero_add _).symm)).trans (H.vt 7 1 p d))
    e7
    (fun k p => (rd arg13 harg13 x11 _ _ _ _ _ (hi3 _ _ _ _ _ _ _ _ _ rfl (Nat.zero_add _).symm (Nat.zero_add _).symm)).trans (H.kst 7 k p))
    (fun k p => (rd arg14 harg14 x12 _ _ _ _ _ (hi3 _ _ _ _ _ _ _ _ _ rfl (Nat.zero_add _).symm (Nat.zero_add _).symm)).trans (H.vst 7 k p)))

include e0 e1 e2 e3 e4 e5 e6 e7 in
/-- The sixteen stores leave the block of results. -/
theorem block : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 = resBlk I t := by
  funext y
  have cov := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 y
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0)]
  unfold kernelRun0_A at cov ⊢
  dsimp only at cov ⊢
  canon_tiles x h using cov
  · exact fin_piece I t 7 1 _ (r7_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e7) x y h0 (h1.trans (Nat.zero_add _).symm) h2 (h3.trans (Nat.zero_add _).symm)
  · exact fin_piece I t 7 0 _ (r7_0 c i arg2 harg2 arg3 harg3 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e7) x y h0 (h1.trans (Nat.zero_add _).symm) (h2.trans (Nat.zero_add _).symm) (h3.trans (Nat.zero_add _).symm)
  · exact fin_piece I t 6 1 _ (r6_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e6) x y h0 (h1.trans (Nat.zero_add _).symm) h2 (h3.trans (Nat.zero_add _).symm)
  · exact fin_piece I t 6 0 _ (r6_0 c i arg2 harg2 arg3 harg3 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e6) x y h0 (h1.trans (Nat.zero_add _).symm) (h2.trans (Nat.zero_add _).symm) (h3.trans (Nat.zero_add _).symm)
  · exact fin_piece I t 5 1 _ (r5_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e5) x y h0 (h1.trans (Nat.zero_add _).symm) h2 (h3.trans (Nat.zero_add _).symm)
  · exact fin_piece I t 5 0 _ (r5_0 c i arg2 harg2 arg3 harg3 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e5) x y h0 (h1.trans (Nat.zero_add _).symm) (h2.trans (Nat.zero_add _).symm) (h3.trans (Nat.zero_add _).symm)
  · exact fin_piece I t 4 1 _ (r4_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e4) x y h0 (h1.trans (Nat.zero_add _).symm) h2 (h3.trans (Nat.zero_add _).symm)
  · exact fin_piece I t 4 0 _ (r4_0 c i arg2 harg2 arg3 harg3 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e4) x y h0 (h1.trans (Nat.zero_add _).symm) (h2.trans (Nat.zero_add _).symm) (h3.trans (Nat.zero_add _).symm)
  · exact fin_piece I t 3 1 _ (r3_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e3) x y h0 (h1.trans (Nat.zero_add _).symm) h2 (h3.trans (Nat.zero_add _).symm)
  · exact fin_piece I t 3 0 _ (r3_0 c i arg2 harg2 arg3 harg3 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e3) x y h0 (h1.trans (Nat.zero_add _).symm) (h2.trans (Nat.zero_add _).symm) (h3.trans (Nat.zero_add _).symm)
  · exact fin_piece I t 2 1 _ (r2_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e2) x y h0 (h1.trans (Nat.zero_add _).symm) h2 (h3.trans (Nat.zero_add _).symm)
  · exact fin_piece I t 2 0 _ (r2_0 c i arg2 harg2 arg3 harg3 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e2) x y h0 (h1.trans (Nat.zero_add _).symm) (h2.trans (Nat.zero_add _).symm) (h3.trans (Nat.zero_add _).symm)
  · exact fin_piece I t 1 1 _ (r1_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e1) x y h0 (h1.trans (Nat.zero_add _).symm) h2 (h3.trans (Nat.zero_add _).symm)
  · exact fin_piece I t 1 0 _ (r1_0 c i arg2 harg2 arg3 harg3 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e1) x y h0 (h1.trans (Nat.zero_add _).symm) (h2.trans (Nat.zero_add _).symm) (h3.trans (Nat.zero_add _).symm)
  · exact fin_piece I t 0 1 _ (r0_1 c i arg2 harg2 arg3 harg3 arg4 harg4 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e0) x y (h0.trans (Nat.zero_add _).symm) (h1.trans (Nat.zero_add _).symm) h2 (h3.trans (Nat.zero_add _).symm)
  · exact fin_piece I t 0 0 _ (r0_0 c i arg2 harg2 arg3 harg3 arg5 harg5 arg6 harg6 arg7 harg7 arg8 harg8 arg9 harg9 arg10 harg10 arg11 harg11 arg12 harg12 arg13 harg13 arg14 harg14 arg16 arg17 arg18 x0 x1 x2 x3 x4 x5 x6 x7 x8 x9 x10 x11 x12 xt0 I R t Z H e0) x y (h0.trans (Nat.zero_add _).symm) (h1.trans (Nat.zero_add _).symm) (h2.trans (Nat.zero_add _).symm) (h3.trans (Nat.zero_add _).symm)

end Cert.CaseA

end
-- ==== Proof.WordsB.lean ====
/- What the body of a grid point that finds the scratch arrays filled stores into the result, as the kernel's pure computations over what it reads. -/
module

public import proofs.«01_k».proof.Proof.Block

@[expose] public section

set_option maxRecDepth 16384

noncomputable section

namespace Cert.WordsB

open Idealize.ShloMosaic Idealize.ShloMosaic.TcCoe Idealize.ShloMosaic.Tactic Cert.KernelIdeal Cert.KernelIdeal.Gen Cert.Stages

variable {F : FTy → Type} [FloatOps F] [Named F]
variable (c : Dev nD) (i : grid0.Coords) (arg2 : Memref sig .tc .vmem S512x128 .bf16) (harg2 : arg2.IsWhole) (arg3 : Memref sig .tc .vmem S32x1x8x128 .bf16) (harg3 : arg3.IsWhole) (arg4 : Memref sig .tc .vmem S32x1x8x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S2x2304x128 .fp8e4m3) (harg7 : arg7.IsWhole) (arg8 : Memref sig .tc .vmem S2x2304x128 .fp8e4m3) (harg8 : arg8.IsWhole) (arg9 : Memref sig .tc .vmem S2x2304 .f32) (harg9 : arg9.IsWhole) (arg10 : Memref sig .tc .vmem S2x2304 .f32) (harg10 : arg10.IsWhole) (arg11 : Memref sig .tc .vmem S8x2x256x128 .fp8e4m3) (harg11 : arg11.IsWhole) (arg12 : Memref sig .tc .vmem S8x2x256x128 .fp8e4m3) (harg12 : arg12.IsWhole) (arg13 : Memref sig .tc .vmem S8x2x256 .f32) (harg13 : arg13.IsWhole) (arg14 : Memref sig .tc .vmem S8x2x256 .f32) (harg14 : arg14.IsWhole) (arg15 : Memref sig .tc .vmem S8x4x16x128 .bf16) (harg15 : arg15.IsWhole) (arg16 : Memref sig .tc .vmem S2x2304x256 .bf16) (harg16 : arg16.IsWhole) (arg17 : Memref sig .tc .vmem S2x128x2304 .bf16) (harg17 : arg17.IsWhole) (arg18 : Memref sig .tc .vmem S2x2304x256 .f32) (harg18 : arg18.IsWhole) (hc0 : ¬cond0_0 i) (x0 : Vec F S512x128 .bf16) (x1 : Vec F S32x1x8x128 .bf16) (x2 : Vec F S32x1x8x128 .bf16) (x3 : Vec F S64x128 .bf16) (x4 : Vec F S64x128 .bf16) (x5 : Vec F S2x2304x128 .fp8e4m3) (x6 : Vec F S2x2304x128 .fp8e4m3) (x7 : Vec F S2x2304 .f32) (x8 : Vec F S2x2304 .f32) (x9 : Vec F S8x2x256x128 .fp8e4m3) (x10 : Vec F S8x2x256x128 .fp8e4m3) (x11 : Vec F S8x2x256 .f32) (x12 : Vec F S8x2x256 .f32) (xt0 : TbBuf0 (F := F) c tbM0_0) (xs0 : Vec F S2x2304x256 .bf16) (xs1 : Vec F S2x128x2304 .bf16)

/-- The blocks of past keys of head group 0, as read. -/
def K0 : ℕ → Vec F S1x256x256 .bf16
  | 0 => View.readAt (Elt F) arg16.view (Rect.unit (s := S2x2304x256) ![0, 0, 0] S1x256x256.size inb_S2x2304x256_S1x256x256_0_0_0).toLoadRect (harg16.unread xs0)
  | 1 => View.readAt (Elt F) arg16.view (Rect.unit (s := S2x2304x256) ![0, 256, 0] S1x256x256.size inb_S2x2304x256_S1x256x256_0_256_0).toLoadRect (harg16.unread xs0)
  | 2 => View.readAt (Elt F) arg16.view (Rect.unit (s := S2x2304x256) ![0, 512, 0] S1x256x256.size inb_S2x2304x256_S1x256x256_0_512_0).toLoadRect (harg16.unread xs0)
  | 3 => View.readAt (Elt F) arg16.view (Rect.unit (s := S2x2304x256) ![0, 768, 0] S1x256x256.size inb_S2x2304x256_S1x256x256_0_768_0).toLoadRect (harg16.unread xs0)
  | 4 => View.readAt (Elt F) arg16.view (Rect.unit (s := S2x2304x256) ![0, 1024, 0] S1x256x256.size inb_S2x2304x256_S1x256x256_0_1024_0).toLoadRect (harg16.unread xs0)
  | 5 => View.readAt (Elt F) arg16.view (Rect.unit (s := S2x2304x256) ![0, 1280, 0] S1x256x256.size inb_S2x2304x256_S1x256x256_0_1280_0).toLoadRect (harg16.unread xs0)
  | 6 => View.readAt (Elt F) arg16.view (Rect.unit (s := S2x2304x256) ![0, 1536, 0] S1x256x256.size inb_S2x2304x256_S1x256x256_0_1536_0).toLoadRect (harg16.unread xs0)
  | 7 => View.readAt (Elt F) arg16.view (Rect.unit (s := S2x2304x256) ![0, 1792, 0] S1x256x256.size inb_S2x2304x256_S1x256x256_0_1792_0).toLoadRect (harg16.unread xs0)
  | _ => View.readAt (Elt F) arg16.view (Rect.unit (s := S2x2304x256) ![0, 2048, 0] S1x256x256.size inb_S2x2304x256_S1x256x256_0_2048_0).toLoadRect (harg16.unread xs0)

/-- The blocks of past values of head group 0, as read. -/
def V0 : ℕ → Vec F S1x128x256 .bf16
  | 0 => View.readAt (Elt F) arg17.view (Rect.unit (s := S2x128x2304) ![0, 0, 0] S1x128x256.size inb_S2x128x2304_S1x128x256_0_0_0).toLoadRect (harg17.unread xs1)
  | 1 => View.readAt (Elt F) arg17.view (Rect.unit (s := S2x128x2304) ![0, 0, 256] S1x128x256.size inb_S2x128x2304_S1x128x256_0_0_256).toLoadRect (harg17.unread xs1)
  | 2 => View.readAt (Elt F) arg17.view (Rect.unit (s := S2x128x2304) ![0, 0, 512] S1x128x256.size inb_S2x128x2304_S1x128x256_0_0_512).toLoadRect (harg17.unread xs1)
  | 3 => View.readAt (Elt F) arg17.view (Rect.unit (s := S2x128x2304) ![0, 0, 768] S1x128x256.size inb_S2x128x2304_S1x128x256_0_0_768).toLoadRect (harg17.unread xs1)
  | 4 => View.readAt (Elt F) arg17.view (Rect.unit (s := S2x128x2304) ![0, 0, 1024] S1x128x256.size inb_S2x128x2304_S1x128x256_0_0_1024).toLoadRect (harg17.unread xs1)
  | 5 => View.readAt (Elt F) arg17.view (Rect.unit (s := S2x128x2304) ![0, 0, 1280] S1x128x256.size inb_S2x128x2304_S1x128x256_0_0_1280).toLoadRect (harg17.unread xs1)
  | 6 => View.readAt (Elt F) arg17.view (Rect.unit (s := S2x128x2304) ![0, 0, 1536] S1x128x256.size inb_S2x128x2304_S1x128x256_0_0_1536).toLoadRect (harg17.unread xs1)
  | 7 => View.readAt (Elt F) arg17.view (Rect.unit (s := S2x128x2304) ![0, 0, 1792] S1x128x256.size inb_S2x128x2304_S1x128x256_0_0_1792).toLoadRect (harg17.unread xs1)
  | _ => View.readAt (Elt F) arg17.view (Rect.unit (s := S2x128x2304) ![0, 0, 2048] S1x128x256.size inb_S2x128x2304_S1x128x256_0_0_2048).toLoadRect (harg17.unread xs1)

/-- The stored score blocks of head group 0, as read. -/
def S0 : ℕ → Vec F S1x256x256 .f32
  | 0 => kernelRun0_B.sl.v263 c arg3 harg3 arg16 harg16 arg18 x1 xs0
  | 1 => kernelRun0_B.sl.v276 c arg3 harg3 arg16 harg16 arg18 x1 xs0
  | 2 => kernelRun0_B.sl.v289 c arg3 harg3 arg16 harg16 arg18 x1 xs0
  | 3 => kernelRun0_B.sl.v302 c arg3 harg3 arg16 harg16 arg18 x1 xs0
  | 4 => kernelRun0_B.sl.v315 c arg3 harg3 arg16 harg16 arg18 x1 xs0
  | 5 => kernelRun0_B.sl.v328 c arg3 harg3 arg16 harg16 arg18 x1 xs0
  | 6 => kernelRun0_B.sl.v341 c arg3 harg3 arg16 harg16 arg18 x1 xs0
  | 7 => kernelRun0_B.sl.v354 c arg3 harg3 arg16 harg16 arg18 x1 xs0
  | _ => kernelRun0_B.sl.v367 c arg3 harg3 arg16 harg16 arg18 x1 xs0

theorem s0_0 : kernelRun0_B.sl.v263 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 0 := by
  unfold kernelRun0_B.sl.v263 kernelRun0_B.sl.HS2_9
  refine (Block.skip _ 0 2048 0 0 _ _ _ _ (by decide)).trans ?_
  refine (Block.skip _ 0 1792 0 0 _ _ _ _ (by decide)).trans ?_
  refine (Block.skip _ 0 1536 0 0 _ _ _ _ (by decide)).trans ?_
  refine (Block.skip _ 0 1280 0 0 _ _ _ _ (by decide)).trans ?_
  refine (Block.skip _ 0 1024 0 0 _ _ _ _ (by decide)).trans ?_
  refine (Block.skip _ 0 768 0 0 _ _ _ _ (by decide)).trans ?_
  refine (Block.skip _ 0 512 0 0 _ _ _ _ (by decide)).trans ?_
  refine (Block.skip _ 0 256 0 0 _ _ _ _ (by decide)).trans ?_
  exact (View.readCov_cons_toLoadRect _ _ _ _).trans rfl

theorem s0_1 : kernelRun0_B.sl.v276 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 1 := by
  unfold kernelRun0_B.sl.v276 kernelRun0_B.sl.HS2_9
  refine (Block.skip _ 0 2048 0 256 _ _ _ _ (by decide)).trans ?_
  refine (Block.skip _ 0 1792 0 256 _ _ _ _ (by decide)).trans ?_
  refine (Block.skip _ 0 1536 0 256 _ _ _ _ (by decide)).trans ?_
  refine (Block.skip _ 0 1280 0 256 _ _ _ _ (by decide)).trans ?_
  refine (Block.skip _ 0 1024 0 256 _ _ _ _ (by decide)).trans ?_
  refine (Block.skip _ 0 768 0 256 _ _ _ _ (by decide)).trans ?_
  refine (Block.skip _ 0 512 0 256 _ _ _ _ (by decide)).trans ?_
  exact (View.readCov_cons_toLoadRect _ _ _ _).trans rfl

theorem s0_2 : kernelRun0_B.sl.v289 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 2 := by
  unfold kernelRun0_B.sl.v289 kernelRun0_B.sl.HS2_9
  refine (Block.skip _ 0 2048 0 512 _ _ _ _ (by decide)).trans ?_
  refine (Block.skip _ 0 1792 0 512 _ _ _ _ (by decide)).trans ?_
  refine (Block.skip _ 0 1536 0 512 _ _ _ _ (by decide)).trans ?_
  refine (Block.skip _ 0 1280 0 512 _ _ _ _ (by decide)).trans ?_
  refine (Block.skip _ 0 1024 0 512 _ _ _ _ (by decide)).trans ?_
  refine (Block.skip _ 0 768 0 512 _ _ _ _ (by decide)).trans ?_
  exact (View.readCov_cons_toLoadRect _ _ _ _).trans rfl

theorem s0_3 : kernelRun0_B.sl.v302 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 3 := by
  unfold kernelRun0_B.sl.v302 kernelRun0_B.sl.HS2_9
  refine (Block.skip _ 0 2048 0 768 _ _ _ _ (by decide)).trans ?_
  refine (Block.skip _ 0 1792 0 768 _ _ _ _ (by decide)).trans ?_
  refine (Block.skip _ 0 1536 0 768 _ _ _ _ (by decide)).trans ?_
  refine (Block.skip _ 0 1280 0 768 _ _ _ _ (by decide)).trans ?_
  refine (Block.skip _ 0 1024 0 768 _ _ _ _ (by decide)).trans ?_
  exact (View.readCov_cons_toLoadRect _ _ _ _).trans rfl

theorem s0_4 : kernelRun0_B.sl.v315 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 4 := by
  unfold kernelRun0_B.sl.v315 kernelRun0_B.sl.HS2_9
  refine (Block.skip _ 0 2048 0 1024 _ _ _ _ (by decide)).trans ?_
  refine (Block.skip _ 0 1792 0 1024 _ _ _ _ (by decide)).trans ?_
  refine (Block.skip _ 0 1536 0 1024 _ _ _ _ (by decide)).trans ?_
  refine (Block.skip _ 0 1280 0 1024 _ _ _ _ (by decide)).trans ?_
  exact (View.readCov_cons_toLoadRect _ _ _ _).trans rfl

theorem s0_5 : kernelRun0_B.sl.v328 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 5 := by
  unfold kernelRun0_B.sl.v328 kernelRun0_B.sl.HS2_9
  refine (Block.skip _ 0 2048 0 1280 _ _ _ _ (by decide)).trans ?_
  refine (Block.skip _ 0 1792 0 1280 _ _ _ _ (by decide)).trans ?_
  refine (Block.skip _ 0 1536 0 1280 _ _ _ _ (by decide)).trans ?_
  exact (View.readCov_cons_toLoadRect _ _ _ _).trans rfl

theorem s0_6 : kernelRun0_B.sl.v341 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 6 := by
  unfold kernelRun0_B.sl.v341 kernelRun0_B.sl.HS2_9
  refine (Block.skip _ 0 2048 0 1536 _ _ _ _ (by decide)).trans ?_
  refine (Block.skip _ 0 1792 0 1536 _ _ _ _ (by decide)).trans ?_
  exact (View.readCov_cons_toLoadRect _ _ _ _).trans rfl

theorem s0_7 : kernelRun0_B.sl.v354 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 7 := by
  unfold kernelRun0_B.sl.v354 kernelRun0_B.sl.HS2_9
  refine (Block.skip _ 0 2048 0 1792 _ _ _ _ (by decide)).trans ?_
  exact (View.readCov_cons_toLoadRect _ _ _ _).trans rfl

theorem s0_8 : kernelRun0_B.sl.v367 c arg3 harg3 arg16 harg16 arg18 x1 xs0 = pS (View.readAt (Elt F) arg3.view (Rect.unit (s := S32x1x8x128) ![0, 0, 0, 0] S32x1x8x128.size inb_S32x1x8x128_S32x1x8x128_0_0_0_0).toLoadRect (harg3.unread x1)) (K0 arg16 harg16 xs0) 8 := by
  unfold kernelRun0_B.sl.v367 kernelRun0_B.sl.HS2_9
  exact (View.readCov_cons_toLoadRect _ _ _ _).trans rfl

theorem s0 : ∀ n : Fin 9, (S0 c arg3 harg3 arg16 harg16 arg18 x1 xs0) n.val = pS (View.readAt (Elt F) arg3.view (Rect.unit (s := S32x1x8x128) ![0, 0, 0, 0] S32x1x8x128.size inb_S32x1x8x128_S32x1x8x128_0_0_0_0).toLoadRect (harg3.unread x1)) (K0 arg16 harg16 xs0) n.val
  | 0 => (s0_0 c arg3 harg3 arg16 harg16 arg18 x1 xs0)
  | 1 => (s0_1 c arg3 harg3 arg16 harg16 arg18 x1 xs0)
  | 2 => (s0_2 c arg3 harg3 arg16 harg16 arg18 x1 xs0)
  | 3 => (s0_3 c arg3 harg3 arg16 harg16 arg18 x1 xs0)
  | 4 => (s0_4 c arg3 harg3 arg16 harg16 arg18 x1 xs0)
  | 5 => (s0_5 c arg3 harg3 arg16 harg16 arg18 x1 xs0)
  | 6 => (s0_6 c arg3 harg3 arg16 harg16 arg18 x1 xs0)
  | 7 => (s0_7 c arg3 harg3 arg16 harg16 arg18 x1 xs0)
  | 8 => (s0_8 c arg3 harg3 arg16 harg16 arg18 x1 xs0)

theorem o0 : kernelRun0_B.sl.r_24 c arg3 harg3 arg5 harg5 arg6 harg6 arg16 harg16 arg17 harg17 arg18 x1 x3 x4 xs0 xs1 = k0_pay166 (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) :=
  Payloads.prefO_0 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)

theorem m0 : kernelRun0_B.sl.r_25 c arg3 harg3 arg5 harg5 arg16 harg16 arg18 x1 x3 xs0 = k0_pay168 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) :=
  Payloads.prefM_0 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)

theorem l0 : kernelRun0_B.sl.r_26 c arg3 harg3 arg5 harg5 arg16 harg16 arg18 x1 x3 xs0 = k0_pay169 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) :=
  Payloads.prefL_0 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)

/-- The blocks of past keys of head group 1, as read. -/
def K1 : ℕ → Vec F S1x256x256 .bf16
  | 0 => View.readAt (Elt F) arg16.view (Rect.unit (s := S2x2304x256) ![1, 0, 0] S1x256x256.size inb_S2x2304x256_S1x256x256_1_0_0).toLoadRect (harg16.unread xs0)
  | 1 => View.readAt (Elt F) arg16.view (Rect.unit (s := S2x2304x256) ![1, 256, 0] S1x256x256.size inb_S2x2304x256_S1x256x256_1_256_0).toLoadRect (harg16.unread xs0)
  | 2 => View.readAt (Elt F) arg16.view (Rect.unit (s := S2x2304x256) ![1, 512, 0] S1x256x256.size inb_S2x2304x256_S1x256x256_1_512_0).toLoadRect (harg16.unread xs0)
  | 3 => View.readAt (Elt F) arg16.view (Rect.unit (s := S2x2304x256) ![1, 768, 0] S1x256x256.size inb_S2x2304x256_S1x256x256_1_768_0).toLoadRect (harg16.unread xs0)
  | 4 => View.readAt (Elt F) arg16.view (Rect.unit (s := S2x2304x256) ![1, 1024, 0] S1x256x256.size inb_S2x2304x256_S1x256x256_1_1024_0).toLoadRect (harg16.unread xs0)
  | 5 => View.readAt (Elt F) arg16.view (Rect.unit (s := S2x2304x256) ![1, 1280, 0] S1x256x256.size inb_S2x2304x256_S1x256x256_1_1280_0).toLoadRect (harg16.unread xs0)
  | 6 => View.readAt (Elt F) arg16.view (Rect.unit (s := S2x2304x256) ![1, 1536, 0] S1x256x256.size inb_S2x2304x256_S1x256x256_1_1536_0).toLoadRect (harg16.unread xs0)
  | 7 => View.readAt (Elt F) arg16.view (Rect.unit (s := S2x2304x256) ![1, 1792, 0] S1x256x256.size inb_S2x2304x256_S1x256x256_1_1792_0).toLoadRect (harg16.unread xs0)
  | _ => View.readAt (Elt F) arg16.view (Rect.unit (s := S2x2304x256) ![1, 2048, 0] S1x256x256.size inb_S2x2304x256_S1x256x256_1_2048_0).toLoadRect (harg16.unread xs0)

/-- The blocks of past values of head group 1, as read. -/
def V1 : ℕ → Vec F S1x128x256 .bf16
  | 0 => View.readAt (Elt F) arg17.view (Rect.unit (s := S2x128x2304) ![1, 0, 0] S1x128x256.size inb_S2x128x2304_S1x128x256_1_0_0).toLoadRect (harg17.unread xs1)
  | 1 => View.readAt (Elt F) arg17.view (Rect.unit (s := S2x128x2304) ![1, 0, 256] S1x128x256.size inb_S2x128x2304_S1x128x256_1_0_256).toLoadRect (harg17.unread xs1)
  | 2 => View.readAt (Elt F) arg17.view (Rect.unit (s := S2x128x2304) ![1, 0, 512] S1x128x256.size inb_S2x128x2304_S1x128x256_1_0_512).toLoadRect (harg17.unread xs1)
  | 3 => View.readAt (Elt F) arg17.view (Rect.unit (s := S2x128x2304) ![1, 0, 768] S1x128x256.size inb_S2x128x2304_S1x128x256_1_0_768).toLoadRect (harg17.unread xs1)
  | 4 => View.readAt (Elt F) arg17.view (Rect.unit (s := S2x128x2304) ![1, 0, 1024] S1x128x256.size inb_S2x128x2304_S1x128x256_1_0_1024).toLoadRect (harg17.unread xs1)
  | 5 => View.readAt (Elt F) arg17.view (Rect.unit (s := S2x128x2304) ![1, 0, 1280] S1x128x256.size inb_S2x128x2304_S1x128x256_1_0_1280).toLoadRect (harg17.unread xs1)
  | 6 => View.readAt (Elt F) arg17.view (Rect.unit (s := S2x128x2304) ![1, 0, 1536] S1x128x256.size inb_S2x128x2304_S1x128x256_1_0_1536).toLoadRect (harg17.unread xs1)
  | 7 => View.readAt (Elt F) arg17.view (Rect.unit (s := S2x128x2304) ![1, 0, 1792] S1x128x256.size inb_S2x128x2304_S1x128x256_1_0_1792).toLoadRect (harg17.unread xs1)
  | _ => View.readAt (Elt F) arg17.view (Rect.unit (s := S2x128x2304) ![1, 0, 2048] S1x128x256.size inb_S2x128x2304_S1x128x256_1_0_2048).toLoadRect (harg17.unread xs1)

/-- The stored score blocks of head group 1, as read. -/
def S1 : ℕ → Vec F S1x256x256 .f32
  | 0 => kernelRun0_B.sl.v517 c arg3 harg3 arg4 harg4 arg16 harg16 arg18 x1 x2 xs0
  | 1 => kernelRun0_B.sl.v530 c arg3 harg3 arg4 harg4 arg16 harg16 arg18 x1 x2 xs0
  | 2 => kernelRun0_B.sl.v543 c arg3 harg3 arg4 harg4 arg16 harg16 arg18 x1 x2 xs0
  | 3 => kernelRun0_B.sl.v556 c arg3 harg3 arg4 harg4 arg16 harg16 arg18 x1 x2 xs0
  | 4 => kernelRun0_B.sl.v569 c arg3 harg3 arg4 harg4 arg16 harg16 arg18 x1 x2 xs0
  | 5 => kernelRun0_B.sl.v582 c arg3 harg3 arg4 harg4 arg16 harg16 arg18 x1 x2 xs0
  | 6 => kernelRun0_B.sl.v595 c arg3 harg3 arg4 harg4 arg16 harg16 arg18 x1 x2 xs0
  | 7 => kernelRun0_B.sl.v608 c arg3 harg3 arg4 harg4 arg16 harg16 arg18 x1 x2 xs0
  | _ => kernelRun0_B.sl.v621 c arg3 harg3 arg4 harg4 arg16 harg16 arg18 x1 x2 xs0

theorem s1_0 : kernelRun0_B.sl.v517 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 0 := by
  unfold kernelRun0_B.sl.v517 kernelRun0_B.sl.HS2_18
  refine (Block.skip _ 1 2048 1 0 _ _ _ _ (by decide)).trans ?_
  refine (Block.skip _ 1 1792 1 0 _ _ _ _ (by decide)).trans ?_
  refine (Block.skip _ 1 1536 1 0 _ _ _ _ (by decide)).trans ?_
  refine (Block.skip _ 1 1280 1 0 _ _ _ _ (by decide)).trans ?_
  refine (Block.skip _ 1 1024 1 0 _ _ _ _ (by decide)).trans ?_
  refine (Block.skip _ 1 768 1 0 _ _ _ _ (by decide)).trans ?_
  refine (Block.skip _ 1 512 1 0 _ _ _ _ (by decide)).trans ?_
  refine (Block.skip _ 1 256 1 0 _ _ _ _ (by decide)).trans ?_
  exact (View.readCov_cons_toLoadRect _ _ _ _).trans rfl

theorem s1_1 : kernelRun0_B.sl.v530 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 1 := by
  unfold kernelRun0_B.sl.v530 kernelRun0_B.sl.HS2_18
  refine (Block.skip _ 1 2048 1 256 _ _ _ _ (by decide)).trans ?_
  refine (Block.skip _ 1 1792 1 256 _ _ _ _ (by decide)).trans ?_
  refine (Block.skip _ 1 1536 1 256 _ _ _ _ (by decide)).trans ?_
  refine (Block.skip _ 1 1280 1 256 _ _ _ _ (by decide)).trans ?_
  refine (Block.skip _ 1 1024 1 256 _ _ _ _ (by decide)).trans ?_
  refine (Block.skip _ 1 768 1 256 _ _ _ _ (by decide)).trans ?_
  refine (Block.skip _ 1 512 1 256 _ _ _ _ (by decide)).trans ?_
  exact (View.readCov_cons_toLoadRect _ _ _ _).trans rfl

theorem s1_2 : kernelRun0_B.sl.v543 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 2 := by
  unfold kernelRun0_B.sl.v543 kernelRun0_B.sl.HS2_18
  refine (Block.skip _ 1 2048 1 512 _ _ _ _ (by decide)).trans ?_
  refine (Block.skip _ 1 1792 1 512 _ _ _ _ (by decide)).trans ?_
  refine (Block.skip _ 1 1536 1 512 _ _ _ _ (by decide)).trans ?_
  refine (Block.skip _ 1 1280 1 512 _ _ _ _ (by decide)).trans ?_
  refine (Block.skip _ 1 1024 1 512 _ _ _ _ (by decide)).trans ?_
  refine (Block.skip _ 1 768 1 512 _ _ _ _ (by decide)).trans ?_
  exact (View.readCov_cons_toLoadRect _ _ _ _).trans rfl

theorem s1_3 : kernelRun0_B.sl.v556 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 3 := by
  unfold kernelRun0_B.sl.v556 kernelRun0_B.sl.HS2_18
  refine (Block.skip _ 1 2048 1 768 _ _ _ _ (by decide)).trans ?_
  refine (Block.skip _ 1 1792 1 768 _ _ _ _ (by decide)).trans ?_
  refine (Block.skip _ 1 1536 1 768 _ _ _ _ (by decide)).trans ?_
  refine (Block.skip _ 1 1280 1 768 _ _ _ _ (by decide)).trans ?_
  refine (Block.skip _ 1 1024 1 768 _ _ _ _ (by decide)).trans ?_
  exact (View.readCov_cons_toLoadRect _ _ _ _).trans rfl

theorem s1_4 : kernelRun0_B.sl.v569 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 4 := by
  unfold kernelRun0_B.sl.v569 kernelRun0_B.sl.HS2_18
  refine (Block.skip _ 1 2048 1 1024 _ _ _ _ (by decide)).trans ?_
  refine (Block.skip _ 1 1792 1 1024 _ _ _ _ (by decide)).trans ?_
  refine (Block.skip _ 1 1536 1 1024 _ _ _ _ (by decide)).trans ?_
  refine (Block.skip _ 1 1280 1 1024 _ _ _ _ (by decide)).trans ?_
  exact (View.readCov_cons_toLoadRect _ _ _ _).trans rfl

theorem s1_5 : kernelRun0_B.sl.v582 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 5 := by
  unfold kernelRun0_B.sl.v582 kernelRun0_B.sl.HS2_18
  refine (Block.skip _ 1 2048 1 1280 _ _ _ _ (by decide)).trans ?_
  refine (Block.skip _ 1 1792 1 1280 _ _ _ _ (by decide)).trans ?_
  refine (Block.skip _ 1 1536 1 1280 _ _ _ _ (by decide)).trans ?_
  exact (View.readCov_cons_toLoadRect _ _ _ _).trans rfl

theorem s1_6 : kernelRun0_B.sl.v595 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 6 := by
  unfold kernelRun0_B.sl.v595 kernelRun0_B.sl.HS2_18
  refine (Block.skip _ 1 2048 1 1536 _ _ _ _ (by decide)).trans ?_
  refine (Block.skip _ 1 1792 1 1536 _ _ _ _ (by decide)).trans ?_
  exact (View.readCov_cons_toLoadRect _ _ _ _).trans rfl

theorem s1_7 : kernelRun0_B.sl.v608 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 7 := by
  unfold kernelRun0_B.sl.v608 kernelRun0_B.sl.HS2_18
  refine (Block.skip _ 1 2048 1 1792 _ _ _ _ (by decide)).trans ?_
  exact (View.readCov_cons_toLoadRect _ _ _ _).trans rfl

theorem s1_8 : kernelRun0_B.sl.v621 c arg3 harg3 arg4 harg4 arg16 harg16 arg18 x1 x2 xs0 = pS (View.readAt (Elt F) arg4.view (Rect.unit (s := S32x1x8x128) ![0, 0, 0, 0] S32x1x8x128.size inb_S32x1x8x128_S32x1x8x128_0_0_0_0).toLoadRect (harg4.unread x2)) (K1 arg16 harg16 xs0) 8 := by
  unfold kernelRun0_B.sl.v621 kernelRun0_B.sl.HS2_18
  exact (View.readCov_cons_toLoadRect _ _ _ _).trans rfl

theorem s1 : ∀ n : Fin 9, (S1 c arg3 harg3 arg4 harg4 arg16 harg16 arg18 x1 x2 xs0) n.val = pS (View.readAt (Elt F) arg4.view (Rect.unit (s := S32x1x8x128) ![0, 0, 0, 0] S32x1x8x128.size inb_S32x1x8x128_S32x1x8x128_0_0_0_0).toLoadRect (harg4.unread x2)) (K1 arg16 harg16 xs0) n.val
  | 0 => (s1_0 c arg3 harg3 arg4 harg4 arg16 harg16 arg18 x1 x2 xs0)
  | 1 => (s1_1 c arg3 harg3 arg4 harg4 arg16 harg16 arg18 x1 x2 xs0)
  | 2 => (s1_2 c arg3 harg3 arg4 harg4 arg16 harg16 arg18 x1 x2 xs0)
  | 3 => (s1_3 c arg3 harg3 arg4 harg4 arg16 harg16 arg18 x1 x2 xs0)
  | 4 => (s1_4 c arg3 harg3 arg4 harg4 arg16 harg16 arg18 x1 x2 xs0)
  | 5 => (s1_5 c arg3 harg3 arg4 harg4 arg16 harg16 arg18 x1 x2 xs0)
  | 6 => (s1_6 c arg3 harg3 arg4 harg4 arg16 harg16 arg18 x1 x2 xs0)
  | 7 => (s1_7 c arg3 harg3 arg4 harg4 arg16 harg16 arg18 x1 x2 xs0)
  | 8 => (s1_8 c arg3 harg3 arg4 harg4 arg16 harg16 arg18 x1 x2 xs0)

theorem o1 : kernelRun0_B.sl.r_49 c arg3 harg3 arg4 harg4 arg5 harg5 arg6 harg6 arg16 harg16 arg17 harg17 arg18 x1 x2 x3 x4 xs0 xs1 = k0_pay166 (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) :=
  Payloads.prefO_1 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)

theorem m1 : kernelRun0_B.sl.r_50 c arg3 harg3 arg4 harg4 arg5 harg5 arg16 harg16 arg18 x1 x2 x3 xs0 = k0_pay168 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) :=
  Payloads.prefM_1 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)

theorem l1 : kernelRun0_B.sl.r_51 c arg3 harg3 arg4 harg4 arg5 harg5 arg16 harg16 arg18 x1 x2 x3 xs0 = k0_pay169 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) :=
  Payloads.prefL_1 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)

theorem p0_0 : k0_pay237 (kernelRun0_B.sl.r_57 c i arg2 harg2 arg11 harg11 arg13 harg13 x0 x9 x11 xt0) (kernelRun0_B.sl.r_59 c arg3 harg3 arg5 harg5 arg6 harg6 arg16 harg16 arg17 harg17 arg18 x1 x3 x4 xs0 xs1) (kernelRun0_B.sl.r_60 c arg3 harg3 arg5 harg5 arg16 harg16 arg18 x1 x3 xs0) (kernelRun0_B.sl.r_61 c arg3 harg3 arg5 harg5 arg16 harg16 arg18 x1 x3 xs0) (kernelRun0_B.sl.r_62 c i arg2 harg2 arg11 harg11 arg12 harg12 arg13 harg13 arg14 harg14 x0 x9 x10 x11 x12 xt0) (kernelRun0_B.sl.r_63 c i arg2 harg2 arg11 harg11 arg13 harg13 x0 x9 x11 xt0) = out 0 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) (tS (View.readAt (Elt F) arg2.view (Rect.unit (s := S512x128) ![0, 0] S64x128.size inb_S512x128_S64x128_0_0).toLoadRect (harg2.unread x0)) (View.readAt (Elt F) arg11.view (Rect.unit (s := S8x2x256x128) ![0, 0, 0, 0] S1x1x256x128.size inb_S8x2x256x128_S1x1x256x128_0_0_0_0).toLoadRect (harg11.unread x9)) (View.readAt (Elt F) arg11.view (Rect.unit (s := S8x2x256x128) ![0, 1, 0, 0] S1x1x256x128.size inb_S8x2x256x128_S1x1x256x128_0_1_0_0).toLoadRect (harg11.unread x9)) (kernelRun0_B.sl.r_55 c i xt0) (View.readAt (Elt F) arg13.view (Rect.unit (s := S8x2x256) ![0, 0, 0] S1x2x256.size inb_S8x2x256_S1x2x256_0_0_0).toLoadRect (harg13.unread x11))) (View.readAt (Elt F) arg12.view (Rect.unit (s := S8x2x256x128) ![0, 0, 0, 0] S1x1x256x128.size inb_S8x2x256x128_S1x1x256x128_0_0_0_0).toLoadRect (harg12.unread x10)) (View.readAt (Elt F) arg12.view (Rect.unit (s := S8x2x256x128) ![0, 1, 0, 0] S1x1x256x128.size inb_S8x2x256x128_S1x1x256x128_0_1_0_0).toLoadRect (harg12.unread x10)) (View.readAt (Elt F) arg14.view (Rect.unit (s := S8x2x256) ![0, 0, 0] S1x2x256.size inb_S8x2x256_S1x2x256_0_0_0).toLoadRect (harg14.unread x12)) :=
  Block.join (Payloads.tail_0_0 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (View.readAt (Elt F) arg2.view (Rect.unit (s := S512x128) ![0, 0] S64x128.size inb_S512x128_S64x128_0_0).toLoadRect (harg2.unread x0)) (View.readAt (Elt F) arg11.view (Rect.unit (s := S8x2x256x128) ![0, 0, 0, 0] S1x1x256x128.size inb_S8x2x256x128_S1x1x256x128_0_0_0_0).toLoadRect (harg11.unread x9)) (View.readAt (Elt F) arg11.view (Rect.unit (s := S8x2x256x128) ![0, 1, 0, 0] S1x1x256x128.size inb_S8x2x256x128_S1x1x256x128_0_1_0_0).toLoadRect (harg11.unread x9)) (View.readAt (Elt F) arg12.view (Rect.unit (s := S8x2x256x128) ![0, 0, 0, 0] S1x1x256x128.size inb_S8x2x256x128_S1x1x256x128_0_0_0_0).toLoadRect (harg12.unread x10)) (View.readAt (Elt F) arg12.view (Rect.unit (s := S8x2x256x128) ![0, 1, 0, 0] S1x1x256x128.size inb_S8x2x256x128_S1x1x256x128_0_1_0_0).toLoadRect (harg12.unread x10)) (kernelRun0_B.sl.r_55 c i xt0) (View.readAt (Elt F) arg13.view (Rect.unit (s := S8x2x256) ![0, 0, 0] S1x2x256.size inb_S8x2x256_S1x2x256_0_0_0).toLoadRect (harg13.unread x11)) (View.readAt (Elt F) arg14.view (Rect.unit (s := S8x2x256) ![0, 0, 0] S1x2x256.size inb_S8x2x256_S1x2x256_0_0_0).toLoadRect (harg14.unread x12))) (o0 c arg3 harg3 arg5 harg5 arg6 harg6 arg16 harg16 arg17 harg17 arg18 x1 x3 x4 xs0 xs1) (m0 c arg3 harg3 arg5 harg5 arg16 harg16 arg18 x1 x3 xs0) (l0 c arg3 harg3 arg5 harg5 arg16 harg16 arg18 x1 x3 xs0)

theorem p0_1 : k0_pay239 (kernelRun0_B.sl.r_64 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) = out 0 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) (tS (View.readAt (Elt F) arg2.view (Rect.unit (s := S512x128) ![0, 0] S64x128.size inb_S512x128_S64x128_0_0).toLoadRect (harg2.unread x0)) (View.readAt (Elt F) arg11.view (Rect.unit (s := S8x2x256x128) ![0, 0, 0, 0] S1x1x256x128.size inb_S8x2x256x128_S1x1x256x128_0_0_0_0).toLoadRect (harg11.unread x9)) (View.readAt (Elt F) arg11.view (Rect.unit (s := S8x2x256x128) ![0, 1, 0, 0] S1x1x256x128.size inb_S8x2x256x128_S1x1x256x128_0_1_0_0).toLoadRect (harg11.unread x9)) (kernelRun0_B.sl.r_55 c i xt0) (View.readAt (Elt F) arg13.view (Rect.unit (s := S8x2x256) ![0, 0, 0] S1x2x256.size inb_S8x2x256_S1x2x256_0_0_0).toLoadRect (harg13.unread x11))) (View.readAt (Elt F) arg12.view (Rect.unit (s := S8x2x256x128) ![0, 0, 0, 0] S1x1x256x128.size inb_S8x2x256x128_S1x1x256x128_0_0_0_0).toLoadRect (harg12.unread x10)) (View.readAt (Elt F) arg12.view (Rect.unit (s := S8x2x256x128) ![0, 1, 0, 0] S1x1x256x128.size inb_S8x2x256x128_S1x1x256x128_0_1_0_0).toLoadRect (harg12.unread x10)) (View.readAt (Elt F) arg14.view (Rect.unit (s := S8x2x256) ![0, 0, 0] S1x2x256.size inb_S8x2x256_S1x2x256_0_0_0).toLoadRect (harg14.unread x12)) :=
  Block.join (Payloads.tail_0_1 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (View.readAt (Elt F) arg2.view (Rect.unit (s := S512x128) ![0, 0] S64x128.size inb_S512x128_S64x128_0_0).toLoadRect (harg2.unread x0)) (View.readAt (Elt F) arg11.view (Rect.unit (s := S8x2x256x128) ![0, 0, 0, 0] S1x1x256x128.size inb_S8x2x256x128_S1x1x256x128_0_0_0_0).toLoadRect (harg11.unread x9)) (View.readAt (Elt F) arg11.view (Rect.unit (s := S8x2x256x128) ![0, 1, 0, 0] S1x1x256x128.size inb_S8x2x256x128_S1x1x256x128_0_1_0_0).toLoadRect (harg11.unread x9)) (View.readAt (Elt F) arg12.view (Rect.unit (s := S8x2x256x128) ![0, 0, 0, 0] S1x1x256x128.size inb_S8x2x256x128_S1x1x256x128_0_0_0_0).toLoadRect (harg12.unread x10)) (View.readAt (Elt F) arg12.view (Rect.unit (s := S8x2x256x128) ![0, 1, 0, 0] S1x1x256x128.size inb_S8x2x256x128_S1x1x256x128_0_1_0_0).toLoadRect (harg12.unread x10)) (kernelRun0_B.sl.r_55 c i xt0) (View.readAt (Elt F) arg13.view (Rect.unit (s := S8x2x256) ![0, 0, 0] S1x2x256.size inb_S8x2x256_S1x2x256_0_0_0).toLoadRect (harg13.unread x11)) (View.readAt (Elt F) arg14.view (Rect.unit (s := S8x2x256) ![0, 0, 0] S1x2x256.size inb_S8x2x256_S1x2x256_0_0_0).toLoadRect (harg14.unread x12))) (o1 c arg3 harg3 arg4 harg4 arg5 harg5 arg6 harg6 arg16 harg16 arg17 harg17 arg18 x1 x2 x3 x4 xs0 xs1) (m1 c arg3 harg3 arg4 harg4 arg5 harg5 arg16 harg16 arg18 x1 x2 x3 xs0) (l1 c arg3 harg3 arg4 harg4 arg5 harg5 arg16 harg16 arg18 x1 x2 x3 xs0)

theorem p1_0 : kernelRun0_B.sl.r_72 c i arg2 harg2 arg3 harg3 arg5 harg5 arg6 harg6 arg11 harg11 arg12 harg12 arg13 harg13 arg14 harg14 arg16 harg16 arg17 harg17 arg18 x0 x1 x3 x4 x9 x10 x11 x12 xt0 xs0 xs1 = out 1 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) (tS (View.readAt (Elt F) arg2.view (Rect.unit (s := S512x128) ![64, 0] S64x128.size inb_S512x128_S64x128_64_0).toLoadRect (harg2.unread x0)) (View.readAt (Elt F) arg11.view (Rect.unit (s := S8x2x256x128) ![1, 0, 0, 0] S1x1x256x128.size inb_S8x2x256x128_S1x1x256x128_1_0_0_0).toLoadRect (harg11.unread x9)) (View.readAt (Elt F) arg11.view (Rect.unit (s := S8x2x256x128) ![1, 1, 0, 0] S1x1x256x128.size inb_S8x2x256x128_S1x1x256x128_1_1_0_0).toLoadRect (harg11.unread x9)) (kernelRun0_B.sl.r_66 c i xt0) (View.readAt (Elt F) arg13.view (Rect.unit (s := S8x2x256) ![1, 0, 0] S1x2x256.size inb_S8x2x256_S1x2x256_1_0_0).toLoadRect (harg13.unread x11))) (View.readAt (Elt F) arg12.view (Rect.unit (s := S8x2x256x128) ![1, 0, 0, 0] S1x1x256x128.size inb_S8x2x256x128_S1x1x256x128_1_0_0_0).toLoadRect (harg12.unread x10)) (View.readAt (Elt F) arg12.view (Rect.unit (s := S8x2x256x128) ![1, 1, 0, 0] S1x1x256x128.size inb_S8x2x256x128_S1x1x256x128_1_1_0_0).toLoadRect (harg12.unread x10)) (View.readAt (Elt F) arg14.view (Rect.unit (s := S8x2x256) ![1, 0, 0] S1x2x256.size inb_S8x2x256_S1x2x256_1_0_0).toLoadRect (harg14.unread x12)) :=
  Block.join (Payloads.tail_1_0 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (View.readAt (Elt F) arg2.view (Rect.unit (s := S512x128) ![64, 0] S64x128.size inb_S512x128_S64x128_64_0).toLoadRect (harg2.unread x0)) (View.readAt (Elt F) arg11.view (Rect.unit (s := S8x2x256x128) ![1, 0, 0, 0] S1x1x256x128.size inb_S8x2x256x128_S1x1x256x128_1_0_0_0).toLoadRect (harg11.unread x9)) (View.readAt (Elt F) arg11.view (Rect.unit (s := S8x2x256x128) ![1, 1, 0, 0] S1x1x256x128.size inb_S8x2x256x128_S1x1x256x128_1_1_0_0).toLoadRect (harg11.unread x9)) (View.readAt (Elt F) arg12.view (Rect.unit (s := S8x2x256x128) ![1, 0, 0, 0] S1x1x256x128.size inb_S8x2x256x128_S1x1x256x128_1_0_0_0).toLoadRect (harg12.unread x10)) (View.readAt (Elt F) arg12.view (Rect.unit (s := S8x2x256x128) ![1, 1, 0, 0] S1x1x256x128.size inb_S8x2x256x128_S1x1x256x128_1_1_0_0).toLoadRect (harg12.unread x10)) (kernelRun0_B.sl.r_66 c i xt0) (View.readAt (Elt F) arg13.view (Rect.unit (s := S8x2x256) ![1, 0, 0] S1x2x256.size inb_S8x2x256_S1x2x256_1_0_0).toLoadRect (harg13.unread x11)) (View.readAt (Elt F) arg14.view (Rect.unit (s := S8x2x256) ![1, 0, 0] S1x2x256.size inb_S8x2x256_S1x2x256_1_0_0).toLoadRect (harg14.unread x12))) (o0 c arg3 harg3 arg5 harg5 arg6 harg6 arg16 harg16 arg17 harg17 arg18 x1 x3 x4 xs0 xs1) (m0 c arg3 harg3 arg5 harg5 arg16 harg16 arg18 x1 x3 xs0) (l0 c arg3 harg3 arg5 harg5 arg16 harg16 arg18 x1 x3 xs0)

theorem p1_1 : k0_pay249 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (kernelRun0_B.sl.r_69 c i arg2 harg2 arg11 harg11 arg13 harg13 x0 x9 x11 xt0) (kernelRun0_B.sl.r_70 c i arg2 harg2 arg11 harg11 arg13 harg13 x0 x9 x11 xt0) (kernelRun0_B.sl.r_71 c i arg2 harg2 arg11 harg11 arg12 harg12 arg13 harg13 arg14 harg14 x0 x9 x10 x11 x12 xt0) = out 1 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) (tS (View.readAt (Elt F) arg2.view (Rect.unit (s := S512x128) ![64, 0] S64x128.size inb_S512x128_S64x128_64_0).toLoadRect (harg2.unread x0)) (View.readAt (Elt F) arg11.view (Rect.unit (s := S8x2x256x128) ![1, 0, 0, 0] S1x1x256x128.size inb_S8x2x256x128_S1x1x256x128_1_0_0_0).toLoadRect (harg11.unread x9)) (View.readAt (Elt F) arg11.view (Rect.unit (s := S8x2x256x128) ![1, 1, 0, 0] S1x1x256x128.size inb_S8x2x256x128_S1x1x256x128_1_1_0_0).toLoadRect (harg11.unread x9)) (kernelRun0_B.sl.r_66 c i xt0) (View.readAt (Elt F) arg13.view (Rect.unit (s := S8x2x256) ![1, 0, 0] S1x2x256.size inb_S8x2x256_S1x2x256_1_0_0).toLoadRect (harg13.unread x11))) (View.readAt (Elt F) arg12.view (Rect.unit (s := S8x2x256x128) ![1, 0, 0, 0] S1x1x256x128.size inb_S8x2x256x128_S1x1x256x128_1_0_0_0).toLoadRect (harg12.unread x10)) (View.readAt (Elt F) arg12.view (Rect.unit (s := S8x2x256x128) ![1, 1, 0, 0] S1x1x256x128.size inb_S8x2x256x128_S1x1x256x128_1_1_0_0).toLoadRect (harg12.unread x10)) (View.readAt (Elt F) arg14.view (Rect.unit (s := S8x2x256) ![1, 0, 0] S1x2x256.size inb_S8x2x256_S1x2x256_1_0_0).toLoadRect (harg14.unread x12)) :=
  Block.join (Payloads.tail_1_1 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (View.readAt (Elt F) arg2.view (Rect.unit (s := S512x128) ![64, 0] S64x128.size inb_S512x128_S64x128_64_0).toLoadRect (harg2.unread x0)) (View.readAt (Elt F) arg11.view (Rect.unit (s := S8x2x256x128) ![1, 0, 0, 0] S1x1x256x128.size inb_S8x2x256x128_S1x1x256x128_1_0_0_0).toLoadRect (harg11.unread x9)) (View.readAt (Elt F) arg11.view (Rect.unit (s := S8x2x256x128) ![1, 1, 0, 0] S1x1x256x128.size inb_S8x2x256x128_S1x1x256x128_1_1_0_0).toLoadRect (harg11.unread x9)) (View.readAt (Elt F) arg12.view (Rect.unit (s := S8x2x256x128) ![1, 0, 0, 0] S1x1x256x128.size inb_S8x2x256x128_S1x1x256x128_1_0_0_0).toLoadRect (harg12.unread x10)) (View.readAt (Elt F) arg12.view (Rect.unit (s := S8x2x256x128) ![1, 1, 0, 0] S1x1x256x128.size inb_S8x2x256x128_S1x1x256x128_1_1_0_0).toLoadRect (harg12.unread x10)) (kernelRun0_B.sl.r_66 c i xt0) (View.readAt (Elt F) arg13.view (Rect.unit (s := S8x2x256) ![1, 0, 0] S1x2x256.size inb_S8x2x256_S1x2x256_1_0_0).toLoadRect (harg13.unread x11)) (View.readAt (Elt F) arg14.view (Rect.unit (s := S8x2x256) ![1, 0, 0] S1x2x256.size inb_S8x2x256_S1x2x256_1_0_0).toLoadRect (harg14.unread x12))) (o1 c arg3 harg3 arg4 harg4 arg5 harg5 arg6 harg6 arg16 harg16 arg17 harg17 arg18 x1 x2 x3 x4 xs0 xs1) (m1 c arg3 harg3 arg4 harg4 arg5 harg5 arg16 harg16 arg18 x1 x2 x3 xs0) (l1 c arg3 harg3 arg4 harg4 arg5 harg5 arg16 harg16 arg18 x1 x2 x3 xs0)

theorem p2_0 : k0_pay262 (kernelRun0_B.sl.r_25 c arg3 harg3 arg5 harg5 arg16 harg16 arg18 x1 x3 xs0) (kernelRun0_B.sl.r_26 c arg3 harg3 arg5 harg5 arg16 harg16 arg18 x1 x3 xs0) (kernelRun0_B.sl.r_78 c i arg2 harg2 arg11 harg11 arg13 harg13 x0 x9 x11 xt0) (kernelRun0_B.sl.r_79 c i arg2 harg2 arg11 harg11 arg13 harg13 x0 x9 x11 xt0) (kernelRun0_B.sl.r_80 c i arg2 harg2 arg11 harg11 arg12 harg12 arg13 harg13 arg14 harg14 x0 x9 x10 x11 x12 xt0) (kernelRun0_B.sl.r_81 c arg3 harg3 arg5 harg5 arg6 harg6 arg16 harg16 arg17 harg17 arg18 x1 x3 x4 xs0 xs1) = out 2 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) (tS (View.readAt (Elt F) arg2.view (Rect.unit (s := S512x128) ![128, 0] S64x128.size inb_S512x128_S64x128_128_0).toLoadRect (harg2.unread x0)) (View.readAt (Elt F) arg11.view (Rect.unit (s := S8x2x256x128) ![2, 0, 0, 0] S1x1x256x128.size inb_S8x2x256x128_S1x1x256x128_2_0_0_0).toLoadRect (harg11.unread x9)) (View.readAt (Elt F) arg11.view (Rect.unit (s := S8x2x256x128) ![2, 1, 0, 0] S1x1x256x128.size inb_S8x2x256x128_S1x1x256x128_2_1_0_0).toLoadRect (harg11.unread x9)) (kernelRun0_B.sl.r_77 c i xt0) (View.readAt (Elt F) arg13.view (Rect.unit (s := S8x2x256) ![2, 0, 0] S1x2x256.size inb_S8x2x256_S1x2x256_2_0_0).toLoadRect (harg13.unread x11))) (View.readAt (Elt F) arg12.view (Rect.unit (s := S8x2x256x128) ![2, 0, 0, 0] S1x1x256x128.size inb_S8x2x256x128_S1x1x256x128_2_0_0_0).toLoadRect (harg12.unread x10)) (View.readAt (Elt F) arg12.view (Rect.unit (s := S8x2x256x128) ![2, 1, 0, 0] S1x1x256x128.size inb_S8x2x256x128_S1x1x256x128_2_1_0_0).toLoadRect (harg12.unread x10)) (View.readAt (Elt F) arg14.view (Rect.unit (s := S8x2x256) ![2, 0, 0] S1x2x256.size inb_S8x2x256_S1x2x256_2_0_0).toLoadRect (harg14.unread x12)) :=
  Block.join (Payloads.tail_2_0 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (View.readAt (Elt F) arg2.view (Rect.unit (s := S512x128) ![128, 0] S64x128.size inb_S512x128_S64x128_128_0).toLoadRect (harg2.unread x0)) (View.readAt (Elt F) arg11.view (Rect.unit (s := S8x2x256x128) ![2, 0, 0, 0] S1x1x256x128.size inb_S8x2x256x128_S1x1x256x128_2_0_0_0).toLoadRect (harg11.unread x9)) (View.readAt (Elt F) arg11.view (Rect.unit (s := S8x2x256x128) ![2, 1, 0, 0] S1x1x256x128.size inb_S8x2x256x128_S1x1x256x128_2_1_0_0).toLoadRect (harg11.unread x9)) (View.readAt (Elt F) arg12.view (Rect.unit (s := S8x2x256x128) ![2, 0, 0, 0] S1x1x256x128.size inb_S8x2x256x128_S1x1x256x128_2_0_0_0).toLoadRect (harg12.unread x10)) (View.readAt (Elt F) arg12.view (Rect.unit (s := S8x2x256x128) ![2, 1, 0, 0] S1x1x256x128.size inb_S8x2x256x128_S1x1x256x128_2_1_0_0).toLoadRect (harg12.unread x10)) (kernelRun0_B.sl.r_77 c i xt0) (View.readAt (Elt F) arg13.view (Rect.unit (s := S8x2x256) ![2, 0, 0] S1x2x256.size inb_S8x2x256_S1x2x256_2_0_0).toLoadRect (harg13.unread x11)) (View.readAt (Elt F) arg14.view (Rect.unit (s := S8x2x256) ![2, 0, 0] S1x2x256.size inb_S8x2x256_S1x2x256_2_0_0).toLoadRect (harg14.unread x12))) (o0 c arg3 harg3 arg5 harg5 arg6 harg6 arg16 harg16 arg17 harg17 arg18 x1 x3 x4 xs0 xs1) (m0 c arg3 harg3 arg5 harg5 arg16 harg16 arg18 x1 x3 xs0) (l0 c arg3 harg3 arg5 harg5 arg16 harg16 arg18 x1 x3 xs0)

theorem p2_1 : k0_pay270 (kernelRun0_B.sl.r_82 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) (kernelRun0_B.sl.r_83 c i arg2 harg2 arg3 harg3 arg4 harg4 arg5 harg5 arg11 harg11 arg13 harg13 arg16 harg16 arg18 x0 x1 x2 x3 x9 x11 xt0 xs0) = out 2 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) (tS (View.readAt (Elt F) arg2.view (Rect.unit (s := S512x128) ![128, 0] S64x128.size inb_S512x128_S64x128_128_0).toLoadRect (harg2.unread x0)) (View.readAt (Elt F) arg11.view (Rect.unit (s := S8x2x256x128) ![2, 0, 0, 0] S1x1x256x128.size inb_S8x2x256x128_S1x1x256x128_2_0_0_0).toLoadRect (harg11.unread x9)) (View.readAt (Elt F) arg11.view (Rect.unit (s := S8x2x256x128) ![2, 1, 0, 0] S1x1x256x128.size inb_S8x2x256x128_S1x1x256x128_2_1_0_0).toLoadRect (harg11.unread x9)) (kernelRun0_B.sl.r_77 c i xt0) (View.readAt (Elt F) arg13.view (Rect.unit (s := S8x2x256) ![2, 0, 0] S1x2x256.size inb_S8x2x256_S1x2x256_2_0_0).toLoadRect (harg13.unread x11))) (View.readAt (Elt F) arg12.view (Rect.unit (s := S8x2x256x128) ![2, 0, 0, 0] S1x1x256x128.size inb_S8x2x256x128_S1x1x256x128_2_0_0_0).toLoadRect (harg12.unread x10)) (View.readAt (Elt F) arg12.view (Rect.unit (s := S8x2x256x128) ![2, 1, 0, 0] S1x1x256x128.size inb_S8x2x256x128_S1x1x256x128_2_1_0_0).toLoadRect (harg12.unread x10)) (View.readAt (Elt F) arg14.view (Rect.unit (s := S8x2x256) ![2, 0, 0] S1x2x256.size inb_S8x2x256_S1x2x256_2_0_0).toLoadRect (harg14.unread x12)) :=
  Block.join (Payloads.tail_2_1 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (View.readAt (Elt F) arg2.view (Rect.unit (s := S512x128) ![128, 0] S64x128.size inb_S512x128_S64x128_128_0).toLoadRect (harg2.unread x0)) (View.readAt (Elt F) arg11.view (Rect.unit (s := S8x2x256x128) ![2, 0, 0, 0] S1x1x256x128.size inb_S8x2x256x128_S1x1x256x128_2_0_0_0).toLoadRect (harg11.unread x9)) (View.readAt (Elt F) arg11.view (Rect.unit (s := S8x2x256x128) ![2, 1, 0, 0] S1x1x256x128.size inb_S8x2x256x128_S1x1x256x128_2_1_0_0).toLoadRect (harg11.unread x9)) (View.readAt (Elt F) arg12.view (Rect.unit (s := S8x2x256x128) ![2, 0, 0, 0] S1x1x256x128.size inb_S8x2x256x128_S1x1x256x128_2_0_0_0).toLoadRect (harg12.unread x10)) (View.readAt (Elt F) arg12.view (Rect.unit (s := S8x2x256x128) ![2, 1, 0, 0] S1x1x256x128.size inb_S8x2x256x128_S1x1x256x128_2_1_0_0).toLoadRect (harg12.unread x10)) (kernelRun0_B.sl.r_77 c i xt0) (View.readAt (Elt F) arg13.view (Rect.unit (s := S8x2x256) ![2, 0, 0] S1x2x256.size inb_S8x2x256_S1x2x256_2_0_0).toLoadRect (harg13.unread x11)) (View.readAt (Elt F) arg14.view (Rect.unit (s := S8x2x256) ![2, 0, 0] S1x2x256.size inb_S8x2x256_S1x2x256_2_0_0).toLoadRect (harg14.unread x12))) (o1 c arg3 harg3 arg4 harg4 arg5 harg5 arg6 harg6 arg16 harg16 arg17 harg17 arg18 x1 x2 x3 x4 xs0 xs1) (m1 c arg3 harg3 arg4 harg4 arg5 harg5 arg16 harg16 arg18 x1 x2 x3 xs0) (l1 c arg3 harg3 arg4 harg4 arg5 harg5 arg16 harg16 arg18 x1 x2 x3 xs0)

theorem p3_0 : k0_pay286 (kernelRun0_B.sl.r_93 c i arg2 harg2 arg3 harg3 arg5 harg5 arg6 harg6 arg11 harg11 arg12 harg12 arg13 harg13 arg14 harg14 arg16 harg16 arg17 harg17 arg18 x0 x1 x3 x4 x9 x10 x11 x12 xt0 xs0 xs1) = out 3 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) (tS (View.readAt (Elt F) arg2.view (Rect.unit (s := S512x128) ![192, 0] S64x128.size inb_S512x128_S64x128_192_0).toLoadRect (harg2.unread x0)) (View.readAt (Elt F) arg11.view (Rect.unit (s := S8x2x256x128) ![3, 0, 0, 0] S1x1x256x128.size inb_S8x2x256x128_S1x1x256x128_3_0_0_0).toLoadRect (harg11.unread x9)) (View.readAt (Elt F) arg11.view (Rect.unit (s := S8x2x256x128) ![3, 1, 0, 0] S1x1x256x128.size inb_S8x2x256x128_S1x1x256x128_3_1_0_0).toLoadRect (harg11.unread x9)) (kernelRun0_B.sl.r_85 c i xt0) (View.readAt (Elt F) arg13.view (Rect.unit (s := S8x2x256) ![3, 0, 0] S1x2x256.size inb_S8x2x256_S1x2x256_3_0_0).toLoadRect (harg13.unread x11))) (View.readAt (Elt F) arg12.view (Rect.unit (s := S8x2x256x128) ![3, 0, 0, 0] S1x1x256x128.size inb_S8x2x256x128_S1x1x256x128_3_0_0_0).toLoadRect (harg12.unread x10)) (View.readAt (Elt F) arg12.view (Rect.unit (s := S8x2x256x128) ![3, 1, 0, 0] S1x1x256x128.size inb_S8x2x256x128_S1x1x256x128_3_1_0_0).toLoadRect (harg12.unread x10)) (View.readAt (Elt F) arg14.view (Rect.unit (s := S8x2x256) ![3, 0, 0] S1x2x256.size inb_S8x2x256_S1x2x256_3_0_0).toLoadRect (harg14.unread x12)) :=
  Block.join (Payloads.tail_3_0 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (View.readAt (Elt F) arg2.view (Rect.unit (s := S512x128) ![192, 0] S64x128.size inb_S512x128_S64x128_192_0).toLoadRect (harg2.unread x0)) (View.readAt (Elt F) arg11.view (Rect.unit (s := S8x2x256x128) ![3, 0, 0, 0] S1x1x256x128.size inb_S8x2x256x128_S1x1x256x128_3_0_0_0).toLoadRect (harg11.unread x9)) (View.readAt (Elt F) arg11.view (Rect.unit (s := S8x2x256x128) ![3, 1, 0, 0] S1x1x256x128.size inb_S8x2x256x128_S1x1x256x128_3_1_0_0).toLoadRect (harg11.unread x9)) (View.readAt (Elt F) arg12.view (Rect.unit (s := S8x2x256x128) ![3, 0, 0, 0] S1x1x256x128.size inb_S8x2x256x128_S1x1x256x128_3_0_0_0).toLoadRect (harg12.unread x10)) (View.readAt (Elt F) arg12.view (Rect.unit (s := S8x2x256x128) ![3, 1, 0, 0] S1x1x256x128.size inb_S8x2x256x128_S1x1x256x128_3_1_0_0).toLoadRect (harg12.unread x10)) (kernelRun0_B.sl.r_85 c i xt0) (View.readAt (Elt F) arg13.view (Rect.unit (s := S8x2x256) ![3, 0, 0] S1x2x256.size inb_S8x2x256_S1x2x256_3_0_0).toLoadRect (harg13.unread x11)) (View.readAt (Elt F) arg14.view (Rect.unit (s := S8x2x256) ![3, 0, 0] S1x2x256.size inb_S8x2x256_S1x2x256_3_0_0).toLoadRect (harg14.unread x12))) (o0 c arg3 harg3 arg5 harg5 arg6 harg6 arg16 harg16 arg17 harg17 arg18 x1 x3 x4 xs0 xs1) (m0 c arg3 harg3 arg5 harg5 arg16 harg16 arg18 x1 x3 xs0) (l0 c arg3 harg3 arg5 harg5 arg16 harg16 arg18 x1 x3 xs0)

theorem p3_1 : k0_pay287 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (kernelRun0_B.sl.r_90 c i arg2 harg2 arg11 harg11 arg13 harg13 x0 x9 x11 xt0) (kernelRun0_B.sl.r_91 c i arg2 harg2 arg11 harg11 arg13 harg13 x0 x9 x11 xt0) (kernelRun0_B.sl.r_92 c i arg2 harg2 arg11 harg11 arg12 harg12 arg13 harg13 arg14 harg14 x0 x9 x10 x11 x12 xt0) = out 3 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) (tS (View.readAt (Elt F) arg2.view (Rect.unit (s := S512x128) ![192, 0] S64x128.size inb_S512x128_S64x128_192_0).toLoadRect (harg2.unread x0)) (View.readAt (Elt F) arg11.view (Rect.unit (s := S8x2x256x128) ![3, 0, 0, 0] S1x1x256x128.size inb_S8x2x256x128_S1x1x256x128_3_0_0_0).toLoadRect (harg11.unread x9)) (View.readAt (Elt F) arg11.view (Rect.unit (s := S8x2x256x128) ![3, 1, 0, 0] S1x1x256x128.size inb_S8x2x256x128_S1x1x256x128_3_1_0_0).toLoadRect (harg11.unread x9)) (kernelRun0_B.sl.r_85 c i xt0) (View.readAt (Elt F) arg13.view (Rect.unit (s := S8x2x256) ![3, 0, 0] S1x2x256.size inb_S8x2x256_S1x2x256_3_0_0).toLoadRect (harg13.unread x11))) (View.readAt (Elt F) arg12.view (Rect.unit (s := S8x2x256x128) ![3, 0, 0, 0] S1x1x256x128.size inb_S8x2x256x128_S1x1x256x128_3_0_0_0).toLoadRect (harg12.unread x10)) (View.readAt (Elt F) arg12.view (Rect.unit (s := S8x2x256x128) ![3, 1, 0, 0] S1x1x256x128.size inb_S8x2x256x128_S1x1x256x128_3_1_0_0).toLoadRect (harg12.unread x10)) (View.readAt (Elt F) arg14.view (Rect.unit (s := S8x2x256) ![3, 0, 0] S1x2x256.size inb_S8x2x256_S1x2x256_3_0_0).toLoadRect (harg14.unread x12)) :=
  Block.join (Payloads.tail_3_1 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (View.readAt (Elt F) arg2.view (Rect.unit (s := S512x128) ![192, 0] S64x128.size inb_S512x128_S64x128_192_0).toLoadRect (harg2.unread x0)) (View.readAt (Elt F) arg11.view (Rect.unit (s := S8x2x256x128) ![3, 0, 0, 0] S1x1x256x128.size inb_S8x2x256x128_S1x1x256x128_3_0_0_0).toLoadRect (harg11.unread x9)) (View.readAt (Elt F) arg11.view (Rect.unit (s := S8x2x256x128) ![3, 1, 0, 0] S1x1x256x128.size inb_S8x2x256x128_S1x1x256x128_3_1_0_0).toLoadRect (harg11.unread x9)) (View.readAt (Elt F) arg12.view (Rect.unit (s := S8x2x256x128) ![3, 0, 0, 0] S1x1x256x128.size inb_S8x2x256x128_S1x1x256x128_3_0_0_0).toLoadRect (harg12.unread x10)) (View.readAt (Elt F) arg12.view (Rect.unit (s := S8x2x256x128) ![3, 1, 0, 0] S1x1x256x128.size inb_S8x2x256x128_S1x1x256x128_3_1_0_0).toLoadRect (harg12.unread x10)) (kernelRun0_B.sl.r_85 c i xt0) (View.readAt (Elt F) arg13.view (Rect.unit (s := S8x2x256) ![3, 0, 0] S1x2x256.size inb_S8x2x256_S1x2x256_3_0_0).toLoadRect (harg13.unread x11)) (View.readAt (Elt F) arg14.view (Rect.unit (s := S8x2x256) ![3, 0, 0] S1x2x256.size inb_S8x2x256_S1x2x256_3_0_0).toLoadRect (harg14.unread x12))) (o1 c arg3 harg3 arg4 harg4 arg5 harg5 arg6 harg6 arg16 harg16 arg17 harg17 arg18 x1 x2 x3 x4 xs0 xs1) (m1 c arg3 harg3 arg4 harg4 arg5 harg5 arg16 harg16 arg18 x1 x2 x3 xs0) (l1 c arg3 harg3 arg4 harg4 arg5 harg5 arg16 harg16 arg18 x1 x2 x3 xs0)

theorem p4_0 : k0_pay302 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (kernelRun0_B.sl.r_99 c arg12 harg12 x10) (kernelRun0_B.sl.r_100 c i arg2 harg2 arg11 harg11 arg13 harg13 x0 x9 x11 xt0) (kernelRun0_B.sl.r_101 c i arg2 harg2 arg11 harg11 arg13 harg13 x0 x9 x11 xt0) (kernelRun0_B.sl.r_102 c i arg2 harg2 arg11 harg11 arg13 harg13 x0 x9 x11 xt0) (kernelRun0_B.sl.r_103 c arg14 harg14 x12) = out 4 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) (tS (View.readAt (Elt F) arg2.view (Rect.unit (s := S512x128) ![256, 0] S64x128.size inb_S512x128_S64x128_256_0).toLoadRect (harg2.unread x0)) (View.readAt (Elt F) arg11.view (Rect.unit (s := S8x2x256x128) ![4, 0, 0, 0] S1x1x256x128.size inb_S8x2x256x128_S1x1x256x128_4_0_0_0).toLoadRect (harg11.unread x9)) (View.readAt (Elt F) arg11.view (Rect.unit (s := S8x2x256x128) ![4, 1, 0, 0] S1x1x256x128.size inb_S8x2x256x128_S1x1x256x128_4_1_0_0).toLoadRect (harg11.unread x9)) (kernelRun0_B.sl.r_98 c i xt0) (View.readAt (Elt F) arg13.view (Rect.unit (s := S8x2x256) ![4, 0, 0] S1x2x256.size inb_S8x2x256_S1x2x256_4_0_0).toLoadRect (harg13.unread x11))) (View.readAt (Elt F) arg12.view (Rect.unit (s := S8x2x256x128) ![4, 0, 0, 0] S1x1x256x128.size inb_S8x2x256x128_S1x1x256x128_4_0_0_0).toLoadRect (harg12.unread x10)) (View.readAt (Elt F) arg12.view (Rect.unit (s := S8x2x256x128) ![4, 1, 0, 0] S1x1x256x128.size inb_S8x2x256x128_S1x1x256x128_4_1_0_0).toLoadRect (harg12.unread x10)) (View.readAt (Elt F) arg14.view (Rect.unit (s := S8x2x256) ![4, 0, 0] S1x2x256.size inb_S8x2x256_S1x2x256_4_0_0).toLoadRect (harg14.unread x12)) :=
  Block.join (Payloads.tail_4_0 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (View.readAt (Elt F) arg2.view (Rect.unit (s := S512x128) ![256, 0] S64x128.size inb_S512x128_S64x128_256_0).toLoadRect (harg2.unread x0)) (View.readAt (Elt F) arg11.view (Rect.unit (s := S8x2x256x128) ![4, 0, 0, 0] S1x1x256x128.size inb_S8x2x256x128_S1x1x256x128_4_0_0_0).toLoadRect (harg11.unread x9)) (View.readAt (Elt F) arg11.view (Rect.unit (s := S8x2x256x128) ![4, 1, 0, 0] S1x1x256x128.size inb_S8x2x256x128_S1x1x256x128_4_1_0_0).toLoadRect (harg11.unread x9)) (View.readAt (Elt F) arg12.view (Rect.unit (s := S8x2x256x128) ![4, 0, 0, 0] S1x1x256x128.size inb_S8x2x256x128_S1x1x256x128_4_0_0_0).toLoadRect (harg12.unread x10)) (View.readAt (Elt F) arg12.view (Rect.unit (s := S8x2x256x128) ![4, 1, 0, 0] S1x1x256x128.size inb_S8x2x256x128_S1x1x256x128_4_1_0_0).toLoadRect (harg12.unread x10)) (kernelRun0_B.sl.r_98 c i xt0) (View.readAt (Elt F) arg13.view (Rect.unit (s := S8x2x256) ![4, 0, 0] S1x2x256.size inb_S8x2x256_S1x2x256_4_0_0).toLoadRect (harg13.unread x11)) (View.readAt (Elt F) arg14.view (Rect.unit (s := S8x2x256) ![4, 0, 0] S1x2x256.size inb_S8x2x256_S1x2x256_4_0_0).toLoadRect (harg14.unread x12))) (o0 c arg3 harg3 arg5 harg5 arg6 harg6 arg16 harg16 arg17 harg17 arg18 x1 x3 x4 xs0 xs1) (m0 c arg3 harg3 arg5 harg5 arg16 harg16 arg18 x1 x3 xs0) (l0 c arg3 harg3 arg5 harg5 arg16 harg16 arg18 x1 x3 xs0)

theorem p4_1 : k0_pay312 (kernelRun0_B.sl.r_104 c arg3 harg3 arg4 harg4 arg5 harg5 arg6 harg6 arg16 harg16 arg17 harg17 arg18 x1 x2 x3 x4 xs0 xs1) (kernelRun0_B.sl.r_105 c arg3 harg3 arg4 harg4 arg5 harg5 arg16 harg16 arg18 x1 x2 x3 xs0) (kernelRun0_B.sl.r_106 c i arg2 harg2 arg11 harg11 arg12 harg12 arg13 harg13 arg14 harg14 x0 x9 x10 x11 x12 xt0) (kernelRun0_B.sl.r_107 c i arg2 harg2 arg11 harg11 arg13 harg13 x0 x9 x11 xt0) (kernelRun0_B.sl.r_108 c i arg2 harg2 arg3 harg3 arg4 harg4 arg5 harg5 arg11 harg11 arg13 harg13 arg16 harg16 arg18 x0 x1 x2 x3 x9 x11 xt0 xs0) (kernelRun0_B.sl.r_109 c i arg2 harg2 arg3 harg3 arg4 harg4 arg5 harg5 arg11 harg11 arg13 harg13 arg16 harg16 arg18 x0 x1 x2 x3 x9 x11 xt0 xs0) = out 4 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) (tS (View.readAt (Elt F) arg2.view (Rect.unit (s := S512x128) ![256, 0] S64x128.size inb_S512x128_S64x128_256_0).toLoadRect (harg2.unread x0)) (View.readAt (Elt F) arg11.view (Rect.unit (s := S8x2x256x128) ![4, 0, 0, 0] S1x1x256x128.size inb_S8x2x256x128_S1x1x256x128_4_0_0_0).toLoadRect (harg11.unread x9)) (View.readAt (Elt F) arg11.view (Rect.unit (s := S8x2x256x128) ![4, 1, 0, 0] S1x1x256x128.size inb_S8x2x256x128_S1x1x256x128_4_1_0_0).toLoadRect (harg11.unread x9)) (kernelRun0_B.sl.r_98 c i xt0) (View.readAt (Elt F) arg13.view (Rect.unit (s := S8x2x256) ![4, 0, 0] S1x2x256.size inb_S8x2x256_S1x2x256_4_0_0).toLoadRect (harg13.unread x11))) (View.readAt (Elt F) arg12.view (Rect.unit (s := S8x2x256x128) ![4, 0, 0, 0] S1x1x256x128.size inb_S8x2x256x128_S1x1x256x128_4_0_0_0).toLoadRect (harg12.unread x10)) (View.readAt (Elt F) arg12.view (Rect.unit (s := S8x2x256x128) ![4, 1, 0, 0] S1x1x256x128.size inb_S8x2x256x128_S1x1x256x128_4_1_0_0).toLoadRect (harg12.unread x10)) (View.readAt (Elt F) arg14.view (Rect.unit (s := S8x2x256) ![4, 0, 0] S1x2x256.size inb_S8x2x256_S1x2x256_4_0_0).toLoadRect (harg14.unread x12)) :=
  Block.join (Payloads.tail_4_1 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (View.readAt (Elt F) arg2.view (Rect.unit (s := S512x128) ![256, 0] S64x128.size inb_S512x128_S64x128_256_0).toLoadRect (harg2.unread x0)) (View.readAt (Elt F) arg11.view (Rect.unit (s := S8x2x256x128) ![4, 0, 0, 0] S1x1x256x128.size inb_S8x2x256x128_S1x1x256x128_4_0_0_0).toLoadRect (harg11.unread x9)) (View.readAt (Elt F) arg11.view (Rect.unit (s := S8x2x256x128) ![4, 1, 0, 0] S1x1x256x128.size inb_S8x2x256x128_S1x1x256x128_4_1_0_0).toLoadRect (harg11.unread x9)) (View.readAt (Elt F) arg12.view (Rect.unit (s := S8x2x256x128) ![4, 0, 0, 0] S1x1x256x128.size inb_S8x2x256x128_S1x1x256x128_4_0_0_0).toLoadRect (harg12.unread x10)) (View.readAt (Elt F) arg12.view (Rect.unit (s := S8x2x256x128) ![4, 1, 0, 0] S1x1x256x128.size inb_S8x2x256x128_S1x1x256x128_4_1_0_0).toLoadRect (harg12.unread x10)) (kernelRun0_B.sl.r_98 c i xt0) (View.readAt (Elt F) arg13.view (Rect.unit (s := S8x2x256) ![4, 0, 0] S1x2x256.size inb_S8x2x256_S1x2x256_4_0_0).toLoadRect (harg13.unread x11)) (View.readAt (Elt F) arg14.view (Rect.unit (s := S8x2x256) ![4, 0, 0] S1x2x256.size inb_S8x2x256_S1x2x256_4_0_0).toLoadRect (harg14.unread x12))) (o1 c arg3 harg3 arg4 harg4 arg5 harg5 arg6 harg6 arg16 harg16 arg17 harg17 arg18 x1 x2 x3 x4 xs0 xs1) (m1 c arg3 harg3 arg4 harg4 arg5 harg5 arg16 harg16 arg18 x1 x2 x3 xs0) (l1 c arg3 harg3 arg4 harg4 arg5 harg5 arg16 harg16 arg18 x1 x2 x3 xs0)

theorem p5_0 : k0_pay332 (kernelRun0_B.sl.r_117 c arg3 harg3 arg5 harg5 arg16 harg16 arg18 x1 x3 xs0) (kernelRun0_B.sl.r_118 c i arg2 harg2 arg11 harg11 arg12 harg12 arg13 harg13 arg14 harg14 x0 x9 x10 x11 x12 xt0) (kernelRun0_B.sl.r_119 c i arg2 harg2 arg11 harg11 arg13 harg13 x0 x9 x11 xt0) (kernelRun0_B.sl.r_120 c i arg2 harg2 arg3 harg3 arg5 harg5 arg11 harg11 arg13 harg13 arg16 harg16 arg18 x0 x1 x3 x9 x11 xt0 xs0) (kernelRun0_B.sl.r_121 c i arg2 harg2 arg3 harg3 arg5 harg5 arg11 harg11 arg13 harg13 arg16 harg16 arg18 x0 x1 x3 x9 x11 xt0 xs0) (kernelRun0_B.sl.r_122 c i arg2 harg2 arg3 harg3 arg5 harg5 arg6 harg6 arg11 harg11 arg13 harg13 arg16 harg16 arg17 harg17 arg18 x0 x1 x3 x4 x9 x11 xt0 xs0 xs1) = out 5 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) (tS (View.readAt (Elt F) arg2.view (Rect.unit (s := S512x128) ![320, 0] S64x128.size inb_S512x128_S64x128_320_0).toLoadRect (harg2.unread x0)) (View.readAt (Elt F) arg11.view (Rect.unit (s := S8x2x256x128) ![5, 0, 0, 0] S1x1x256x128.size inb_S8x2x256x128_S1x1x256x128_5_0_0_0).toLoadRect (harg11.unread x9)) (View.readAt (Elt F) arg11.view (Rect.unit (s := S8x2x256x128) ![5, 1, 0, 0] S1x1x256x128.size inb_S8x2x256x128_S1x1x256x128_5_1_0_0).toLoadRect (harg11.unread x9)) (kernelRun0_B.sl.r_111 c i xt0) (View.readAt (Elt F) arg13.view (Rect.unit (s := S8x2x256) ![5, 0, 0] S1x2x256.size inb_S8x2x256_S1x2x256_5_0_0).toLoadRect (harg13.unread x11))) (View.readAt (Elt F) arg12.view (Rect.unit (s := S8x2x256x128) ![5, 0, 0, 0] S1x1x256x128.size inb_S8x2x256x128_S1x1x256x128_5_0_0_0).toLoadRect (harg12.unread x10)) (View.readAt (Elt F) arg12.view (Rect.unit (s := S8x2x256x128) ![5, 1, 0, 0] S1x1x256x128.size inb_S8x2x256x128_S1x1x256x128_5_1_0_0).toLoadRect (harg12.unread x10)) (View.readAt (Elt F) arg14.view (Rect.unit (s := S8x2x256) ![5, 0, 0] S1x2x256.size inb_S8x2x256_S1x2x256_5_0_0).toLoadRect (harg14.unread x12)) :=
  Block.join (Payloads.tail_5_0 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (View.readAt (Elt F) arg2.view (Rect.unit (s := S512x128) ![320, 0] S64x128.size inb_S512x128_S64x128_320_0).toLoadRect (harg2.unread x0)) (View.readAt (Elt F) arg11.view (Rect.unit (s := S8x2x256x128) ![5, 0, 0, 0] S1x1x256x128.size inb_S8x2x256x128_S1x1x256x128_5_0_0_0).toLoadRect (harg11.unread x9)) (View.readAt (Elt F) arg11.view (Rect.unit (s := S8x2x256x128) ![5, 1, 0, 0] S1x1x256x128.size inb_S8x2x256x128_S1x1x256x128_5_1_0_0).toLoadRect (harg11.unread x9)) (View.readAt (Elt F) arg12.view (Rect.unit (s := S8x2x256x128) ![5, 0, 0, 0] S1x1x256x128.size inb_S8x2x256x128_S1x1x256x128_5_0_0_0).toLoadRect (harg12.unread x10)) (View.readAt (Elt F) arg12.view (Rect.unit (s := S8x2x256x128) ![5, 1, 0, 0] S1x1x256x128.size inb_S8x2x256x128_S1x1x256x128_5_1_0_0).toLoadRect (harg12.unread x10)) (kernelRun0_B.sl.r_111 c i xt0) (View.readAt (Elt F) arg13.view (Rect.unit (s := S8x2x256) ![5, 0, 0] S1x2x256.size inb_S8x2x256_S1x2x256_5_0_0).toLoadRect (harg13.unread x11)) (View.readAt (Elt F) arg14.view (Rect.unit (s := S8x2x256) ![5, 0, 0] S1x2x256.size inb_S8x2x256_S1x2x256_5_0_0).toLoadRect (harg14.unread x12))) (o0 c arg3 harg3 arg5 harg5 arg6 harg6 arg16 harg16 arg17 harg17 arg18 x1 x3 x4 xs0 xs1) (m0 c arg3 harg3 arg5 harg5 arg16 harg16 arg18 x1 x3 xs0) (l0 c arg3 harg3 arg5 harg5 arg16 harg16 arg18 x1 x3 xs0)

theorem p5_1 : k0_pay333 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (kernelRun0_B.sl.r_114 c i arg2 harg2 arg11 harg11 arg13 harg13 x0 x9 x11 xt0) (kernelRun0_B.sl.r_115 c i arg2 harg2 arg11 harg11 arg13 harg13 x0 x9 x11 xt0) (kernelRun0_B.sl.r_116 c i arg2 harg2 arg11 harg11 arg12 harg12 arg13 harg13 arg14 harg14 x0 x9 x10 x11 x12 xt0) = out 5 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) (tS (View.readAt (Elt F) arg2.view (Rect.unit (s := S512x128) ![320, 0] S64x128.size inb_S512x128_S64x128_320_0).toLoadRect (harg2.unread x0)) (View.readAt (Elt F) arg11.view (Rect.unit (s := S8x2x256x128) ![5, 0, 0, 0] S1x1x256x128.size inb_S8x2x256x128_S1x1x256x128_5_0_0_0).toLoadRect (harg11.unread x9)) (View.readAt (Elt F) arg11.view (Rect.unit (s := S8x2x256x128) ![5, 1, 0, 0] S1x1x256x128.size inb_S8x2x256x128_S1x1x256x128_5_1_0_0).toLoadRect (harg11.unread x9)) (kernelRun0_B.sl.r_111 c i xt0) (View.readAt (Elt F) arg13.view (Rect.unit (s := S8x2x256) ![5, 0, 0] S1x2x256.size inb_S8x2x256_S1x2x256_5_0_0).toLoadRect (harg13.unread x11))) (View.readAt (Elt F) arg12.view (Rect.unit (s := S8x2x256x128) ![5, 0, 0, 0] S1x1x256x128.size inb_S8x2x256x128_S1x1x256x128_5_0_0_0).toLoadRect (harg12.unread x10)) (View.readAt (Elt F) arg12.view (Rect.unit (s := S8x2x256x128) ![5, 1, 0, 0] S1x1x256x128.size inb_S8x2x256x128_S1x1x256x128_5_1_0_0).toLoadRect (harg12.unread x10)) (View.readAt (Elt F) arg14.view (Rect.unit (s := S8x2x256) ![5, 0, 0] S1x2x256.size inb_S8x2x256_S1x2x256_5_0_0).toLoadRect (harg14.unread x12)) :=
  Block.join (Payloads.tail_5_1 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (View.readAt (Elt F) arg2.view (Rect.unit (s := S512x128) ![320, 0] S64x128.size inb_S512x128_S64x128_320_0).toLoadRect (harg2.unread x0)) (View.readAt (Elt F) arg11.view (Rect.unit (s := S8x2x256x128) ![5, 0, 0, 0] S1x1x256x128.size inb_S8x2x256x128_S1x1x256x128_5_0_0_0).toLoadRect (harg11.unread x9)) (View.readAt (Elt F) arg11.view (Rect.unit (s := S8x2x256x128) ![5, 1, 0, 0] S1x1x256x128.size inb_S8x2x256x128_S1x1x256x128_5_1_0_0).toLoadRect (harg11.unread x9)) (View.readAt (Elt F) arg12.view (Rect.unit (s := S8x2x256x128) ![5, 0, 0, 0] S1x1x256x128.size inb_S8x2x256x128_S1x1x256x128_5_0_0_0).toLoadRect (harg12.unread x10)) (View.readAt (Elt F) arg12.view (Rect.unit (s := S8x2x256x128) ![5, 1, 0, 0] S1x1x256x128.size inb_S8x2x256x128_S1x1x256x128_5_1_0_0).toLoadRect (harg12.unread x10)) (kernelRun0_B.sl.r_111 c i xt0) (View.readAt (Elt F) arg13.view (Rect.unit (s := S8x2x256) ![5, 0, 0] S1x2x256.size inb_S8x2x256_S1x2x256_5_0_0).toLoadRect (harg13.unread x11)) (View.readAt (Elt F) arg14.view (Rect.unit (s := S8x2x256) ![5, 0, 0] S1x2x256.size inb_S8x2x256_S1x2x256_5_0_0).toLoadRect (harg14.unread x12))) (o1 c arg3 harg3 arg4 harg4 arg5 harg5 arg6 harg6 arg16 harg16 arg17 harg17 arg18 x1 x2 x3 x4 xs0 xs1) (m1 c arg3 harg3 arg4 harg4 arg5 harg5 arg16 harg16 arg18 x1 x2 x3 xs0) (l1 c arg3 harg3 arg4 harg4 arg5 harg5 arg16 harg16 arg18 x1 x2 x3 xs0)

theorem p6_0 : k0_pay343 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (kernelRun0_B.sl.r_126 c arg12 harg12 x10) (kernelRun0_B.sl.r_127 c i arg2 harg2 arg11 harg11 arg13 harg13 x0 x9 x11 xt0) (kernelRun0_B.sl.r_128 c i arg2 harg2 arg11 harg11 arg13 harg13 x0 x9 x11 xt0) (View.readAt (Elt F) arg14.view (Rect.unit (s := S8x2x256) ![6, 0, 0] ![1, 2, 256] inb_S8x2x256_S1x2x256_6_0_0).toLoadRect (harg14.unread x12)) = out 6 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) (tS (View.readAt (Elt F) arg2.view (Rect.unit (s := S512x128) ![384, 0] S64x128.size inb_S512x128_S64x128_384_0).toLoadRect (harg2.unread x0)) (View.readAt (Elt F) arg11.view (Rect.unit (s := S8x2x256x128) ![6, 0, 0, 0] S1x1x256x128.size inb_S8x2x256x128_S1x1x256x128_6_0_0_0).toLoadRect (harg11.unread x9)) (View.readAt (Elt F) arg11.view (Rect.unit (s := S8x2x256x128) ![6, 1, 0, 0] S1x1x256x128.size inb_S8x2x256x128_S1x1x256x128_6_1_0_0).toLoadRect (harg11.unread x9)) (kernelRun0_B.sl.r_125 c i xt0) (View.readAt (Elt F) arg13.view (Rect.unit (s := S8x2x256) ![6, 0, 0] S1x2x256.size inb_S8x2x256_S1x2x256_6_0_0).toLoadRect (harg13.unread x11))) (View.readAt (Elt F) arg12.view (Rect.unit (s := S8x2x256x128) ![6, 0, 0, 0] S1x1x256x128.size inb_S8x2x256x128_S1x1x256x128_6_0_0_0).toLoadRect (harg12.unread x10)) (View.readAt (Elt F) arg12.view (Rect.unit (s := S8x2x256x128) ![6, 1, 0, 0] S1x1x256x128.size inb_S8x2x256x128_S1x1x256x128_6_1_0_0).toLoadRect (harg12.unread x10)) (View.readAt (Elt F) arg14.view (Rect.unit (s := S8x2x256) ![6, 0, 0] S1x2x256.size inb_S8x2x256_S1x2x256_6_0_0).toLoadRect (harg14.unread x12)) :=
  Block.join (Payloads.tail_6_0 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (View.readAt (Elt F) arg2.view (Rect.unit (s := S512x128) ![384, 0] S64x128.size inb_S512x128_S64x128_384_0).toLoadRect (harg2.unread x0)) (View.readAt (Elt F) arg11.view (Rect.unit (s := S8x2x256x128) ![6, 0, 0, 0] S1x1x256x128.size inb_S8x2x256x128_S1x1x256x128_6_0_0_0).toLoadRect (harg11.unread x9)) (View.readAt (Elt F) arg11.view (Rect.unit (s := S8x2x256x128) ![6, 1, 0, 0] S1x1x256x128.size inb_S8x2x256x128_S1x1x256x128_6_1_0_0).toLoadRect (harg11.unread x9)) (View.readAt (Elt F) arg12.view (Rect.unit (s := S8x2x256x128) ![6, 0, 0, 0] S1x1x256x128.size inb_S8x2x256x128_S1x1x256x128_6_0_0_0).toLoadRect (harg12.unread x10)) (View.readAt (Elt F) arg12.view (Rect.unit (s := S8x2x256x128) ![6, 1, 0, 0] S1x1x256x128.size inb_S8x2x256x128_S1x1x256x128_6_1_0_0).toLoadRect (harg12.unread x10)) (kernelRun0_B.sl.r_125 c i xt0) (View.readAt (Elt F) arg13.view (Rect.unit (s := S8x2x256) ![6, 0, 0] S1x2x256.size inb_S8x2x256_S1x2x256_6_0_0).toLoadRect (harg13.unread x11)) (View.readAt (Elt F) arg14.view (Rect.unit (s := S8x2x256) ![6, 0, 0] S1x2x256.size inb_S8x2x256_S1x2x256_6_0_0).toLoadRect (harg14.unread x12))) (o0 c arg3 harg3 arg5 harg5 arg6 harg6 arg16 harg16 arg17 harg17 arg18 x1 x3 x4 xs0 xs1) (m0 c arg3 harg3 arg5 harg5 arg16 harg16 arg18 x1 x3 xs0) (l0 c arg3 harg3 arg5 harg5 arg16 harg16 arg18 x1 x3 xs0)

theorem p6_1 : k0_pay349 (kernelRun0_B.sl.r_129 c i arg2 harg2 arg11 harg11 arg13 harg13 x0 x9 x11 xt0) (kernelRun0_B.sl.r_130 c arg3 harg3 arg4 harg4 arg5 harg5 arg6 harg6 arg16 harg16 arg17 harg17 arg18 x1 x2 x3 x4 xs0 xs1) (kernelRun0_B.sl.r_131 c arg3 harg3 arg4 harg4 arg5 harg5 arg16 harg16 arg18 x1 x2 x3 xs0) (kernelRun0_B.sl.r_132 c arg3 harg3 arg4 harg4 arg5 harg5 arg16 harg16 arg18 x1 x2 x3 xs0) (kernelRun0_B.sl.r_133 c i arg2 harg2 arg11 harg11 arg12 harg12 arg13 harg13 arg14 harg14 x0 x9 x10 x11 x12 xt0) (kernelRun0_B.sl.r_134 c i arg2 harg2 arg11 harg11 arg13 harg13 x0 x9 x11 xt0) = out 6 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) (tS (View.readAt (Elt F) arg2.view (Rect.unit (s := S512x128) ![384, 0] S64x128.size inb_S512x128_S64x128_384_0).toLoadRect (harg2.unread x0)) (View.readAt (Elt F) arg11.view (Rect.unit (s := S8x2x256x128) ![6, 0, 0, 0] S1x1x256x128.size inb_S8x2x256x128_S1x1x256x128_6_0_0_0).toLoadRect (harg11.unread x9)) (View.readAt (Elt F) arg11.view (Rect.unit (s := S8x2x256x128) ![6, 1, 0, 0] S1x1x256x128.size inb_S8x2x256x128_S1x1x256x128_6_1_0_0).toLoadRect (harg11.unread x9)) (kernelRun0_B.sl.r_125 c i xt0) (View.readAt (Elt F) arg13.view (Rect.unit (s := S8x2x256) ![6, 0, 0] S1x2x256.size inb_S8x2x256_S1x2x256_6_0_0).toLoadRect (harg13.unread x11))) (View.readAt (Elt F) arg12.view (Rect.unit (s := S8x2x256x128) ![6, 0, 0, 0] S1x1x256x128.size inb_S8x2x256x128_S1x1x256x128_6_0_0_0).toLoadRect (harg12.unread x10)) (View.readAt (Elt F) arg12.view (Rect.unit (s := S8x2x256x128) ![6, 1, 0, 0] S1x1x256x128.size inb_S8x2x256x128_S1x1x256x128_6_1_0_0).toLoadRect (harg12.unread x10)) (View.readAt (Elt F) arg14.view (Rect.unit (s := S8x2x256) ![6, 0, 0] S1x2x256.size inb_S8x2x256_S1x2x256_6_0_0).toLoadRect (harg14.unread x12)) :=
  Block.join (Payloads.tail_6_1 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (View.readAt (Elt F) arg2.view (Rect.unit (s := S512x128) ![384, 0] S64x128.size inb_S512x128_S64x128_384_0).toLoadRect (harg2.unread x0)) (View.readAt (Elt F) arg11.view (Rect.unit (s := S8x2x256x128) ![6, 0, 0, 0] S1x1x256x128.size inb_S8x2x256x128_S1x1x256x128_6_0_0_0).toLoadRect (harg11.unread x9)) (View.readAt (Elt F) arg11.view (Rect.unit (s := S8x2x256x128) ![6, 1, 0, 0] S1x1x256x128.size inb_S8x2x256x128_S1x1x256x128_6_1_0_0).toLoadRect (harg11.unread x9)) (View.readAt (Elt F) arg12.view (Rect.unit (s := S8x2x256x128) ![6, 0, 0, 0] S1x1x256x128.size inb_S8x2x256x128_S1x1x256x128_6_0_0_0).toLoadRect (harg12.unread x10)) (View.readAt (Elt F) arg12.view (Rect.unit (s := S8x2x256x128) ![6, 1, 0, 0] S1x1x256x128.size inb_S8x2x256x128_S1x1x256x128_6_1_0_0).toLoadRect (harg12.unread x10)) (kernelRun0_B.sl.r_125 c i xt0) (View.readAt (Elt F) arg13.view (Rect.unit (s := S8x2x256) ![6, 0, 0] S1x2x256.size inb_S8x2x256_S1x2x256_6_0_0).toLoadRect (harg13.unread x11)) (View.readAt (Elt F) arg14.view (Rect.unit (s := S8x2x256) ![6, 0, 0] S1x2x256.size inb_S8x2x256_S1x2x256_6_0_0).toLoadRect (harg14.unread x12))) (o1 c arg3 harg3 arg4 harg4 arg5 harg5 arg6 harg6 arg16 harg16 arg17 harg17 arg18 x1 x2 x3 x4 xs0 xs1) (m1 c arg3 harg3 arg4 harg4 arg5 harg5 arg16 harg16 arg18 x1 x2 x3 xs0) (l1 c arg3 harg3 arg4 harg4 arg5 harg5 arg16 harg16 arg18 x1 x2 x3 xs0)

theorem p7_0 : k0_pay367 (kernelRun0_B.sl.r_142 c arg3 harg3 arg5 harg5 arg6 harg6 arg16 harg16 arg17 harg17 arg18 x1 x3 x4 xs0 xs1) (kernelRun0_B.sl.r_143 c arg3 harg3 arg5 harg5 arg16 harg16 arg18 x1 x3 xs0) (kernelRun0_B.sl.r_144 c arg3 harg3 arg5 harg5 arg16 harg16 arg18 x1 x3 xs0) (kernelRun0_B.sl.r_145 c i arg2 harg2 arg11 harg11 arg12 harg12 arg13 harg13 arg14 harg14 x0 x9 x10 x11 x12 xt0) (kernelRun0_B.sl.r_146 c i arg2 harg2 arg11 harg11 arg13 harg13 x0 x9 x11 xt0) (kernelRun0_B.sl.r_147 c i arg2 harg2 arg11 harg11 arg13 harg13 x0 x9 x11 xt0) = out 7 0 (pM 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0)) (pL8 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (K0 arg16 harg16 xs0) (S0 c arg3 harg3 arg16 harg16 arg18 x1 xs0)) (pO 0#32 (View.readAt (Elt F) arg3.view (Rect.unit (s := S32x1x8x128) ![0, 0, 0, 0] S32x1x8x128.size inb_S32x1x8x128_S32x1x8x128_0_0_0_0).toLoadRect (harg3.unread x1)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K0 arg16 harg16 xs0) (S0 c arg3 harg3 arg16 harg16 arg18 x1 xs0) (V0 arg17 harg17 xs1)) (tS (View.readAt (Elt F) arg2.view (Rect.unit (s := S512x128) ![448, 0] S64x128.size inb_S512x128_S64x128_448_0).toLoadRect (harg2.unread x0)) (View.readAt (Elt F) arg11.view (Rect.unit (s := S8x2x256x128) ![7, 0, 0, 0] S1x1x256x128.size inb_S8x2x256x128_S1x1x256x128_7_0_0_0).toLoadRect (harg11.unread x9)) (View.readAt (Elt F) arg11.view (Rect.unit (s := S8x2x256x128) ![7, 1, 0, 0] S1x1x256x128.size inb_S8x2x256x128_S1x1x256x128_7_1_0_0).toLoadRect (harg11.unread x9)) (kernelRun0_B.sl.r_138 c i xt0) (View.readAt (Elt F) arg13.view (Rect.unit (s := S8x2x256) ![7, 0, 0] S1x2x256.size inb_S8x2x256_S1x2x256_7_0_0).toLoadRect (harg13.unread x11))) (View.readAt (Elt F) arg12.view (Rect.unit (s := S8x2x256x128) ![7, 0, 0, 0] S1x1x256x128.size inb_S8x2x256x128_S1x1x256x128_7_0_0_0).toLoadRect (harg12.unread x10)) (View.readAt (Elt F) arg12.view (Rect.unit (s := S8x2x256x128) ![7, 1, 0, 0] S1x1x256x128.size inb_S8x2x256x128_S1x1x256x128_7_1_0_0).toLoadRect (harg12.unread x10)) (View.readAt (Elt F) arg14.view (Rect.unit (s := S8x2x256) ![7, 0, 0] S1x2x256.size inb_S8x2x256_S1x2x256_7_0_0).toLoadRect (harg14.unread x12)) :=
  Block.join (Payloads.tail_7_0 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (View.readAt (Elt F) arg2.view (Rect.unit (s := S512x128) ![448, 0] S64x128.size inb_S512x128_S64x128_448_0).toLoadRect (harg2.unread x0)) (View.readAt (Elt F) arg11.view (Rect.unit (s := S8x2x256x128) ![7, 0, 0, 0] S1x1x256x128.size inb_S8x2x256x128_S1x1x256x128_7_0_0_0).toLoadRect (harg11.unread x9)) (View.readAt (Elt F) arg11.view (Rect.unit (s := S8x2x256x128) ![7, 1, 0, 0] S1x1x256x128.size inb_S8x2x256x128_S1x1x256x128_7_1_0_0).toLoadRect (harg11.unread x9)) (View.readAt (Elt F) arg12.view (Rect.unit (s := S8x2x256x128) ![7, 0, 0, 0] S1x1x256x128.size inb_S8x2x256x128_S1x1x256x128_7_0_0_0).toLoadRect (harg12.unread x10)) (View.readAt (Elt F) arg12.view (Rect.unit (s := S8x2x256x128) ![7, 1, 0, 0] S1x1x256x128.size inb_S8x2x256x128_S1x1x256x128_7_1_0_0).toLoadRect (harg12.unread x10)) (kernelRun0_B.sl.r_138 c i xt0) (View.readAt (Elt F) arg13.view (Rect.unit (s := S8x2x256) ![7, 0, 0] S1x2x256.size inb_S8x2x256_S1x2x256_7_0_0).toLoadRect (harg13.unread x11)) (View.readAt (Elt F) arg14.view (Rect.unit (s := S8x2x256) ![7, 0, 0] S1x2x256.size inb_S8x2x256_S1x2x256_7_0_0).toLoadRect (harg14.unread x12))) (o0 c arg3 harg3 arg5 harg5 arg6 harg6 arg16 harg16 arg17 harg17 arg18 x1 x3 x4 xs0 xs1) (m0 c arg3 harg3 arg5 harg5 arg16 harg16 arg18 x1 x3 xs0) (l0 c arg3 harg3 arg5 harg5 arg16 harg16 arg18 x1 x3 xs0)

theorem p7_1 : kernelRun0_B.sl.r_148 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 = out 7 1 (pM 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0)) (pL8 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (K1 arg16 harg16 xs0) (S1 c arg3 harg3 arg4 harg4 arg16 harg16 arg18 x1 x2 xs0)) (pO 1#32 (View.readAt (Elt F) arg4.view (Rect.unit (s := S32x1x8x128) ![0, 0, 0, 0] S32x1x8x128.size inb_S32x1x8x128_S32x1x8x128_0_0_0_0).toLoadRect (harg4.unread x2)) (View.readAt (Elt F) arg5.view (Rect.unit (s := S64x128) ![0, 0] S64x128.size inb_S64x128_S64x128_0_0).toLoadRect (harg5.unread x3)) (View.readAt (Elt F) arg6.view (Rect.unit (s := S64x128) ![0, 0] S64x128.size inb_S64x128_S64x128_0_0).toLoadRect (harg6.unread x4)) (K1 arg16 harg16 xs0) (S1 c arg3 harg3 arg4 harg4 arg16 harg16 arg18 x1 x2 xs0) (V1 arg17 harg17 xs1)) (tS (View.readAt (Elt F) arg2.view (Rect.unit (s := S512x128) ![448, 0] S64x128.size inb_S512x128_S64x128_448_0).toLoadRect (harg2.unread x0)) (View.readAt (Elt F) arg11.view (Rect.unit (s := S8x2x256x128) ![7, 0, 0, 0] S1x1x256x128.size inb_S8x2x256x128_S1x1x256x128_7_0_0_0).toLoadRect (harg11.unread x9)) (View.readAt (Elt F) arg11.view (Rect.unit (s := S8x2x256x128) ![7, 1, 0, 0] S1x1x256x128.size inb_S8x2x256x128_S1x1x256x128_7_1_0_0).toLoadRect (harg11.unread x9)) (kernelRun0_B.sl.r_138 c i xt0) (View.readAt (Elt F) arg13.view (Rect.unit (s := S8x2x256) ![7, 0, 0] S1x2x256.size inb_S8x2x256_S1x2x256_7_0_0).toLoadRect (harg13.unread x11))) (View.readAt (Elt F) arg12.view (Rect.unit (s := S8x2x256x128) ![7, 0, 0, 0] S1x1x256x128.size inb_S8x2x256x128_S1x1x256x128_7_0_0_0).toLoadRect (harg12.unread x10)) (View.readAt (Elt F) arg12.view (Rect.unit (s := S8x2x256x128) ![7, 1, 0, 0] S1x1x256x128.size inb_S8x2x256x128_S1x1x256x128_7_1_0_0).toLoadRect (harg12.unread x10)) (View.readAt (Elt F) arg14.view (Rect.unit (s := S8x2x256) ![7, 0, 0] S1x2x256.size inb_S8x2x256_S1x2x256_7_0_0).toLoadRect (harg14.unread x12)) :=
  Block.join (Payloads.tail_7_1 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (View.readAt (Elt F) arg2.view (Rect.unit (s := S512x128) ![448, 0] S64x128.size inb_S512x128_S64x128_448_0).toLoadRect (harg2.unread x0)) (View.readAt (Elt F) arg11.view (Rect.unit (s := S8x2x256x128) ![7, 0, 0, 0] S1x1x256x128.size inb_S8x2x256x128_S1x1x256x128_7_0_0_0).toLoadRect (harg11.unread x9)) (View.readAt (Elt F) arg11.view (Rect.unit (s := S8x2x256x128) ![7, 1, 0, 0] S1x1x256x128.size inb_S8x2x256x128_S1x1x256x128_7_1_0_0).toLoadRect (harg11.unread x9)) (View.readAt (Elt F) arg12.view (Rect.unit (s := S8x2x256x128) ![7, 0, 0, 0] S1x1x256x128.size inb_S8x2x256x128_S1x1x256x128_7_0_0_0).toLoadRect (harg12.unread x10)) (View.readAt (Elt F) arg12.view (Rect.unit (s := S8x2x256x128) ![7, 1, 0, 0] S1x1x256x128.size inb_S8x2x256x128_S1x1x256x128_7_1_0_0).toLoadRect (harg12.unread x10)) (kernelRun0_B.sl.r_138 c i xt0) (View.readAt (Elt F) arg13.view (Rect.unit (s := S8x2x256) ![7, 0, 0] S1x2x256.size inb_S8x2x256_S1x2x256_7_0_0).toLoadRect (harg13.unread x11)) (View.readAt (Elt F) arg14.view (Rect.unit (s := S8x2x256) ![7, 0, 0] S1x2x256.size inb_S8x2x256_S1x2x256_7_0_0).toLoadRect (harg14.unread x12))) (o1 c arg3 harg3 arg4 harg4 arg5 harg5 arg6 harg6 arg16 harg16 arg17 harg17 arg18 x1 x2 x3 x4 xs0 xs1) (m1 c arg3 harg3 arg4 harg4 arg5 harg5 arg16 harg16 arg18 x1 x2 x3 xs0) (l1 c arg3 harg3 arg4 harg4 arg5 harg5 arg16 harg16 arg18 x1 x2 x3 xs0)

end Cert.WordsB

end
-- ==== Proof.CaseB.lean ====
/- The block of results a grid point that finds the scratch arrays filled leaves. -/
module

public import proofs.«01_k».proof.Proof.WordsB

@[expose] public section

set_option maxRecDepth 16384
set_option maxHeartbeats 1000000

noncomputable section

namespace Cert.CaseB

open Idealize.ShloMosaic Idealize.ShloMosaic.TcCoe Idealize.ShloMosaic.Tactic Cert.KernelIdeal Cert.KernelIdeal.Gen Cert.Stages Cert.StageValue Cert.Block

open Cert.WordsB

variable (c : Dev nD) (i : grid0.Coords) (arg2 : Memref sig .tc .vmem S512x128 .bf16) (harg2 : arg2.IsWhole) (arg3 : Memref sig .tc .vmem S32x1x8x128 .bf16) (harg3 : arg3.IsWhole) (arg4 : Memref sig .tc .vmem S32x1x8x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S2x2304x128 .fp8e4m3) (harg7 : arg7.IsWhole) (arg8 : Memref sig .tc .vmem S2x2304x128 .fp8e4m3) (harg8 : arg8.IsWhole) (arg9 : Memref sig .tc .vmem S2x2304 .f32) (harg9 : arg9.IsWhole) (arg10 : Memref sig .tc .vmem S2x2304 .f32) (harg10 : arg10.IsWhole) (arg11 : Memref sig .tc .vmem S8x2x256x128 .fp8e4m3) (harg11 : arg11.IsWhole) (arg12 : Memref sig .tc .vmem S8x2x256x128 .fp8e4m3) (harg12 : arg12.IsWhole) (arg13 : Memref sig .tc .vmem S8x2x256 .f32) (harg13 : arg13.IsWhole) (arg14 : Memref sig .tc .vmem S8x2x256 .f32) (harg14 : arg14.IsWhole) (arg15 : Memref sig .tc .vmem S8x4x16x128 .bf16) (harg15 : arg15.IsWhole) (arg16 : Memref sig .tc .vmem S2x2304x256 .bf16) (harg16 : arg16.IsWhole) (arg17 : Memref sig .tc .vmem S2x128x2304 .bf16) (harg17 : arg17.IsWhole) (arg18 : Memref sig .tc .vmem S2x2304x256 .f32) (harg18 : arg18.IsWhole) (hc0 : ¬cond0_0 i) (x0 : Vec Ideal S512x128 .bf16) (x1 : Vec Ideal S32x1x8x128 .bf16) (x2 : Vec Ideal S32x1x8x128 .bf16) (x3 : Vec Ideal S64x128 .bf16) (x4 : Vec Ideal S64x128 .bf16) (x5 : Vec Ideal S2x2304x128 .fp8e4m3) (x6 : Vec Ideal S2x2304x128 .fp8e4m3) (x7 : Vec Ideal S2x2304 .f32) (x8 : Vec Ideal S2x2304 .f32) (x9 : Vec Ideal S8x2x256x128 .fp8e4m3) (x10 : Vec Ideal S8x2x256x128 .fp8e4m3) (x11 : Vec Ideal S8x2x256 .f32) (x12 : Vec Ideal S8x2x256 .f32) (xt0 : TbBuf0 (F := Ideal) c tbM0_0) (xs0 : Vec Ideal S2x2304x256 .bf16) (xs1 : Vec Ideal S2x128x2304 .bf16)

theorem k0_at : ∀ (n : Fin 9) (i j : Fin 256), (K0 arg16 harg16 xs0) n.val (ix3 0 i j) = xs0 (ix3 0 (pKey n i) j)
  | 0, i, j => rd arg16 harg16 xs0 _ _ _ _ _ (hi3 _ _ _ _ _ _ _ _ _ rfl rfl (Nat.zero_add _).symm)
  | 1, i, j => rd arg16 harg16 xs0 _ _ _ _ _ (hi3 _ _ _ _ _ _ _ _ _ rfl rfl (Nat.zero_add _).symm)
  | 2, i, j => rd arg16 harg16 xs0 _ _ _ _ _ (hi3 _ _ _ _ _ _ _ _ _ rfl rfl (Nat.zero_add _).symm)
  | 3, i, j => rd arg16 harg16 xs0 _ _ _ _ _ (hi3 _ _ _ _ _ _ _ _ _ rfl rfl (Nat.zero_add _).symm)
  | 4, i, j => rd arg16 harg16 xs0 _ _ _ _ _ (hi3 _ _ _ _ _ _ _ _ _ rfl rfl (Nat.zero_add _).symm)
  | 5, i, j => rd arg16 harg16 xs0 _ _ _ _ _ (hi3 _ _ _ _ _ _ _ _ _ rfl rfl (Nat.zero_add _).symm)
  | 6, i, j => rd arg16 harg16 xs0 _ _ _ _ _ (hi3 _ _ _ _ _ _ _ _ _ rfl rfl (Nat.zero_add _).symm)
  | 7, i, j => rd arg16 harg16 xs0 _ _ _ _ _ (hi3 _ _ _ _ _ _ _ _ _ rfl rfl (Nat.zero_add _).symm)
  | 8, i, j => rd arg16 harg16 xs0 _ _ _ _ _ (hi3 _ _ _ _ _ _ _ _ _ rfl rfl (Nat.zero_add _).symm)

theorem v0_at : ∀ (n : Fin 9) (d : Fin 128) (i : Fin 256), (V0 arg17 harg17 xs1) n.val (ix3 0 d i) = xs1 (ix3 0 d (pKey n i))
  | 0, d, i => rd arg17 harg17 xs1 _ _ _ _ _ (hi3 _ _ _ _ _ _ _ _ _ rfl (Nat.zero_add _).symm rfl)
  | 1, d, i => rd arg17 harg17 xs1 _ _ _ _ _ (hi3 _ _ _ _ _ _ _ _ _ rfl (Nat.zero_add _).symm rfl)
  | 2, d, i => rd arg17 harg17 xs1 _ _ _ _ _ (hi3 _ _ _ _ _ _ _ _ _ rfl (Nat.zero_add _).symm rfl)
  | 3, d, i => rd arg17 harg17 xs1 _ _ _ _ _ (hi3 _ _ _ _ _ _ _ _ _ rfl (Nat.zero_add _).symm rfl)
  | 4, d, i => rd arg17 harg17 xs1 _ _ _ _ _ (hi3 _ _ _ _ _ _ _ _ _ rfl (Nat.zero_add _).symm rfl)
  | 5, d, i => rd arg17 harg17 xs1 _ _ _ _ _ (hi3 _ _ _ _ _ _ _ _ _ rfl (Nat.zero_add _).symm rfl)
  | 6, d, i => rd arg17 harg17 xs1 _ _ _ _ _ (hi3 _ _ _ _ _ _ _ _ _ rfl (Nat.zero_add _).symm rfl)
  | 7, d, i => rd arg17 harg17 xs1 _ _ _ _ _ (hi3 _ _ _ _ _ _ _ _ _ rfl (Nat.zero_add _).symm rfl)
  | 8, d, i => rd arg17 harg17 xs1 _ _ _ _ _ (hi3 _ _ _ _ _ _ _ _ _ rfl (Nat.zero_add _).symm rfl)

theorem k1_at : ∀ (n : Fin 9) (i j : Fin 256), (K1 arg16 harg16 xs0) n.val (ix3 0 i j) = xs0 (ix3 1 (pKey n i) j)
  | 0, i, j => rd arg16 harg16 xs0 _ _ _ _ _ (hi3 _ _ _ _ _ _ _ _ _ rfl rfl (Nat.zero_add _).symm)
  | 1, i, j => rd arg16 harg16 xs0 _ _ _ _ _ (hi3 _ _ _ _ _ _ _ _ _ rfl rfl (Nat.zero_add _).symm)
  | 2, i, j => rd arg16 harg16 xs0 _ _ _ _ _ (hi3 _ _ _ _ _ _ _ _ _ rfl rfl (Nat.zero_add _).symm)
  | 3, i, j => rd arg16 harg16 xs0 _ _ _ _ _ (hi3 _ _ _ _ _ _ _ _ _ rfl rfl (Nat.zero_add _).symm)
  | 4, i, j => rd arg16 harg16 xs0 _ _ _ _ _ (hi3 _ _ _ _ _ _ _ _ _ rfl rfl (Nat.zero_add _).symm)
  | 5, i, j => rd arg16 harg16 xs0 _ _ _ _ _ (hi3 _ _ _ _ _ _ _ _ _ rfl rfl (Nat.zero_add _).symm)
  | 6, i, j => rd arg16 harg16 xs0 _ _ _ _ _ (hi3 _ _ _ _ _ _ _ _ _ rfl rfl (Nat.zero_add _).symm)
  | 7, i, j => rd arg16 harg16 xs0 _ _ _ _ _ (hi3 _ _ _ _ _ _ _ _ _ rfl rfl (Nat.zero_add _).symm)
  | 8, i, j => rd arg16 harg16 xs0 _ _ _ _ _ (hi3 _ _ _ _ _ _ _ _ _ rfl rfl (Nat.zero_add _).symm)

theorem v1_at : ∀ (n : Fin 9) (d : Fin 128) (i : Fin 256), (V1 arg17 harg17 xs1) n.val (ix3 0 d i) = xs1 (ix3 1 d (pKey n i))
  | 0, d, i => rd arg17 harg17 xs1 _ _ _ _ _ (hi3 _ _ _ _ _ _ _ _ _ rfl (Nat.zero_add _).symm rfl)
  | 1, d, i => rd arg17 harg17 xs1 _ _ _ _ _ (hi3 _ _ _ _ _ _ _ _ _ rfl (Nat.zero_add _).symm rfl)
  | 2, d, i => rd arg17 harg17 xs1 _ _ _ _ _ (hi3 _ _ _ _ _ _ _ _ _ rfl (Nat.zero_add _).symm rfl)
  | 3, d, i => rd arg17 harg17 xs1 _ _ _ _ _ (hi3 _ _ _ _ _ _ _ _ _ rfl (Nat.zero_add _).symm rfl)
  | 4, d, i => rd arg17 harg17 xs1 _ _ _ _ _ (hi3 _ _ _ _ _ _ _ _ _ rfl (Nat.zero_add _).symm rfl)
  | 5, d, i => rd arg17 harg17 xs1 _ _ _ _ _ (hi3 _ _ _ _ _ _ _ _ _ rfl (Nat.zero_add _).symm rfl)
  | 6, d, i => rd arg17 harg17 xs1 _ _ _ _ _ (hi3 _ _ _ _ _ _ _ _ _ rfl (Nat.zero_add _).symm rfl)
  | 7, d, i => rd arg17 harg17 xs1 _ _ _ _ _ (hi3 _ _ _ _ _ _ _ _ _ rfl (Nat.zero_add _).symm rfl)
  | 8, d, i => rd arg17 harg17 xs1 _ _ _ _ _ (hi3 _ _ _ _ _ _ _ _ _ rfl (Nat.zero_add _).symm rfl)

variable (I : Inp) (R : I.Real) (t : Fin 128) (Z : ScrOk I xs0 xs1) (H : BlkOk I t x0 x1 x2 x3 x4 x9 x10 x11 x12)
  (e0 : kernelRun0_B.sl.r_55 c i xt0 = I.len (bRow t 0))
  (e1 : kernelRun0_B.sl.r_66 c i xt0 = I.len (bRow t 1))
  (e2 : kernelRun0_B.sl.r_77 c i xt0 = I.len (bRow t 2))
  (e3 : kernelRun0_B.sl.r_85 c i xt0 = I.len (bRow t 3))
  (e4 : kernelRun0_B.sl.r_98 c i xt0 = I.len (bRow t 4))
  (e5 : kernelRun0_B.sl.r_111 c i xt0 = I.len (bRow t 5))
  (e6 : kernelRun0_B.sl.r_125 c i xt0 = I.len (bRow t 6))
  (e7 : kernelRun0_B.sl.r_138 c i xt0 = I.len (bRow t 7))

include R Z H

include e0 in
theorem r0_0 (s : Fin 4) (g : Fin 8) (d : Fin 128) : (k0_pay237 (kernelRun0_B.sl.r_57 c i arg2 harg2 arg11 harg11 arg13 harg13 x0 x9 x11 xt0) (kernelRun0_B.sl.r_59 c arg3 harg3 arg5 harg5 arg6 harg6 arg16 harg16 arg17 harg17 arg18 x1 x3 x4 xs0 xs1) (kernelRun0_B.sl.r_60 c arg3 harg3 arg5 harg5 arg16 harg16 arg18 x1 x3 xs0) (kernelRun0_B.sl.r_61 c arg3 harg3 arg5 harg5 arg16 harg16 arg18 x1 x3 xs0) (kernelRun0_B.sl.r_62 c i arg2 harg2 arg11 harg11 arg12 harg12 arg13 harg13 arg14 harg14 x0 x9 x10 x11 x12 xt0) (kernelRun0_B.sl.r_63 c i arg2 harg2 arg11 harg11 arg13 harg13 x0 x9 x11 xt0)) (ix4 0 s g d) = res I (bRow t 0) s 0 g d :=
  (congrFun (p0_0 c i arg2 harg2 arg3 harg3 arg5 harg5 arg6 harg6 arg11 harg11 arg12 harg12 arg13 harg13 arg14 harg14 arg16 harg16 arg17 harg17 arg18 x0 x1 x3 x4 x9 x10 x11 x12 xt0 xs0 xs1) _).trans (res_of I R t 0 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 0 s g d))
    (fun d => (rd arg2 harg2 x0 _ _ _ _ _ (hi2 _ _ _ _ _ _ rfl (Nat.zero_add _).symm)).trans (H.q 0 s 0 g d))
    (fun j d => (rd arg5 harg5 x3 _ _ _ _ _ (hi2 _ _ _ _ _ _ (Nat.zero_add _).symm (Nat.zero_add _).symm)).trans (H.kn 0 j 0 d))
    (fun j d => (rd arg6 harg6 x4 _ _ _ _ _ (hi2 _ _ _ _ _ _ (Nat.zero_add _).symm (Nat.zero_add _).symm)).trans (H.vn 0 j 0 d))
    (k0_at arg16 harg16 xs0) (v0_at arg17 harg17 xs1) (s0 c arg3 harg3 arg16 harg16 arg18 x1 xs0)
    (fun p d => (rd arg11 harg11 x9 _ _ _ _ _ (hi4 _ _ _ _ _ _ _ _ _ _ _ _ rfl rfl (Nat.zero_add _).symm (Nat.zero_add _).symm)).trans (H.kt 0 0 p d))
    (fun p d => (rd arg11 harg11 x9 _ _ _ _ _ (hi4 _ _ _ _ _ _ _ _ _ _ _ _ rfl rfl (Nat.zero_add _).symm (Nat.zero_add _).symm)).trans (H.kt 0 1 p d))
    (fun p d => (rd arg12 harg12 x10 _ _ _ _ _ (hi4 _ _ _ _ _ _ _ _ _ _ _ _ rfl rfl (Nat.zero_add _).symm (Nat.zero_add _).symm)).trans (H.vt 0 0 p d))
    (fun p d => (rd arg12 harg12 x10 _ _ _ _ _ (hi4 _ _ _ _ _ _ _ _ _ _ _ _ rfl rfl (Nat.zero_add _).symm (Nat.zero_add _).symm)).trans (H.vt 0 1 p d))
    e0
    (fun k p => (rd arg13 harg13 x11 _ _ _ _ _ (hi3 _ _ _ _ _ _ _ _ _ rfl (Nat.zero_add _).symm (Nat.zero_add _).symm)).trans (H.kst 0 k p))
    (fun k p => (rd arg14 harg14 x12 _ _ _ _ _ (hi3 _ _ _ _ _ _ _ _ _ rfl (Nat.zero_add _).symm (Nat.zero_add _).symm)).trans (H.vst 0 k p)))

include e0 in
theorem r0_1 (s : Fin 4) (g : Fin 8) (d : Fin 128) : (k0_pay239 (kernelRun0_B.sl.r_64 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1)) (ix4 0 s g d) = res I (bRow t 0) s 1 g d :=
  (congrFun (p0_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) _).trans (res_of I R t 0 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 0 s g d))
    (fun d => (rd arg2 harg2 x0 _ _ _ _ _ (hi2 _ _ _ _ _ _ rfl (Nat.zero_add _).symm)).trans (H.q 0 s 1 g d))
    (fun j d => (rd arg5 harg5 x3 _ _ _ _ _ (hi2 _ _ _ _ _ _ (Nat.zero_add _).symm (Nat.zero_add _).symm)).trans (H.kn 0 j 1 d))
    (fun j d => (rd arg6 harg6 x4 _ _ _ _ _ (hi2 _ _ _ _ _ _ (Nat.zero_add _).symm (Nat.zero_add _).symm)).trans (H.vn 0 j 1 d))
    (k1_at arg16 harg16 xs0) (v1_at arg17 harg17 xs1) (s1 c arg3 harg3 arg4 harg4 arg16 harg16 arg18 x1 x2 xs0)
    (fun p d => (rd arg11 harg11 x9 _ _ _ _ _ (hi4 _ _ _ _ _ _ _ _ _ _ _ _ rfl rfl (Nat.zero_add _).symm (Nat.zero_add _).symm)).trans (H.kt 0 0 p d))
    (fun p d => (rd arg11 harg11 x9 _ _ _ _ _ (hi4 _ _ _ _ _ _ _ _ _ _ _ _ rfl rfl (Nat.zero_add _).symm (Nat.zero_add _).symm)).trans (H.kt 0 1 p d))
    (fun p d => (rd arg12 harg12 x10 _ _ _ _ _ (hi4 _ _ _ _ _ _ _ _ _ _ _ _ rfl rfl (Nat.zero_add _).symm (Nat.zero_add _).symm)).trans (H.vt 0 0 p d))
    (fun p d => (rd arg12 harg12 x10 _ _ _ _ _ (hi4 _ _ _ _ _ _ _ _ _ _ _ _ rfl rfl (Nat.zero_add _).symm (Nat.zero_add _).symm)).trans (H.vt 0 1 p d))
    e0
    (fun k p => (rd arg13 harg13 x11 _ _ _ _ _ (hi3 _ _ _ _ _ _ _ _ _ rfl (Nat.zero_add _).symm (Nat.zero_add _).symm)).trans (H.kst 0 k p))
    (fun k p => (rd arg14 harg14 x12 _ _ _ _ _ (hi3 _ _ _ _ _ _ _ _ _ rfl (Nat.zero_add _).symm (Nat.zero_add _).symm)).trans (H.vst 0 k p)))

include e1 in
theorem r1_0 (s : Fin 4) (g : Fin 8) (d : Fin 128) : (kernelRun0_B.sl.r_72 c i arg2 harg2 arg3 harg3 arg5 harg5 arg6 harg6 arg11 harg11 arg12 harg12 arg13 harg13 arg14 harg14 arg16 harg16 arg17 harg17 arg18 x0 x1 x3 x4 x9 x10 x11 x12 xt0 xs0 xs1) (ix4 0 s g d) = res I (bRow t 1) s 0 g d :=
  (congrFun (p1_0 c i arg2 harg2 arg3 harg3 arg5 harg5 arg6 harg6 arg11 harg11 arg12 harg12 arg13 harg13 arg14 harg14 arg16 harg16 arg17 harg17 arg18 x0 x1 x3 x4 x9 x10 x11 x12 xt0 xs0 xs1) _).trans (res_of I R t 1 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 1 s g d))
    (fun d => (rd arg2 harg2 x0 _ _ _ _ _ (hi2 _ _ _ _ _ _ rfl (Nat.zero_add _).symm)).trans (H.q 1 s 0 g d))
    (fun j d => (rd arg5 harg5 x3 _ _ _ _ _ (hi2 _ _ _ _ _ _ (Nat.zero_add _).symm (Nat.zero_add _).symm)).trans (H.kn 1 j 0 d))
    (fun j d => (rd arg6 harg6 x4 _ _ _ _ _ (hi2 _ _ _ _ _ _ (Nat.zero_add _).symm (Nat.zero_add _).symm)).trans (H.vn 1 j 0 d))
    (k0_at arg16 harg16 xs0) (v0_at arg17 harg17 xs1) (s0 c arg3 harg3 arg16 harg16 arg18 x1 xs0)
    (fun p d => (rd arg11 harg11 x9 _ _ _ _ _ (hi4 _ _ _ _ _ _ _ _ _ _ _ _ rfl rfl (Nat.zero_add _).symm (Nat.zero_add _).symm)).trans (H.kt 1 0 p d))
    (fun p d => (rd arg11 harg11 x9 _ _ _ _ _ (hi4 _ _ _ _ _ _ _ _ _ _ _ _ rfl rfl (Nat.zero_add _).symm (Nat.zero_add _).symm)).trans (H.kt 1 1 p d))
    (fun p d => (rd arg12 harg12 x10 _ _ _ _ _ (hi4 _ _ _ _ _ _ _ _ _ _ _ _ rfl rfl (Nat.zero_add _).symm (Nat.zero_add _).symm)).trans (H.vt 1 0 p d))
    (fun p d => (rd arg12 harg12 x10 _ _ _ _ _ (hi4 _ _ _ _ _ _ _ _ _ _ _ _ rfl rfl (Nat.zero_add _).symm (Nat.zero_add _).symm)).trans (H.vt 1 1 p d))
    e1
    (fun k p => (rd arg13 harg13 x11 _ _ _ _ _ (hi3 _ _ _ _ _ _ _ _ _ rfl (Nat.zero_add _).symm (Nat.zero_add _).symm)).trans (H.kst 1 k p))
    (fun k p => (rd arg14 harg14 x12 _ _ _ _ _ (hi3 _ _ _ _ _ _ _ _ _ rfl (Nat.zero_add _).symm (Nat.zero_add _).symm)).trans (H.vst 1 k p)))

include e1 in
theorem r1_1 (s : Fin 4) (g : Fin 8) (d : Fin 128) : (k0_pay249 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (kernelRun0_B.sl.r_69 c i arg2 harg2 arg11 harg11 arg13 harg13 x0 x9 x11 xt0) (kernelRun0_B.sl.r_70 c i arg2 harg2 arg11 harg11 arg13 harg13 x0 x9 x11 xt0) (kernelRun0_B.sl.r_71 c i arg2 harg2 arg11 harg11 arg12 harg12 arg13 harg13 arg14 harg14 x0 x9 x10 x11 x12 xt0)) (ix4 0 s g d) = res I (bRow t 1) s 1 g d :=
  (congrFun (p1_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) _).trans (res_of I R t 1 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 1 s g d))
    (fun d => (rd arg2 harg2 x0 _ _ _ _ _ (hi2 _ _ _ _ _ _ rfl (Nat.zero_add _).symm)).trans (H.q 1 s 1 g d))
    (fun j d => (rd arg5 harg5 x3 _ _ _ _ _ (hi2 _ _ _ _ _ _ (Nat.zero_add _).symm (Nat.zero_add _).symm)).trans (H.kn 1 j 1 d))
    (fun j d => (rd arg6 harg6 x4 _ _ _ _ _ (hi2 _ _ _ _ _ _ (Nat.zero_add _).symm (Nat.zero_add _).symm)).trans (H.vn 1 j 1 d))
    (k1_at arg16 harg16 xs0) (v1_at arg17 harg17 xs1) (s1 c arg3 harg3 arg4 harg4 arg16 harg16 arg18 x1 x2 xs0)
    (fun p d => (rd arg11 harg11 x9 _ _ _ _ _ (hi4 _ _ _ _ _ _ _ _ _ _ _ _ rfl rfl (Nat.zero_add _).symm (Nat.zero_add _).symm)).trans (H.kt 1 0 p d))
    (fun p d => (rd arg11 harg11 x9 _ _ _ _ _ (hi4 _ _ _ _ _ _ _ _ _ _ _ _ rfl rfl (Nat.zero_add _).symm (Nat.zero_add _).symm)).trans (H.kt 1 1 p d))
    (fun p d => (rd arg12 harg12 x10 _ _ _ _ _ (hi4 _ _ _ _ _ _ _ _ _ _ _ _ rfl rfl (Nat.zero_add _).symm (Nat.zero_add _).symm)).trans (H.vt 1 0 p d))
    (fun p d => (rd arg12 harg12 x10 _ _ _ _ _ (hi4 _ _ _ _ _ _ _ _ _ _ _ _ rfl rfl (Nat.zero_add _).symm (Nat.zero_add _).symm)).trans (H.vt 1 1 p d))
    e1
    (fun k p => (rd arg13 harg13 x11 _ _ _ _ _ (hi3 _ _ _ _ _ _ _ _ _ rfl (Nat.zero_add _).symm (Nat.zero_add _).symm)).trans (H.kst 1 k p))
    (fun k p => (rd arg14 harg14 x12 _ _ _ _ _ (hi3 _ _ _ _ _ _ _ _ _ rfl (Nat.zero_add _).symm (Nat.zero_add _).symm)).trans (H.vst 1 k p)))

include e2 in
theorem r2_0 (s : Fin 4) (g : Fin 8) (d : Fin 128) : (k0_pay262 (kernelRun0_B.sl.r_25 c arg3 harg3 arg5 harg5 arg16 harg16 arg18 x1 x3 xs0) (kernelRun0_B.sl.r_26 c arg3 harg3 arg5 harg5 arg16 harg16 arg18 x1 x3 xs0) (kernelRun0_B.sl.r_78 c i arg2 harg2 arg11 harg11 arg13 harg13 x0 x9 x11 xt0) (kernelRun0_B.sl.r_79 c i arg2 harg2 arg11 harg11 arg13 harg13 x0 x9 x11 xt0) (kernelRun0_B.sl.r_80 c i arg2 harg2 arg11 harg11 arg12 harg12 arg13 harg13 arg14 harg14 x0 x9 x10 x11 x12 xt0) (kernelRun0_B.sl.r_81 c arg3 harg3 arg5 harg5 arg6 harg6 arg16 harg16 arg17 harg17 arg18 x1 x3 x4 xs0 xs1)) (ix4 0 s g d) = res I (bRow t 2) s 0 g d :=
  (congrFun (p2_0 c i arg2 harg2 arg3 harg3 arg5 harg5 arg6 harg6 arg11 harg11 arg12 harg12 arg13 harg13 arg14 harg14 arg16 harg16 arg17 harg17 arg18 x0 x1 x3 x4 x9 x10 x11 x12 xt0 xs0 xs1) _).trans (res_of I R t 2 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 2 s g d))
    (fun d => (rd arg2 harg2 x0 _ _ _ _ _ (hi2 _ _ _ _ _ _ rfl (Nat.zero_add _).symm)).trans (H.q 2 s 0 g d))
    (fun j d => (rd arg5 harg5 x3 _ _ _ _ _ (hi2 _ _ _ _ _ _ (Nat.zero_add _).symm (Nat.zero_add _).symm)).trans (H.kn 2 j 0 d))
    (fun j d => (rd arg6 harg6 x4 _ _ _ _ _ (hi2 _ _ _ _ _ _ (Nat.zero_add _).symm (Nat.zero_add _).symm)).trans (H.vn 2 j 0 d))
    (k0_at arg16 harg16 xs0) (v0_at arg17 harg17 xs1) (s0 c arg3 harg3 arg16 harg16 arg18 x1 xs0)
    (fun p d => (rd arg11 harg11 x9 _ _ _ _ _ (hi4 _ _ _ _ _ _ _ _ _ _ _ _ rfl rfl (Nat.zero_add _).symm (Nat.zero_add _).symm)).trans (H.kt 2 0 p d))
    (fun p d => (rd arg11 harg11 x9 _ _ _ _ _ (hi4 _ _ _ _ _ _ _ _ _ _ _ _ rfl rfl (Nat.zero_add _).symm (Nat.zero_add _).symm)).trans (H.kt 2 1 p d))
    (fun p d => (rd arg12 harg12 x10 _ _ _ _ _ (hi4 _ _ _ _ _ _ _ _ _ _ _ _ rfl rfl (Nat.zero_add _).symm (Nat.zero_add _).symm)).trans (H.vt 2 0 p d))
    (fun p d => (rd arg12 harg12 x10 _ _ _ _ _ (hi4 _ _ _ _ _ _ _ _ _ _ _ _ rfl rfl (Nat.zero_add _).symm (Nat.zero_add _).symm)).trans (H.vt 2 1 p d))
    e2
    (fun k p => (rd arg13 harg13 x11 _ _ _ _ _ (hi3 _ _ _ _ _ _ _ _ _ rfl (Nat.zero_add _).symm (Nat.zero_add _).symm)).trans (H.kst 2 k p))
    (fun k p => (rd arg14 harg14 x12 _ _ _ _ _ (hi3 _ _ _ _ _ _ _ _ _ rfl (Nat.zero_add _).symm (Nat.zero_add _).symm)).trans (H.vst 2 k p)))

include e2 in
theorem r2_1 (s : Fin 4) (g : Fin 8) (d : Fin 128) : (k0_pay270 (kernelRun0_B.sl.r_82 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) (kernelRun0_B.sl.r_83 c i arg2 harg2 arg3 harg3 arg4 harg4 arg5 harg5 arg11 harg11 arg13 harg13 arg16 harg16 arg18 x0 x1 x2 x3 x9 x11 xt0 xs0)) (ix4 0 s g d) = res I (bRow t 2) s 1 g d :=
  (congrFun (p2_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) _).trans (res_of I R t 2 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 2 s g d))
    (fun d => (rd arg2 harg2 x0 _ _ _ _ _ (hi2 _ _ _ _ _ _ rfl (Nat.zero_add _).symm)).trans (H.q 2 s 1 g d))
    (fun j d => (rd arg5 harg5 x3 _ _ _ _ _ (hi2 _ _ _ _ _ _ (Nat.zero_add _).symm (Nat.zero_add _).symm)).trans (H.kn 2 j 1 d))
    (fun j d => (rd arg6 harg6 x4 _ _ _ _ _ (hi2 _ _ _ _ _ _ (Nat.zero_add _).symm (Nat.zero_add _).symm)).trans (H.vn 2 j 1 d))
    (k1_at arg16 harg16 xs0) (v1_at arg17 harg17 xs1) (s1 c arg3 harg3 arg4 harg4 arg16 harg16 arg18 x1 x2 xs0)
    (fun p d => (rd arg11 harg11 x9 _ _ _ _ _ (hi4 _ _ _ _ _ _ _ _ _ _ _ _ rfl rfl (Nat.zero_add _).symm (Nat.zero_add _).symm)).trans (H.kt 2 0 p d))
    (fun p d => (rd arg11 harg11 x9 _ _ _ _ _ (hi4 _ _ _ _ _ _ _ _ _ _ _ _ rfl rfl (Nat.zero_add _).symm (Nat.zero_add _).symm)).trans (H.kt 2 1 p d))
    (fun p d => (rd arg12 harg12 x10 _ _ _ _ _ (hi4 _ _ _ _ _ _ _ _ _ _ _ _ rfl rfl (Nat.zero_add _).symm (Nat.zero_add _).symm)).trans (H.vt 2 0 p d))
    (fun p d => (rd arg12 harg12 x10 _ _ _ _ _ (hi4 _ _ _ _ _ _ _ _ _ _ _ _ rfl rfl (Nat.zero_add _).symm (Nat.zero_add _).symm)).trans (H.vt 2 1 p d))
    e2
    (fun k p => (rd arg13 harg13 x11 _ _ _ _ _ (hi3 _ _ _ _ _ _ _ _ _ rfl (Nat.zero_add _).symm (Nat.zero_add _).symm)).trans (H.kst 2 k p))
    (fun k p => (rd arg14 harg14 x12 _ _ _ _ _ (hi3 _ _ _ _ _ _ _ _ _ rfl (Nat.zero_add _).symm (Nat.zero_add _).symm)).trans (H.vst 2 k p)))

include e3 in
theorem r3_0 (s : Fin 4) (g : Fin 8) (d : Fin 128) : (k0_pay286 (kernelRun0_B.sl.r_93 c i arg2 harg2 arg3 harg3 arg5 harg5 arg6 harg6 arg11 harg11 arg12 harg12 arg13 harg13 arg14 harg14 arg16 harg16 arg17 harg17 arg18 x0 x1 x3 x4 x9 x10 x11 x12 xt0 xs0 xs1)) (ix4 0 s g d) = res I (bRow t 3) s 0 g d :=
  (congrFun (p3_0 c i arg2 harg2 arg3 harg3 arg5 harg5 arg6 harg6 arg11 harg11 arg12 harg12 arg13 harg13 arg14 harg14 arg16 harg16 arg17 harg17 arg18 x0 x1 x3 x4 x9 x10 x11 x12 xt0 xs0 xs1) _).trans (res_of I R t 3 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 3 s g d))
    (fun d => (rd arg2 harg2 x0 _ _ _ _ _ (hi2 _ _ _ _ _ _ rfl (Nat.zero_add _).symm)).trans (H.q 3 s 0 g d))
    (fun j d => (rd arg5 harg5 x3 _ _ _ _ _ (hi2 _ _ _ _ _ _ (Nat.zero_add _).symm (Nat.zero_add _).symm)).trans (H.kn 3 j 0 d))
    (fun j d => (rd arg6 harg6 x4 _ _ _ _ _ (hi2 _ _ _ _ _ _ (Nat.zero_add _).symm (Nat.zero_add _).symm)).trans (H.vn 3 j 0 d))
    (k0_at arg16 harg16 xs0) (v0_at arg17 harg17 xs1) (s0 c arg3 harg3 arg16 harg16 arg18 x1 xs0)
    (fun p d => (rd arg11 harg11 x9 _ _ _ _ _ (hi4 _ _ _ _ _ _ _ _ _ _ _ _ rfl rfl (Nat.zero_add _).symm (Nat.zero_add _).symm)).trans (H.kt 3 0 p d))
    (fun p d => (rd arg11 harg11 x9 _ _ _ _ _ (hi4 _ _ _ _ _ _ _ _ _ _ _ _ rfl rfl (Nat.zero_add _).symm (Nat.zero_add _).symm)).trans (H.kt 3 1 p d))
    (fun p d => (rd arg12 harg12 x10 _ _ _ _ _ (hi4 _ _ _ _ _ _ _ _ _ _ _ _ rfl rfl (Nat.zero_add _).symm (Nat.zero_add _).symm)).trans (H.vt 3 0 p d))
    (fun p d => (rd arg12 harg12 x10 _ _ _ _ _ (hi4 _ _ _ _ _ _ _ _ _ _ _ _ rfl rfl (Nat.zero_add _).symm (Nat.zero_add _).symm)).trans (H.vt 3 1 p d))
    e3
    (fun k p => (rd arg13 harg13 x11 _ _ _ _ _ (hi3 _ _ _ _ _ _ _ _ _ rfl (Nat.zero_add _).symm (Nat.zero_add _).symm)).trans (H.kst 3 k p))
    (fun k p => (rd arg14 harg14 x12 _ _ _ _ _ (hi3 _ _ _ _ _ _ _ _ _ rfl (Nat.zero_add _).symm (Nat.zero_add _).symm)).trans (H.vst 3 k p)))

include e3 in
theorem r3_1 (s : Fin 4) (g : Fin 8) (d : Fin 128) : (k0_pay287 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (kernelRun0_B.sl.r_90 c i arg2 harg2 arg11 harg11 arg13 harg13 x0 x9 x11 xt0) (kernelRun0_B.sl.r_91 c i arg2 harg2 arg11 harg11 arg13 harg13 x0 x9 x11 xt0) (kernelRun0_B.sl.r_92 c i arg2 harg2 arg11 harg11 arg12 harg12 arg13 harg13 arg14 harg14 x0 x9 x10 x11 x12 xt0)) (ix4 0 s g d) = res I (bRow t 3) s 1 g d :=
  (congrFun (p3_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) _).trans (res_of I R t 3 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 3 s g d))
    (fun d => (rd arg2 harg2 x0 _ _ _ _ _ (hi2 _ _ _ _ _ _ rfl (Nat.zero_add _).symm)).trans (H.q 3 s 1 g d))
    (fun j d => (rd arg5 harg5 x3 _ _ _ _ _ (hi2 _ _ _ _ _ _ (Nat.zero_add _).symm (Nat.zero_add _).symm)).trans (H.kn 3 j 1 d))
    (fun j d => (rd arg6 harg6 x4 _ _ _ _ _ (hi2 _ _ _ _ _ _ (Nat.zero_add _).symm (Nat.zero_add _).symm)).trans (H.vn 3 j 1 d))
    (k1_at arg16 harg16 xs0) (v1_at arg17 harg17 xs1) (s1 c arg3 harg3 arg4 harg4 arg16 harg16 arg18 x1 x2 xs0)
    (fun p d => (rd arg11 harg11 x9 _ _ _ _ _ (hi4 _ _ _ _ _ _ _ _ _ _ _ _ rfl rfl (Nat.zero_add _).symm (Nat.zero_add _).symm)).trans (H.kt 3 0 p d))
    (fun p d => (rd arg11 harg11 x9 _ _ _ _ _ (hi4 _ _ _ _ _ _ _ _ _ _ _ _ rfl rfl (Nat.zero_add _).symm (Nat.zero_add _).symm)).trans (H.kt 3 1 p d))
    (fun p d => (rd arg12 harg12 x10 _ _ _ _ _ (hi4 _ _ _ _ _ _ _ _ _ _ _ _ rfl rfl (Nat.zero_add _).symm (Nat.zero_add _).symm)).trans (H.vt 3 0 p d))
    (fun p d => (rd arg12 harg12 x10 _ _ _ _ _ (hi4 _ _ _ _ _ _ _ _ _ _ _ _ rfl rfl (Nat.zero_add _).symm (Nat.zero_add _).symm)).trans (H.vt 3 1 p d))
    e3
    (fun k p => (rd arg13 harg13 x11 _ _ _ _ _ (hi3 _ _ _ _ _ _ _ _ _ rfl (Nat.zero_add _).symm (Nat.zero_add _).symm)).trans (H.kst 3 k p))
    (fun k p => (rd arg14 harg14 x12 _ _ _ _ _ (hi3 _ _ _ _ _ _ _ _ _ rfl (Nat.zero_add _).symm (Nat.zero_add _).symm)).trans (H.vst 3 k p)))

include e4 in
theorem r4_0 (s : Fin 4) (g : Fin 8) (d : Fin 128) : (k0_pay302 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (kernelRun0_B.sl.r_99 c arg12 harg12 x10) (kernelRun0_B.sl.r_100 c i arg2 harg2 arg11 harg11 arg13 harg13 x0 x9 x11 xt0) (kernelRun0_B.sl.r_101 c i arg2 harg2 arg11 harg11 arg13 harg13 x0 x9 x11 xt0) (kernelRun0_B.sl.r_102 c i arg2 harg2 arg11 harg11 arg13 harg13 x0 x9 x11 xt0) (kernelRun0_B.sl.r_103 c arg14 harg14 x12)) (ix4 0 s g d) = res I (bRow t 4) s 0 g d :=
  (congrFun (p4_0 c i arg2 harg2 arg3 harg3 arg5 harg5 arg6 harg6 arg11 harg11 arg12 harg12 arg13 harg13 arg14 harg14 arg16 harg16 arg17 harg17 arg18 x0 x1 x3 x4 x9 x10 x11 x12 xt0 xs0 xs1) _).trans (res_of I R t 4 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 4 s g d))
    (fun d => (rd arg2 harg2 x0 _ _ _ _ _ (hi2 _ _ _ _ _ _ rfl (Nat.zero_add _).symm)).trans (H.q 4 s 0 g d))
    (fun j d => (rd arg5 harg5 x3 _ _ _ _ _ (hi2 _ _ _ _ _ _ (Nat.zero_add _).symm (Nat.zero_add _).symm)).trans (H.kn 4 j 0 d))
    (fun j d => (rd arg6 harg6 x4 _ _ _ _ _ (hi2 _ _ _ _ _ _ (Nat.zero_add _).symm (Nat.zero_add _).symm)).trans (H.vn 4 j 0 d))
    (k0_at arg16 harg16 xs0) (v0_at arg17 harg17 xs1) (s0 c arg3 harg3 arg16 harg16 arg18 x1 xs0)
    (fun p d => (rd arg11 harg11 x9 _ _ _ _ _ (hi4 _ _ _ _ _ _ _ _ _ _ _ _ rfl rfl (Nat.zero_add _).symm (Nat.zero_add _).symm)).trans (H.kt 4 0 p d))
    (fun p d => (rd arg11 harg11 x9 _ _ _ _ _ (hi4 _ _ _ _ _ _ _ _ _ _ _ _ rfl rfl (Nat.zero_add _).symm (Nat.zero_add _).symm)).trans (H.kt 4 1 p d))
    (fun p d => (rd arg12 harg12 x10 _ _ _ _ _ (hi4 _ _ _ _ _ _ _ _ _ _ _ _ rfl rfl (Nat.zero_add _).symm (Nat.zero_add _).symm)).trans (H.vt 4 0 p d))
    (fun p d => (rd arg12 harg12 x10 _ _ _ _ _ (hi4 _ _ _ _ _ _ _ _ _ _ _ _ rfl rfl (Nat.zero_add _).symm (Nat.zero_add _).symm)).trans (H.vt 4 1 p d))
    e4
    (fun k p => (rd arg13 harg13 x11 _ _ _ _ _ (hi3 _ _ _ _ _ _ _ _ _ rfl (Nat.zero_add _).symm (Nat.zero_add _).symm)).trans (H.kst 4 k p))
    (fun k p => (rd arg14 harg14 x12 _ _ _ _ _ (hi3 _ _ _ _ _ _ _ _ _ rfl (Nat.zero_add _).symm (Nat.zero_add _).symm)).trans (H.vst 4 k p)))

include e4 in
theorem r4_1 (s : Fin 4) (g : Fin 8) (d : Fin 128) : (k0_pay312 (kernelRun0_B.sl.r_104 c arg3 harg3 arg4 harg4 arg5 harg5 arg6 harg6 arg16 harg16 arg17 harg17 arg18 x1 x2 x3 x4 xs0 xs1) (kernelRun0_B.sl.r_105 c arg3 harg3 arg4 harg4 arg5 harg5 arg16 harg16 arg18 x1 x2 x3 xs0) (kernelRun0_B.sl.r_106 c i arg2 harg2 arg11 harg11 arg12 harg12 arg13 harg13 arg14 harg14 x0 x9 x10 x11 x12 xt0) (kernelRun0_B.sl.r_107 c i arg2 harg2 arg11 harg11 arg13 harg13 x0 x9 x11 xt0) (kernelRun0_B.sl.r_108 c i arg2 harg2 arg3 harg3 arg4 harg4 arg5 harg5 arg11 harg11 arg13 harg13 arg16 harg16 arg18 x0 x1 x2 x3 x9 x11 xt0 xs0) (kernelRun0_B.sl.r_109 c i arg2 harg2 arg3 harg3 arg4 harg4 arg5 harg5 arg11 harg11 arg13 harg13 arg16 harg16 arg18 x0 x1 x2 x3 x9 x11 xt0 xs0)) (ix4 0 s g d) = res I (bRow t 4) s 1 g d :=
  (congrFun (p4_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) _).trans (res_of I R t 4 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 4 s g d))
    (fun d => (rd arg2 harg2 x0 _ _ _ _ _ (hi2 _ _ _ _ _ _ rfl (Nat.zero_add _).symm)).trans (H.q 4 s 1 g d))
    (fun j d => (rd arg5 harg5 x3 _ _ _ _ _ (hi2 _ _ _ _ _ _ (Nat.zero_add _).symm (Nat.zero_add _).symm)).trans (H.kn 4 j 1 d))
    (fun j d => (rd arg6 harg6 x4 _ _ _ _ _ (hi2 _ _ _ _ _ _ (Nat.zero_add _).symm (Nat.zero_add _).symm)).trans (H.vn 4 j 1 d))
    (k1_at arg16 harg16 xs0) (v1_at arg17 harg17 xs1) (s1 c arg3 harg3 arg4 harg4 arg16 harg16 arg18 x1 x2 xs0)
    (fun p d => (rd arg11 harg11 x9 _ _ _ _ _ (hi4 _ _ _ _ _ _ _ _ _ _ _ _ rfl rfl (Nat.zero_add _).symm (Nat.zero_add _).symm)).trans (H.kt 4 0 p d))
    (fun p d => (rd arg11 harg11 x9 _ _ _ _ _ (hi4 _ _ _ _ _ _ _ _ _ _ _ _ rfl rfl (Nat.zero_add _).symm (Nat.zero_add _).symm)).trans (H.kt 4 1 p d))
    (fun p d => (rd arg12 harg12 x10 _ _ _ _ _ (hi4 _ _ _ _ _ _ _ _ _ _ _ _ rfl rfl (Nat.zero_add _).symm (Nat.zero_add _).symm)).trans (H.vt 4 0 p d))
    (fun p d => (rd arg12 harg12 x10 _ _ _ _ _ (hi4 _ _ _ _ _ _ _ _ _ _ _ _ rfl rfl (Nat.zero_add _).symm (Nat.zero_add _).symm)).trans (H.vt 4 1 p d))
    e4
    (fun k p => (rd arg13 harg13 x11 _ _ _ _ _ (hi3 _ _ _ _ _ _ _ _ _ rfl (Nat.zero_add _).symm (Nat.zero_add _).symm)).trans (H.kst 4 k p))
    (fun k p => (rd arg14 harg14 x12 _ _ _ _ _ (hi3 _ _ _ _ _ _ _ _ _ rfl (Nat.zero_add _).symm (Nat.zero_add _).symm)).trans (H.vst 4 k p)))

include e5 in
theorem r5_0 (s : Fin 4) (g : Fin 8) (d : Fin 128) : (k0_pay332 (kernelRun0_B.sl.r_117 c arg3 harg3 arg5 harg5 arg16 harg16 arg18 x1 x3 xs0) (kernelRun0_B.sl.r_118 c i arg2 harg2 arg11 harg11 arg12 harg12 arg13 harg13 arg14 harg14 x0 x9 x10 x11 x12 xt0) (kernelRun0_B.sl.r_119 c i arg2 harg2 arg11 harg11 arg13 harg13 x0 x9 x11 xt0) (kernelRun0_B.sl.r_120 c i arg2 harg2 arg3 harg3 arg5 harg5 arg11 harg11 arg13 harg13 arg16 harg16 arg18 x0 x1 x3 x9 x11 xt0 xs0) (kernelRun0_B.sl.r_121 c i arg2 harg2 arg3 harg3 arg5 harg5 arg11 harg11 arg13 harg13 arg16 harg16 arg18 x0 x1 x3 x9 x11 xt0 xs0) (kernelRun0_B.sl.r_122 c i arg2 harg2 arg3 harg3 arg5 harg5 arg6 harg6 arg11 harg11 arg13 harg13 arg16 harg16 arg17 harg17 arg18 x0 x1 x3 x4 x9 x11 xt0 xs0 xs1)) (ix4 0 s g d) = res I (bRow t 5) s 0 g d :=
  (congrFun (p5_0 c i arg2 harg2 arg3 harg3 arg5 harg5 arg6 harg6 arg11 harg11 arg12 harg12 arg13 harg13 arg14 harg14 arg16 harg16 arg17 harg17 arg18 x0 x1 x3 x4 x9 x10 x11 x12 xt0 xs0 xs1) _).trans (res_of I R t 5 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 5 s g d))
    (fun d => (rd arg2 harg2 x0 _ _ _ _ _ (hi2 _ _ _ _ _ _ rfl (Nat.zero_add _).symm)).trans (H.q 5 s 0 g d))
    (fun j d => (rd arg5 harg5 x3 _ _ _ _ _ (hi2 _ _ _ _ _ _ (Nat.zero_add _).symm (Nat.zero_add _).symm)).trans (H.kn 5 j 0 d))
    (fun j d => (rd arg6 harg6 x4 _ _ _ _ _ (hi2 _ _ _ _ _ _ (Nat.zero_add _).symm (Nat.zero_add _).symm)).trans (H.vn 5 j 0 d))
    (k0_at arg16 harg16 xs0) (v0_at arg17 harg17 xs1) (s0 c arg3 harg3 arg16 harg16 arg18 x1 xs0)
    (fun p d => (rd arg11 harg11 x9 _ _ _ _ _ (hi4 _ _ _ _ _ _ _ _ _ _ _ _ rfl rfl (Nat.zero_add _).symm (Nat.zero_add _).symm)).trans (H.kt 5 0 p d))
    (fun p d => (rd arg11 harg11 x9 _ _ _ _ _ (hi4 _ _ _ _ _ _ _ _ _ _ _ _ rfl rfl (Nat.zero_add _).symm (Nat.zero_add _).symm)).trans (H.kt 5 1 p d))
    (fun p d => (rd arg12 harg12 x10 _ _ _ _ _ (hi4 _ _ _ _ _ _ _ _ _ _ _ _ rfl rfl (Nat.zero_add _).symm (Nat.zero_add _).symm)).trans (H.vt 5 0 p d))
    (fun p d => (rd arg12 harg12 x10 _ _ _ _ _ (hi4 _ _ _ _ _ _ _ _ _ _ _ _ rfl rfl (Nat.zero_add _).symm (Nat.zero_add _).symm)).trans (H.vt 5 1 p d))
    e5
    (fun k p => (rd arg13 harg13 x11 _ _ _ _ _ (hi3 _ _ _ _ _ _ _ _ _ rfl (Nat.zero_add _).symm (Nat.zero_add _).symm)).trans (H.kst 5 k p))
    (fun k p => (rd arg14 harg14 x12 _ _ _ _ _ (hi3 _ _ _ _ _ _ _ _ _ rfl (Nat.zero_add _).symm (Nat.zero_add _).symm)).trans (H.vst 5 k p)))

include e5 in
theorem r5_1 (s : Fin 4) (g : Fin 8) (d : Fin 128) : (k0_pay333 (kernelRun0_B.sl.r_49 c arg3 harg3 arg4 harg4 arg5 harg5 arg6 harg6 arg16 harg16 arg17 harg17 arg18 x1 x2 x3 x4 xs0 xs1) (kernelRun0_B.sl.r_50 c arg3 harg3 arg4 harg4 arg5 harg5 arg16 harg16 arg18 x1 x2 x3 xs0) (kernelRun0_B.sl.r_51 c arg3 harg3 arg4 harg4 arg5 harg5 arg16 harg16 arg18 x1 x2 x3 xs0) (kernelRun0_B.sl.r_114 c i arg2 harg2 arg11 harg11 arg13 harg13 x0 x9 x11 xt0) (kernelRun0_B.sl.r_115 c i arg2 harg2 arg11 harg11 arg13 harg13 x0 x9 x11 xt0) (kernelRun0_B.sl.r_116 c i arg2 harg2 arg11 harg11 arg12 harg12 arg13 harg13 arg14 harg14 x0 x9 x10 x11 x12 xt0)) (ix4 0 s g d) = res I (bRow t 5) s 1 g d :=
  (congrFun (p5_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) _).trans (res_of I R t 5 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 5 s g d))
    (fun d => (rd arg2 harg2 x0 _ _ _ _ _ (hi2 _ _ _ _ _ _ rfl (Nat.zero_add _).symm)).trans (H.q 5 s 1 g d))
    (fun j d => (rd arg5 harg5 x3 _ _ _ _ _ (hi2 _ _ _ _ _ _ (Nat.zero_add _).symm (Nat.zero_add _).symm)).trans (H.kn 5 j 1 d))
    (fun j d => (rd arg6 harg6 x4 _ _ _ _ _ (hi2 _ _ _ _ _ _ (Nat.zero_add _).symm (Nat.zero_add _).symm)).trans (H.vn 5 j 1 d))
    (k1_at arg16 harg16 xs0) (v1_at arg17 harg17 xs1) (s1 c arg3 harg3 arg4 harg4 arg16 harg16 arg18 x1 x2 xs0)
    (fun p d => (rd arg11 harg11 x9 _ _ _ _ _ (hi4 _ _ _ _ _ _ _ _ _ _ _ _ rfl rfl (Nat.zero_add _).symm (Nat.zero_add _).symm)).trans (H.kt 5 0 p d))
    (fun p d => (rd arg11 harg11 x9 _ _ _ _ _ (hi4 _ _ _ _ _ _ _ _ _ _ _ _ rfl rfl (Nat.zero_add _).symm (Nat.zero_add _).symm)).trans (H.kt 5 1 p d))
    (fun p d => (rd arg12 harg12 x10 _ _ _ _ _ (hi4 _ _ _ _ _ _ _ _ _ _ _ _ rfl rfl (Nat.zero_add _).symm (Nat.zero_add _).symm)).trans (H.vt 5 0 p d))
    (fun p d => (rd arg12 harg12 x10 _ _ _ _ _ (hi4 _ _ _ _ _ _ _ _ _ _ _ _ rfl rfl (Nat.zero_add _).symm (Nat.zero_add _).symm)).trans (H.vt 5 1 p d))
    e5
    (fun k p => (rd arg13 harg13 x11 _ _ _ _ _ (hi3 _ _ _ _ _ _ _ _ _ rfl (Nat.zero_add _).symm (Nat.zero_add _).symm)).trans (H.kst 5 k p))
    (fun k p => (rd arg14 harg14 x12 _ _ _ _ _ (hi3 _ _ _ _ _ _ _ _ _ rfl (Nat.zero_add _).symm (Nat.zero_add _).symm)).trans (H.vst 5 k p)))

include e6 in
theorem r6_0 (s : Fin 4) (g : Fin 8) (d : Fin 128) : (k0_pay343 (kernelRun0_B.sl.r_24 c arg3 harg3 arg5 harg5 arg6 harg6 arg16 harg16 arg17 harg17 arg18 x1 x3 x4 xs0 xs1) (kernelRun0_B.sl.r_25 c arg3 harg3 arg5 harg5 arg16 harg16 arg18 x1 x3 xs0) (kernelRun0_B.sl.r_26 c arg3 harg3 arg5 harg5 arg16 harg16 arg18 x1 x3 xs0) (kernelRun0_B.sl.r_126 c arg12 harg12 x10) (kernelRun0_B.sl.r_127 c i arg2 harg2 arg11 harg11 arg13 harg13 x0 x9 x11 xt0) (kernelRun0_B.sl.r_128 c i arg2 harg2 arg11 harg11 arg13 harg13 x0 x9 x11 xt0) (View.readAt (Elt Ideal) arg14.view (Rect.unit (s := S8x2x256) ![6, 0, 0] ![1, 2, 256] inb_S8x2x256_S1x2x256_6_0_0).toLoadRect (harg14.unread x12))) (ix4 0 s g d) = res I (bRow t 6) s 0 g d :=
  (congrFun (p6_0 c i arg2 harg2 arg3 harg3 arg5 harg5 arg6 harg6 arg11 harg11 arg12 harg12 arg13 harg13 arg14 harg14 arg16 harg16 arg17 harg17 arg18 x0 x1 x3 x4 x9 x10 x11 x12 xt0 xs0 xs1) _).trans (res_of I R t 6 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 6 s g d))
    (fun d => (rd arg2 harg2 x0 _ _ _ _ _ (hi2 _ _ _ _ _ _ rfl (Nat.zero_add _).symm)).trans (H.q 6 s 0 g d))
    (fun j d => (rd arg5 harg5 x3 _ _ _ _ _ (hi2 _ _ _ _ _ _ (Nat.zero_add _).symm (Nat.zero_add _).symm)).trans (H.kn 6 j 0 d))
    (fun j d => (rd arg6 harg6 x4 _ _ _ _ _ (hi2 _ _ _ _ _ _ (Nat.zero_add _).symm (Nat.zero_add _).symm)).trans (H.vn 6 j 0 d))
    (k0_at arg16 harg16 xs0) (v0_at arg17 harg17 xs1) (s0 c arg3 harg3 arg16 harg16 arg18 x1 xs0)
    (fun p d => (rd arg11 harg11 x9 _ _ _ _ _ (hi4 _ _ _ _ _ _ _ _ _ _ _ _ rfl rfl (Nat.zero_add _).symm (Nat.zero_add _).symm)).trans (H.kt 6 0 p d))
    (fun p d => (rd arg11 harg11 x9 _ _ _ _ _ (hi4 _ _ _ _ _ _ _ _ _ _ _ _ rfl rfl (Nat.zero_add _).symm (Nat.zero_add _).symm)).trans (H.kt 6 1 p d))
    (fun p d => (rd arg12 harg12 x10 _ _ _ _ _ (hi4 _ _ _ _ _ _ _ _ _ _ _ _ rfl rfl (Nat.zero_add _).symm (Nat.zero_add _).symm)).trans (H.vt 6 0 p d))
    (fun p d => (rd arg12 harg12 x10 _ _ _ _ _ (hi4 _ _ _ _ _ _ _ _ _ _ _ _ rfl rfl (Nat.zero_add _).symm (Nat.zero_add _).symm)).trans (H.vt 6 1 p d))
    e6
    (fun k p => (rd arg13 harg13 x11 _ _ _ _ _ (hi3 _ _ _ _ _ _ _ _ _ rfl (Nat.zero_add _).symm (Nat.zero_add _).symm)).trans (H.kst 6 k p))
    (fun k p => (rd arg14 harg14 x12 _ _ _ _ _ (hi3 _ _ _ _ _ _ _ _ _ rfl (Nat.zero_add _).symm (Nat.zero_add _).symm)).trans (H.vst 6 k p)))

include e6 in
theorem r6_1 (s : Fin 4) (g : Fin 8) (d : Fin 128) : (k0_pay349 (kernelRun0_B.sl.r_129 c i arg2 harg2 arg11 harg11 arg13 harg13 x0 x9 x11 xt0) (kernelRun0_B.sl.r_130 c arg3 harg3 arg4 harg4 arg5 harg5 arg6 harg6 arg16 harg16 arg17 harg17 arg18 x1 x2 x3 x4 xs0 xs1) (kernelRun0_B.sl.r_131 c arg3 harg3 arg4 harg4 arg5 harg5 arg16 harg16 arg18 x1 x2 x3 xs0) (kernelRun0_B.sl.r_132 c arg3 harg3 arg4 harg4 arg5 harg5 arg16 harg16 arg18 x1 x2 x3 xs0) (kernelRun0_B.sl.r_133 c i arg2 harg2 arg11 harg11 arg12 harg12 arg13 harg13 arg14 harg14 x0 x9 x10 x11 x12 xt0) (kernelRun0_B.sl.r_134 c i arg2 harg2 arg11 harg11 arg13 harg13 x0 x9 x11 xt0)) (ix4 0 s g d) = res I (bRow t 6) s 1 g d :=
  (congrFun (p6_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) _).trans (res_of I R t 6 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 6 s g d))
    (fun d => (rd arg2 harg2 x0 _ _ _ _ _ (hi2 _ _ _ _ _ _ rfl (Nat.zero_add _).symm)).trans (H.q 6 s 1 g d))
    (fun j d => (rd arg5 harg5 x3 _ _ _ _ _ (hi2 _ _ _ _ _ _ (Nat.zero_add _).symm (Nat.zero_add _).symm)).trans (H.kn 6 j 1 d))
    (fun j d => (rd arg6 harg6 x4 _ _ _ _ _ (hi2 _ _ _ _ _ _ (Nat.zero_add _).symm (Nat.zero_add _).symm)).trans (H.vn 6 j 1 d))
    (k1_at arg16 harg16 xs0) (v1_at arg17 harg17 xs1) (s1 c arg3 harg3 arg4 harg4 arg16 harg16 arg18 x1 x2 xs0)
    (fun p d => (rd arg11 harg11 x9 _ _ _ _ _ (hi4 _ _ _ _ _ _ _ _ _ _ _ _ rfl rfl (Nat.zero_add _).symm (Nat.zero_add _).symm)).trans (H.kt 6 0 p d))
    (fun p d => (rd arg11 harg11 x9 _ _ _ _ _ (hi4 _ _ _ _ _ _ _ _ _ _ _ _ rfl rfl (Nat.zero_add _).symm (Nat.zero_add _).symm)).trans (H.kt 6 1 p d))
    (fun p d => (rd arg12 harg12 x10 _ _ _ _ _ (hi4 _ _ _ _ _ _ _ _ _ _ _ _ rfl rfl (Nat.zero_add _).symm (Nat.zero_add _).symm)).trans (H.vt 6 0 p d))
    (fun p d => (rd arg12 harg12 x10 _ _ _ _ _ (hi4 _ _ _ _ _ _ _ _ _ _ _ _ rfl rfl (Nat.zero_add _).symm (Nat.zero_add _).symm)).trans (H.vt 6 1 p d))
    e6
    (fun k p => (rd arg13 harg13 x11 _ _ _ _ _ (hi3 _ _ _ _ _ _ _ _ _ rfl (Nat.zero_add _).symm (Nat.zero_add _).symm)).trans (H.kst 6 k p))
    (fun k p => (rd arg14 harg14 x12 _ _ _ _ _ (hi3 _ _ _ _ _ _ _ _ _ rfl (Nat.zero_add _).symm (Nat.zero_add _).symm)).trans (H.vst 6 k p)))

include e7 in
theorem r7_0 (s : Fin 4) (g : Fin 8) (d : Fin 128) : (k0_pay367 (kernelRun0_B.sl.r_142 c arg3 harg3 arg5 harg5 arg6 harg6 arg16 harg16 arg17 harg17 arg18 x1 x3 x4 xs0 xs1) (kernelRun0_B.sl.r_143 c arg3 harg3 arg5 harg5 arg16 harg16 arg18 x1 x3 xs0) (kernelRun0_B.sl.r_144 c arg3 harg3 arg5 harg5 arg16 harg16 arg18 x1 x3 xs0) (kernelRun0_B.sl.r_145 c i arg2 harg2 arg11 harg11 arg12 harg12 arg13 harg13 arg14 harg14 x0 x9 x10 x11 x12 xt0) (kernelRun0_B.sl.r_146 c i arg2 harg2 arg11 harg11 arg13 harg13 x0 x9 x11 xt0) (kernelRun0_B.sl.r_147 c i arg2 harg2 arg11 harg11 arg13 harg13 x0 x9 x11 xt0)) (ix4 0 s g d) = res I (bRow t 7) s 0 g d :=
  (congrFun (p7_0 c i arg2 harg2 arg3 harg3 arg5 harg5 arg6 harg6 arg11 harg11 arg12 harg12 arg13 harg13 arg14 harg14 arg16 harg16 arg17 harg17 arg18 x0 x1 x3 x4 x9 x10 x11 x12 xt0 xs0 xs1) _).trans (res_of I R t 7 0 s g d Z _ _ _ _ _ _ _ _ _ _ _ _ _ _
    (fun s g d => (rd arg3 harg3 x1 _ _ _ _ _ (hi4 _ _ _ _ _ _ _ _ _ _ _ _ (Nat.zero_add _).symm (Nat.zero_add _).symm (Nat.zero_add _).symm (Nat.zero_add _).symm)).trans (H.x_0 7 s g d))
    (fun d => (rd arg2 harg2 x0 _ _ _ _ _ (hi2 _ _ _ _ _ _ rfl (Nat.zero_add _).symm)).trans (H.q 7 s 0 g d))
    (fun j d => (rd arg5 harg5 x3 _ _ _ _ _ (hi2 _ _ _ _ _ _ (Nat.zero_add _).symm (Nat.zero_add _).symm)).trans (H.kn 7 j 0 d))
    (fun j d => (rd arg6 harg6 x4 _ _ _ _ _ (hi2 _ _ _ _ _ _ (Nat.zero_add _).symm (Nat.zero_add _).symm)).trans (H.vn 7 j 0 d))
    (k0_at arg16 harg16 xs0) (v0_at arg17 harg17 xs1) (s0 c arg3 harg3 arg16 harg16 arg18 x1 xs0)
    (fun p d => (rd arg11 harg11 x9 _ _ _ _ _ (hi4 _ _ _ _ _ _ _ _ _ _ _ _ rfl rfl (Nat.zero_add _).symm (Nat.zero_add _).symm)).trans (H.kt 7 0 p d))
    (fun p d => (rd arg11 harg11 x9 _ _ _ _ _ (hi4 _ _ _ _ _ _ _ _ _ _ _ _ rfl rfl (Nat.zero_add _).symm (Nat.zero_add _).symm)).trans (H.kt 7 1 p d))
    (fun p d => (rd arg12 harg12 x10 _ _ _ _ _ (hi4 _ _ _ _ _ _ _ _ _ _ _ _ rfl rfl (Nat.zero_add _).symm (Nat.zero_add _).symm)).trans (H.vt 7 0 p d))
    (fun p d => (rd arg12 harg12 x10 _ _ _ _ _ (hi4 _ _ _ _ _ _ _ _ _ _ _ _ rfl rfl (Nat.zero_add _).symm (Nat.zero_add _).symm)).trans (H.vt 7 1 p d))
    e7
    (fun k p => (rd arg13 harg13 x11 _ _ _ _ _ (hi3 _ _ _ _ _ _ _ _ _ rfl (Nat.zero_add _).symm (Nat.zero_add _).symm)).trans (H.kst 7 k p))
    (fun k p => (rd arg14 harg14 x12 _ _ _ _ _ (hi3 _ _ _ _ _ _ _ _ _ rfl (Nat.zero_add _).symm (Nat.zero_add _).symm)).trans (H.vst 7 k p)))

include e7 in
theorem r7_1 (s : Fin 4) (g : Fin 8) (d : Fin 128) : (kernelRun0_B.sl.r_148 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) (ix4 0 s g d) = res I (bRow t 7) s 1 g d :=
  (congrFun (p7_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1) _).trans (res_of I R t 7 1 s g d Z _ _ _ _ _ _ _ _ _ _ _ _ _ _
    (fun s g d => (rd arg4 harg4 x2 _ _ _ _ _ (hi4 _ _ _ _ _ _ _ _ _ _ _ _ (Nat.zero_add _).symm (Nat.zero_add _).symm (Nat.zero_add _).symm (Nat.zero_add _).symm)).trans (H.x_1 7 s g d))
    (fun d => (rd arg2 harg2 x0 _ _ _ _ _ (hi2 _ _ _ _ _ _ rfl (Nat.zero_add _).symm)).trans (H.q 7 s 1 g d))
    (fun j d => (rd arg5 harg5 x3 _ _ _ _ _ (hi2 _ _ _ _ _ _ (Nat.zero_add _).symm (Nat.zero_add _).symm)).trans (H.kn 7 j 1 d))
    (fun j d => (rd arg6 harg6 x4 _ _ _ _ _ (hi2 _ _ _ _ _ _ (Nat.zero_add _).symm (Nat.zero_add _).symm)).trans (H.vn 7 j 1 d))
    (k1_at arg16 harg16 xs0) (v1_at arg17 harg17 xs1) (s1 c arg3 harg3 arg4 harg4 arg16 harg16 arg18 x1 x2 xs0)
    (fun p d => (rd arg11 harg11 x9 _ _ _ _ _ (hi4 _ _ _ _ _ _ _ _ _ _ _ _ rfl rfl (Nat.zero_add _).symm (Nat.zero_add _).symm)).trans (H.kt 7 0 p d))
    (fun p d => (rd arg11 harg11 x9 _ _ _ _ _ (hi4 _ _ _ _ _ _ _ _ _ _ _ _ rfl rfl (Nat.zero_add _).symm (Nat.zero_add _).symm)).trans (H.kt 7 1 p d))
    (fun p d => (rd arg12 harg12 x10 _ _ _ _ _ (hi4 _ _ _ _ _ _ _ _ _ _ _ _ rfl rfl (Nat.zero_add _).symm (Nat.zero_add _).symm)).trans (H.vt 7 0 p d))
    (fun p d => (rd arg12 harg12 x10 _ _ _ _ _ (hi4 _ _ _ _ _ _ _ _ _ _ _ _ rfl rfl (Nat.zero_add _).symm (Nat.zero_add _).symm)).trans (H.vt 7 1 p d))
    e7
    (fun k p => (rd arg13 harg13 x11 _ _ _ _ _ (hi3 _ _ _ _ _ _ _ _ _ rfl (Nat.zero_add _).symm (Nat.zero_add _).symm)).trans (H.kst 7 k p))
    (fun k p => (rd arg14 harg14 x12 _ _ _ _ _ (hi3 _ _ _ _ _ _ _ _ _ rfl (Nat.zero_add _).symm (Nat.zero_add _).symm)).trans (H.vst 7 k p)))

include e0 e1 e2 e3 e4 e5 e6 e7 in
/-- The sixteen stores leave the block of results. -/
theorem block : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1 = resBlk I t := by
  funext y
  have cov := cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1 y
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1)]
  unfold kernelRun0_B at cov ⊢
  dsimp only at cov ⊢
  canon_tiles x h using cov
  · exact fin_piece I t 7 1 _ (r7_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 I R t Z H e7) x y h0 (h1.trans (Nat.zero_add _).symm) h2 (h3.trans (Nat.zero_add _).symm)
  · exact fin_piece I t 7 0 _ (r7_0 c i arg2 harg2 arg3 harg3 arg5 harg5 arg6 harg6 arg11 harg11 arg12 harg12 arg13 harg13 arg14 harg14 arg16 harg16 arg17 harg17 arg18 x0 x1 x2 x3 x4 x9 x10 x11 x12 xt0 xs0 xs1 I R t Z H e7) x y h0 (h1.trans (Nat.zero_add _).symm) (h2.trans (Nat.zero_add _).symm) (h3.trans (Nat.zero_add _).symm)
  · exact fin_piece I t 6 1 _ (r6_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 I R t Z H e6) x y h0 (h1.trans (Nat.zero_add _).symm) h2 (h3.trans (Nat.zero_add _).symm)
  · exact fin_piece I t 6 0 _ (r6_0 c i arg2 harg2 arg3 harg3 arg5 harg5 arg6 harg6 arg11 harg11 arg12 harg12 arg13 harg13 arg14 harg14 arg16 harg16 arg17 harg17 arg18 x0 x1 x2 x3 x4 x9 x10 x11 x12 xt0 xs0 xs1 I R t Z H e6) x y h0 (h1.trans (Nat.zero_add _).symm) (h2.trans (Nat.zero_add _).symm) (h3.trans (Nat.zero_add _).symm)
  · exact fin_piece I t 5 1 _ (r5_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 I R t Z H e5) x y h0 (h1.trans (Nat.zero_add _).symm) h2 (h3.trans (Nat.zero_add _).symm)
  · exact fin_piece I t 5 0 _ (r5_0 c i arg2 harg2 arg3 harg3 arg5 harg5 arg6 harg6 arg11 harg11 arg12 harg12 arg13 harg13 arg14 harg14 arg16 harg16 arg17 harg17 arg18 x0 x1 x2 x3 x4 x9 x10 x11 x12 xt0 xs0 xs1 I R t Z H e5) x y h0 (h1.trans (Nat.zero_add _).symm) (h2.trans (Nat.zero_add _).symm) (h3.trans (Nat.zero_add _).symm)
  · exact fin_piece I t 4 1 _ (r4_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 I R t Z H e4) x y h0 (h1.trans (Nat.zero_add _).symm) h2 (h3.trans (Nat.zero_add _).symm)
  · exact fin_piece I t 4 0 _ (r4_0 c i arg2 harg2 arg3 harg3 arg5 harg5 arg6 harg6 arg11 harg11 arg12 harg12 arg13 harg13 arg14 harg14 arg16 harg16 arg17 harg17 arg18 x0 x1 x2 x3 x4 x9 x10 x11 x12 xt0 xs0 xs1 I R t Z H e4) x y h0 (h1.trans (Nat.zero_add _).symm) (h2.trans (Nat.zero_add _).symm) (h3.trans (Nat.zero_add _).symm)
  · exact fin_piece I t 3 1 _ (r3_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 I R t Z H e3) x y h0 (h1.trans (Nat.zero_add _).symm) h2 (h3.trans (Nat.zero_add _).symm)
  · exact fin_piece I t 3 0 _ (r3_0 c i arg2 harg2 arg3 harg3 arg5 harg5 arg6 harg6 arg11 harg11 arg12 harg12 arg13 harg13 arg14 harg14 arg16 harg16 arg17 harg17 arg18 x0 x1 x2 x3 x4 x9 x10 x11 x12 xt0 xs0 xs1 I R t Z H e3) x y h0 (h1.trans (Nat.zero_add _).symm) (h2.trans (Nat.zero_add _).symm) (h3.trans (Nat.zero_add _).symm)
  · exact fin_piece I t 2 1 _ (r2_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 I R t Z H e2) x y h0 (h1.trans (Nat.zero_add _).symm) h2 (h3.trans (Nat.zero_add _).symm)
  · exact fin_piece I t 2 0 _ (r2_0 c i arg2 harg2 arg3 harg3 arg5 harg5 arg6 harg6 arg11 harg11 arg12 harg12 arg13 harg13 arg14 harg14 arg16 harg16 arg17 harg17 arg18 x0 x1 x2 x3 x4 x9 x10 x11 x12 xt0 xs0 xs1 I R t Z H e2) x y h0 (h1.trans (Nat.zero_add _).symm) (h2.trans (Nat.zero_add _).symm) (h3.trans (Nat.zero_add _).symm)
  · exact fin_piece I t 1 1 _ (r1_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 I R t Z H e1) x y h0 (h1.trans (Nat.zero_add _).symm) h2 (h3.trans (Nat.zero_add _).symm)
  · exact fin_piece I t 1 0 _ (r1_0 c i arg2 harg2 arg3 harg3 arg5 harg5 arg6 harg6 arg11 harg11 arg12 harg12 arg13 harg13 arg14 harg14 arg16 harg16 arg17 harg17 arg18 x0 x1 x2 x3 x4 x9 x10 x11 x12 xt0 xs0 xs1 I R t Z H e1) x y h0 (h1.trans (Nat.zero_add _).symm) (h2.trans (Nat.zero_add _).symm) (h3.trans (Nat.zero_add _).symm)
  · exact fin_piece I t 0 1 _ (r0_1 c i arg2 harg2 arg3 harg3 arg4 harg4 arg5 harg5 arg6 harg6 arg11 harg11 arg12 harg12 arg13 harg13 arg14 harg14 arg16 harg16 arg17 harg17 arg18 x0 x1 x2 x3 x4 x9 x10 x11 x12 xt0 xs0 xs1 I R t Z H e0) x y (h0.trans (Nat.zero_add _).symm) (h1.trans (Nat.zero_add _).symm) h2 (h3.trans (Nat.zero_add _).symm)
  · exact fin_piece I t 0 0 _ (r0_0 c i arg2 harg2 arg3 harg3 arg5 harg5 arg6 harg6 arg11 harg11 arg12 harg12 arg13 harg13 arg14 harg14 arg16 harg16 arg17 harg17 arg18 x0 x1 x2 x3 x4 x9 x10 x11 x12 xt0 xs0 xs1 I R t Z H e0) x y (h0.trans (Nat.zero_add _).symm) (h1.trans (Nat.zero_add _).symm) (h2.trans (Nat.zero_add _).symm) (h3.trans (Nat.zero_add _).symm)

end Cert.CaseB

end
-- ==== Proof.Points.lean ====
/- What every grid point leaves: its block of the result, and the scratch arrays filled. -/
module

public import proofs.«01_k».proof.Proof.Blocks
public import proofs.«01_k».proof.Proof.CaseA
public import proofs.«01_k».proof.Proof.CaseB

@[expose] public section

set_option maxRecDepth 16384
set_option maxHeartbeats 400000

noncomputable section

namespace Cert.Points

open Idealize.ShloMosaic Idealize.ShloMosaic.TcCoe Cert.KernelIdeal Cert.KernelIdeal.Gen Cert.Block

/-- What a grid point is to leave. -/
def Pt (I : Inp) (t : Fin 128) (p : Vec Ideal S8x4x16x128 .bf16 × Vec Ideal S2x2304x256 .bf16 × Vec Ideal S2x128x2304 .bf16) : Prop :=
  p.1 = resBlk I t ∧ ScrOk I p.2.1 p.2.2

theorem pt_mk (I : Inp) (t : Fin 128) (o : Vec Ideal S8x4x16x128 .bf16) (k : Vec Ideal S2x2304x256 .bf16) (v : Vec Ideal S2x128x2304 .bf16)
    (ho : o = resBlk I t) (h : ScrOk I k v) : Pt I t (o, k, v) := ⟨ho, h⟩

section
variable (c : Dev nD) (i : grid0.Coords) (arg2 : Memref sig .tc .vmem S512x128 .bf16) (harg2 : arg2.IsWhole) (arg3 : Memref sig .tc .vmem S32x1x8x128 .bf16) (harg3 : arg3.IsWhole) (arg4 : Memref sig .tc .vmem S32x1x8x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S2x2304x128 .fp8e4m3) (harg7 : arg7.IsWhole) (arg8 : Memref sig .tc .vmem S2x2304x128 .fp8e4m3) (harg8 : arg8.IsWhole) (arg9 : Memref sig .tc .vmem S2x2304 .f32) (harg9 : arg9.IsWhole) (arg10 : Memref sig .tc .vmem S2x2304 .f32) (harg10 : arg10.IsWhole) (arg11 : Memref sig .tc .vmem S8x2x256x128 .fp8e4m3) (harg11 : arg11.IsWhole) (arg12 : Memref sig .tc .vmem S8x2x256x128 .fp8e4m3) (harg12 : arg12.IsWhole) (arg13 : Memref sig .tc .vmem S8x2x256 .f32) (harg13 : arg13.IsWhole) (arg14 : Memref sig .tc .vmem S8x2x256 .f32) (harg14 : arg14.IsWhole) (arg15 : Memref sig .tc .vmem S8x4x16x128 .bf16) (harg15 : arg15.IsWhole) (arg16 : Memref sig .tc .vmem S2x2304x256 .bf16) (harg16 : arg16.IsWhole) (arg17 : Memref sig .tc .vmem S2x128x2304 .bf16) (harg17 : arg17.IsWhole) (arg18 : Memref sig .tc .vmem S2x2304x256 .f32) (harg18 : arg18.IsWhole) (hc0 : cond0_0 i) (x0 : Vec Ideal S512x128 .bf16) (x1 : Vec Ideal S32x1x8x128 .bf16) (x2 : Vec Ideal S32x1x8x128 .bf16) (x3 : Vec Ideal S64x128 .bf16) (x4 : Vec Ideal S64x128 .bf16) (x5 : Vec Ideal S2x2304x128 .fp8e4m3) (x6 : Vec Ideal S2x2304x128 .fp8e4m3) (x7 : Vec Ideal S2x2304 .f32) (x8 : Vec Ideal S2x2304 .f32) (x9 : Vec Ideal S8x2x256x128 .fp8e4m3) (x10 : Vec Ideal S8x2x256x128 .fp8e4m3) (x11 : Vec Ideal S8x2x256 .f32) (x12 : Vec Ideal S8x2x256 .f32) (xt0 : TbBuf0 (F := Ideal) c tbM0_0)

/-- The first point. -/
theorem caseA (I : Inp) (R : I.Real) (t : Fin 128) (K : Fill.FillOk I x5 x6 x7 x8) (H : BlkOk I t x0 x1 x2 x3 x4 x9 x10 x11 x12)
    (e0 : kernelRun0_A.sl.r_91 c i xt0 = I.len (bRow t 0))
    (e1 : kernelRun0_A.sl.r_102 c i xt0 = I.len (bRow t 1))
    (e2 : kernelRun0_A.sl.r_113 c i xt0 = I.len (bRow t 2))
    (e3 : kernelRun0_A.sl.r_121 c i xt0 = I.len (bRow t 3))
    (e4 : kernelRun0_A.sl.r_134 c i xt0 = I.len (bRow t 4))
    (e5 : kernelRun0_A.sl.r_147 c i xt0 = I.len (bRow t 5))
    (e6 : kernelRun0_A.sl.r_161 c i xt0 = I.len (bRow t 6))
    (e7 : kernelRun0_A.sl.r_174 c i xt0 = I.len (bRow t 7)) :
    Pt I t (out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0, sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0) := by
  have hs : ScrOk I (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0) := by
    rw [FillA.sout0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 I R K, FillA.sout1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 I R K]
    exact Fill.scrOk I
  have hz : ScrOk I (View.canon (kernelRun0_A.sl.HS0_36 c arg7 harg7 arg9 harg9 x5 x7)) (View.canon (kernelRun0_A.sl.HS1_36 c arg8 harg8 arg10 harg10 x6 x8)) := by
    rw [FillA.canon0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 I R K, FillA.canon1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 I R K]
    exact Fill.scrOk I
  exact pt_mk I t _ _ _ (CaseA.block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 I R t hz H e0 e1 e2 e3 e4 e5 e6 e7) hs
end

section
variable (c : Dev nD) (i : grid0.Coords) (arg2 : Memref sig .tc .vmem S512x128 .bf16) (harg2 : arg2.IsWhole) (arg3 : Memref sig .tc .vmem S32x1x8x128 .bf16) (harg3 : arg3.IsWhole) (arg4 : Memref sig .tc .vmem S32x1x8x128 .bf16) (harg4 : arg4.IsWhole) (arg5 : Memref sig .tc .vmem S64x128 .bf16) (harg5 : arg5.IsWhole) (arg6 : Memref sig .tc .vmem S64x128 .bf16) (harg6 : arg6.IsWhole) (arg7 : Memref sig .tc .vmem S2x2304x128 .fp8e4m3) (harg7 : arg7.IsWhole) (arg8 : Memref sig .tc .vmem S2x2304x128 .fp8e4m3) (harg8 : arg8.IsWhole) (arg9 : Memref sig .tc .vmem S2x2304 .f32) (harg9 : arg9.IsWhole) (arg10 : Memref sig .tc .vmem S2x2304 .f32) (harg10 : arg10.IsWhole) (arg11 : Memref sig .tc .vmem S8x2x256x128 .fp8e4m3) (harg11 : arg11.IsWhole) (arg12 : Memref sig .tc .vmem S8x2x256x128 .fp8e4m3) (harg12 : arg12.IsWhole) (arg13 : Memref sig .tc .vmem S8x2x256 .f32) (harg13 : arg13.IsWhole) (arg14 : Memref sig .tc .vmem S8x2x256 .f32) (harg14 : arg14.IsWhole) (arg15 : Memref sig .tc .vmem S8x4x16x128 .bf16) (harg15 : arg15.IsWhole) (arg16 : Memref sig .tc .vmem S2x2304x256 .bf16) (harg16 : arg16.IsWhole) (arg17 : Memref sig .tc .vmem S2x128x2304 .bf16) (harg17 : arg17.IsWhole) (arg18 : Memref sig .tc .vmem S2x2304x256 .f32) (harg18 : arg18.IsWhole) (hc0 : ¬cond0_0 i) (x0 : Vec Ideal S512x128 .bf16) (x1 : Vec Ideal S32x1x8x128 .bf16) (x2 : Vec Ideal S32x1x8x128 .bf16) (x3 : Vec Ideal S64x128 .bf16) (x4 : Vec Ideal S64x128 .bf16) (x5 : Vec Ideal S2x2304x128 .fp8e4m3) (x6 : Vec Ideal S2x2304x128 .fp8e4m3) (x7 : Vec Ideal S2x2304 .f32) (x8 : Vec Ideal S2x2304 .f32) (x9 : Vec Ideal S8x2x256x128 .fp8e4m3) (x10 : Vec Ideal S8x2x256x128 .fp8e4m3) (x11 : Vec Ideal S8x2x256 .f32) (x12 : Vec Ideal S8x2x256 .f32) (xt0 : TbBuf0 (F := Ideal) c tbM0_0) (xs0 : Vec Ideal S2x2304x256 .bf16) (xs1 : Vec Ideal S2x128x2304 .bf16)

/-- Every later point. -/
theorem caseB (I : Inp) (R : I.Real) (t : Fin 128) (Z : ScrOk I xs0 xs1) (H : BlkOk I t x0 x1 x2 x3 x4 x9 x10 x11 x12)
    (e0 : kernelRun0_B.sl.r_55 c i xt0 = I.len (bRow t 0))
    (e1 : kernelRun0_B.sl.r_66 c i xt0 = I.len (bRow t 1))
    (e2 : kernelRun0_B.sl.r_77 c i xt0 = I.len (bRow t 2))
    (e3 : kernelRun0_B.sl.r_85 c i xt0 = I.len (bRow t 3))
    (e4 : kernelRun0_B.sl.r_98 c i xt0 = I.len (bRow t 4))
    (e5 : kernelRun0_B.sl.r_111 c i xt0 = I.len (bRow t 5))
    (e6 : kernelRun0_B.sl.r_125 c i xt0 = I.len (bRow t 6))
    (e7 : kernelRun0_B.sl.r_138 c i xt0 = I.len (bRow t 7)) :
    Pt I t (out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1, sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1) := by
  have hs : ScrOk I (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1) (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1) := by
    unfold sout0_B_0 sout0_B_1
    exact Z
  exact pt_mk I t _ _ _ (CaseB.block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xt0 xs0 xs1 I R t Z H e0 e1 e2 e3 e4 e5 e6 e7) hs
end

variable (m : (ℓ : Loc nD τ sig) → Buf (Elt Ideal) ℓ) (hO : Ok m) (c : Dev nD)

theorem off0 : ∀ t : Fin grid0.N, k0_off1 (grid0.coords t) 0#32 = ![8 * t.val + 0] := by decide +kernel
theorem off1 : ∀ t : Fin grid0.N, k0_off1 (grid0.coords t) 1#32 = ![8 * t.val + 1] := by decide +kernel
theorem off2 : ∀ t : Fin grid0.N, k0_off1 (grid0.coords t) 2#32 = ![8 * t.val + 2] := by decide +kernel
theorem off3 : ∀ t : Fin grid0.N, k0_off1 (grid0.coords t) 3#32 = ![8 * t.val + 3] := by decide +kernel
theorem off4 : ∀ t : Fin grid0.N, k0_off1 (grid0.coords t) 4#32 = ![8 * t.val + 4] := by decide +kernel
theorem off5 : ∀ t : Fin grid0.N, k0_off1 (grid0.coords t) 5#32 = ![8 * t.val + 5] := by decide +kernel
theorem off6 : ∀ t : Fin grid0.N, k0_off1 (grid0.coords t) 6#32 = ![8 * t.val + 6] := by decide +kernel
theorem off7 : ∀ t : Fin grid0.N, k0_off1 (grid0.coords t) 7#32 = ![8 * t.val + 7] := by decide +kernel

/-- The length word at place `8·t + b` of the table. -/
theorem word (t : Fin 128) (b : Fin 8) (off : Fin 1 → ℕ) (ho : off = ![8 * t.val + b.val]) (h) (h') :
    View.readAt (Elt Ideal) tbM0_0.view (Rect.unit (s := S1024) off S1.size h).toLoadRect (tbl m 0) (Shape.Idx.first h') = (Blocks.inp m c).len (bRow t b) := by
  obtain rfl : c = 0 := Subsingleton.elim _ _
  refine Eq.trans ?_ (congrFun (V_main_arg11 m 0) (ix1 (bRow t b)))
  refine congrArg (V m (0 : Dev nD) main_arg11) (funext fun a => Fin.ext ?_)
  match a with
  | 0 =>
    show off 0 + 1 * 0 = 8 * t.val + b.val
    rw [ho]
    rfl

theorem at_all (R : (Blocks.inp m c).Real) : ∀ (n : ℕ) (hn : n < 128), Pt (Blocks.inp m c) ⟨n, hn⟩ (outsAt0 m hO c n (Blocks.pt ⟨n, hn⟩).isLt)
  | 0, hn => by
    refine Eq.mpr (congrArg (Pt (Blocks.inp m c) ⟨0, hn⟩) (outsAt0_A m hO c (Blocks.pt ⟨0, hn⟩) rfl)) ?_
    exact caseA _ _ _ _ _ _ _ _ _ _ _ _ _ _ _ _ _ _ _ _ _ _ _ _ _ _ _ _ _ _ _ _ _ _ _ _ _ _ _ _ _ _ _ _ _ _ _ _ _ _ _ (Blocks.inp m c) R ⟨0, hn⟩ (Blocks.fillOk m hO c ⟨0, hn⟩) (Blocks.blkOk m hO c ⟨0, hn⟩)
      (word m c ⟨0, hn⟩ 0 _ (off0 (Blocks.pt ⟨0, hn⟩)) _ _)
      (word m c ⟨0, hn⟩ 1 _ (off1 (Blocks.pt ⟨0, hn⟩)) _ _)
      (word m c ⟨0, hn⟩ 2 _ (off2 (Blocks.pt ⟨0, hn⟩)) _ _)
      (word m c ⟨0, hn⟩ 3 _ (off3 (Blocks.pt ⟨0, hn⟩)) _ _)
      (word m c ⟨0, hn⟩ 4 _ (off4 (Blocks.pt ⟨0, hn⟩)) _ _)
      (word m c ⟨0, hn⟩ 5 _ (off5 (Blocks.pt ⟨0, hn⟩)) _ _)
      (word m c ⟨0, hn⟩ 6 _ (off6 (Blocks.pt ⟨0, hn⟩)) _ _)
      (word m c ⟨0, hn⟩ 7 _ (off7 (Blocks.pt ⟨0, hn⟩)) _ _)
  | n + 1, hn => by
    have hB : ¬ (n + 1) % 128 = 0 := by omega
    refine Eq.mpr (congrArg (Pt (Blocks.inp m c) ⟨n + 1, hn⟩) (outsAt0_B m hO c (Blocks.pt ⟨n + 1, hn⟩) hB)) ?_
    exact caseB _ _ _ _ _ _ _ _ _ _ _ _ _ _ _ _ _ _ _ _ _ _ _ _ _ _ _ _ _ _ _ _ _ _ _ _ _ _ _ _ _ _ _ _ _ _ _ _ _ _ _ _ _ (Blocks.inp m c) R ⟨n + 1, hn⟩ (at_all R n (Nat.lt_of_succ_lt hn)).2 (Blocks.blkOk m hO c ⟨n + 1, hn⟩)
      (word m c ⟨n + 1, hn⟩ 0 _ (off0 (Blocks.pt ⟨n + 1, hn⟩)) _ _)
      (word m c ⟨n + 1, hn⟩ 1 _ (off1 (Blocks.pt ⟨n + 1, hn⟩)) _ _)
      (word m c ⟨n + 1, hn⟩ 2 _ (off2 (Blocks.pt ⟨n + 1, hn⟩)) _ _)
      (word m c ⟨n + 1, hn⟩ 3 _ (off3 (Blocks.pt ⟨n + 1, hn⟩)) _ _)
      (word m c ⟨n + 1, hn⟩ 4 _ (off4 (Blocks.pt ⟨n + 1, hn⟩)) _ _)
      (word m c ⟨n + 1, hn⟩ 5 _ (off5 (Blocks.pt ⟨n + 1, hn⟩)) _ _)
      (word m c ⟨n + 1, hn⟩ 6 _ (off6 (Blocks.pt ⟨n + 1, hn⟩)) _ _)
      (word m c ⟨n + 1, hn⟩ 7 _ (off7 (Blocks.pt ⟨n + 1, hn⟩)) _ _)

end Cert.Points

end
-- ==== Proof.Kern.lean ====
/- The kernel's result array is the attention result. -/
module

public import proofs.«01_k».proof.Proof.Points

@[expose] public section

set_option maxRecDepth 16384
set_option maxHeartbeats 400000

noncomputable section

namespace Cert.Kern

open Idealize.ShloMosaic Idealize.ShloMosaic.TcCoe Cert.KernelIdeal Cert.KernelIdeal.Gen Cert.Block

variable (m : (ℓ : Loc nD τ sig) → Buf (Elt Ideal) ℓ) (hO : Ok m) (c : Dev nD)

/-- The result array before its two last axes are joined. -/
def G13 (I : Inp) : Vec Ideal S1024x4x16x128 .bf16 := fun i =>
  res I (i 0) (i 1) ⟨(i 2).val / 8, by have : (i 2).val < 16 := (i 2).isLt; omega⟩ ⟨(i 2).val % 8, Nat.mod_lt _ (by decide)⟩ (i 3)

/-- A block of results is that part of the result array. -/
theorem resBlk_apply (I : Inp) (t : Fin 128) (y : S8x4x16x128.Idx) (i : S1024x4x16x128.Idx) (h0 : (i 0).val = 8 * t.val + (y 0).val)
    (h1 : (i 1).val = (y 1).val) (h2 : (i 2).val = (y 2).val) (h3 : (i 3).val = (y 3).val) : resBlk I t y = G13 I i := by
  have e : i = ix4 (bRow t (y 0)) (y 1 : Fin 4) (y 2 : Fin 16) (y 3 : Fin 128) := by
    funext a
    refine Fin.ext ?_
    match a with
    | 0 => exact h0
    | 1 => exact h1
    | 2 => exact h2
    | 3 => exact h3
  subst e
  rfl

theorem tab13 : ∀ t : Fin grid0.N, cc0_transform_13 (grid0.coords t) = ![t.val, 0, 0, 0] := by decide +kernel

theorem flush13 : ∀ t : Fin grid0.N, spec0_13.flushAt cc0_transform_13 t = true := by decide +kernel

/-- The blocks of results fill the array. -/
theorem covers : ((cfgM m hO).win 13).Covers := by
  refine ⟨fun (a : Fin 4) => ?_, fun β => ?_⟩
  · match a with
    | 0 => exact (by decide : 0 < 8)
    | 1 => exact (by decide : 0 < 4)
    | 2 => exact (by decide : 0 < 16)
    | 3 => exact (by decide : 0 < 128)
  · have h0 : (β (0 : Fin 4)).val < (1024 + 8 - 1) / 8 := (β (0 : Fin 4)).isLt
    have b0 : (β (0 : Fin 4)).val < 128 := by omega
    have h1 : (β (1 : Fin 4)).val < (4 + 4 - 1) / 4 := (β (1 : Fin 4)).isLt
    have b1 : (β (1 : Fin 4)).val < 1 := by omega
    have h2 : (β (2 : Fin 4)).val < (16 + 16 - 1) / 16 := (β (2 : Fin 4)).isLt
    have b2 : (β (2 : Fin 4)).val < 1 := by omega
    have h3 : (β (3 : Fin 4)).val < (128 + 128 - 1) / 128 := (β (3 : Fin 4)).isLt
    have b3 : (β (3 : Fin 4)).val < 1 := by omega
    refine ⟨(⟨(β (0 : Fin 4)).val, b0⟩ : Fin grid0.N), flush13 _, fun (a : Fin 4) => ⟨?_, .inl rfl⟩⟩
    show cc0_transform_13 (grid0.coords _) a = _
    rw [tab13]
    match a with
    | 0 => rfl
    | 1 => show 0 = (β (1 : Fin 4)).val; omega
    | 2 => show 0 = (β (2 : Fin 4)).val; omega
    | 3 => show 0 = (β (3 : Fin 4)).val; omega

/-- Where an element of point `t`'s block of results lies. -/
theorem emb13 (t : Fin grid0.N) (y : S8x4x16x128.Idx) (a : Fin 4) :
    ((((cfgM m hO).win 13).rect t).emb y a).val = (![8 * t.val, 0, 0, 0] : Fin 4 → ℕ) a + (y a).val := by
  refine (((cfgM m hO).win 13).rect_emb_val t y a).trans ?_
  show cc0_transform_13 (grid0.coords t) a * S8x4x16x128.size a + _ = _
  rw [tab13 t]
  match a with
  | 0 => show t.val * 8 + (y 0).val = 8 * t.val + (y 0).val; omega
  | 1 => show 0 * 4 + (y 1).val = 0 + (y 1).val; omega
  | 2 => show 0 * 16 + (y 2).val = 0 + (y 2).val; omega
  | 3 => show 0 * 128 + (y 3).val = 0 + (y 3).val; omega

theorem arr13 (R : (Blocks.inp m c).Real) : (dats m hO 0 c).arrAt 13 (cfgM m hO).N = G13 (Blocks.inp m c) := by
  refine (dats m hO 0 c).arrAt_eq_of_covers 13 (G13 (Blocks.inp m c)) (covers m hO) fun t hf y => ?_
  rw [after0_13]
  have h := (Points.at_all m hO c R t.val t.isLt).1
  refine Eq.trans (congrFun h y) ?_
  exact resBlk_apply _ _ y _ (emb13 m hO t y 0) ((emb13 m hO t y 1).trans (Nat.zero_add _)) ((emb13 m hO t y 2).trans (Nat.zero_add _))
    ((emb13 m hO t y 3).trans (Nat.zero_add _))

theorem tail (σ : Valuation τ sig (Elt Ideal)) : StableHlo.after (List.flatten [hostOps1]) σ (Proc.devRef .tc main_v15)
    = shapeCast S1024x4x2048 (σ (Proc.devRef .tc main_v14)) shapeCasts_S1024x4x16x128_S1024x4x2048 := by
  show StableHlo.after hostOps1 σ (Proc.devRef .tc main_v15) = _
  unfold hostOps1
  after_results
  rfl

/-- The joined array. -/
theorem join (I : Inp) : shapeCast S1024x4x2048 (G13 I) shapeCasts_S1024x4x16x128_S1024x4x2048 = Args.G I := by
  funext i
  have h2 : (i 2).val < 2048 := (i 2).isLt
  refine (shapeCast_apply (G13 I) _ i (ix4 (i 0 : Fin 1024) (i 1 : Fin 4) (⟨(i 2).val / 128, by omega⟩ : Fin 16) (⟨(i 2).val % 128, by omega⟩ : Fin 128)) ?_).trans ?_
  · rw [Shape.rowMajor_val_four, Shape.rowMajor_val_three]
    show (((i 0).val * 4 + (i 1).val) * 16 + (i 2).val / 128) * 128 + (i 2).val % 128 = ((i 0).val * 4 + (i 1).val) * 2048 + (i 2).val
    omega
  · unfold G13 Args.G
    dsimp only
    have e : (⟨(i 2).val / 128 / 8, by omega⟩ : Fin 2) = ⟨(i 2).val / 1024, by omega⟩ := Fin.ext (by show (i 2).val / 128 / 8 = (i 2).val / 1024; omega)
    exact congrArg (fun k => res I (i 0) (i 1) k ⟨(i 2).val / 128 % 8, by omega⟩ ⟨(i 2).val % 128, by omega⟩) e

/-- Only the two windows of the split queries share their array. -/
theorem shared : ∀ w w' : Fin 14, w ≠ w' → Pipeline.arrRef spec0 w = Pipeline.arrRef spec0 w' → w = 1 ∨ w = 2 := by decide +kernel

/-- A shared array is as the region found it. -/
theorem kept (w w' : Fin 14) (hne : w ≠ w') (e : Pipeline.arrRef spec0 w = Pipeline.arrRef spec0 w') :
    (dats m hO 0 c).arrAt w (cfgM m hO).N = Gen.V0 m c (Proc.devRef .tc (Pipeline.arrRef spec0 w)) := by
  rcases shared w w' hne e with rfl | rfl
  · exact ((dats m hO 0 c).arrAt_in 1 rfl _).trans (A_eq m hO c 1)
  · exact ((dats m hO 0 c).arrAt_in 2 rfl _).trans (A_eq m hO c 2)

theorem v15 (R : (Blocks.inp m c).Real) :
    Pipeline.afterTail pcfgs (fun _ => adm m hO) (dats m hO) 0 (V0 m) [hostOps1] c main_v15 = Args.G (Blocks.inp m c) := by
  unfold Pipeline.afterTail
  refine (tail _).trans ?_
  refine Eq.trans (congrArg (fun x => shapeCast S1024x4x2048 x shapeCasts_S1024x4x16x128_S1024x4x2048) ?_) (join _)
  exact (Pipeline.withArrays_arr_shared spec0 c (Gen.V0 m c) (fun w => (dats m hO 0 c).arrAt w (cfgM m hO).N) (kept m hO c) 13).trans (arr13 m hO c R)

/-- Every execution ends with the attention result in the result array and the arguments as they were. -/
theorem run (ρ : Dev nD → PrngReg) (R : ∀ c, (Blocks.inp m c).Real) :
    θ_run (defs (F := Ideal)) (onTc (τ := τ) (main (F := Ideal))) ⟨m, fun _ => 0, ρ⟩ (fun r => ∀ c : Dev nD,
      r.2.mem ((c.tc : Thread nD τ).loc main_v15) = Args.G (Blocks.inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h.1 c).2 main_v15 (by decide : main_v15 ∈ Pipeline.restRefs sig spec0)).trans (v15 m trivial c (R c)), h.2 c⟩)
    (θ_run_and (run_main m ρ trivial) (unchanged m ρ trivial))

end Cert.Kern

end
-- ==== Proof.RefRun.lean ====
/- The reference's result array is the attention result. -/
module

public import proofs.«01_k».proof.Proof.Args
public import proofs.«01_k».proof.Proof.Gen.ReferenceIdeal.Run
public import proofs.«01_k».proof.Proof.Gen.ReferenceIdeal.Read

@[expose] public section

set_option maxRecDepth 16384

noncomputable section

namespace Cert.RefRun

open Idealize.ShloMosaic Idealize.ShloMosaic.TcCoe Cert.ReferenceIdeal Cert.ReferenceIdeal.Gen Cert.ReferenceIdeal.Value Cert.Row

variable (m : (ℓ : Loc nD τ sig) → Buf (Elt Ideal) ℓ)

/-- Every window's block index at the one point. -/
theorem idx : ∀ t : Fin cfg0.N, win0_0.index t = ![0, 0, 0] ∧ win0_1.index t = ![0, 0, 0] ∧ win0_2.index t = ![0, 0, 0, 0] ∧ win0_3.index t = ![0, 0, 0, 0] :=
  (by decide +kernel : ∀ t : Fin grid0.N, _)

theorem iblk0 (c : Dev nD) (t : Fin cfg0.N) : iblk m c 0 t = m ((c : Thread nD τ).loc main_arg3) := by
  blk_ext! [iblk, V, idx t]
theorem iblk1 (c : Dev nD) (t : Fin cfg0.N) : iblk m c 1 t = m ((c : Thread nD τ).loc main_arg4) := by
  blk_ext! [iblk, V, idx t]
theorem iblk2 (c : Dev nD) (t : Fin cfg0.N) : iblk m c 2 t = m ((c : Thread nD τ).loc main_arg7) := by
  blk_ext! [iblk, V, idx t]
theorem iblk3 (c : Dev nD) (t : Fin cfg0.N) : iblk m c 3 t = m ((c : Thread nD τ).loc main_arg8) := by
  blk_ext! [iblk, V, idx t]

theorem reg0 (c : Dev nD) : reg_main_v3_0 m c = m ((c : Thread nD τ).loc main_arg3) := by
  unfold reg_main_v3_0
  refine (dats m 0 c).arrAt_eq_of_after_last 4 t0_0 (by decide +kernel) _ fun j => ?_
  blk_simp
  rw [after0_4]
  unfold out0_4
  frame_out
  rw [iblk0]
  unfold k0_pay1
  rw [shapeCast_self]
  rfl
theorem reg1 (c : Dev nD) : reg_main_v3_1 m c = m ((c : Thread nD τ).loc main_arg4) := by
  unfold reg_main_v3_1
  refine (dats m 0 c).arrAt_eq_of_after_last 5 t0_0 (by decide +kernel) _ fun j => ?_
  blk_simp
  rw [after0_5]
  unfold out0_5
  frame_out
  rw [iblk1]
  rfl
theorem reg2 (c : Dev nD) : reg_main_v3_2 m c = m ((c : Thread nD τ).loc main_arg7) := by
  unfold reg_main_v3_2
  refine (dats m 0 c).arrAt_eq_of_after_last 6 t0_0 (by decide +kernel) _ fun j => ?_
  blk_simp
  rw [after0_6]
  unfold out0_6
  frame_out
  rw [iblk2]
  unfold k0_pay3
  rw [shapeCast_self]
  rfl
theorem reg3 (c : Dev nD) : reg_main_v3_3 m c = m ((c : Thread nD τ).loc main_arg8) := by
  unfold reg_main_v3_3
  refine (dats m 0 c).arrAt_eq_of_after_last 7 t0_0 (by decide +kernel) _ fun j => ?_
  blk_simp
  rw [after0_7]
  unfold out0_7
  frame_out
  rw [iblk3]
  rfl

/-- The queries with their head axis split, as the reshape has them. -/
theorem reshape_q (x : Vec Ideal S1024x4x16x128 .bf16) : shapeCast S1024x4x2x8x128 x shapeCasts_S1024x4x16x128_S1024x4x2x8x128 = Args.qs x := by
  funext i
  refine shapeCast_apply x _ i (ix4 (i 0 : Fin 1024) (i 1 : Fin 4) (Args.head (i 2) (i 3)) (i 4 : Fin 128)) ?_
  rw [Shape.rowMajor_val_five, Shape.rowMajor_val_four]
  show (((i 0).val * 4 + (i 1).val) * 16 + (8 * (i 2).val + (i 3).val)) * 128 + (i 4).val
    = ((((i 0).val * 4 + (i 1).val) * 2 + (i 2).val) * 8 + (i 3).val) * 128 + (i 4).val
  omega

open Cert.ReferenceIdeal.Read Cert.Block in
/-- The reference's last value, of the arguments. -/
theorem v94 (a0 : Arr 4 ![1024, 4, 16, 128]) (a1 a2 : Arr 4 ![1024, 4, 2, 128]) (a3 a4 : Arr 3 ![2304, 2, 128]) (a5 a6 : Arr 2 ![2304, 2])
    (a7 a8 : Arr 4 ![1024, 256, 2, 128]) (a9 a10 : Arr 3 ![1024, 256, 2]) (a11 : (⟨1, ![1024]⟩ : Shape).Idx → BitVec 32) :
    val_main_v94 (F := Ideal) a1 a2 a5 a6 a9 a10 a11 a3 a4 a7 a8 (Args.qs a0) = Args.G (Args.inp a0 a1 a2 a3 a4 a5 a6 a7 a8 a9 a10 a11) := by
  funext i
  have hi : ∃ (b : Fin 1024) (s : Fin 4) (z : Fin 2048), i = ix3 b s z := ⟨i 0, i 1, i 2, by funext a; match a with | 0 => rfl | 1 => rfl | 2 => rfl⟩
  obtain ⟨b, s, z, rfl⟩ := hi
  have e : idx_main_v93 (ix3 b s z) = ix5 b s (⟨z.val / 1024, by omega⟩ : Fin 2) (⟨z.val / 128 % 8, by omega⟩ : Fin 8) (⟨z.val % 128, by omega⟩ : Fin 128) := by
    funext a
    refine Fin.ext ?_
    match a with
    | 0 => show ((b.val * 4 + s.val) * 2048 + z.val) / 8192 = b.val; omega
    | 1 => show ((b.val * 4 + s.val) * 2048 + z.val) / 2048 % 4 = s.val; omega
    | 2 => show ((b.val * 4 + s.val) * 2048 + z.val) / 1024 % 2 = z.val / 1024; omega
    | 3 => show ((b.val * 4 + s.val) * 2048 + z.val) / 128 % 8 = z.val / 128 % 8; omega
    | 4 => show ((b.val * 4 + s.val) * 2048 + z.val) % 128 = z.val % 128; omega
  rw [val_main_v94_apply, val_main_v93_apply, e, RefValue.out_apply]
  rfl

/-- The arguments of the run, as the softmax rows read them. -/
def inp (c : Dev nD) : Block.Inp := Args.inp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

open Cert.ReferenceIdeal.Read in
/-- Every execution ends with the attention result in the result array and the arguments as they were. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v94) = Args.G (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ⟨((h c).1.trans (val_main_v94_eq (exitV m c))).trans ?_, (h c).2⟩) (Value.run m ρ)
  rw [exit_main_arg1, exit_main_arg2, exit_main_arg5, exit_main_arg6, exit_main_arg9, exit_main_arg10, exit_main_arg11, exit_main_v3_0, exit_main_v3_1,
    exit_main_v3_2, exit_main_v3_3, exit_main_v2, reg0, reg1, reg2, reg3, reshape_q]
  exact v94 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

end Cert.RefRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Finite
public import proofs.«01_k».proof.Proof.Kern
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The two constants that are named have the values the rule states. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3E0293EE#32 (((11863283 / 134217728) * (Real.log 2)⁻¹ : ℝ) : EReal) rfl⟩

/-- Where the precondition holds, the arrays that enter a score and the shifts are real. -/
theorem real (m : (ℓ : Loc Cert.KernelIdeal.nD Cert.KernelIdeal.τ Cert.KernelIdeal.sig) → Buf (Elt Ideal) ℓ) (h : Cert.Pre_KernelIdeal_finite m)
    (c : Dev Cert.KernelIdeal.nD) : (Blocks.inp m c).Real := by
  obtain ⟨h0, h1, h3, h5, h7, h9⟩ := Finite.of_fn _ _ _ _ _ _ _ _ _ _ _ _ (h c)
  exact Args.inp_real _ _ _ _ _ _ _ _ _ _ _ _ h0 h1 h3 h5 h7 h9

/-- The kernel's result and the reference's are the same array. -/
theorem algebraic : Cert.algebraic_KernelIdeal_ReferenceIdeal_pre_finite := by
  intro m g m' g' hpre hagree
  refine ⟨fun c => Args.G (Blocks.inp m c), Kern.run m g (real m hpre), ?_⟩
  refine (θ_run _ _ _).mono (fun r h c => ⟨(h c).1.trans ?_, (h c).2⟩) (RefRun.run m' g')
  obtain ⟨h0, h1, h2, h3, h4, h5, h6, h7, h8, h9, h10, h11⟩ := hagree c
  unfold RefRun.inp Blocks.inp
  rw [h0, h1, h2, h3, h4, h5, h6, h7, h8, h9, h10, h11]

theorem claim : Cert.Claim := ⟨Cert.Kernel.Gen.facts, Cert.KernelIdeal.Gen.facts, Cert.ReferenceIdeal.Gen.facts, Cert.Pre_finite.Gen.facts,
  fun m g _ => Cert.Kernel.Gen.frame m g trivial, fun m g _ => Cert.KernelIdeal.Gen.frame m g trivial, fun m g _ => Cert.KernelIdeal.Gen.frame m g trivial,
  fun m g _ => Cert.ReferenceIdeal.Gen.frame m g, fun m g _ => Cert.ReferenceIdeal.Gen.frame m g, preserves, algebraic⟩

end Cert.Proof

end
